-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 [hPre_tiles_in_order : Cert.Pre_tiles_in_order.Facts] (m : (ℓ : Loc Cert.Kernel2.nD Cert.Kernel2.τ Cert.Kernel2.sig) → Buf (Elt Bits) ℓ) : Prop :=
  ∀ c : Dev Cert.Kernel2.nD,
    (Cert.Pre_tiles_in_order.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))) = (fun _ => 1#1)

def Pre_Kernel2Ideal [hPre_tiles_in_order : Cert.Pre_tiles_in_order.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tiles_in_order.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tiles_in_order [hPre_tiles_in_order : Cert.Pre_tiles_in_order.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tiles_in_order.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] [hPre_tiles_in_order : Cert.Pre_tiles_in_order.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] [hPre_tiles_in_order : Cert.Pre_tiles_in_order.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_tiles_in_order [hReference2Ideal : Cert.Reference2Ideal.Facts] [hPre_tiles_in_order : Cert.Pre_tiles_in_order.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tiles_in_order m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] [hPre_tiles_in_order : Cert.Pre_tiles_in_order.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v21)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v21) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v34_0)) (v1 : (c : Dev Cert.Kernel5Ideal.nD) → Buf (Elt Ideal) ((c.tc : Thread Cert.Kernel5Ideal.nD Cert.Kernel5Ideal.τ).loc Cert.Kernel5Ideal.main_v34_1)) (v2 : (c : Dev Cert.Kernel5Ideal.nD) → Buf (Elt Ideal) ((c.tc : Thread Cert.Kernel5Ideal.nD Cert.Kernel5Ideal.τ).loc Cert.Kernel5Ideal.main_v34_2)) (v3 : (c : Dev Cert.Kernel5Ideal.nD) → Buf (Elt Ideal) ((c.tc : Thread Cert.Kernel5Ideal.nD Cert.Kernel5Ideal.τ).loc Cert.Kernel5Ideal.main_v34_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v34_0) = v0 c
          ∧ r.2.mem ((c.tc : Thread Cert.Kernel5Ideal.nD Cert.Kernel5Ideal.τ).loc Cert.Kernel5Ideal.main_v34_1) = v1 c
          ∧ r.2.mem ((c.tc : Thread Cert.Kernel5Ideal.nD Cert.Kernel5Ideal.τ).loc Cert.Kernel5Ideal.main_v34_2) = v2 c
          ∧ r.2.mem ((c.tc : Thread Cert.Kernel5Ideal.nD Cert.Kernel5Ideal.τ).loc Cert.Kernel5Ideal.main_v34_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_v15) = v1 c
          ∧ r.2.mem ((c.tc : Thread Cert.Reference5Ideal.nD Cert.Reference5Ideal.τ).loc Cert.Reference5Ideal.main_v16) = v2 c
          ∧ r.2.mem ((c.tc : Thread Cert.Reference5Ideal.nD Cert.Reference5Ideal.τ).loc Cert.Reference5Ideal.main_v19) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v20_0)) (v1 : (c : Dev Cert.Kernel7Ideal.nD) → Buf (Elt Ideal) ((c.tc : Thread Cert.Kernel7Ideal.nD Cert.Kernel7Ideal.τ).loc Cert.Kernel7Ideal.main_v20_1)) (v2 : (c : Dev Cert.Kernel7Ideal.nD) → Buf (Elt Ideal) ((c.tc : Thread Cert.Kernel7Ideal.nD Cert.Kernel7Ideal.τ).loc Cert.Kernel7Ideal.main_v20_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v20_0) = v0 c
          ∧ r.2.mem ((c.tc : Thread Cert.Kernel7Ideal.nD Cert.Kernel7Ideal.τ).loc Cert.Kernel7Ideal.main_v20_1) = v1 c
          ∧ r.2.mem ((c.tc : Thread Cert.Kernel7Ideal.nD Cert.Kernel7Ideal.τ).loc Cert.Kernel7Ideal.main_v20_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v44) = v0 c
          ∧ r.2.mem ((c.tc : Thread Cert.Reference7Ideal.nD Cert.Reference7Ideal.τ).loc Cert.Reference7Ideal.main_v48) = v1 c
          ∧ r.2.mem ((c.tc : Thread Cert.Reference7Ideal.nD Cert.Reference7Ideal.τ).loc Cert.Reference7Ideal.main_v56) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v57) = v0 c
          ∧ r.2.mem ((c.tc : Thread Cert.Reference8Ideal.nD Cert.Reference8Ideal.τ).loc Cert.Reference8Ideal.main_v58) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_queries_and_keys : Cert.Pre_finite_queries_and_keys.Facts) (hPre_tiles_in_order : Cert.Pre_tiles_in_order.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2) (hPre_tiles_in_order := hPre_tiles_in_order)
    ∧ quiescent_Kernel2Ideal (hKernel2Ideal := hKernel2Ideal) (hPre_tiles_in_order := hPre_tiles_in_order)
    ∧ quiescent_Reference2Ideal (hReference2Ideal := hReference2Ideal)
    ∧ quiescent_Reference2Ideal_pre_tiles_in_order (hReference2Ideal := hReference2Ideal) (hPre_tiles_in_order := hPre_tiles_in_order)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal (hKernel2Ideal := hKernel2Ideal) (hReference2Ideal := hReference2Ideal) (hPre_tiles_in_order := hPre_tiles_in_order)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite_queries_and_keys.lean ====
abbrev S8192x2048 : Shape := ⟨2, ![8192, 2048]⟩
abbrev S16x8192x64 : Shape := ⟨3, ![16, 8192, 64]⟩
abbrev S4x2048x4096 : Shape := ⟨3, ![4, 2048, 4096]⟩
abbrev S4x2048x64 : Shape := ⟨3, ![4, 2048, 64]⟩
abbrev S4x512x4096 : Shape := ⟨3, ![4, 512, 4096]⟩
abbrev S4x512x64 : Shape := ⟨3, ![4, 512, 64]⟩
abbrev S4x2048x16x256 : Shape := ⟨4, ![4, 2048, 16, 256]⟩
abbrev S4x2048x16x128 : Shape := ⟨4, ![4, 2048, 16, 128]⟩
abbrev S4x512x16x256 : Shape := ⟨4, ![4, 512, 16, 256]⟩
abbrev S4x512x16x128 : Shape := ⟨4, ![4, 512, 16, 128]⟩
abbrev S_ : Shape := ⟨0, ![]⟩

class Facts : Prop where
  shapeCasts_S4x2048x4096_S4x2048x16x256 : S4x2048x4096.ShapeCasts S4x2048x16x256
  slices_S4x2048x16x256_S4x2048x16x128_0_0_0_0 : S4x2048x16x256.Slices ![0, 0, 0, 0] S4x2048x16x128
  shapeCasts_S4x512x4096_S4x512x16x256 : S4x512x4096.ShapeCasts S4x512x16x256
  slices_S4x512x16x256_S4x512x16x128_0_0_0_0 : S4x512x16x256.Slices ![0, 0, 0, 0] S4x512x16x128
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S16x8192x64 : S_.BroadcastsInDim S16x8192x64 (![] : Fin 0 → Fin S16x8192x64.rank)
  reducesTo_S16x8192x64_S_d0_1_2 : S16x8192x64.ReducesTo [0, 1, 2] S_
  bcast_S_S4x2048x16x128 : S_.BroadcastsInDim S4x2048x16x128 (![] : Fin 0 → Fin S4x2048x16x128.rank)
  reducesTo_S4x2048x16x128_S_d0_1_2_3 : S4x2048x16x128.ReducesTo [0, 1, 2, 3] S_
  bcast_S_S4x2048x64 : S_.BroadcastsInDim S4x2048x64 (![] : Fin 0 → Fin S4x2048x64.rank)
  reducesTo_S4x2048x64_S_d0_1_2 : S4x2048x64.ReducesTo [0, 1, 2] S_
  bcast_S_S4x512x16x128 : S_.BroadcastsInDim S4x512x16x128 (![] : Fin 0 → Fin S4x512x16x128.rank)
  reducesTo_S4x512x16x128_S_d0_1_2_3 : S4x512x16x128.ReducesTo [0, 1, 2, 3] S_
  bcast_S_S4x512x64 : S_.BroadcastsInDim S4x512x64 (![] : Fin 0 → Fin S4x512x64.rank)
  reducesTo_S4x512x64_S_d0_1_2 : S4x512x64.ReducesTo [0, 1, 2] S_

variable [Facts]

def fn_part2 {F : FTy → Type} [FloatOps F] (main_v32 : IVec S_ 1) (main_v36 : IVec S4x512x64 1) : IVec S_ 1 :=
  let main_c_9 : IVec S_ 1 := constantI S_ 1 1#1
  let main_v37 : IVec S_ 1 := (fun x v => Host.reduce IntOp.andi x v reducesTo_S4x512x64_S_d0_1_2 h_S_) main_v36 main_c_9
  let main_v38 : IVec S_ 1 := andi main_v32 main_v37
  main_v38

def fn_part1 {F : FTy → Type} [FloatOps F] (main_arg3 : FVec F S4x2048x64 .bf16) (main_arg5 : FVec F S4x512x64 .bf16) (main_v3 : FVec F S4x512x16x128 .bf16) (main_v14 : IVec S_ 1) (main_v18 : IVec S4x2048x16x128 1) : IVec S_ 1 :=
  let main_c_3 : IVec S_ 1 := constantI S_ 1 1#1
  let main_v19 : IVec S_ 1 := (fun x v => Host.reduce IntOp.andi x v reducesTo_S4x2048x16x128_S_d0_1_2_3 h_S_) main_v18 main_c_3
  let main_v20 : IVec S_ 1 := andi main_v14 main_v19
  let main_v21 : FVec F S4x2048x64 .f32 := (extf .f32 · bitsLt_bf16_f32) main_arg3
  let main_v22 : FVec F S4x2048x64 .f32 := Host.absf main_v21
  let main_cst_4 : FVec F S_ .f32 := constant S_ .f32 0x7F800000#32
  let main_v23 : FVec F S4x2048x64 .f32 := broadcastInDim S4x2048x64 ![] bcast_S_S4x2048x64 main_cst_4
  let main_v24 : IVec S4x2048x64 1 := cmpf .olt main_v22 main_v23
  let main_c_5 : IVec S_ 1 := constantI S_ 1 1#1
  let main_v25 : IVec S_ 1 := (fun x v => Host.reduce IntOp.andi x v reducesTo_S4x2048x64_S_d0_1_2 h_S_) main_v24 main_c_5
  let main_v26 : IVec S_ 1 := andi main_v20 main_v25
  let main_v27 : FVec F S4x512x16x128 .f32 := (extf .f32 · bitsLt_bf16_f32) main_v3
  let main_v28 : FVec F S4x512x16x128 .f32 := Host.absf main_v27
  let main_cst_6 : FVec F S_ .f32 := constant S_ .f32 0x7F800000#32
  let main_v29 : FVec F S4x512x16x128 .f32 := broadcastInDim S4x512x16x128 ![] bcast_S_S4x512x16x128 main_cst_6
  let main_v30 : IVec S4x512x16x128 1 := cmpf .olt main_v28 main_v29
  let main_c_7 : IVec S_ 1 := constantI S_ 1 1#1
  let main_v31 : IVec S_ 1 := (fun x v => Host.reduce IntOp.andi x v reducesTo_S4x512x16x128_S_d0_1_2_3 h_S_) main_v30 main_c_7
  let main_v32 : IVec S_ 1 := andi main_v26 main_v31
  let main_v33 : FVec F S4x512x64 .f32 := (extf .f32 · bitsLt_bf16_f32) main_arg5
  let main_v34 : FVec F S4x512x64 .f32 := Host.absf main_v33
  let main_cst_8 : FVec F S_ .f32 := constant S_ .f32 0x7F800000#32
  let main_v35 : FVec F S4x512x64 .f32 := broadcastInDim S4x512x64 ![] bcast_S_S4x512x64 main_cst_8
  let main_v36 : IVec S4x512x64 1 := cmpf .olt main_v34 main_v35
  fn_part2 (F := F) main_v32 main_v36

def fn {F : FTy → Type} [FloatOps F] (main_arg0 : FVec F S8192x2048 .bf16) (main_arg1 : FVec F S16x8192x64 .bf16) (main_arg2 : FVec F S4x2048x4096 .bf16) (main_arg3 : FVec F S4x2048x64 .bf16) (main_arg4 : FVec F S4x512x4096 .bf16) (main_arg5 : FVec F S4x512x64 .bf16) : IVec S_ 1 :=
  let main_v0 : FVec F S4x2048x16x256 .bf16 := shapeCast S4x2048x16x256 main_arg2 shapeCasts_S4x2048x4096_S4x2048x16x256
  let main_v1 : FVec F S4x2048x16x128 .bf16 := (extractStridedSlice S4x2048x16x128 ![0, 0, 0, 0] · slices_S4x2048x16x256_S4x2048x16x128_0_0_0_0) main_v0
  let main_v2 : FVec F S4x512x16x256 .bf16 := shapeCast S4x512x16x256 main_arg4 shapeCasts_S4x512x4096_S4x512x16x256
  let main_v3 : FVec F S4x512x16x128 .bf16 := (extractStridedSlice S4x512x16x128 ![0, 0, 0, 0] · slices_S4x512x16x256_S4x512x16x128_0_0_0_0) main_v2
  let main_v4 : FVec F S8192x2048 .f32 := (extf .f32 · bitsLt_bf16_f32) main_arg0
  let main_v5 : FVec F S8192x2048 .f32 := Host.absf main_v4
  let main_cst : FVec F S_ .f32 := constant S_ .f32 0x7F800000#32
  let main_v6 : FVec F S8192x2048 .f32 := broadcastInDim S8192x2048 ![] bcast_S_S8192x2048 main_cst
  let main_v7 : IVec S8192x2048 1 := cmpf .olt main_v5 main_v6
  let main_c : IVec S_ 1 := constantI S_ 1 1#1
  let main_v8 : IVec S_ 1 := (fun x v => Host.reduce IntOp.andi x v reducesTo_S8192x2048_S_d0_1 h_S_) main_v7 main_c
  let main_v9 : FVec F S16x8192x64 .f32 := (extf .f32 · bitsLt_bf16_f32) main_arg1
  let main_v10 : FVec F S16x8192x64 .f32 := Host.absf main_v9
  let main_cst_0 : FVec F S_ .f32 := constant S_ .f32 0x7F800000#32
  let main_v11 : FVec F S16x8192x64 .f32 := broadcastInDim S16x8192x64 ![] bcast_S_S16x8192x64 main_cst_0
  let main_v12 : IVec S16x8192x64 1 := cmpf .olt main_v10 main_v11
  let main_c_1 : IVec S_ 1 := constantI S_ 1 1#1
  let main_v13 : IVec S_ 1 := (fun x v => Host.reduce IntOp.andi x v reducesTo_S16x8192x64_S_d0_1_2 h_S_) main_v12 main_c_1
  let main_v14 : IVec S_ 1 := andi main_v8 main_v13
  let main_v15 : FVec F S4x2048x16x128 .f32 := (extf .f32 · bitsLt_bf16_f32) main_v1
  let main_v16 : FVec F S4x2048x16x128 .f32 := Host.absf main_v15
  let main_cst_2 : FVec F S_ .f32 := constant S_ .f32 0x7F800000#32
  let main_v17 : FVec F S4x2048x16x128 .f32 := broadcastInDim S4x2048x16x128 ![] bcast_S_S4x2048x16x128 main_cst_2
  let main_v18 : IVec S4x2048x16x128 1 := cmpf .olt main_v16 main_v17
  fn_part1 (F := F) main_arg3 main_arg5 main_v3 main_v14 main_v18
-- ==== Pre_tiles_in_order.lean ====
abbrev S160 : Shape := ⟨1, ![160]⟩
abbrev S81920x2048 : Shape := ⟨2, ![81920, 2048]⟩
abbrev S32x2048x2048 : Shape := ⟨3, ![32, 2048, 2048]⟩
abbrev S32x4096 : Shape := ⟨2, ![32, 4096]⟩
abbrev S32x2048 : Shape := ⟨2, ![32, 2048]⟩
abbrev S_ : Shape := ⟨0, ![]⟩

class Facts : Prop where
  bcast_S_S160 : S_.BroadcastsInDim S160 (![] : Fin 0 → Fin S160.rank)
  reducesTo_S160_S_d0 : S160.ReducesTo [0] S_
  h_S_ : 0 < S_.numel

variable [Facts]

def fn_part1 {F : FTy → Type} [FloatOps F] (main_arg1 : IVec S160 32) (main_arg2 : IVec S160 32) (main_v5 : IVec S_ 1) (main_v11 : IVec S_ 1) (main_v13 : IVec S160 1) (main_v15 : IVec S160 1) : IVec S_ 1 :=
  let main_v16 : IVec S160 1 := andi main_v13 main_v15
  let main_c_7 : IVec S_ 1 := constantI S_ 1 1#1
  let main_v17 : IVec S_ 1 := (fun x v => Host.reduce IntOp.andi x v reducesTo_S160_S_d0 h_S_) main_v16 main_c_7
  let main_c_8 : IVec S_ 32 := constantI S_ 32 0#32
  let main_v18 : IVec S160 32 := broadcastInDim S160 ![] bcast_S_S160 main_c_8
  let main_v19 : IVec S160 1 := cmpi .eq main_arg1 main_v18
  let main_v20 : IVec S160 32 := iotaInDim S160 32 0
  let main_v21 : IVec S160 1 := cmpi .eq main_arg2 main_v20
  let main_v22 : IVec S160 1 := ori main_v19 main_v21
  let main_c_9 : IVec S_ 1 := constantI S_ 1 1#1
  let main_v23 : IVec S_ 1 := (fun x v => Host.reduce IntOp.andi x v reducesTo_S160_S_d0 h_S_) main_v22 main_c_9
  let main_v24 : IVec S_ 1 := andi main_v5 main_v11
  let main_v25 : IVec S_ 1 := andi main_v24 main_v17
  let main_v26 : IVec S_ 1 := andi main_v25 main_v23
  main_v26

def fn {F : FTy → Type} [FloatOps F] (main_arg0 : IVec S160 32) (main_arg1 : IVec S160 32) (main_arg2 : IVec S160 32) (main_arg3 : FVec F S81920x2048 .f32) (main_arg4 : FVec F S32x2048x2048 .bf16) (main_arg5 : FVec F S32x2048x2048 .bf16) (main_arg6 : FVec F S32x4096 .f32) (main_arg7 : FVec F S32x2048x2048 .f32) (main_arg8 : FVec F S32x2048 .f32) : IVec S_ 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  let main_c_1 : IVec S_ 1 := constantI S_ 1 1#1
  let main_v5 : IVec S_ 1 := (fun x v => Host.reduce IntOp.andi x v reducesTo_S160_S_d0 h_S_) main_v4 main_c_1
  let main_c_2 : IVec S_ 32 := constantI S_ 32 0#32
  let main_v6 : IVec S160 32 := broadcastInDim S160 ![] bcast_S_S160 main_c_2
  let main_v7 : IVec S160 1 := cmpi .eq main_arg1 main_v6
  let main_c_3 : IVec S_ 32 := constantI S_ 32 1#32
  let main_v8 : IVec S160 32 := broadcastInDim S160 ![] bcast_S_S160 main_c_3
  let main_v9 : IVec S160 1 := cmpi .eq main_arg1 main_v8
  let main_v10 : IVec S160 1 := ori main_v7 main_v9
  let main_c_4 : IVec S_ 1 := constantI S_ 1 1#1
  let main_v11 : IVec S_ 1 := (fun x v => Host.reduce IntOp.andi x v reducesTo_S160_S_d0 h_S_) main_v10 main_c_4
  let main_c_5 : IVec S_ 32 := constantI S_ 32 0#32
  let main_v12 : IVec S160 32 := broadcastInDim S160 ![] bcast_S_S160 main_c_5
  let main_v13 : IVec S160 1 := cmpi .sge main_arg2 main_v12
  let main_c_6 : IVec S_ 32 := constantI S_ 32 160#32
  let main_v14 : IVec S160 32 := broadcastInDim S160 ![] bcast_S_S160 main_c_6
  let main_v15 : IVec S160 1 := cmpi .slt main_arg2 main_v14
  fn_part1 (F := F) main_arg1 main_arg2 main_v5 main_v11 main_v13 main_v15
-- ==== Kernel.lean ====
abbrev S8192x2048 : Shape := ⟨2, ![8192, 2048]⟩
abbrev S16x8192x64 : Shape := ⟨3, ![16, 8192, 64]⟩
abbrev S4x2048x4096 : Shape := ⟨3, ![4, 2048, 4096]⟩
abbrev S4x2048x64 : Shape := ⟨3, ![4, 2048, 64]⟩
abbrev S4x512x4096 : Shape := ⟨3, ![4, 512, 4096]⟩
abbrev S4x512x64 : Shape := ⟨3, ![4, 512, 64]⟩
abbrev S512x256 : Shape := ⟨2, ![512, 256]⟩
abbrev S2x512x64 : Shape := ⟨3, ![2, 512, 64]⟩
abbrev S1x2048x512 : Shape := ⟨3, ![1, 2048, 512]⟩
abbrev S1x2048x64 : Shape := ⟨3, ![1, 2048, 64]⟩
abbrev S1x512x512 : Shape := ⟨3, ![1, 512, 512]⟩
abbrev S1x512x64 : Shape := ⟨3, ![1, 512, 64]⟩
abbrev S512x128 : Shape := ⟨2, ![512, 128]⟩
abbrev S512x64 : Shape := ⟨2, ![512, 64]⟩
abbrev S512x192 : Shape := ⟨2, ![512, 192]⟩
abbrev S1x2048x128 : Shape := ⟨3, ![1, 2048, 128]⟩
abbrev S2048x128 : Shape := ⟨2, ![2048, 128]⟩
abbrev S2048x64 : Shape := ⟨2, ![2048, 64]⟩
abbrev S2048x192 : Shape := ⟨2, ![2048, 192]⟩
abbrev S512x2048 : Shape := ⟨2, ![512, 2048]⟩
abbrev S1x512x128 : Shape := ⟨3, ![1, 512, 128]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S16x8192x64, .bf16⟩
  | .hbm, ⟨2, _⟩ => ⟨S4x2048x4096, .bf16⟩
  | .hbm, ⟨3, _⟩ => ⟨S4x2048x64, .bf16⟩
  | .hbm, ⟨4, _⟩ => ⟨S4x512x4096, .bf16⟩
  | .hbm, ⟨5, _⟩ => ⟨S4x512x64, .bf16⟩
  | .hbm, ⟨6, _⟩ => ⟨S8192x2048, .bf16⟩
  | .local _ .vmem, ⟨0, _⟩ => ⟨S512x256, .bf16⟩
  | .local _ .vmem, ⟨1, _⟩ => ⟨S512x256, .bf16⟩
  | .local _ .vmem, ⟨2, _⟩ => ⟨S2x512x64, .bf16⟩
  | .local _ .vmem, ⟨3, _⟩ => ⟨S2x512x64, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x64, .bf16⟩
  | .local _ .vmem, ⟨7, _⟩ => ⟨S1x2048x64, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x64, .bf16⟩
  | .local _ .vmem, ⟨11, _⟩ => ⟨S1x512x64, .bf16⟩
  | .local _ .vmem, ⟨12, _⟩ => ⟨S512x256, .bf16⟩
  | .local _ .vmem, ⟨13, _⟩ => ⟨S512x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![arg1.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S8192x2048 : Shape := ⟨2, ![8192, 2048]⟩
abbrev S16x8192x64 : Shape := ⟨3, ![16, 8192, 64]⟩
abbrev S4x2048x4096 : Shape := ⟨3, ![4, 2048, 4096]⟩
abbrev S4x2048x64 : Shape := ⟨3, ![4, 2048, 64]⟩
abbrev S4x512x4096 : Shape := ⟨3, ![4, 512, 4096]⟩
abbrev S4x512x64 : Shape := ⟨3, ![4, 512, 64]⟩
abbrev S4x2048x16x128 : Shape := ⟨4, ![4, 2048, 16, 128]⟩
abbrev S16x4x2048x64 : Shape := ⟨4, ![16, 4, 2048, 64]⟩
abbrev S4x2048x16x64 : Shape := ⟨4, ![4, 2048, 16, 64]⟩
abbrev S4x2048x16x192 : Shape := ⟨4, ![4, 2048, 16, 192]⟩
abbrev S4x2048x16x256 : Shape := ⟨4, ![4, 2048, 16, 256]⟩
abbrev S4x2048x1x64 : Shape := ⟨4, ![4, 2048, 1, 64]⟩
abbrev S4x512x16x256 : Shape := ⟨4, ![4, 512, 16, 256]⟩
abbrev S4x512x16x128 : Shape := ⟨4, ![4, 512, 16, 128]⟩
abbrev S4x512x1x64 : Shape := ⟨4, ![4, 512, 1, 64]⟩
abbrev S4x512x16x64 : Shape := ⟨4, ![4, 512, 16, 64]⟩
abbrev S4x512x16x192 : Shape := ⟨4, ![4, 512, 16, 192]⟩
abbrev S4x2560x16x192 : Shape := ⟨4, ![4, 2560, 16, 192]⟩
abbrev S4x2560x16x128 : Shape := ⟨4, ![4, 2560, 16, 128]⟩
abbrev S4x16x2048x2560 : Shape := ⟨4, ![4, 16, 2048, 2560]⟩
abbrev S_ : Shape := ⟨0, ![]⟩
abbrev S4x16x2048 : Shape := ⟨3, ![4, 16, 2048]⟩
abbrev S4x16x2048x1 : Shape := ⟨4, ![4, 16, 2048, 1]⟩
abbrev S4x16x128x2048 : Shape := ⟨4, ![4, 16, 128, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S16x8192x64, .bf16⟩
  | .hbm, ⟨2, _⟩ => ⟨S4x2048x4096, .bf16⟩
  | .hbm, ⟨3, _⟩ => ⟨S4x2048x64, .bf16⟩
  | .hbm, ⟨4, _⟩ => ⟨S4x512x4096, .bf16⟩
  | .hbm, ⟨5, _⟩ => ⟨S4x512x64, .bf16⟩
  | .hbm, ⟨6, _⟩ => ⟨S8192x2048, .f32⟩
  | .hbm, ⟨7, _⟩ => ⟨S4x2048x16x128, .f32⟩
  | .hbm, ⟨8, _⟩ => ⟨S16x8192x64, .f32⟩
  | .hbm, ⟨9, _⟩ => ⟨S16x4x2048x64, .f32⟩
  | .hbm, ⟨10, _⟩ => ⟨S4x2048x16x64, .f32⟩
  | .hbm, ⟨11, _⟩ => ⟨S4x2048x16x192, .f32⟩
  | .hbm, ⟨12, _⟩ => ⟨S4x2048x4096, .f32⟩
  | .hbm, ⟨13, _⟩ => ⟨S4x2048x64, .f32⟩
  | .hbm, ⟨14, _⟩ => ⟨S4x2048x16x256, .f32⟩
  | .hbm, ⟨15, _⟩ => ⟨S4x2048x16x128, .f32⟩
  | .hbm, ⟨16, _⟩ => ⟨S4x2048x16x128, .f32⟩
  | .hbm, ⟨17, _⟩ => ⟨S4x2048x1x64, .f32⟩
  | .hbm, ⟨18, _⟩ => ⟨S4x2048x16x64, .f32⟩
  | .hbm, ⟨19, _⟩ => ⟨S4x2048x16x192, .f32⟩
  | .hbm, ⟨20, _⟩ => ⟨S4x512x4096, .f32⟩
  | .hbm, ⟨21, _⟩ => ⟨S4x512x64, .f32⟩
  | .hbm, ⟨22, _⟩ => ⟨S4x512x16x256, .f32⟩
  | .hbm, ⟨23, _⟩ => ⟨S4x512x16x128, .f32⟩
  | .hbm, ⟨24, _⟩ => ⟨S4x512x16x128, .f32⟩
  | .hbm, ⟨25, _⟩ => ⟨S4x512x1x64, .f32⟩
  | .hbm, ⟨26, _⟩ => ⟨S4x512x16x64, .f32⟩
  | .hbm, ⟨27, _⟩ => ⟨S4x512x16x192, .f32⟩
  | .hbm, ⟨28, _⟩ => ⟨S4x2560x16x192, .f32⟩
  | .hbm, ⟨29, _⟩ => ⟨S4x2560x16x128, .f32⟩
  | .hbm, ⟨30, _⟩ => ⟨S4x16x2048x2560, .f32⟩
  | .hbm, ⟨31, _⟩ => ⟨S_, .f32⟩
  | .hbm, ⟨32, _⟩ => ⟨S4x16x2048x2560, .f32⟩
  | .hbm, ⟨33, _⟩ => ⟨S4x16x2048x2560, .f32⟩
  | .hbm, ⟨34, _⟩ => ⟨S_, .f32⟩
  | .hbm, ⟨35, _⟩ => ⟨S4x16x2048, .f32⟩
  | .hbm, ⟨36, _⟩ => ⟨S_, .f32⟩
  | .hbm, ⟨37, _⟩ => ⟨S4x16x2048, .f32⟩
  | .hbm, ⟨38, _⟩ => ⟨S4x16x2048, .f32⟩
  | .hbm, ⟨39, _⟩ => ⟨S4x16x2048x1, .f32⟩
  | .hbm, ⟨40, _⟩ => ⟨S4x16x2048x2560, .f32⟩
  | .hbm, ⟨41, _⟩ => ⟨S4x16x2048x2560, .f32⟩
  | .hbm, ⟨42, _⟩ => ⟨S4x16x2048x2560, .f32⟩
  | .hbm, ⟨43, _⟩ => ⟨S_, .f32⟩
  | .hbm, ⟨44, _⟩ => ⟨S4x16x2048, .f32⟩
  | .hbm, ⟨45, _⟩ => ⟨S4x16x2048x1, .f32⟩
  | .hbm, ⟨46, _⟩ => ⟨S4x16x2048x2560, .f32⟩
  | .hbm, ⟨47, _⟩ => ⟨S4x16x2048x2560, .f32⟩
  | .hbm, ⟨48, _⟩ => ⟨S4x16x128x2048, .f32⟩
  | .hbm, ⟨49, _⟩ => ⟨S4x2048x16x128, .f32⟩
  | .hbm, ⟨50, _⟩ => ⟨S8192x2048, .f32⟩
  | .hbm, ⟨51, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_v25 : Ref sig .tc := ⟨.hbm, 32, rfl⟩
abbrev main_v26 : Ref sig .tc := ⟨.hbm, 33, rfl⟩
abbrev main_cst_0 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== Kernel2.lean ====
abbrev S160 : Shape := ⟨1, ![160]⟩
abbrev S81920x2048 : Shape := ⟨2, ![81920, 2048]⟩
abbrev S32x2048x2048 : Shape := ⟨3, ![32, 2048, 2048]⟩
abbrev S32x4096 : Shape := ⟨2, ![32, 4096]⟩
abbrev S32x2048 : Shape := ⟨2, ![32, 2048]⟩
abbrev S32x1x2048 : Shape := ⟨3, ![32, 1, 2048]⟩
abbrev S512x2048 : Shape := ⟨2, ![512, 2048]⟩
abbrev S1 : Shape := ⟨1, ![1]⟩
abbrev S1x2048x512 : Shape := ⟨3, ![1, 2048, 512]⟩
abbrev S1x1x512 : Shape := ⟨3, ![1, 1, 512]⟩
abbrev S1x512x2048 : Shape := ⟨3, ![1, 512, 2048]⟩
abbrev S1x1x2048 : Shape := ⟨3, ![1, 1, 2048]⟩
abbrev S1x2048 : Shape := ⟨2, ![1, 2048]⟩
abbrev S2048x512 : Shape := ⟨2, ![2048, 512]⟩
abbrev S512x512 : Shape := ⟨2, ![512, 512]⟩
abbrev S1x512 : Shape := ⟨2, ![1, 512]⟩

abbrev nBuf : Space → Nat
  | .hbm => 12
  | .vmem => 17
  | .smem => 3
  | _ => 0

abbrev bufTy : (tb : Table) → Fin (tcTables nBuf tb) → BufTy
  | .hbm, ⟨0, _⟩ => ⟨S81920x2048, .f32⟩
  | .hbm, ⟨1, _⟩ => ⟨S32x2048x2048, .bf16⟩
  | .hbm, ⟨2, _⟩ => ⟨S32x2048x2048, .bf16⟩
  | .hbm, ⟨3, _⟩ => ⟨S32x4096, .f32⟩
  | .hbm, ⟨4, _⟩ => ⟨S32x2048x2048, .f32⟩
  | .hbm, ⟨5, _⟩ => ⟨S32x2048, .f32⟩
  | .hbm, ⟨6, _⟩ => ⟨S32x2048, .f32⟩
  | .hbm, ⟨7, _⟩ => ⟨S32x1x2048, .f32⟩
  | .hbm, ⟨8, _⟩ => ⟨S32x2048, .f32⟩
  | .hbm, ⟨9, _⟩ => ⟨S32x1x2048, .f32⟩
  | .hbm, ⟨10, _⟩ => ⟨S32x1x2048, .f32⟩
  | .hbm, ⟨11, _⟩ => ⟨S81920x2048, .f32⟩
  | .local _ .vmem, ⟨0, _⟩ => ⟨S512x2048, .f32⟩
  | .local _ .vmem, ⟨1, _⟩ => ⟨S512x2048, .f32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1x512x2048, .f32⟩
  | .local _ .vmem, ⟨11, _⟩ => ⟨S1x512x2048, .f32⟩
  | .local _ .vmem, ⟨12, _⟩ => ⟨S1x1x2048, .f32⟩
  | .local _ .vmem, ⟨13, _⟩ => ⟨S1x1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .smem, ⟨0, _⟩ => ⟨S160, .i32⟩
  | .local _ .smem, ⟨1, _⟩ => ⟨S160, .i32⟩
  | .local _ .smem, ⟨2, _⟩ => ⟨S160, .i32⟩
  | _, _ => ⟨S81920x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_arg8 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![160, 4], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond2 (i : grid0.Coords) : BitVec 1 :=
  let arg1 : BitVec 32 := BitVec.ofNat 32 (i 1).val
  let c0_i32_3 : BitVec 32 := 0#32
  let v12 : BitVec 1 := Scalar.cmpi .eq arg1 c0_i32_3
  let v13 : BitVec 32 := Scalar.extui v12
  let c0_i32_4 : BitVec 32 := 0#32
  let v14 : BitVec 1 := Scalar.cmpi .ne v13 c0_i32_4
  v14

def k0_cond3 (i : grid0.Coords) (v6 : BitVec 32) : BitVec 1 :=
  let c0_i32_0 : BitVec 32 := 0#32
  let v7 : BitVec 1 := Scalar.cmpi .eq v6 c0_i32_0
  let arg1 : BitVec 32 := BitVec.ofNat 32 (i 1).val
  let c0_i32_1 : BitVec 32 := 0#32
  let v8 : BitVec 1 := Scalar.cmpi .eq arg1 c0_i32_1
  let v9 : BitVec 1 := Scalar.andi v7 v8
  let v10 : BitVec 32 := Scalar.extui v9
  let c0_i32_2 : BitVec 32 := 0#32
  let v11 : BitVec 1 := Scalar.cmpi .ne v10 c0_i32_2
  v11

def cc0_transform_0 (k0_off1_inb : ∀ i : grid0.Coords, ∀ a, (k0_off1 i) a + S1.size a ≤ S160.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S160) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off1_inb i)) numel1_S1
  let v2 : Index := Scalar.indexCast arg0
  let v3 : BitVec 32 := pf.at 1 (Rect.unit (s := S160) ![v2.toNat] S1.size (k0_off1_inb i)) numel1_S1
  let c1_i32 : BitVec 32 := 1#32
  let v4 : BitVec 1 := Scalar.cmpi .eq v3 c1_i32
  let c3_i32 : BitVec 32 := 3#32
  let v5 : BitVec 32 := Scalar.select v4 arg1 c3_i32
  let c0_i32 : BitVec 32 := 0#32
  let c0_i32_0 : BitVec 32 := 0#32
  ![v1.toNat, c0_i32.toNat, v5.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off1_inb i)) numel1_S1
  let v2 : Index := Scalar.indexCast arg0
  let v3 : BitVec 32 := pf.at 1 (Rect.unit (s := S160) ![v2.toNat] S1.size (k0_off1_inb i)) numel1_S1
  let c1_i32 : BitVec 32 := 1#32
  let v4 : BitVec 1 := Scalar.cmpi .eq v3 c1_i32
  let c3_i32 : BitVec 32 := 3#32
  let v5 : BitVec 32 := Scalar.select v4 arg1 c3_i32
  let c0_i32 : BitVec 32 := 0#32
  let c0_i32_0 : BitVec 32 := 0#32
  ![v1.toNat, c0_i32.toNat, v5.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off1_inb i)) numel1_S1
  let v2 : Index := Scalar.indexCast arg0
  let v3 : BitVec 32 := pf.at 1 (Rect.unit (s := S160) ![v2.toNat] S1.size (k0_off1_inb i)) numel1_S1
  let c1_i32 : BitVec 32 := 1#32
  let v4 : BitVec 1 := Scalar.cmpi .eq v3 c1_i32
  let c3_i32 : BitVec 32 := 3#32
  let v5 : BitVec 32 := Scalar.select v4 arg1 c3_i32
  let c0_i32 : BitVec 32 := 0#32
  let c0_i32_0 : BitVec 32 := 0#32
  ![v1.toNat, c0_i32.toNat, v5.toNat]

def cc0_transform_4 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off1_inb i)) numel1_S1
  let v2 : Index := Scalar.indexCast arg0
  let v3 : BitVec 32 := pf.at 1 (Rect.unit (s := S160) ![v2.toNat] S1.size (k0_off1_inb i)) numel1_S1
  let c1_i32 : BitVec 32 := 1#32
  let v4 : BitVec 1 := Scalar.cmpi .eq v3 c1_i32
  let c3_i32 : BitVec 32 := 3#32
  let v5 : BitVec 32 := Scalar.select v4 arg1 c3_i32
  let c0_i32 : BitVec 32 := 0#32
  let c0_i32_0 : BitVec 32 := 0#32
  ![v1.toNat, c0_i32.toNat, v5.toNat]

def cc0_transform_5 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off1_inb i)) numel1_S1
  let v2 : Index := Scalar.indexCast arg0
  let v3 : BitVec 32 := pf.at 1 (Rect.unit (s := S160) ![v2.toNat] S1.size (k0_off1_inb i)) numel1_S1
  let c1_i32 : BitVec 32 := 1#32
  let v4 : BitVec 1 := Scalar.cmpi .eq v3 c1_i32
  let c3_i32 : BitVec 32 := 3#32
  let v5 : BitVec 32 := Scalar.select v4 arg1 c3_i32
  let c0_i32 : BitVec 32 := 0#32
  let c0_i32_0 : BitVec 32 := 0#32
  ![v1.toNat, v5.toNat, c0_i32.toNat]

def cc0_transform_6 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S160 : Shape := ⟨1, ![160]⟩
abbrev S81920x2048 : Shape := ⟨2, ![81920, 2048]⟩
abbrev S32x2048x2048 : Shape := ⟨3, ![32, 2048, 2048]⟩
abbrev S32x4096 : Shape := ⟨2, ![32, 4096]⟩
abbrev S32x2048 : Shape := ⟨2, ![32, 2048]⟩
abbrev S160x1 : Shape := ⟨2, ![160, 1]⟩
abbrev S160x512 : Shape := ⟨2, ![160, 512]⟩
abbrev S81920 : Shape := ⟨1, ![81920]⟩
abbrev S32 : Shape := ⟨1, ![32]⟩
abbrev S32x1 : Shape := ⟨2, ![32, 1]⟩
abbrev S1x81920 : Shape := ⟨2, ![1, 81920]⟩
abbrev S32x81920 : Shape := ⟨2, ![32, 81920]⟩
abbrev S_ : Shape := ⟨0, ![]⟩
abbrev S81920x32x2048 : Shape := ⟨3, ![81920, 32, 2048]⟩
abbrev S1x32x2048 : Shape := ⟨3, ![1, 32, 2048]⟩
abbrev S32x81920x1 : Shape := ⟨3, ![32, 81920, 1]⟩
abbrev S32x81920x2048 : Shape := ⟨3, ![32, 81920, 2048]⟩
abbrev S32x1x2048 : Shape := ⟨3, ![32, 1, 2048]⟩

abbrev nBuf : Space → Nat
  | .hbm => 77
  | .vmem => 0
  | .smem => 0
  | _ => 0

abbrev bufTy : (tb : Table) → Fin (tcTables nBuf tb) → BufTy
  | .hbm, ⟨0, _⟩ => ⟨S160, .i32⟩
  | .hbm, ⟨1, _⟩ => ⟨S160, .i32⟩
  | .hbm, ⟨2, _⟩ => ⟨S160, .i32⟩
  | .hbm, ⟨3, _⟩ => ⟨S81920x2048, .f32⟩
  | .hbm, ⟨4, _⟩ => ⟨S32x2048x2048, .bf16⟩
  | .hbm, ⟨5, _⟩ => ⟨S32x2048x2048, .bf16⟩
  | .hbm, ⟨6, _⟩ => ⟨S32x4096, .f32⟩
  | .hbm, ⟨7, _⟩ => ⟨S32x2048x2048, .f32⟩
  | .hbm, ⟨8, _⟩ => ⟨S32x2048, .f32⟩
  | .hbm, ⟨9, _⟩ => ⟨S160x1, .i32⟩
  | .hbm, ⟨10, _⟩ => ⟨S160x512, .i32⟩
  | .hbm, ⟨11, _⟩ => ⟨S81920, .i32⟩
  | .hbm, ⟨12, _⟩ => ⟨S160x1, .i32⟩
  | .hbm, ⟨13, _⟩ => ⟨S160x512, .i32⟩
  | .hbm, ⟨14, _⟩ => ⟨S81920, .i32⟩
  | .hbm, ⟨15, _⟩ => ⟨S32, .i32⟩
  | .hbm, ⟨16, _⟩ => ⟨S32x1, .i32⟩
  | .hbm, ⟨17, _⟩ => ⟨S1x81920, .i32⟩
  | .hbm, ⟨18, _⟩ => ⟨S32x81920, .i32⟩
  | .hbm, ⟨19, _⟩ => ⟨S32x81920, .i32⟩
  | .hbm, ⟨20, _⟩ => ⟨S32x81920, .i1⟩
  | .hbm, ⟨21, _⟩ => ⟨S1x81920, .i32⟩
  | .hbm, ⟨22, _⟩ => ⟨S_, .i32⟩
  | .hbm, ⟨23, _⟩ => ⟨S1x81920, .i32⟩
  | .hbm, ⟨24, _⟩ => ⟨S1x81920, .i1⟩
  | .hbm, ⟨25, _⟩ => ⟨S32x81920, .i1⟩
  | .hbm, ⟨26, _⟩ => ⟨S32x81920, .i1⟩
  | .hbm, ⟨27, _⟩ => ⟨S32x81920, .i32⟩
  | .hbm, ⟨28, _⟩ => ⟨S32x81920, .f32⟩
  | .hbm, ⟨29, _⟩ => ⟨S32x2048x2048, .f32⟩
  | .hbm, ⟨30, _⟩ => ⟨S81920x32x2048, .f32⟩
  | .hbm, ⟨31, _⟩ => ⟨S32x2048, .f32⟩
  | .hbm, ⟨32, _⟩ => ⟨S1x32x2048, .f32⟩
  | .hbm, ⟨33, _⟩ => ⟨S81920x32x2048, .f32⟩
  | .hbm, ⟨34, _⟩ => ⟨S81920x32x2048, .f32⟩
  | .hbm, ⟨35, _⟩ => ⟨S32x2048x2048, .f32⟩
  | .hbm, ⟨36, _⟩ => ⟨S81920x32x2048, .f32⟩
  | .hbm, ⟨37, _⟩ => ⟨S32x2048, .f32⟩
  | .hbm, ⟨38, _⟩ => ⟨S1x32x2048, .f32⟩
  | .hbm, ⟨39, _⟩ => ⟨S81920x32x2048, .f32⟩
  | .hbm, ⟨40, _⟩ => ⟨S81920x32x2048, .f32⟩
  | .hbm, ⟨41, _⟩ => ⟨S_, .f32⟩
  | .hbm, ⟨42, _⟩ => ⟨S81920x32x2048, .f32⟩
  | .hbm, ⟨43, _⟩ => ⟨S81920x32x2048, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S81920x32x2048, .f32⟩
  | .hbm, ⟨48, _⟩ => ⟨S81920x32x2048, .f32⟩
  | .hbm, ⟨49, _⟩ => ⟨S_, .f32⟩
  | .hbm, ⟨50, _⟩ => ⟨S81920x32x2048, .f32⟩
  | .hbm, ⟨51, _⟩ => ⟨S81920x32x2048, .f32⟩
  | .hbm, ⟨52, _⟩ => ⟨S_, .f32⟩
  | .hbm, ⟨53, _⟩ => ⟨S81920x32x2048, .f32⟩
  | .hbm, ⟨54, _⟩ => ⟨S81920x32x2048, .f32⟩
  | .hbm, ⟨55, _⟩ => ⟨S81920x32x2048, .f32⟩
  | .hbm, ⟨56, _⟩ => ⟨S81920x32x2048, .f32⟩
  | .hbm, ⟨57, _⟩ => ⟨S_, .f32⟩
  | .hbm, ⟨58, _⟩ => ⟨S81920x32x2048, .f32⟩
  | .hbm, ⟨59, _⟩ => ⟨S81920x32x2048, .f32⟩
  | .hbm, ⟨60, _⟩ => ⟨S_, .f32⟩
  | .hbm, ⟨61, _⟩ => ⟨S81920x32x2048, .f32⟩
  | .hbm, ⟨62, _⟩ => ⟨S81920x32x2048, .f32⟩
  | .hbm, ⟨63, _⟩ => ⟨S81920x32x2048, .f32⟩
  | .hbm, ⟨64, _⟩ => ⟨S_, .f32⟩
  | .hbm, ⟨65, _⟩ => ⟨S81920x32x2048, .f32⟩
  | .hbm, ⟨66, _⟩ => ⟨S81920x32x2048, .f32⟩
  | .hbm, ⟨67, _⟩ => ⟨S81920x32x2048, .f32⟩
  | .hbm, ⟨68, _⟩ => ⟨S32x81920x1, .f32⟩
  | .hbm, ⟨69, _⟩ => ⟨S32x81920x2048, .f32⟩
  | .hbm, ⟨70, _⟩ => ⟨S32x1x2048, .f32⟩
  | .hbm, ⟨71, _⟩ => ⟨S32x81920x2048, .f32⟩
  | .hbm, ⟨72, _⟩ => ⟨S32x81920x2048, .f32⟩
  | .hbm, ⟨73, _⟩ => ⟨S32x81920x2048, .f32⟩
  | .hbm, ⟨74, _⟩ => ⟨S32x81920x2048, .f32⟩
  | .hbm, ⟨75, _⟩ => ⟨S_, .f32⟩
  | .hbm, ⟨76, _⟩ => ⟨S81920x2048, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst : Ref sig .tc := ⟨.hbm, 41, rfl⟩
abbrev main_v31 : Ref sig .tc := ⟨.hbm, 42, rfl⟩
abbrev main_v32 : Ref sig .tc := ⟨.hbm, 43, rfl⟩
abbrev main_cst_0 : Ref sig .tc := ⟨.hbm, 44, rfl⟩
abbrev main_cst_1 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_v33 : Ref sig .tc := ⟨.hbm, 51, rfl⟩
abbrev main_cst_2 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_3 : Ref sig .tc := ⟨.hbm, 57, rfl⟩
abbrev main_v38 : Ref sig .tc := ⟨.hbm, 58, rfl⟩
abbrev main_v39 : Ref sig .tc := ⟨.hbm, 59, rfl⟩
abbrev main_cst_4 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_5 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_6 : Ref sig .tc := ⟨.hbm, 75, rfl⟩
abbrev main_v53 : Ref sig .tc := ⟨.hbm, 76, rfl⟩

abbrev nD : Nat := 1
abbrev τ : Topo := Topo.v7x

variable {F : FTy → Type} [FloatOps F]
-- ==== Kernel3.lean ====
abbrev S32x256x2048 : Shape := ⟨3, ![32, 256, 2048]⟩
abbrev S4x2048x2048 : Shape := ⟨3, ![4, 2048, 2048]⟩
abbrev S8x12288 : Shape := ⟨2, ![8, 12288]⟩
abbrev S1x2048x15552 : Shape := ⟨3, ![1, 2048, 15552]⟩
abbrev S128 : Shape := ⟨1, ![128]⟩
abbrev S8192x2048 : Shape := ⟨2, ![8192, 2048]⟩
abbrev S8x1x12288 : Shape := ⟨3, ![8, 1, 12288]⟩
abbrev S2048x15552 : Shape := ⟨2, ![2048, 15552]⟩
abbrev S2048x4096 : Shape := ⟨2, ![2048, 4096]⟩
abbrev S2048x6144 : Shape := ⟨2, ![2048, 6144]⟩
abbrev S2048x128 : Shape := ⟨2, ![2048, 128]⟩
abbrev S2048x512 : Shape := ⟨2, ![2048, 512]⟩
abbrev S2048x576 : Shape := ⟨2, ![2048, 576]⟩
abbrev S2048x64 : Shape := ⟨2, ![2048, 64]⟩
abbrev S_ : Shape := ⟨0, ![]⟩
abbrev S128x1 : Shape := ⟨2, ![128, 1]⟩
abbrev S2048x768 : Shape := ⟨2, ![2048, 768]⟩
abbrev S2048x16384 : Shape := ⟨2, ![2048, 16384]⟩
abbrev S16384x16384 : Shape := ⟨2, ![16384, 16384]⟩
abbrev S512x2048 : Shape := ⟨2, ![512, 2048]⟩
abbrev S1x1x2048 : Shape := ⟨3, ![1, 1, 2048]⟩
abbrev S2048x2048 : Shape := ⟨2, ![2048, 2048]⟩
abbrev S1x2048 : Shape := ⟨2, ![1, 2048]⟩

abbrev nBuf : Space → Nat
  | .hbm => 31
  | .vmem => 13
  | .smem => 0
  | _ => 0

abbrev bufTy : (tb : Table) → Fin (tcTables nBuf tb) → BufTy
  | .hbm, ⟨0, _⟩ => ⟨S32x256x2048, .f32⟩
  | .hbm, ⟨1, _⟩ => ⟨S4x2048x2048, .f32⟩
  | .hbm, ⟨2, _⟩ => ⟨S8x12288, .f32⟩
  | .hbm, ⟨3, _⟩ => ⟨S1x2048x15552, .f32⟩
  | .hbm, ⟨4, _⟩ => ⟨S128, .i32⟩
  | .hbm, ⟨5, _⟩ => ⟨S128, .i1⟩
  | .hbm, ⟨6, _⟩ => ⟨S8192x2048, .f32⟩
  | .hbm, ⟨7, _⟩ => ⟨S8192x2048, .f32⟩
  | .hbm, ⟨8, _⟩ => ⟨S8x1x12288, .f32⟩
  | .hbm, ⟨9, _⟩ => ⟨S2048x15552, .f32⟩
  | .hbm, ⟨10, _⟩ => ⟨S2048x4096, .f32⟩
  | .hbm, ⟨11, _⟩ => ⟨S2048x6144, .f32⟩
  | .hbm, ⟨12, _⟩ => ⟨S2048x128, .f32⟩
  | .hbm, ⟨13, _⟩ => ⟨S2048x512, .f32⟩
  | .hbm, ⟨14, _⟩ => ⟨S2048x576, .f32⟩
  | .hbm, ⟨15, _⟩ => ⟨S2048x4096, .f32⟩
  | .hbm, ⟨16, _⟩ => ⟨S2048x512, .f32⟩
  | .hbm, ⟨17, _⟩ => ⟨S2048x64, .f32⟩
  | .hbm, ⟨18, _⟩ => ⟨S_, .f32⟩
  | .hbm, ⟨19, _⟩ => ⟨S2048x64, .f32⟩
  | .hbm, ⟨20, _⟩ => ⟨S_, .i32⟩
  | .hbm, ⟨21, _⟩ => ⟨S128, .i32⟩
  | .hbm, ⟨22, _⟩ => ⟨S128, .i32⟩
  | .hbm, ⟨23, _⟩ => ⟨S128, .i32⟩
  | .hbm, ⟨24, _⟩ => ⟨S128x1, .i32⟩
  | .hbm, ⟨25, _⟩ => ⟨S2048x128, .f32⟩
  | .hbm, ⟨26, _⟩ => ⟨S_, .f32⟩
  | .hbm, ⟨27, _⟩ => ⟨S2048x768, .f32⟩
  | .hbm, ⟨28, _⟩ => ⟨S2048x16384, .f32⟩
  | .hbm, ⟨29, _⟩ => ⟨S2048x16384, .bf16⟩
  | .hbm, ⟨30, _⟩ => ⟨S16384x16384, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S2048x2048, .bf16⟩
  | .local _ .vmem, ⟨9, _⟩ => ⟨S2048x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c1_i32_8 : BitVec 32 := 1#32
  let c0_i32_9 : BitVec 32 := 0#32
  ![v21.toNat, c0_i32_7.toNat, c1_i32_8.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S32x256x2048 : Shape := ⟨3, ![32, 256, 2048]⟩
abbrev S4x2048x2048 : Shape := ⟨3, ![4, 2048, 2048]⟩
abbrev S8x12288 : Shape := ⟨2, ![8, 12288]⟩
abbrev S1x2048x15552 : Shape := ⟨3, ![1, 2048, 15552]⟩
abbrev S8x2048 : Shape := ⟨2, ![8, 2048]⟩
abbrev S1x2048 : Shape := ⟨2, ![1, 2048]⟩
abbrev S2048 : Shape := ⟨1, ![2048]⟩
abbrev S_ : Shape := ⟨0, ![]⟩
abbrev S1x1x2048 : Shape := ⟨3, ![1, 1, 2048]⟩
abbrev S4x2048 : Shape := ⟨2, ![4, 2048]⟩
abbrev S4x1x2048 : Shape := ⟨3, ![4, 1, 2048]⟩
abbrev S8192x2048 : Shape := ⟨2, ![8192, 2048]⟩
abbrev S16384x2048 : Shape := ⟨2, ![16384, 2048]⟩
abbrev S2048x15552 : Shape := ⟨2, ![2048, 15552]⟩
abbrev S16384x15552 : Shape := ⟨2, ![16384, 15552]⟩
abbrev S16384x128 : Shape := ⟨2, ![16384, 128]⟩
abbrev S16384x2x8x8 : Shape := ⟨4, ![16384, 2, 8, 8]⟩
abbrev S16384x8x2x8 : Shape := ⟨4, ![16384, 8, 2, 8]⟩
abbrev S16384x10240 : Shape := ⟨2, ![16384, 10240]⟩
abbrev S16384x1088 : Shape := ⟨2, ![16384, 1088]⟩
abbrev S16384x64 : Shape := ⟨2, ![16384, 64]⟩
abbrev S16384x768 : Shape := ⟨2, ![16384, 768]⟩
abbrev S16384x4096 : Shape := ⟨2, ![16384, 4096]⟩
abbrev S16384x16384 : Shape := ⟨2, ![16384, 16384]⟩

abbrev nBuf : Space → Nat
  | .hbm => 47
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S4x2048x2048, .f32⟩
  | .hbm, ⟨2, _⟩ => ⟨S8x12288, .f32⟩
  | .hbm, ⟨3, _⟩ => ⟨S1x2048x15552, .f32⟩
  | .hbm, ⟨4, _⟩ => ⟨S8x2048, .f32⟩
  | .hbm, ⟨5, _⟩ => ⟨S8x2048, .f32⟩
  | .hbm, ⟨6, _⟩ => ⟨S1x2048, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S1x1x2048, .f32⟩
  | .hbm, ⟨12, _⟩ => ⟨S32x256x2048, .f32⟩
  | .hbm, ⟨13, _⟩ => ⟨S32x256x2048, .f32⟩
  | .hbm, ⟨14, _⟩ => ⟨S1x2048, .f32⟩
  | .hbm, ⟨15, _⟩ => ⟨S2048, .f32⟩
  | .hbm, ⟨16, _⟩ => ⟨S1x1x2048, .f32⟩
  | .hbm, ⟨17, _⟩ => ⟨S32x256x2048, .f32⟩
  | .hbm, ⟨18, _⟩ => ⟨S32x256x2048, .f32⟩
  | .hbm, ⟨19, _⟩ => ⟨S4x2048, .f32⟩
  | .hbm, ⟨20, _⟩ => ⟨S4x1x2048, .f32⟩
  | .hbm, ⟨21, _⟩ => ⟨S_, .f32⟩
  | .hbm, ⟨22, _⟩ => ⟨S4x1x2048, .f32⟩
  | .hbm, ⟨23, _⟩ => ⟨S4x1x2048, .f32⟩
  | .hbm, ⟨24, _⟩ => ⟨S4x2048x2048, .f32⟩
  | .hbm, ⟨25, _⟩ => ⟨S4x2048x2048, .f32⟩
  | .hbm, ⟨26, _⟩ => ⟨S4x2048, .f32⟩
  | .hbm, ⟨27, _⟩ => ⟨S4x1x2048, .f32⟩
  | .hbm, ⟨28, _⟩ => ⟨S4x2048x2048, .f32⟩
  | .hbm, ⟨29, _⟩ => ⟨S4x2048x2048, .f32⟩
  | .hbm, ⟨30, _⟩ => ⟨S8192x2048, .f32⟩
  | .hbm, ⟨31, _⟩ => ⟨S8192x2048, .f32⟩
  | .hbm, ⟨32, _⟩ => ⟨S16384x2048, .f32⟩
  | .hbm, ⟨33, _⟩ => ⟨S2048x15552, .f32⟩
  | .hbm, ⟨34, _⟩ => ⟨S16384x15552, .f32⟩
  | .hbm, ⟨35, _⟩ => ⟨S16384x128, .f32⟩
  | .hbm, ⟨36, _⟩ => ⟨S16384x2x8x8, .f32⟩
  | .hbm, ⟨37, _⟩ => ⟨S16384x8x2x8, .f32⟩
  | .hbm, ⟨38, _⟩ => ⟨S16384x128, .f32⟩
  | .hbm, ⟨39, _⟩ => ⟨S16384x10240, .f32⟩
  | .hbm, ⟨40, _⟩ => ⟨S16384x1088, .f32⟩
  | .hbm, ⟨41, _⟩ => ⟨S_, .f32⟩
  | .hbm, ⟨42, _⟩ => ⟨S16384x64, .f32⟩
  | .hbm, ⟨43, _⟩ => ⟨S_, .f32⟩
  | .hbm, ⟨44, _⟩ => ⟨S16384x768, .f32⟩
  | .hbm, ⟨45, _⟩ => ⟨S16384x4096, .f32⟩
  | .hbm, ⟨46, _⟩ => ⟨S16384x16384, .f32⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_1 : Ref sig .tc := ⟨.hbm, 41, rfl⟩
abbrev main_v35 : Ref sig .tc := ⟨.hbm, 42, rfl⟩
abbrev main_cst_2 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩

abbrev nD : Nat := 1
abbrev τ : Topo := Topo.v7x

variable {F : FTy → Type} [FloatOps F]
-- ==== Kernel4.lean ====
abbrev S8192x4096 : Shape := ⟨2, ![8192, 4096]⟩
abbrev S8192x2048 : Shape := ⟨2, ![8192, 2048]⟩
abbrev S1x4096x2048 : Shape := ⟨3, ![1, 4096, 2048]⟩
abbrev S1x2048x2048 : Shape := ⟨3, ![1, 2048, 2048]⟩
abbrev S16384x16384 : Shape := ⟨2, ![16384, 16384]⟩
abbrev S4096x2048 : Shape := ⟨2, ![4096, 2048]⟩
abbrev S2048x2048 : Shape := ⟨2, ![2048, 2048]⟩
abbrev S16384x2048 : Shape := ⟨2, ![16384, 2048]⟩
abbrev S512x4096 : Shape := ⟨2, ![512, 4096]⟩
abbrev S512x2048 : Shape := ⟨2, ![512, 2048]⟩
abbrev S4096x512 : Shape := ⟨2, ![4096, 512]⟩
abbrev S2048x512 : Shape := ⟨2, ![2048, 512]⟩
abbrev S512x512 : Shape := ⟨2, ![512, 512]⟩

abbrev nBuf : Space → Nat
  | .hbm => 12
  | .vmem => 18
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S8192x2048, .bf16⟩
  | .hbm, ⟨3, _⟩ => ⟨S8192x2048, .bf16⟩
  | .hbm, ⟨4, _⟩ => ⟨S1x4096x2048, .f32⟩
  | .hbm, ⟨5, _⟩ => ⟨S1x2048x2048, .f32⟩
  | .hbm, ⟨6, _⟩ => ⟨S16384x16384, .f32⟩
  | .hbm, ⟨7, _⟩ => ⟨S4096x2048, .f32⟩
  | .hbm, ⟨8, _⟩ => ⟨S4096x2048, .bf16⟩
  | .hbm, ⟨9, _⟩ => ⟨S2048x2048, .f32⟩
  | .hbm, ⟨10, _⟩ => ⟨S2048x2048, .bf16⟩
  | .hbm, ⟨11, _⟩ => ⟨S16384x2048, .bf16⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S4096x512, .bf16⟩
  | .local _ .vmem, ⟨9, _⟩ => ⟨S4096x512, .bf16⟩
  | .local _ .vmem, ⟨10, _⟩ => ⟨S2048x512, .bf16⟩
  | .local _ .vmem, ⟨11, _⟩ => ⟨S2048x512, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S8192x4096 : Shape := ⟨2, ![8192, 4096]⟩
abbrev S8192x2048 : Shape := ⟨2, ![8192, 2048]⟩
abbrev S1x4096x2048 : Shape := ⟨3, ![1, 4096, 2048]⟩
abbrev S1x2048x2048 : Shape := ⟨3, ![1, 2048, 2048]⟩
abbrev S16384x16384 : Shape := ⟨2, ![16384, 16384]⟩
abbrev S16384x4096 : Shape := ⟨2, ![16384, 4096]⟩
abbrev S16384x2048 : Shape := ⟨2, ![16384, 2048]⟩
abbrev S_ : Shape := ⟨0, ![]⟩
abbrev S4096x2048 : Shape := ⟨2, ![4096, 2048]⟩
abbrev S2048x2048 : Shape := ⟨2, ![2048, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S8192x2048, .bf16⟩
  | .hbm, ⟨3, _⟩ => ⟨S8192x2048, .bf16⟩
  | .hbm, ⟨4, _⟩ => ⟨S1x4096x2048, .f32⟩
  | .hbm, ⟨5, _⟩ => ⟨S1x2048x2048, .f32⟩
  | .hbm, ⟨6, _⟩ => ⟨S16384x16384, .f32⟩
  | .hbm, ⟨7, _⟩ => ⟨S16384x4096, .bf16⟩
  | .hbm, ⟨8, _⟩ => ⟨S16384x4096, .f32⟩
  | .hbm, ⟨9, _⟩ => ⟨S16384x2048, .bf16⟩
  | .hbm, ⟨10, _⟩ => ⟨S16384x2048, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S_, .f32⟩
  | .hbm, ⟨18, _⟩ => ⟨S16384x4096, .f32⟩
  | .hbm, ⟨19, _⟩ => ⟨S16384x4096, .f32⟩
  | .hbm, ⟨20, _⟩ => ⟨S16384x2048, .f32⟩
  | .hbm, ⟨21, _⟩ => ⟨S4096x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S2048x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel5.lean ====
abbrev S16384x16384 : Shape := ⟨2, ![16384, 16384]⟩
abbrev S1x512 : Shape := ⟨2, ![1, 512]⟩
abbrev S1x512x4096 : Shape := ⟨3, ![1, 512, 4096]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x128 : Shape := ⟨2, ![2048, 128]⟩
abbrev S512 : Shape := ⟨1, ![512]⟩
abbrev S512x4096 : Shape := ⟨2, ![512, 4096]⟩
abbrev S8192x512 : Shape := ⟨2, ![8192, 512]⟩
abbrev S8192x64 : Shape := ⟨2, ![8192, 64]⟩
abbrev S8192x4096 : Shape := ⟨2, ![8192, 4096]⟩
abbrev S512x512 : Shape := ⟨2, ![512, 512]⟩
abbrev S512x128 : Shape := ⟨2, ![512, 128]⟩
abbrev S512x64 : Shape := ⟨2, ![512, 64]⟩
abbrev S512x1 : Shape := ⟨2, ![512, 1]⟩

abbrev nBuf : Space → Nat
  | .hbm => 43
  | .vmem => 18
  | .smem => 0
  | _ => 0

abbrev bufTy : (tb : Table) → Fin (tcTables nBuf tb) → BufTy
  | .hbm, ⟨0, _⟩ => ⟨S16384x16384, .f32⟩
  | .hbm, ⟨1, _⟩ => ⟨S1x512, .f32⟩
  | .hbm, ⟨2, _⟩ => ⟨S1x512x4096, .f32⟩
  | .hbm, ⟨3, _⟩ => ⟨S32, .f32⟩
  | .hbm, ⟨4, _⟩ => ⟨S32x64, .f32⟩
  | .hbm, ⟨5, _⟩ => ⟨S2048, .f32⟩
  | .hbm, ⟨6, _⟩ => ⟨S64, .f32⟩
  | .hbm, ⟨7, _⟩ => ⟨S1x64, .f32⟩
  | .hbm, ⟨8, _⟩ => ⟨S32x64, .f32⟩
  | .hbm, ⟨9, _⟩ => ⟨S2048, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S2048x1, .f32⟩
  | .hbm, ⟨19, _⟩ => ⟨S1x16, .f32⟩
  | .hbm, ⟨20, _⟩ => ⟨S2048x16, .f32⟩
  | .hbm, ⟨21, _⟩ => ⟨S2048x16, .f32⟩
  | .hbm, ⟨22, _⟩ => ⟨S2048x16, .f32⟩
  | .hbm, ⟨23, _⟩ => ⟨S2048x1, .f32⟩
  | .hbm, ⟨24, _⟩ => ⟨S1x16, .f32⟩
  | .hbm, ⟨25, _⟩ => ⟨S2048x16, .f32⟩
  | .hbm, ⟨26, _⟩ => ⟨S2048x16, .f32⟩
  | .hbm, ⟨27, _⟩ => ⟨S2048x16, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S2048x128, .f32⟩
  | .hbm, ⟨32, _⟩ => ⟨S2048x32, .f32⟩
  | .hbm, ⟨33, _⟩ => ⟨S2048x32, .f32⟩
  | .hbm, ⟨34, _⟩ => ⟨S2048x128, .f32⟩
  | .hbm, ⟨35, _⟩ => ⟨S512, .f32⟩
  | .hbm, ⟨36, _⟩ => ⟨S1x512, .f32⟩
  | .hbm, ⟨37, _⟩ => ⟨S512x4096, .f32⟩
  | .hbm, ⟨38, _⟩ => ⟨S512x4096, .bf16⟩
  | .hbm, ⟨39, _⟩ => ⟨S8192x512, .f32⟩
  | .hbm, ⟨40, _⟩ => ⟨S8192x64, .f32⟩
  | .hbm, ⟨41, _⟩ => ⟨S8192x64, .bf16⟩
  | .hbm, ⟨42, _⟩ => ⟨S8192x4096, .bf16⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S1x512, .f32⟩
  | .local _ .vmem, ⟨5, _⟩ => ⟨S512x4096, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x512, .f32⟩
  | .local _ .vmem, ⟨11, _⟩ => ⟨S512x512, .f32⟩
  | .local _ .vmem, ⟨12, _⟩ => ⟨S512x64, .f32⟩
  | .local _ .vmem, ⟨13, _⟩ => ⟨S512x64, .f32⟩
  | .local _ .vmem, ⟨14, _⟩ => ⟨S512x64, .bf16⟩
  | .local _ .vmem, ⟨15, _⟩ => ⟨S512x64, .bf16⟩
  | .local _ .vmem, ⟨16, _⟩ => ⟨S512x4096, .bf16⟩
  | .local _ .vmem, ⟨17, _⟩ => ⟨S512x4096, .bf16⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34_0 : Ref sig .tc := ⟨.hbm, 39, rfl⟩
abbrev main_v34_1 : Ref sig .tc := ⟨.hbm, 40, rfl⟩
abbrev main_v34_2 : Ref sig .tc := ⟨.hbm, 41, rfl⟩
abbrev main_v34_3 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c21_i32 : BitVec 32 := 21#32
  let c0_i32_0 : BitVec 32 := 0#32
  ![v0.toNat, c21_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c88_i32 : BitVec 32 := 88#32
  let c0_i32_0 : BitVec 32 := 0#32
  ![v0.toNat, c88_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S16384x16384 : Shape := ⟨2, ![16384, 16384]⟩
abbrev S1x512 : Shape := ⟨2, ![1, 512]⟩
abbrev S1x512x4096 : Shape := ⟨3, ![1, 512, 4096]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S512 : Shape := ⟨1, ![512]⟩
abbrev S8192x64 : Shape := ⟨2, ![8192, 64]⟩
abbrev S512x4096 : Shape := ⟨2, ![512, 4096]⟩
abbrev S8192x4096 : Shape := ⟨2, ![8192, 4096]⟩

abbrev nBuf : Space → Nat
  | .hbm => 26
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S1x512, .f32⟩
  | .hbm, ⟨2, _⟩ => ⟨S1x512x4096, .f32⟩
  | .hbm, ⟨3, _⟩ => ⟨S8192x512, .f32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x512, .f32⟩
  | .hbm, ⟨16, _⟩ => ⟨S8192x512, .f32⟩
  | .hbm, ⟨17, _⟩ => ⟨S512, .f32⟩
  | .hbm, ⟨18, _⟩ => ⟨S1x512, .f32⟩
  | .hbm, ⟨19, _⟩ => ⟨S8192x512, .f32⟩
  | .hbm, ⟨20, _⟩ => ⟨S8192x512, .f32⟩
  | .hbm, ⟨21, _⟩ => ⟨S8192x64, .f32⟩
  | .hbm, ⟨22, _⟩ => ⟨S8192x64, .bf16⟩
  | .hbm, ⟨23, _⟩ => ⟨S512x4096, .f32⟩
  | .hbm, ⟨24, _⟩ => ⟨S8192x4096, .f32⟩
  | .hbm, ⟨25, _⟩ => ⟨S8192x4096, .bf16⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel6.lean ====
abbrev S4x2048 : Shape := ⟨2, ![4, 2048]⟩
abbrev S2048 : Shape := ⟨1, ![2048]⟩
abbrev S1x2048x12288 : Shape := ⟨3, ![1, 2048, 12288]⟩
abbrev S1x12288 : Shape := ⟨2, ![1, 12288]⟩
abbrev S_ : Shape := ⟨0, ![]⟩
abbrev S8x2048 : Shape := ⟨2, ![8, 2048]⟩
abbrev S1 : Shape := ⟨1, ![1]⟩
abbrev S2048x12288 : Shape := ⟨2, ![2048, 12288]⟩
abbrev S12288 : Shape := ⟨1, ![12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 16
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S1x2048x12288, .f32⟩
  | .hbm, ⟨3, _⟩ => ⟨S1x12288, .f32⟩
  | .hbm, ⟨4, _⟩ => ⟨S_, .f32⟩
  | .hbm, ⟨5, _⟩ => ⟨S8x2048, .f32⟩
  | .hbm, ⟨6, _⟩ => ⟨S_, .i32⟩
  | .hbm, ⟨7, _⟩ => ⟨S1, .i32⟩
  | .hbm, ⟨8, _⟩ => ⟨S8x2048, .f32⟩
  | .hbm, ⟨9, _⟩ => ⟨S_, .i32⟩
  | .hbm, ⟨10, _⟩ => ⟨S1, .i32⟩
  | .hbm, ⟨11, _⟩ => ⟨S8x2048, .f32⟩
  | .hbm, ⟨12, _⟩ => ⟨S2048x12288, .f32⟩
  | .hbm, ⟨13, _⟩ => ⟨S12288, .f32⟩
  | .hbm, ⟨14, _⟩ => ⟨S1x12288, .f32⟩
  | .hbm, ⟨15, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S4x2048 : Shape := ⟨2, ![4, 2048]⟩
abbrev S2048 : Shape := ⟨1, ![2048]⟩
abbrev S1x2048x12288 : Shape := ⟨3, ![1, 2048, 12288]⟩
abbrev S1x12288 : Shape := ⟨2, ![1, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S2048x12288 : Shape := ⟨2, ![2048, 12288]⟩
abbrev S8x12288 : Shape := ⟨2, ![8, 12288]⟩
abbrev S12288 : Shape := ⟨1, ![12288]⟩

abbrev nBuf : Space → Nat
  | .hbm => 23
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S1x2048x12288, .f32⟩
  | .hbm, ⟨3, _⟩ => ⟨S1x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S2048x12288, .f32⟩
  | .hbm, ⟨18, _⟩ => ⟨S8x12288, .f32⟩
  | .hbm, ⟨19, _⟩ => ⟨S12288, .f32⟩
  | .hbm, ⟨20, _⟩ => ⟨S1x12288, .f32⟩
  | .hbm, ⟨21, _⟩ => ⟨S8x12288, .f32⟩
  | .hbm, ⟨22, _⟩ => ⟨S8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel7.lean ====
abbrev S16384x2048 : Shape := ⟨2, ![16384, 2048]⟩
abbrev S1x2048x2048 : Shape := ⟨3, ![1, 2048, 2048]⟩
abbrev S32x256x2048 : Shape := ⟨3, ![32, 256, 2048]⟩
abbrev S4x2048x2048 : Shape := ⟨3, ![4, 2048, 2048]⟩
abbrev S8x12288 : Shape := ⟨2, ![8, 12288]⟩
abbrev S1x2048 : Shape := ⟨2, ![1, 2048]⟩
abbrev S1x2048x32 : Shape := ⟨3, ![1, 2048, 32]⟩
abbrev S1x32 : Shape := ⟨2, ![1, 32]⟩
abbrev S_ : Shape := ⟨0, ![]⟩
abbrev S2048x128 : Shape := ⟨2, ![2048, 128]⟩
abbrev S2048x32 : Shape := ⟨2, ![2048, 32]⟩
abbrev S1 : Shape := ⟨1, ![1]⟩
abbrev S1x128 : Shape := ⟨2, ![1, 128]⟩
abbrev S32 : Shape := ⟨1, ![32]⟩
abbrev S2 : Shape := ⟨1, ![2]⟩
abbrev S2048x2048 : Shape := ⟨2, ![2048, 2048]⟩
abbrev S8192x2048 : Shape := ⟨2, ![8192, 2048]⟩
abbrev S8x1x12288 : Shape := ⟨3, ![8, 1, 12288]⟩
abbrev S2048 : Shape := ⟨1, ![2048]⟩
abbrev S16384x128 : Shape := ⟨2, ![16384, 128]⟩
abbrev S256x2048 : Shape := ⟨2, ![256, 2048]⟩
abbrev S1x1x2048 : Shape := ⟨3, ![1, 1, 2048]⟩
abbrev S256x128 : Shape := ⟨2, ![256, 128]⟩
abbrev S256 : Shape := ⟨1, ![256]⟩
abbrev S256x1 : Shape := ⟨2, ![256, 1]⟩

abbrev nBuf : Space → Nat
  | .hbm => 37
  | .vmem => 23
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S32x256x2048, .f32⟩
  | .hbm, ⟨3, _⟩ => ⟨S4x2048x2048, .f32⟩
  | .hbm, ⟨4, _⟩ => ⟨S8x12288, .f32⟩
  | .hbm, ⟨5, _⟩ => ⟨S1x2048, .f32⟩
  | .hbm, ⟨6, _⟩ => ⟨S1x2048, .f32⟩
  | .hbm, ⟨7, _⟩ => ⟨S1x2048x32, .f32⟩
  | .hbm, ⟨8, _⟩ => ⟨S1x32, .f32⟩
  | .hbm, ⟨9, _⟩ => ⟨S_, .f32⟩
  | .hbm, ⟨10, _⟩ => ⟨S2048x128, .f32⟩
  | .hbm, ⟨11, _⟩ => ⟨S2048x32, .f32⟩
  | .hbm, ⟨12, _⟩ => ⟨S_, .i32⟩
  | .hbm, ⟨13, _⟩ => ⟨S1, .i32⟩
  | .hbm, ⟨14, _⟩ => ⟨S2048x128, .f32⟩
  | .hbm, ⟨15, _⟩ => ⟨S2048x128, .bf16⟩
  | .hbm, ⟨16, _⟩ => ⟨S_, .f32⟩
  | .hbm, ⟨17, _⟩ => ⟨S1x128, .f32⟩
  | .hbm, ⟨18, _⟩ => ⟨S32, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S1x128, .f32⟩
  | .hbm, ⟨25, _⟩ => ⟨S2048x2048, .f32⟩
  | .hbm, ⟨26, _⟩ => ⟨S2048x2048, .bf16⟩
  | .hbm, ⟨27, _⟩ => ⟨S8192x2048, .f32⟩
  | .hbm, ⟨28, _⟩ => ⟨S8192x2048, .f32⟩
  | .hbm, ⟨29, _⟩ => ⟨S8x1x12288, .f32⟩
  | .hbm, ⟨30, _⟩ => ⟨S2048, .f32⟩
  | .hbm, ⟨31, _⟩ => ⟨S1x2048, .f32⟩
  | .hbm, ⟨32, _⟩ => ⟨S2048, .f32⟩
  | .hbm, ⟨33, _⟩ => ⟨S1x2048, .f32⟩
  | .hbm, ⟨34, _⟩ => ⟨S16384x2048, .f32⟩
  | .hbm, ⟨35, _⟩ => ⟨S16384x2048, .f32⟩
  | .hbm, ⟨36, _⟩ => ⟨S16384x128, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048, .f32⟩
  | .local _ .vmem, ⟨10, _⟩ => ⟨S1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S2048x128, .bf16⟩
  | .local _ .vmem, ⟨16, _⟩ => ⟨S1x128, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x128, .f32⟩
  | .local _ .vmem, ⟨22, _⟩ => ⟨S256x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_c_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev main_v20_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c2_i32 : BitVec 32 := 2#32
  let c0_i32_8 : BitVec 32 := 0#32
  ![v21.toNat, c0_i32_7.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c4_i32 : BitVec 32 := 4#32
  let c0_i32_8 : BitVec 32 := 0#32
  ![v21.toNat, c0_i32_7.toNat, c4_i32.toNat]

def cc0_transform_8 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c3_i32 : BitVec 32 := 3#32
  let c0_i32_8 : BitVec 32 := 0#32
  ![v21.toNat, c0_i32_7.toNat, c3_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2048x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference7Ideal.lean ====
abbrev S16384x2048 : Shape := ⟨2, ![16384, 2048]⟩
abbrev S1x2048x2048 : Shape := ⟨3, ![1, 2048, 2048]⟩
abbrev S32x256x2048 : Shape := ⟨3, ![32, 256, 2048]⟩
abbrev S4x2048x2048 : Shape := ⟨3, ![4, 2048, 2048]⟩
abbrev S8x12288 : Shape := ⟨2, ![8, 12288]⟩
abbrev S1x2048 : Shape := ⟨2, ![1, 2048]⟩
abbrev S1x2048x32 : Shape := ⟨3, ![1, 2048, 32]⟩
abbrev S1x32 : Shape := ⟨2, ![1, 32]⟩
abbrev S1x12288 : Shape := ⟨2, ![1, 12288]⟩
abbrev S12288 : Shape := ⟨1, ![12288]⟩
abbrev S8192x12288 : Shape := ⟨2, ![8192, 12288]⟩
abbrev S4x12288 : Shape := ⟨2, ![4, 12288]⟩
abbrev S4x1x12288 : Shape := ⟨3, ![4, 1, 12288]⟩
abbrev S4x2048x12288 : Shape := ⟨3, ![4, 2048, 12288]⟩
abbrev S16384x12288 : Shape := ⟨2, ![16384, 12288]⟩
abbrev S8192x2048 : Shape := ⟨2, ![8192, 2048]⟩
abbrev S_ : Shape := ⟨0, ![]⟩
abbrev S2048x2048 : Shape := ⟨2, ![2048, 2048]⟩
abbrev S16384 : Shape := ⟨1, ![16384]⟩
abbrev S16384x1 : Shape := ⟨2, ![16384, 1]⟩
abbrev S2048 : Shape := ⟨1, ![2048]⟩
abbrev S2048x32 : Shape := ⟨2, ![2048, 32]⟩
abbrev S16384x32 : Shape := ⟨2, ![16384, 32]⟩
abbrev S32 : Shape := ⟨1, ![32]⟩
abbrev S16384x96 : Shape := ⟨2, ![16384, 96]⟩
abbrev S16384x128 : Shape := ⟨2, ![16384, 128]⟩

abbrev nBuf : Space → Nat
  | .hbm => 74
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S32x256x2048, .f32⟩
  | .hbm, ⟨3, _⟩ => ⟨S4x2048x2048, .f32⟩
  | .hbm, ⟨4, _⟩ => ⟨S8x12288, .f32⟩
  | .hbm, ⟨5, _⟩ => ⟨S1x2048, .f32⟩
  | .hbm, ⟨6, _⟩ => ⟨S1x2048, .f32⟩
  | .hbm, ⟨7, _⟩ => ⟨S1x2048x32, .f32⟩
  | .hbm, ⟨8, _⟩ => ⟨S1x32, .f32⟩
  | .hbm, ⟨9, _⟩ => ⟨S1x12288, .f32⟩
  | .hbm, ⟨10, _⟩ => ⟨S12288, .f32⟩
  | .hbm, ⟨11, _⟩ => ⟨S8192x12288, .f32⟩
  | .hbm, ⟨12, _⟩ => ⟨S4x12288, .f32⟩
  | .hbm, ⟨13, _⟩ => ⟨S4x1x12288, .f32⟩
  | .hbm, ⟨14, _⟩ => ⟨S4x2048x12288, .f32⟩
  | .hbm, ⟨15, _⟩ => ⟨S8192x12288, .f32⟩
  | .hbm, ⟨16, _⟩ => ⟨S16384x12288, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S8192x2048, .f32⟩
  | .hbm, ⟨21, _⟩ => ⟨S8192x2048, .f32⟩
  | .hbm, ⟨22, _⟩ => ⟨S16384x2048, .f32⟩
  | .hbm, ⟨23, _⟩ => ⟨S_, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S2048x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x2048, .f32⟩
  | .hbm, ⟨51, _⟩ => ⟨S16384x2048, .f32⟩
  | .hbm, ⟨52, _⟩ => ⟨S2048, .f32⟩
  | .hbm, ⟨53, _⟩ => ⟨S1x2048, .f32⟩
  | .hbm, ⟨54, _⟩ => ⟨S16384x2048, .f32⟩
  | .hbm, ⟨55, _⟩ => ⟨S16384x2048, .f32⟩
  | .hbm, ⟨56, _⟩ => ⟨S2048, .f32⟩
  | .hbm, ⟨57, _⟩ => ⟨S1x2048, .f32⟩
  | .hbm, ⟨58, _⟩ => ⟨S16384x2048, .f32⟩
  | .hbm, ⟨59, _⟩ => ⟨S16384x2048, .f32⟩
  | .hbm, ⟨60, _⟩ => ⟨S_, .f32⟩
  | .hbm, ⟨61, _⟩ => ⟨S16384x2048, .f32⟩
  | .hbm, ⟨62, _⟩ => ⟨S16384x2048, .f32⟩
  | .hbm, ⟨63, _⟩ => ⟨S16384x2048, .f32⟩
  | .hbm, ⟨64, _⟩ => ⟨S16384x2048, .f32⟩
  | .hbm, ⟨65, _⟩ => ⟨S2048x32, .f32⟩
  | .hbm, ⟨66, _⟩ => ⟨S16384x32, .f32⟩
  | .hbm, ⟨67, _⟩ => ⟨S32, .f32⟩
  | .hbm, ⟨68, _⟩ => ⟨S1x32, .f32⟩
  | .hbm, ⟨69, _⟩ => ⟨S16384x32, .f32⟩
  | .hbm, ⟨70, _⟩ => ⟨S16384x32, .f32⟩
  | .hbm, ⟨71, _⟩ => ⟨S_, .f32⟩
  | .hbm, ⟨72, _⟩ => ⟨S16384x96, .f32⟩
  | .hbm, ⟨73, _⟩ => ⟨S16384x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_5 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_6 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]
-- ==== Kernel8.lean ====
abbrev S16384x4096 : Shape := ⟨2, ![16384, 4096]⟩
abbrev S16384x2048 : Shape := ⟨2, ![16384, 2048]⟩
abbrev S4x16384x128 : Shape := ⟨3, ![4, 16384, 128]⟩
abbrev S4x1024x128 : Shape := ⟨3, ![4, 1024, 128]⟩
abbrev S1x2x4096x128 : Shape := ⟨4, ![1, 2, 4096, 128]⟩
abbrev S1x1x4096x128 : Shape := ⟨4, ![1, 1, 4096, 128]⟩
abbrev S1x4096x128 : Shape := ⟨3, ![1, 4096, 128]⟩
abbrev S8192x4096 : Shape := ⟨2, ![8192, 4096]⟩
abbrev S32x4096x128 : Shape := ⟨3, ![32, 4096, 128]⟩
abbrev S128x1024 : Shape := ⟨2, ![128, 1024]⟩
abbrev S128x256 : Shape := ⟨2, ![128, 256]⟩
abbrev S1x128x128 : Shape := ⟨3, ![1, 128, 128]⟩
abbrev S1x8x128 : Shape := ⟨3, ![1, 8, 128]⟩
abbrev S1x1024x128 : Shape := ⟨3, ![1, 1024, 128]⟩
abbrev S2x128x512 : Shape := ⟨3, ![2, 128, 512]⟩
abbrev S1x512x128 : Shape := ⟨3, ![1, 512, 128]⟩
abbrev S512x128 : Shape := ⟨2, ![512, 128]⟩
abbrev S128x512 : Shape := ⟨2, ![128, 512]⟩
abbrev S1x128x512 : Shape := ⟨3, ![1, 128, 512]⟩
abbrev S128x128 : Shape := ⟨2, ![128, 128]⟩
abbrev S1x1x128 : Shape := ⟨3, ![1, 1, 128]⟩
abbrev S1x128 : Shape := ⟨2, ![1, 128]⟩
abbrev S128x1 : Shape := ⟨2, ![128, 1]⟩
abbrev S1x1 : Shape := ⟨2, ![1, 1]⟩
abbrev S1x512 : Shape := ⟨2, ![1, 512]⟩

abbrev nBuf : Space → Nat
  | .hbm => 10
  | .vmem => 19
  | .smem => 0
  | _ => 0

abbrev bufTy : (tb : Table) → Fin (tcTables nBuf tb) → BufTy
  | .hbm, ⟨0, _⟩ => ⟨S16384x4096, .f32⟩
  | .hbm, ⟨1, _⟩ => ⟨S16384x2048, .f32⟩
  | .hbm, ⟨2, _⟩ => ⟨S4x16384x128, .f32⟩
  | .hbm, ⟨3, _⟩ => ⟨S4x16384x128, .f32⟩
  | .hbm, ⟨4, _⟩ => ⟨S4x1024x128, .f32⟩
  | .hbm, ⟨5, _⟩ => ⟨S1x2x4096x128, .f32⟩
  | .hbm, ⟨6, _⟩ => ⟨S1x1x4096x128, .f32⟩
  | .hbm, ⟨7, _⟩ => ⟨S1x4096x128, .f32⟩
  | .hbm, ⟨8, _⟩ => ⟨S8192x4096, .f32⟩
  | .hbm, ⟨9, _⟩ => ⟨S32x4096x128, .f32⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x8x128, .f32⟩
  | .local _ .vmem, ⟨11, _⟩ => ⟨S1x8x128, .f32⟩
  | .local _ .vmem, ⟨12, _⟩ => ⟨S1x1024x128, .f32⟩
  | .local _ .vmem, ⟨13, _⟩ => ⟨S1x1024x128, .f32⟩
  | .local _ .vmem, ⟨14, _⟩ => ⟨S128x1024, .f32⟩
  | .local _ .vmem, ⟨15, _⟩ => ⟨S128x1024, .f32⟩
  | .local _ .vmem, ⟨16, _⟩ => ⟨S1x1024x128, .f32⟩
  | .local _ .vmem, ⟨17, _⟩ => ⟨S1x1024x128, .f32⟩
  | .local _ .vmem, ⟨18, _⟩ => ⟨S2x128x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![32, 4, 2], ![false, false, false]⟩

def k0_cond2 (i : grid0.Coords) : BitVec 1 :=
  let arg2 : BitVec 32 := BitVec.ofNat 32 (i 2).val
  let c1_i32 : BitVec 32 := 1#32
  let v265 : BitVec 1 := Scalar.cmpi .eq arg2 c1_i32
  let v266 : BitVec 32 := Scalar.extui v265
  let c0_i32_56 : BitVec 32 := 0#32
  let v267 : BitVec 1 := Scalar.cmpi .ne v266 c0_i32_56
  v267

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi c0_i32 v0
  let c1_i32 : BitVec 32 := 1#32
  let v2 : BitVec 32 := Scalar.subi c1_i32 arg2
  let v3 : BitVec 32 := Scalar.addi v1 v2
  let c0_i32_0 : BitVec 32 := 0#32
  ![v3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi c0_i32 v0
  let c1_i32 : BitVec 32 := 1#32
  let v2 : BitVec 32 := Scalar.subi c1_i32 arg2
  let v3 : BitVec 32 := Scalar.addi v1 v2
  let c0_i32_0 : BitVec 32 := 0#32
  ![v3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi c0_i32 v0
  let c1_i32 : BitVec 32 := 1#32
  let v2 : BitVec 32 := Scalar.subi c1_i32 arg2
  let v3 : BitVec 32 := Scalar.addi v1 v2
  let c4_i32 : BitVec 32 := 4#32
  let v4 : BitVec 32 := Scalar.addi c4_i32 arg1
  let c0_i32_0 : BitVec 32 := 0#32
  ![v3.toNat, v4.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi c0_i32 v0
  let c1_i32 : BitVec 32 := 1#32
  let v2 : BitVec 32 := Scalar.subi c1_i32 arg2
  let v3 : BitVec 32 := Scalar.addi v1 v2
  let c0_i32_0 : BitVec 32 := 0#32
  let c0_i32_1 : BitVec 32 := 0#32
  ![arg1.toNat, v3.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi c0_i32 v0
  let c1_i32 : BitVec 32 := 1#32
  let v2 : BitVec 32 := Scalar.subi c1_i32 arg2
  let v3 : BitVec 32 := Scalar.addi v1 v2
  let c0_i32_0 : BitVec 32 := 0#32
  let c0_i32_1 : BitVec 32 := 0#32
  ![arg1.toNat, v3.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi c0_i32 v0
  let c1_i32 : BitVec 32 := 1#32
  let v2 : BitVec 32 := Scalar.subi c1_i32 arg2
  let v3 : BitVec 32 := Scalar.addi v1 v2
  let c0_i32_0 : BitVec 32 := 0#32
  let c0_i32_1 : BitVec 32 := 0#32
  ![arg1.toNat, v3.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c1_i32 : BitVec 32 := 1#32
  let v1 : BitVec 32 := Scalar.subi c1_i32 arg2
  let v2 : BitVec 32 := Scalar.addi v0 v1
  let c0_i32 : BitVec 32 := 0#32
  ![v2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference8Ideal.lean ====
abbrev S16384x4096 : Shape := ⟨2, ![16384, 4096]⟩
abbrev S16384x2048 : Shape := ⟨2, ![16384, 2048]⟩
abbrev S4x16384x128 : Shape := ⟨3, ![4, 16384, 128]⟩
abbrev S4x1024x128 : Shape := ⟨3, ![4, 1024, 128]⟩
abbrev S1x2x4096x128 : Shape := ⟨4, ![1, 2, 4096, 128]⟩
abbrev S8192x4096 : Shape := ⟨2, ![8192, 4096]⟩
abbrev S32x2x128x8x8x64 : Shape := ⟨6, ![32, 2, 128, 8, 8, 64]⟩
abbrev S8192x1024 : Shape := ⟨2, ![8192, 1024]⟩
abbrev S32x2x128x8x128 : Shape := ⟨5, ![32, 2, 128, 8, 128]⟩
abbrev S4x8192x32 : Shape := ⟨3, ![4, 8192, 32]⟩
abbrev S4x32x2x128x2x2x8 : Shape := ⟨7, ![4, 32, 2, 128, 2, 2, 8]⟩
abbrev S4x32x2x128x2x1x8 : Shape := ⟨7, ![4, 32, 2, 128, 2, 1, 8]⟩
abbrev S4x32x2x128x2x8 : Shape := ⟨6, ![4, 32, 2, 128, 2, 8]⟩
abbrev S32x2x128x4x2x8 : Shape := ⟨6, ![32, 2, 128, 4, 2, 8]⟩
abbrev S32x2x128x8x8 : Shape := ⟨5, ![32, 2, 128, 8, 8]⟩
abbrev S32x2x128x8x8x1 : Shape := ⟨6, ![32, 2, 128, 8, 8, 1]⟩
abbrev S32x2x8x8x64x128 : Shape := ⟨6, ![32, 2, 8, 8, 64, 128]⟩
abbrev S4x512x32 : Shape := ⟨3, ![4, 512, 32]⟩
abbrev S4x32x2x8x2x2x8 : Shape := ⟨7, ![4, 32, 2, 8, 2, 2, 8]⟩
abbrev S4x32x2x8x2x1x8 : Shape := ⟨7, ![4, 32, 2, 8, 2, 1, 8]⟩
abbrev S4x32x2x8x2x8 : Shape := ⟨6, ![4, 32, 2, 8, 2, 8]⟩
abbrev S32x2x8x4x2x8 : Shape := ⟨6, ![32, 2, 8, 4, 2, 8]⟩
abbrev S32x2x8x8x8 : Shape := ⟨5, ![32, 2, 8, 8, 8]⟩
abbrev S32x2x1x8x8 : Shape := ⟨5, ![32, 2, 1, 8, 8]⟩
abbrev S32x2x8x8 : Shape := ⟨4, ![32, 2, 8, 8]⟩
abbrev S32x2x8x8x1x1 : Shape := ⟨6, ![32, 2, 8, 8, 1, 1]⟩
abbrev S1x1x4096x128 : Shape := ⟨4, ![1, 1, 4096, 128]⟩
abbrev S1x4096x128 : Shape := ⟨3, ![1, 4096, 128]⟩
abbrev S1x8x8x64x128 : Shape := ⟨5, ![1, 8, 8, 64, 128]⟩
abbrev S32x8x8x64x128 : Shape := ⟨5, ![32, 8, 8, 64, 128]⟩
abbrev S32x1x8x8x1x1 : Shape := ⟨6, ![32, 1, 8, 8, 1, 1]⟩
abbrev S32x8x8x1x1 : Shape := ⟨5, ![32, 8, 8, 1, 1]⟩
abbrev S32x1x8x8x64x128 : Shape := ⟨6, ![32, 1, 8, 8, 64, 128]⟩
abbrev S32x4096x128 : Shape := ⟨3, ![32, 4096, 128]⟩

abbrev nBuf : Space → Nat
  | .hbm => 65
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x2048, .f32⟩
  | .hbm, ⟨2, _⟩ => ⟨S4x16384x128, .f32⟩
  | .hbm, ⟨3, _⟩ => ⟨S4x16384x128, .f32⟩
  | .hbm, ⟨4, _⟩ => ⟨S4x1024x128, .f32⟩
  | .hbm, ⟨5, _⟩ => ⟨S1x2x4096x128, .f32⟩
  | .hbm, ⟨6, _⟩ => ⟨S8192x4096, .f32⟩
  | .hbm, ⟨7, _⟩ => ⟨S32x2x128x8x8x64, .f32⟩
  | .hbm, ⟨8, _⟩ => ⟨S8192x1024, .f32⟩
  | .hbm, ⟨9, _⟩ => ⟨S32x2x128x8x128, .f32⟩
  | .hbm, ⟨10, _⟩ => ⟨S8192x1024, .f32⟩
  | .hbm, ⟨11, _⟩ => ⟨S32x2x128x8x128, .f32⟩
  | .hbm, ⟨12, _⟩ => ⟨S4x8192x32, .f32⟩
  | .hbm, ⟨13, _⟩ => ⟨S4x32x2x128x2x2x8, .f32⟩
  | .hbm, ⟨14, _⟩ => ⟨S4x32x2x128x2x1x8, .f32⟩
  | .hbm, ⟨15, _⟩ => ⟨S4x32x2x128x2x8, .f32⟩
  | .hbm, ⟨16, _⟩ => ⟨S32x2x128x4x2x8, .f32⟩
  | .hbm, ⟨17, _⟩ => ⟨S32x2x128x8x8, .f32⟩
  | .hbm, ⟨18, _⟩ => ⟨S32x2x128x8x8x1, .f32⟩
  | .hbm, ⟨19, _⟩ => ⟨S32x2x128x8x8x64, .f32⟩
  | .hbm, ⟨20, _⟩ => ⟨S32x2x128x8x8x64, .f32⟩
  | .hbm, ⟨21, _⟩ => ⟨S32x2x8x8x64x128, .f32⟩
  | .hbm, ⟨22, _⟩ => ⟨S4x512x32, .f32⟩
  | .hbm, ⟨23, _⟩ => ⟨S4x32x2x8x2x2x8, .f32⟩
  | .hbm, ⟨24, _⟩ => ⟨S4x32x2x8x2x1x8, .f32⟩
  | .hbm, ⟨25, _⟩ => ⟨S4x32x2x8x2x8, .f32⟩
  | .hbm, ⟨26, _⟩ => ⟨S32x2x8x4x2x8, .f32⟩
  | .hbm, ⟨27, _⟩ => ⟨S32x2x8x8x8, .f32⟩
  | .hbm, ⟨28, _⟩ => ⟨S32x2x1x8x8, .f32⟩
  | .hbm, ⟨29, _⟩ => ⟨S32x2x8x8, .f32⟩
  | .hbm, ⟨30, _⟩ => ⟨S32x2x8x8x1x1, .f32⟩
  | .hbm, ⟨31, _⟩ => ⟨S1x1x4096x128, .f32⟩
  | .hbm, ⟨32, _⟩ => ⟨S1x4096x128, .f32⟩
  | .hbm, ⟨33, _⟩ => ⟨S1x8x8x64x128, .f32⟩
  | .hbm, ⟨34, _⟩ => ⟨S32x8x8x64x128, .f32⟩
  | .hbm, ⟨35, _⟩ => ⟨S32x1x8x8x1x1, .f32⟩
  | .hbm, ⟨36, _⟩ => ⟨S32x8x8x1x1, .f32⟩
  | .hbm, ⟨37, _⟩ => ⟨S32x8x8x64x128, .f32⟩
  | .hbm, ⟨38, _⟩ => ⟨S32x8x8x64x128, .f32⟩
  | .hbm, ⟨39, _⟩ => ⟨S32x1x8x8x64x128, .f32⟩
  | .hbm, ⟨40, _⟩ => ⟨S32x8x8x64x128, .f32⟩
  | .hbm, ⟨41, _⟩ => ⟨S32x8x8x64x128, .f32⟩
  | .hbm, ⟨42, _⟩ => ⟨S32x1x8x8x1x1, .f32⟩
  | .hbm, ⟨43, _⟩ => ⟨S32x8x8x1x1, .f32⟩
  | .hbm, ⟨44, _⟩ => ⟨S32x8x8x64x128, .f32⟩
  | .hbm, ⟨45, _⟩ => ⟨S32x8x8x64x128, .f32⟩
  | .hbm, ⟨46, _⟩ => ⟨S32x1x8x8x64x128, .f32⟩
  | .hbm, ⟨47, _⟩ => ⟨S32x8x8x64x128, .f32⟩
  | .hbm, ⟨48, _⟩ => ⟨S32x8x8x64x128, .f32⟩
  | .hbm, ⟨49, _⟩ => ⟨S32x1x8x8x64x128, .f32⟩
  | .hbm, ⟨50, _⟩ => ⟨S32x1x8x8x64x128, .f32⟩
  | .hbm, ⟨51, _⟩ => ⟨S32x2x8x8x64x128, .f32⟩
  | .hbm, ⟨52, _⟩ => ⟨S32x2x8x8x64x128, .f32⟩
  | .hbm, ⟨53, _⟩ => ⟨S32x2x128x8x8x64, .f32⟩
  | .hbm, ⟨54, _⟩ => ⟨S4x8192x32, .f32⟩
  | .hbm, ⟨55, _⟩ => ⟨S4x32x2x128x2x2x8, .f32⟩
  | .hbm, ⟨56, _⟩ => ⟨S4x32x2x128x2x1x8, .f32⟩
  | .hbm, ⟨57, _⟩ => ⟨S4x32x2x128x2x8, .f32⟩
  | .hbm, ⟨58, _⟩ => ⟨S32x2x128x4x2x8, .f32⟩
  | .hbm, ⟨59, _⟩ => ⟨S32x2x128x8x8, .f32⟩
  | .hbm, ⟨60, _⟩ => ⟨S32x2x128x8x8x1, .f32⟩
  | .hbm, ⟨61, _⟩ => ⟨S32x2x128x8x8x64, .f32⟩
  | .hbm, ⟨62, _⟩ => ⟨S32x2x128x8x8x64, .f32⟩
  | .hbm, ⟨63, _⟩ => ⟨S8192x4096, .f32⟩
  | .hbm, ⟨64, _⟩ => ⟨S32x4096x128, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩

abbrev nD : Nat := 1
abbrev τ : Topo := Topo.v7x

variable {F : FTy → Type} [FloatOps F]
-- ==== Proof.SoftmaxMath.lean ====
/-
  The arithmetic of a softmax-weighted sum over the extended reals.

  One row of attention has two groups of keys, `K₁` of them and then `K₂`. The kernel keeps the groups apart: it takes the larger of
  the two groups' largest scores, adds the two groups' sums of exponentials and of weighted values, and divides once at the end.
  The reference joins the groups to one row of `K₁ + K₂` scores, divides each exponential by the row's sum, and weighs the values with
  the quotients. The two agree whenever every score is a real number; nothing is asked of the values.
-/
module

public import Idealize.ShloMosaic.Lib.Pointwise

@[expose] public section

noncomputable section

namespace Cert.Softmax

open Idealize.ShloMosaic

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.max {x y : EReal} (hx : IsReal x) (hy : IsReal y) : IsReal (max x y) := by
  rcases max_choice x y with h | h <;> rw [h] <;> assumption

theorem IsReal.sum {ι : Type} [Fintype ι] {f : ι → EReal} (h : ∀ i, IsReal (f i)) : IsReal (∑ i, f i) := by
  choose g hg using h
  exact ⟨∑ i, g i, by simp only [hg]; exact (map_sum (⟨⟨Real.toEReal, EReal.coe_zero⟩, EReal.coe_add⟩ : ℝ →+ EReal) g Finset.univ).symm⟩

theorem isReal_iff {x : EReal} : IsReal x ↔ x ≠ ⊥ ∧ x ≠ ⊤ := by
  constructor
  · rintro ⟨r, rfl⟩; exact ⟨EReal.coe_ne_bot r, EReal.coe_ne_top r⟩
  · rintro ⟨h1, h2⟩; exact ⟨x.toReal, (EReal.coe_toReal h2 h1).symm⟩

/-- A largest element over a nonempty finite type, from `⊥`, is one of the elements: real when they all are. -/
theorem IsReal.fold {K : ℕ} (hK : 0 < K) {f : Fin K → EReal} (h : ∀ i, IsReal (f i)) :
    IsReal (Finset.univ.fold Max.max ⊥ f) := by
  have key : ∀ s : Finset (Fin K), s.fold Max.max ⊥ f = ⊥ ∨ IsReal (s.fold Max.max ⊥ f) := by
    intro s
    induction s using Finset.induction_on with
    | empty => exact .inl Finset.fold_empty
    | insert a s ha ih =>
      rw [Finset.fold_insert ha]
      rcases ih with e | e
      · rw [e, max_bot_right]; exact .inr (h a)
      · exact .inr ((h a).max e)
  rcases key Finset.univ with e | e
  · have hle : f ⟨0, hK⟩ ≤ Finset.univ.fold Max.max ⊥ f :=
      (Finset.le_fold_max _).2 (.inr ⟨_, Finset.mem_univ _, le_rfl⟩)
    rw [e, le_bot_iff] at hle
    obtain ⟨r, hr⟩ := h ⟨0, hK⟩
    exact absurd (hr ▸ hle) (EReal.coe_ne_bot r)
  · exact e

/-- The exponential of a real is a positive real. -/
theorem exp_real {x : EReal} (h : IsReal x) : ∃ r : ℝ, 0 < r ∧ Ideal.exp x = (r : EReal) := by
  obtain ⟨a, rfl⟩ := h
  exact ⟨Real.exp a, Real.exp_pos a, rfl⟩

theorem sum_pos_real {K : ℕ} (hK : 0 < K) {f : Fin K → EReal} (h : ∀ i, ∃ r : ℝ, 0 < r ∧ f i = (r : EReal)) :
    ∃ r : ℝ, 0 < r ∧ ∑ i, f i = (r : EReal) := by
  choose g hp hg using h
  refine ⟨∑ i, g i, Finset.sum_pos (fun i _ => hp i) ⟨⟨0, hK⟩, Finset.mem_univ _⟩, ?_⟩
  simp only [hg]
  exact (map_sum (⟨⟨Real.toEReal, EReal.coe_zero⟩, EReal.coe_add⟩ : ℝ →+ EReal) g Finset.univ).symm

/-- Multiplication by a real number that is at least zero distributes over a finite sum of extended reals. -/
theorem sum_mul_real {ι : Type} [DecidableEq ι] (s : Finset ι) (f : ι → EReal) {r : ℝ} (hr : 0 ≤ r) :
    (∑ i ∈ s, f i) * (r : EReal) = ∑ i ∈ s, f i * (r : EReal) := by
  induction s using Finset.induction_on with
  | empty => simp
  | insert a s ha ih =>
    rw [Finset.sum_insert ha, Finset.sum_insert ha,
      EReal.right_distrib_of_nonneg_of_ne_top (EReal.coe_nonneg.2 hr) (EReal.coe_ne_top r), ih]

/-- Dividing a weighted sum by a positive real is weighing with the divided weights. -/
theorem div_sum {K : ℕ} (p v : Fin K → EReal) {r : ℝ} (hr : 0 < r) :
    Ideal.div (∑ i, p i * v i) (r : EReal) = ∑ i, v i * Ideal.div (p i) (r : EReal) := by
  rw [Ideal.div_coe hr.ne', sum_mul_real _ _ (by positivity)]
  refine Finset.sum_congr rfl fun i _ => ?_
  rw [Ideal.div_coe hr.ne', mul_comm (p i) (v i), mul_assoc]

/-- One row with its keys in two groups, as the kernel computes it. -/
def rowTwo {K₁ K₂ : ℕ} (s₁ : Fin K₁ → EReal) (s₂ : Fin K₂ → EReal) (v₁ : Fin K₁ → EReal) (v₂ : Fin K₂ → EReal) : EReal :=
  let M := max (Finset.univ.fold max ⊥ s₁) (Finset.univ.fold max ⊥ s₂)
  Ideal.div (∑ k, Ideal.exp (s₁ k - M) * v₁ k + ∑ k, Ideal.exp (s₂ k - M) * v₂ k)
    (∑ k, Ideal.exp (s₁ k - M) + ∑ k, Ideal.exp (s₂ k - M))

/-- One row with all its keys together, as the reference computes it. -/
def rowOne {K : ℕ} (s v : Fin K → EReal) : EReal :=
  ∑ k, v k * Ideal.div (Ideal.exp (s k - Finset.univ.fold max ⊥ s)) (∑ j, Ideal.exp (s j - Finset.univ.fold max ⊥ s))

/-- The largest element of a joined row is the larger of the two parts' largest elements. -/
theorem fold_append {K₁ K₂ : ℕ} (s : Fin (K₁ + K₂) → EReal) :
    Finset.univ.fold max ⊥ s
      = max (Finset.univ.fold max ⊥ fun k : Fin K₁ => s (Fin.castAdd K₂ k)) (Finset.univ.fold max ⊥ fun k : Fin K₂ => s (Fin.natAdd K₁ k)) := by
  apply le_antisymm
  · refine (Finset.fold_max_le _).2 ⟨bot_le, fun x _ => ?_⟩
    refine Fin.addCases (fun k => ?_) (fun k => ?_) x
    · exact le_max_of_le_left ((Finset.le_fold_max _).2 (.inr ⟨k, Finset.mem_univ _, le_rfl⟩))
    · exact le_max_of_le_right ((Finset.le_fold_max _).2 (.inr ⟨k, Finset.mem_univ _, le_rfl⟩))
  · refine max_le ?_ ?_
    · exact (Finset.fold_max_le _).2 ⟨bot_le, fun x _ => (Finset.le_fold_max _).2 (.inr ⟨_, Finset.mem_univ _, le_rfl⟩)⟩
    · exact (Finset.fold_max_le _).2 ⟨bot_le, fun x _ => (Finset.le_fold_max _).2 (.inr ⟨_, Finset.mem_univ _, le_rfl⟩)⟩

/-- With real scores the two ways of computing a row agree. -/
theorem rowOne_eq_rowTwo {K₁ K₂ : ℕ} (hK : 0 < K₁) (hK₂ : 0 < K₂) (s v : Fin (K₁ + K₂) → EReal) (hs : ∀ k, IsReal (s k)) :
    rowOne s v = rowTwo (fun k => s (Fin.castAdd K₂ k)) (fun k => s (Fin.natAdd K₁ k))
      (fun k => v (Fin.castAdd K₂ k)) (fun k => v (Fin.natAdd K₁ k)) := by
  unfold rowOne rowTwo
  simp only [← fold_append s]
  have hM : IsReal (Finset.univ.fold max ⊥ s) := IsReal.fold (by omega) hs
  obtain ⟨r, hr, er⟩ := sum_pos_real (by omega : 0 < K₁ + K₂) fun k => exp_real ((hs k).sub hM)
  rw [er, ← div_sum _ _ hr, ← Fin.sum_univ_add fun k => Ideal.exp (s k - Finset.univ.fold max ⊥ s) * v k,
    ← Fin.sum_univ_add fun k => Ideal.exp (s k - Finset.univ.fold max ⊥ s), er]

/-- The pattern of the float minus infinity reads as the least extended real. -/
theorem ofBits_ninf : Ideal.ofBits .f32 0xFF800000#32 = (⊥ : EReal) := by
  simp [Ideal.ofBits, Ideal.ieee]

/-- The scale of the scores, the float nearest to one over the square root of 192. -/
abbrev scale : EReal := Ideal.ofBits .f32 0x3D93CD3A#32

theorem scale_real : IsReal scale := by
  have h1 : ¬ ((0x3D93CD3A#32 : BitVec 32).extractLsb' 23 8).toNat = 2 ^ 8 - 1 := by decide
  have h2 : ¬ ((0x3D93CD3A#32 : BitVec 32).extractLsb' 23 8).toNat = 0 := by decide
  exact ⟨_, by simp only [scale, Ideal.ofBits, Ideal.ieee]; rw [if_neg h1, if_neg h2]⟩

/-- One scaled score: the position-free parts of a query and a key, and their rotary parts. -/
def score (q k : Fin 128 → EReal) (qr kr : Fin 64 → EReal) : EReal := (∑ e, q e * k e + ∑ e, qr e * kr e) * scale

theorem score_real {q k : Fin 128 → EReal} {qr kr : Fin 64 → EReal} (hq : ∀ e, IsReal (q e)) (hk : ∀ e, IsReal (k e))
    (hqr : ∀ e, IsReal (qr e)) (hkr : ∀ e, IsReal (kr e)) : IsReal (score q k qr kr) :=
  ((IsReal.sum fun e => (hq e).mul (hk e)).add (IsReal.sum fun e => (hqr e).mul (hkr e))).mul scale_real

end Cert.Softmax
-- ==== Proof.AttBlock.lean ====
/-
  What the attention call leaves in its result array, index by index.

  Grid point (b, h, i) handles 512 queries (rows `512 i` … of sequence `b`) and the two heads `2 h` and `2 h + 1`, and stores one
  512 x 128 tile for each. `tile` reads such a tile at an index as one softmax row (`Cert.Softmax.rowTwo`); `final` reads the
  whole array.
-/
module

public import proofs.«01_k».proof.Proof.Gen.KernelIdeal.Value
public import proofs.«01_k».proof.Proof.SoftmaxMath
public import Idealize.ShloMosaic.Lib.Pointwise
public import Idealize.ShloMosaic.Lib.Pipeline.ValueKit

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Pipeline (Dat)
open Cert.Softmax

/-- The result at sequence `b`, position `i`, head `n`, lane `d`, from the six argument arrays. -/
def att (a0 : FVec Ideal S8192x2048 .bf16) (a1 : FVec Ideal S16x8192x64 .bf16) (a2 : FVec Ideal S4x2048x4096 .bf16)
    (a3 : FVec Ideal S4x2048x64 .bf16) (a4 : FVec Ideal S4x512x4096 .bf16) (a5 : FVec Ideal S4x512x64 .bf16)
    (b : Fin 4) (i : Fin 2048) (n : Fin 16) (d : Fin 128) : EReal :=
  rowTwo
    (fun k : Fin 2048 => score (fun e => a0 (ix2 ⟨b.val * 2048 + i.val, by omega⟩ ⟨n.val * 128 + e.val, by omega⟩))
      (fun e => a2 (ix3 b k ⟨n.val * 256 + e.val, by omega⟩)) (fun e => a1 (ix3 n ⟨b.val * 2048 + i.val, by omega⟩ e)) (fun e => a3 (ix3 b k e)))
    (fun k : Fin 512 => score (fun e => a0 (ix2 ⟨b.val * 2048 + i.val, by omega⟩ ⟨n.val * 128 + e.val, by omega⟩))
      (fun e => a4 (ix3 b k ⟨n.val * 256 + e.val, by omega⟩)) (fun e => a1 (ix3 n ⟨b.val * 2048 + i.val, by omega⟩ e)) (fun e => a5 (ix3 b k e)))
    (fun k => a2 (ix3 b k ⟨n.val * 256 + (128 + d.val), by omega⟩))
    (fun k => a4 (ix3 b k ⟨n.val * 256 + (128 + d.val), by omega⟩))

/-- One block's result at row `r`, head `j` of its two, lane `d`, from the six blocks. -/
def row (x0 : Vec Ideal S512x256 .bf16) (x1 : Vec Ideal S2x512x64 .bf16) (x2 : Vec Ideal S1x2048x512 .bf16)
    (x3 : Vec Ideal S1x2048x64 .bf16) (x4 : Vec Ideal S1x512x512 .bf16) (x5 : Vec Ideal S1x512x64 .bf16)
    (r : Fin 512) (j : Fin 2) (d : Fin 128) : EReal :=
  rowTwo
    (fun k : Fin 2048 => score (fun e => x0 (ix2 r ⟨j.val * 128 + e.val, by omega⟩))
      (fun e => x2 (ix3 0 k ⟨j.val * 256 + e.val, by omega⟩)) (fun e => x1 (ix3 j r e)) (fun e => x3 (ix3 0 k e)))
    (fun k : Fin 512 => score (fun e => x0 (ix2 r ⟨j.val * 128 + e.val, by omega⟩))
      (fun e => x4 (ix3 0 k ⟨j.val * 256 + e.val, by omega⟩)) (fun e => x1 (ix3 j r e)) (fun e => x5 (ix3 0 k e)))
    (fun k => x2 (ix3 0 k ⟨j.val * 256 + (128 + d.val), by omega⟩))
    (fun k => x4 (ix3 0 k ⟨j.val * 256 + (128 + d.val), by omega⟩))

set_option maxHeartbeats 2000000 in
theorem tile (x0 : Vec Ideal S512x256 .bf16) (x1 : Vec Ideal S2x512x64 .bf16) (x2 : Vec Ideal S1x2048x512 .bf16)
    (x3 : Vec Ideal S1x2048x64 .bf16) (x4 : Vec Ideal S1x512x512 .bf16) (x5 : Vec Ideal S1x512x64 .bf16)
    (r : Fin 512) (j : Fin 2) (d : Fin 128) (y : S512x256.Idx) (hy0 : (y 0 : ℕ) = r.val) (hy1 : (y 1 : ℕ) = j.val * 128 + d.val) :
    out0_6 x0 x1 x2 x3 x4 x5 y = row x0 x1 x2 x3 x4 x5 r j d := by
  unfold out0_6
  canon_tiles x h
  · have ej : j = 1 := by apply Fin.ext; show j.val = 1; omega
    subst ej
    have er : x 0 = r := by apply Fin.ext; omega
    have ed : x 1 = d := by apply Fin.ext; simp only [Fin.val_one] at hy1; omega
    unfold_payloads
    pointwise
    rw [er, ed]
    simp only [row, rowTwo, score, scale, ← ofBits_ninf, Fin.val_one, one_mul, ← Nat.add_assoc, Nat.reduceAdd]
  · have ej : j = 0 := by apply Fin.ext; show j.val = 0; omega
    subst ej
    have er : x 0 = r := by apply Fin.ext; omega
    have ed : x 1 = d := by apply Fin.ext; simp only [Fin.val_zero] at hy1; omega
    unfold_payloads
    pointwise
    rw [er, ed]
    simp only [row, rowTwo, score, scale, ← ofBits_ninf, Fin.val_zero, zero_mul, zero_add]

variable (m : (ℓ : Loc nD τ sig) → Buf (Elt Ideal) ℓ)

/-- The whole result array. -/
def attArr (c : Dev nD) : Vec Ideal S8192x2048 .bf16 := fun y =>
  att (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    ⟨(y 0 : ℕ) / 2048, by have h : (y 0 : ℕ) < 8192 := (y 0).isLt; omega⟩ ⟨(y 0 : ℕ) % 2048, Nat.mod_lt _ (by omega)⟩
    ⟨(y 1 : ℕ) / 128, by have h : (y 1 : ℕ) < 2048 := (y 1).isLt; omega⟩ ⟨(y 1 : ℕ) % 128, Nat.mod_lt _ (by omega)⟩

/-- Where the seven windows' blocks stand at each grid point, all from the result's block. -/
theorem idx : ∀ t : Fin cfg0.N,
    win0_0.index t 0 = win0_6.index t 0 ∧ win0_0.index t 1 = win0_6.index t 1
    ∧ win0_1.index t 0 = win0_6.index t 1 ∧ win0_1.index t 1 = win0_6.index t 0 ∧ win0_1.index t 2 = 0
    ∧ win0_2.index t 0 = win0_6.index t 0 / 4 ∧ win0_2.index t 1 = 0 ∧ win0_2.index t 2 = win0_6.index t 1
    ∧ win0_3.index t 0 = win0_6.index t 0 / 4 ∧ win0_3.index t 1 = 0 ∧ win0_3.index t 2 = 0
    ∧ win0_4.index t 0 = win0_6.index t 0 / 4 ∧ win0_4.index t 1 = 0 ∧ win0_4.index t 2 = win0_6.index t 1
    ∧ win0_5.index t 0 = win0_6.index t 0 / 4 ∧ win0_5.index t 1 = 0 ∧ win0_5.index t 2 = 0
    ∧ win0_6.index t 0 < 16 ∧ win0_6.index t 1 < 8 :=
  (by decide +kernel : ∀ t : Fin grid0.N, _)

set_option maxHeartbeats 2000000 in
theorem final (c : Dev nD) : (dats m 0 c).arrAt 6 cfg0.N = attArr m c := by
  refine (dats m 0 c).arrAt_eq_of_covers 6 _ (by decide +kernel) fun t hf y => ?_
  blk_simp
  rw [after0_6]
  obtain ⟨e00, e01, e10, e11, e12, e20, e21, e22, e30, e31, e32, e40, e41, e42, e50, e51, e52, b0, b1⟩ := idx t
  have y0 : (y 0 : ℕ) < 512 := (y 0).isLt
  have y1 : (y 1 : ℕ) < 256 := (y 1).isLt
  rw [tile _ _ _ _ _ _ ⟨(y 0 : ℕ), y0⟩ ⟨(y 1 : ℕ) / 128, by omega⟩ ⟨(y 1 : ℕ) % 128, Nat.mod_lt _ (by omega)⟩ y rfl (by show (y 1 : ℕ) = (y 1 : ℕ) / 128 * 128 + (y 1 : ℕ) % 128; omega)]
  unfold row attArr att
  congr 1
  · funext k
    congr 1 <;> funext e
    · blk_ext [iblk, V, e00, e01]
    · blk_ext [iblk, V, e20, e21, e22]
    · blk_ext [iblk, V, e10, e11, e12]
    · blk_ext [iblk, V, e30, e31, e32]
  · funext k
    congr 1 <;> funext e
    · blk_ext [iblk, V, e00, e01]
    · blk_ext [iblk, V, e40, e41, e42]
    · blk_ext [iblk, V, e10, e11, e12]
    · blk_ext [iblk, V, e50, e51, e52]
  · funext k
    blk_ext [iblk, V, e20, e21, e22]
  · funext k
    blk_ext [iblk, V, e40, e41, e42]

end Cert.KernelIdeal.Att
-- ==== Proof.AttRef.lean ====
/-
  What the reference leaves in its result, index by index, and that the kernel's result array is the same where every query and key
  is a real number.

  The reference's composed term is cut into four stages (`scores`, `rowMax`, `expo`, `mix`, with the joined values `vals`); each stage
  is read at an index once.
-/
module

public import proofs.«01_k».proof.Proof.Gen.ReferenceIdeal
public import proofs.«01_k».proof.Proof.Gen.ReferenceIdeal.Run
public import proofs.«01_k».proof.Proof.AttBlock
public import Idealize.ShloMosaic.Lib.Pointwise

@[expose] public section

set_option maxRecDepth 16384

noncomputable section

namespace Cert.ReferenceIdeal.Att

open Cert.ReferenceIdeal Cert.ReferenceIdeal.Gen Idealize.ShloMosaic Idealize.SL.Sem
open Cert.Softmax

set_option maxHeartbeats 2000000

section
variable (a0 : FVec Ideal S8192x2048 .bf16) (a1 : FVec Ideal S16x8192x64 .bf16) (a2 : FVec Ideal S4x2048x4096 .bf16) (a3 : FVec Ideal S4x2048x64 .bf16)
  (a4 : FVec Ideal S4x512x4096 .bf16) (a5 : FVec Ideal S4x512x64 .bf16)

/-- The scaled scores of every query against the latent keys and then the context keys. -/
def scores : FVec Ideal S4x16x2048x2560 .f32 :=
  mulf (Host.dotGeneral dot_S4x2048x16x192_S4x2560x16x192_S4x16x2048x2560_3_3_1_1_02_02 none
      (concatenate S4x2048x16x192 3
        [⟨S4x2048x16x128, shapeCast S4x2048x16x128 (extf .f32 a0 bitsLt_bf16_f32) shapeCasts_S8192x2048_S4x2048x16x128⟩,
         ⟨S4x2048x16x64, transpose S4x2048x16x64 [1, 2, 0, 3] (shapeCast S16x4x2048x64 (extf .f32 a1 bitsLt_bf16_f32) shapeCasts_S16x8192x64_S16x4x2048x64)
            transposes_S16x4x2048x64_S4x2048x16x64_1_2_0_3⟩]
        concatenates_S4x2048x16x128_S4x2048x16x64_S4x2048x16x192_d3)
      (concatenate S4x2560x16x192 1
        [⟨S4x2048x16x192, concatenate S4x2048x16x192 3
            [⟨S4x2048x16x128, extractStridedSlice S4x2048x16x128 ![0, 0, 0, 0]
                (shapeCast S4x2048x16x256 (extf .f32 a2 bitsLt_bf16_f32) shapeCasts_S4x2048x4096_S4x2048x16x256) slices_S4x2048x16x256_S4x2048x16x128_0_0_0_0⟩,
             ⟨S4x2048x16x64, broadcastInDim S4x2048x16x64 ![0, 1, 2, 3] bcast_S4x2048x1x64_S4x2048x16x64_0_1_2_3
                (broadcastInDim S4x2048x1x64 ![0, 1, 3] bcast_S4x2048x64_S4x2048x1x64_0_1_3 (extf .f32 a3 bitsLt_bf16_f32))⟩]
            concatenates_S4x2048x16x128_S4x2048x16x64_S4x2048x16x192_d3⟩,
         ⟨S4x512x16x192, concatenate S4x512x16x192 3
            [⟨S4x512x16x128, extractStridedSlice S4x512x16x128 ![0, 0, 0, 0]
                (shapeCast S4x512x16x256 (extf .f32 a4 bitsLt_bf16_f32) shapeCasts_S4x512x4096_S4x512x16x256) slices_S4x512x16x256_S4x512x16x128_0_0_0_0⟩,
             ⟨S4x512x16x64, broadcastInDim S4x512x16x64 ![0, 1, 2, 3] bcast_S4x512x1x64_S4x512x16x64_0_1_2_3
                (broadcastInDim S4x512x1x64 ![0, 1, 3] bcast_S4x512x64_S4x512x1x64_0_1_3 (extf .f32 a5 bitsLt_bf16_f32))⟩]
            concatenates_S4x512x16x128_S4x512x16x64_S4x512x16x192_d3⟩]
        concatenates_S4x2048x16x192_S4x512x16x192_S4x2560x16x192_d1))
    (broadcastInDim S4x16x2048x2560 ![] bcast_S_S4x16x2048x2560 (constant S_ .f32 0x3D93CD3A#32))

/-- The values: the latent group's, then the context's. -/
def vals : FVec Ideal S4x2560x16x128 .f32 :=
  concatenate S4x2560x16x128 1
    [⟨S4x2048x16x128, extractStridedSlice S4x2048x16x128 ![0, 0, 0, 128]
        (shapeCast S4x2048x16x256 (extf .f32 a2 bitsLt_bf16_f32) shapeCasts_S4x2048x4096_S4x2048x16x256) slices_S4x2048x16x256_S4x2048x16x128_0_0_0_128⟩,
     ⟨S4x512x16x128, extractStridedSlice S4x512x16x128 ![0, 0, 0, 128]
        (shapeCast S4x512x16x256 (extf .f32 a4 bitsLt_bf16_f32) shapeCasts_S4x512x4096_S4x512x16x256) slices_S4x512x16x256_S4x512x16x128_0_0_0_128⟩]
    concatenates_S4x2048x16x128_S4x512x16x128_S4x2560x16x128_d1

/-- Each row's largest score. -/
def rowMax (s : FVec Ideal S4x16x2048x2560 .f32) : FVec Ideal S4x16x2048 .f32 :=
  Host.reduce FloatOps.maximumf s (constant S_ .f32 0xFF800000#32) reducesTo_S4x16x2048x2560_S4x16x2048_d3 h_S_

/-- The exponentials of the scores, each row shifted by its largest score. -/
def expo (s : FVec Ideal S4x16x2048x2560 .f32) (M : FVec Ideal S4x16x2048 .f32) : FVec Ideal S4x16x2048x2560 .f32 :=
  Host.exp (subf s
    (broadcastInDim S4x16x2048x2560 ![0, 1, 2, 3] bcast_S4x16x2048x1_S4x16x2048x2560_0_1_2_3
      (broadcastInDim S4x16x2048x1 ![0, 1, 2] bcast_S4x16x2048_S4x16x2048x1_0_1_2
        (maximumf (broadcastInDim S4x16x2048 ![] bcast_S_S4x16x2048 (constant S_ .f32 0xFF800000#32)) M))))

/-- The softmax-weighted values, laid out as rows by heads. -/
def mix (p : FVec Ideal S4x16x2048x2560 .f32) (v : FVec Ideal S4x2560x16x128 .f32) : FVec Ideal S8192x2048 .bf16 :=
  truncf .bf16 (shapeCast S8192x2048 (transpose S4x2048x16x128 [0, 3, 1, 2]
    (Host.dotGeneral dot_S4x2560x16x128_S4x16x2048x2560_S4x16x128x2048_1_3_3_2_02_01 none v
      (Host.divf p (broadcastInDim S4x16x2048x2560 ![0, 1, 2, 3] bcast_S4x16x2048x1_S4x16x2048x2560_0_1_2_3
        (broadcastInDim S4x16x2048x1 ![0, 1, 2] bcast_S4x16x2048_S4x16x2048x1_0_1_2
          (Host.reduceAdd p (constant S_ .f32 0x00000000#32) reducesTo_S4x16x2048x2560_S4x16x2048_d3 h_S_)))))
    transposes_S4x16x128x2048_S4x2048x16x128_0_3_1_2) shapeCasts_S4x2048x16x128_S8192x2048) bitsLt_bf16_f32

/-- The reference's term is the four stages in turn. -/
theorem res_eq (m : (ℓ : Loc nD τ sig) → Buf (Elt Ideal) ℓ) (c : Dev nD) (s : FVec Ideal S4x16x2048x2560 .f32)
    (hs : s = scores (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))) :
    Value.res_main_v41 m c = mix (expo s (rowMax s)) (vals (m ((c.tc : Thread nD τ).loc main_arg2)) (m ((c.tc : Thread nD τ).loc main_arg4))) := by
  subst hs; rfl

theorem scores_at (b : Fin 4) (n : Fin 16) (i : Fin 2048) (k : Fin 2560) :
    scores a0 a1 a2 a3 a4 a5 (ix4 b n i k) =
      if h : k.val < 2048 then
        score (fun e => a0 (ix2 ⟨b.val * 2048 + i.val, by omega⟩ ⟨n.val * 128 + e.val, by omega⟩))
          (fun e => a2 (ix3 b ⟨k.val, h⟩ ⟨n.val * 256 + e.val, by omega⟩)) (fun e => a1 (ix3 n ⟨b.val * 2048 + i.val, by omega⟩ e))
          (fun e => a3 (ix3 b ⟨k.val, h⟩ e))
      else
        score (fun e => a0 (ix2 ⟨b.val * 2048 + i.val, by omega⟩ ⟨n.val * 128 + e.val, by omega⟩))
          (fun e => a4 (ix3 b ⟨k.val - 2048, by omega⟩ ⟨n.val * 256 + e.val, by omega⟩)) (fun e => a1 (ix3 n ⟨b.val * 2048 + i.val, by omega⟩ e))
          (fun e => a5 (ix3 b ⟨k.val - 2048, by omega⟩ e)) := by
  unfold scores
  by_cases h : k.val < 2048
  · rw [dif_pos h]
    pointwise
    simp only [dif_pos h]
    rfl
  · rw [dif_neg h]
    pointwise
    simp only [dif_neg h]
    rfl

theorem vals_at (b : Fin 4) (n : Fin 16) (k : Fin 2560) (d : Fin 128) :
    vals a2 a4 (ix4 b k n d) =
      if h : k.val < 2048 then a2 (ix3 b ⟨k.val, h⟩ ⟨n.val * 256 + (128 + d.val), by omega⟩)
      else a4 (ix3 b ⟨k.val - 2048, by omega⟩ ⟨n.val * 256 + (128 + d.val), by omega⟩) := by
  unfold vals
  pointwise

theorem expo_at (s : FVec Ideal S4x16x2048x2560 .f32) (M : FVec Ideal S4x16x2048 .f32) (b : Fin 4) (n : Fin 16) (i : Fin 2048) (k : Fin 2560) :
    expo s M (ix4 b n i k) = Ideal.exp (s (ix4 b n i k) - max (Ideal.ofBits .f32 0xFF800000#32) (M (ix3 b n i))) := by
  unfold expo
  pointwise

theorem rowMax_at (s : FVec Ideal S4x16x2048x2560 .f32) (b : Fin 4) (n : Fin 16) (i : Fin 2048) :
    rowMax s (ix3 b n i) = Finset.fold max (Ideal.ofBits .f32 0xFF800000#32) (fun x => s (ix4 b n i x)) Finset.univ := by
  unfold rowMax
  pointwise

theorem mix_at (p : FVec Ideal S4x16x2048x2560 .f32) (v : FVec Ideal S4x2560x16x128 .f32) (R : Fin 8192) (C : Fin 2048) :
    mix p v (ix2 R C) =
      ∑ x, v (ix4 ⟨R.val / 2048, by omega⟩ x ⟨C.val / 128, by omega⟩ ⟨C.val % 128, by omega⟩) *
        Ideal.div (p (ix4 ⟨R.val / 2048, by omega⟩ ⟨C.val / 128, by omega⟩ ⟨R.val % 2048, by omega⟩ x))
          (∑ z, p (ix4 ⟨R.val / 2048, by omega⟩ ⟨C.val / 128, by omega⟩ ⟨R.val % 2048, by omega⟩ z)) := by
  unfold mix
  pointwise

theorem scores_real
    (h0 : ∀ i, IsReal (a0 i)) (h1 : ∀ i, IsReal (a1 i)) (h3 : ∀ i, IsReal (a3 i)) (h5 : ∀ i, IsReal (a5 i))
    (h2 : ∀ (b : Fin 4) (k : Fin 2048) (n : Fin 16) (e : Fin 128), IsReal (a2 (ix3 b k ⟨n.val * 256 + e.val, by omega⟩)))
    (h4 : ∀ (b : Fin 4) (k : Fin 512) (n : Fin 16) (e : Fin 128), IsReal (a4 (ix3 b k ⟨n.val * 256 + e.val, by omega⟩)))
    (b : Fin 4) (n : Fin 16) (i : Fin 2048) (k : Fin 2560) : IsReal (scores a0 a1 a2 a3 a4 a5 (ix4 b n i k)) := by
  rw [scores_at]
  by_cases h : k.val < 2048
  · rw [dif_pos h]
    refine score_real ?_ ?_ ?_ ?_ <;> intro e
    · exact h0 _
    · exact h2 b ⟨k.val, h⟩ n e
    · exact h1 _
    · exact h3 _
  · rw [dif_neg h]
    refine score_real ?_ ?_ ?_ ?_ <;> intro e
    · exact h0 _
    · exact h4 b ⟨k.val - 2048, by omega⟩ n e
    · exact h1 _
    · exact h5 _

/-- With finite queries and keys the reference's result at an index is the kernel's. -/
theorem value
    (h0 : ∀ i, IsReal (a0 i)) (h1 : ∀ i, IsReal (a1 i)) (h3 : ∀ i, IsReal (a3 i)) (h5 : ∀ i, IsReal (a5 i))
    (h2 : ∀ (b : Fin 4) (k : Fin 2048) (n : Fin 16) (e : Fin 128), IsReal (a2 (ix3 b k ⟨n.val * 256 + e.val, by omega⟩)))
    (h4 : ∀ (b : Fin 4) (k : Fin 512) (n : Fin 16) (e : Fin 128), IsReal (a4 (ix3 b k ⟨n.val * 256 + e.val, by omega⟩)))
    (s : FVec Ideal S4x16x2048x2560 .f32) (hs : s = scores a0 a1 a2 a3 a4 a5) (R : Fin 8192) (C : Fin 2048) :
    mix (expo s (rowMax s)) (vals a2 a4) (ix2 R C)
      = Cert.KernelIdeal.Att.att a0 a1 a2 a3 a4 a5 ⟨R.val / 2048, by omega⟩ ⟨R.val % 2048, by omega⟩ ⟨C.val / 128, by omega⟩ ⟨C.val % 128, by omega⟩ := by
  rw [mix_at]
  simp only [expo_at, rowMax_at, ofBits_ninf, bot_sup_eq, max_bot_left]
  have key := rowOne_eq_rowTwo (K₁ := 2048) (K₂ := 512) (by omega) (by omega)
    (fun x => s (ix4 ⟨R.val / 2048, by omega⟩ ⟨C.val / 128, by omega⟩ ⟨R.val % 2048, by omega⟩ x))
    (fun x => vals a2 a4 (ix4 ⟨R.val / 2048, by omega⟩ x ⟨C.val / 128, by omega⟩ ⟨C.val % 128, by omega⟩))
    (fun k => by rw [hs]; exact scores_real a0 a1 a2 a3 a4 a5 h0 h1 h3 h5 h2 h4 _ _ _ k)
  refine Eq.trans ?_ (key.trans ?_)
  · unfold rowOne
    rfl
  · unfold Cert.KernelIdeal.Att.att
    congr 1
    · funext k
      have hk : (Fin.castAdd 512 k : Fin 2560).val < 2048 := k.isLt
      subst hs
      exact (scores_at a0 a1 a2 a3 a4 a5 _ _ _ _).trans (dif_pos hk)
    · funext k
      have hk : ¬ (Fin.natAdd 2048 k : Fin 2560).val < 2048 := Nat.not_lt.2 (Nat.le_add_right _ _)
      have ek : ∀ h, (⟨(Fin.natAdd 2048 k : Fin 2560).val - 2048, h⟩ : Fin 512) = k := fun h => Fin.ext (Nat.add_sub_cancel_left ..)
      subst hs
      refine (scores_at a0 a1 a2 a3 a4 a5 _ _ _ _).trans ((dif_neg hk).trans ?_)
      simp only [ek]
    · funext k
      have hk : (Fin.castAdd 512 k : Fin 2560).val < 2048 := k.isLt
      exact (vals_at a2 a4 _ _ _ _).trans (dif_pos hk)
    · funext k
      have hk : ¬ (Fin.natAdd 2048 k : Fin 2560).val < 2048 := Nat.not_lt.2 (Nat.le_add_right _ _)
      have ek : ∀ h, (⟨(Fin.natAdd 2048 k : Fin 2560).val - 2048, h⟩ : Fin 512) = k := fun h => Fin.ext (Nat.add_sub_cancel_left ..)
      refine (vals_at a2 a4 _ _ _ _).trans ((dif_neg hk).trans ?_)
      simp only [ek]
end

end Cert.ReferenceIdeal.Att
-- ==== Proof.AttPre.lean ====
/-
  The precondition read: where `finite_queries_and_keys` answers true, every query and every key element is a real number.
-/
module

public import proofs.«01_k».proof.Defs
public import proofs.«01_k».proof.Proof.SoftmaxMath
public import Idealize.ShloMosaic.Lib.Pointwise
public import Idealize.ShloMosaic.Lib.ReduceAll

@[expose] public section

set_option maxRecDepth 16384

noncomputable section

namespace Cert.Pre_finite_queries_and_keys

open Idealize.ShloMosaic Cert.Softmax

/-- The side conditions of the precondition's operations. -/
theorem facts : Facts := by
  constructor <;> decide +kernel

/-- An element whose absolute value is below infinity is a real number. -/
theorem real_of_abs {x : EReal} (h : Ideal.cmp .olt (max x (-x)) (Ideal.ofBits .f32 0x7F800000#32) = 1#1) : IsReal x := by
  have htop : Ideal.ofBits .f32 0x7F800000#32 = (⊤ : EReal) := by simp [Ideal.ofBits, Ideal.ieee]
  rw [htop] at h
  have hlt : max x (-x) < ⊤ := by
    by_contra hc
    simp [Ideal.cmp, hc] at h
  rw [max_lt_iff] at hlt
  refine isReal_iff.2 ⟨fun e => ?_, hlt.1.ne⟩
  rw [e, EReal.neg_bot] at hlt
  exact lt_irrefl _ hlt.2

instance : Subsingleton S_.Idx := ⟨fun a b => funext fun i => i.elim0⟩

variable [Facts]
open Facts

/-- One conjunct: `all(|x| < inf)` true makes every element real. -/
theorem all_real {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1)
    (i : s.Idx) : IsReal (x i) :=
  real_of_abs (Host.reduce_andi_all _ _ hr hu j h i)

theorem reals (a0 : FVec Ideal S8192x2048 .bf16) (a1 : FVec Ideal S16x8192x64 .bf16) (a2 : FVec Ideal S4x2048x4096 .bf16) (a3 : FVec Ideal S4x2048x64 .bf16)
    (a4 : FVec Ideal S4x512x4096 .bf16) (a5 : FVec Ideal S4x512x64 .bf16) (h : fn a0 a1 a2 a3 a4 a5 = fun _ => 1#1) :
    (∀ i, IsReal (a0 i)) ∧ (∀ i, IsReal (a1 i)) ∧ (∀ i, IsReal (a3 i)) ∧ (∀ i, IsReal (a5 i))
    ∧ (∀ (b : Fin 4) (k : Fin 2048) (n : Fin 16) (e : Fin 128), IsReal (a2 (ix3 b k ⟨n.val * 256 + e.val, by omega⟩)))
    ∧ (∀ (b : Fin 4) (k : Fin 512) (n : Fin 16) (e : Fin 128), IsReal (a4 (ix3 b k ⟨n.val * 256 + e.val, by omega⟩))) := by
  have hj := congrFun h (Shape.Idx.first h_S_)
  unfold fn fn_part1 fn_part2 at hj
  simp only [andi_apply, IntOp.andi_eq_one] at hj
  obtain ⟨⟨⟨⟨⟨q0, q1⟩, q2⟩, q3⟩, q4⟩, q5⟩ := hj
  have r2 := all_real _ _ _ _ _ q2
  have r4 := all_real _ _ _ _ _ q4
  refine ⟨all_real _ _ _ _ _ q0, all_real _ _ _ _ _ q1, all_real _ _ _ _ _ q3, all_real _ _ _ _ _ q5, fun b k n e => ?_, fun b k n e => ?_⟩
  · have r := r2 (ix4 b k n e)
    revert r
    pointwise
    exact id
  · have r := r4 (ix4 b k n e)
    revert r
    pointwise
    exact id

end Cert.Pre_finite_queries_and_keys
-- ==== Proof.MoeKit.lean ====
/- The pipeline of the expert kernel: the arrays as its region finds them, the prefetched tables, the windows'
   blocks, where its tiles are marked used, and the frame of a run. For any float values. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

variable (m : (ℓ : Loc nD τ sig) → Buf (Elt F) ℓ) (ρ : Dev nD → PrngReg)

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the region: the host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The side condition of the tables: every window whose index map reads a table has its block inside the array
    at every point. The precondition gives it. -/
abbrev Ok : Prop := ok0 (F := F) (tbl m)
/-- The tables' contents as admissible contents, and the pipeline at them. -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S160 .i32 := Memref.whole main_arg0
abbrev htbM0_0 : tbM0_0.IsWhole := Memref.isWhole_whole _
abbrev tbM0_1 : Memref sig .tc .smem S160 .i32 := Memref.whole main_arg1
abbrev htbM0_1 : tbM0_1.IsWhole := Memref.isWhole_whole _
abbrev tbM0_2 : Memref sig .tc .smem S160 .i32 := Memref.whole main_arg2
abbrev htbM0_2 : tbM0_2.IsWhole := Memref.isWhole_whole _

/-- A table's buffer on core `c`, and that buffer held at half the full share (the pipeline keeps the other half). -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves that the region hands the body, table by table. -/
theorem PhiT0_eq (c : Dev nD) : (Pipeline.ΦT pre0 (tbl m) c : sProp (MT nD τ sig Unit (Elt F) ℕ (UR sig nD τ) ℕ)) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input 0's current staging buffer holds its block at every point, for any proof data whose array is the
    region's and whose body leaves the block in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1's current staging buffer holds its block at every point, for any proof data whose array is the
    region's and whose body leaves the block in place. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input 2's current staging buffer holds its block at every point, for any proof data whose array is the
    region's and whose body leaves the block in place. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input 3's current staging buffer holds its block at every point, for any proof data whose array is the
    region's and whose body leaves the block in place. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input 4's current staging buffer holds its block at every point, for any proof data whose array is the
    region's and whose body leaves the block in place. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input 5's current staging buffer holds its block at every point, for any proof data whose array is the
    region's and whose body leaves the block in place. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input 6's current staging buffer holds its block at every point, for any proof data whose array is the
    region's and whose body leaves the block in place. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a run of the pipeline: the staged arrays and the arrays no window stages are as launched. -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      (Pipeline.RDat.FramePost.arr_in h c 0 rfl).trans ((hA c 0).trans (V_main_arg3 m c)),
      (Pipeline.RDat.FramePost.arr_in h c 1 rfl).trans ((hA c 1).trans (V_main_arg4 m c)),
      (Pipeline.RDat.FramePost.arr_in h c 2 rfl).trans ((hA c 2).trans (V_main_arg5 m c)),
      ((h c).2 main_arg6 (by decide : main_arg6 ∈ Pipeline.restRefs sig spec0)).trans (V_main_arg6 m c),
      (Pipeline.RDat.FramePost.arr_in h c 5 rfl).trans ((hA c 5).trans (V_main_arg7 m c)),
      ((h c).2 main_arg8 (by decide : main_arg8 ∈ Pipeline.restRefs sig spec0)).trans (V_main_arg8 m c)⟩) h

/-! ## The schedule of the result, and the body -/

/-- The result's window is written back at the points ≡ 3 (mod 4), at any contents of the tables (its index map reads none). -/
theorem flush0_7 (a : (pcfg0 (F := F)).Adm) : ∀ t : Fin (cfg0 a).N, ((cfg0 a).win 7).flush t = true ↔ t.val % 4 = 3 :=
  (fun t => Pipeline.Window.flushOf_reads cc0_transform_7 reads0_7 hreads0_7 0 (by decide) (by decide) (Pipeline.Window.sep_of_coord cc0_transform_7 0 0 (fun _ => rfl) (by decide)) (P := 4) (m := 3) (by decide) rfl t : ∀ t : Fin grid0.N, Pipeline.Window.flushOf grid0 true cc0_transform_7 t = true ↔ t.val % 4 = 3)

/-- The kernel body at point `t`, on the buffers the pipeline calls it with. -/
abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _)

/-! ## Marked tiles -/

/-- The point's tile is marked used: the word of the second table at the tile is 1. -/
def Marked (t : Fin grid0.N) : Prop :=
  k0_cond1 (tbM0_1.view.readAt (Elt F) (Rect.unit (s := S160) (k0_off1 (grid0.coords t)) S1.size (k0_off1_inb (grid0.coords t))).toLoadRect (tbl m 1) (Shape.Idx.first (numel1_S1.symm ▸ Nat.one_pos))) = 1#1

/-- The body clears the tile at this point: the first of the tile's four, its mark 0. -/
def Cleared (t : Fin grid0.N) : Prop :=
  k0_cond3 (grid0.coords t) (tbM0_1.view.readAt (Elt F) (Rect.unit (s := S160) (k0_off2 (grid0.coords t)) S1.size (k0_off2_inb (grid0.coords t))).toLoadRect (tbl m 1) (Shape.Idx.first (numel1_S1.symm ▸ Nat.one_pos))) = 1#1

/-- What the frame asks of the marks: a tile not marked is cleared at its first point, no tile is both, nothing is
    cleared later, and the four points of a tile agree. -/
structure Marks : Prop where
  clear : ∀ t : Fin grid0.N, ¬ Marked m t → t.val % 4 = 0 → Cleared m t
  not_both : ∀ t : Fin grid0.N, Marked m t → ¬ Cleared m t
  later : ∀ t : Fin grid0.N, t.val % 4 ≠ 0 → ¬ Cleared m t
  same : ∀ t s : Fin grid0.N, t.val % 4 ≠ 0 → s.val = t.val - 1 → (Marked m t ↔ Marked m s)

/-- The first of a tile's four points is where the grid's second coordinate is 0. -/
theorem first_iff : ∀ t : Fin grid0.N, k0_cond2 (grid0.coords t) = 1#1 ↔ t.val % 4 = 0 := fun t => by
  have ht : t.val < 640 := Nat.lt_of_lt_of_eq t.isLt N_0
  have e1 : (grid0.coords t 1).val = t.val / 1 % 4 := Pipeline.Grid.coords_val t 1 (by decide) rfl
  simp only [k0_cond2, e1]
  word_cmp

/-- Each window's current staging memref at point `t`, spelled as the pipeline passes it (`bodyAt0`), and its wholeness. -/
abbrev ms0_0 (hO : Ok m) (t : Fin (cfgM m hO).N) : Memref sig .tc .vmem S512x2048 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x512 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x512 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x512x2048 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x2048 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S512x2048 .f32 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S512x2048 .bf16 := Memref.whole cc0_scratch0

/-- The scratch owned at some contents beside the generator's register: what the region hands the body. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

end Cert.Kernel2Ideal.Moe

end
-- ==== Proof.MoePre.lean ====
/- The tables of the expert kernel: what the precondition says of them word by word, and from it what the run asks
   of them — every block inside its array, and the marks in order. -/
module

public import proofs.«01_k».proof.Defs
public import proofs.«01_k».proof.Proof.MoeKit
public import Idealize.ShloMosaic.Lib.Pointwise
public import Idealize.ShloMosaic.Lib.ReduceAll

@[expose] public section

set_option maxRecDepth 16384

noncomputable section

namespace Cert.Pre_tiles_in_order

open Idealize.ShloMosaic Idealize.ShloMosaic.WordCmp

/-- The side conditions of the precondition's operations. -/
theorem facts : Facts := by
  constructor <;> decide +kernel

instance : Subsingleton S_.Idx := ⟨fun a b => funext fun i => i.elim0⟩

/-- What the precondition says of the three tables: every tile's expert is one of the 32, its mark is 0 or 1, its
    block of rows is one of the 160, and a marked tile's block is its own. -/
structure Tables (te tv tb : IVec S160 32) : Prop where
  expert : ∀ i, (te (ix1 i)).toNat < 32
  mark : ∀ i, tv (ix1 i) = 0#32 ∨ tv (ix1 i) = 1#32
  block : ∀ i, (tb (ix1 i)).toNat < 160
  own : ∀ i : Fin 160, tv (ix1 i) = 1#32 → (tb (ix1 i)).toNat = i.val

/-- A word between 0 and a small bound, signed, is a number below the bound. -/
theorem lt_of_signed (x : BitVec 32) (n : ℕ) (hn : n < 2 ^ 31) (h0 : IntOp.cmpi .sge x 0#32 = 1#1) (h1 : IntOp.cmpi .slt x (BitVec.ofNat 32 n) = 1#1) : x.toNat < n := by
  rw [cmpi_sge_eq] at h0
  rw [cmpi_slt_eq] at h1
  have a0 : (0#32 : BitVec 32).toInt ≤ x.toInt := by
    by_contra h; rw [decide_eq_false h] at h0; exact absurd h0 (by decide)
  have a1 : x.toInt < (BitVec.ofNat 32 n).toInt := by
    by_contra h; rw [decide_eq_false h] at h1; exact absurd h1 (by decide)
  have e0 : (0#32 : BitVec 32).toInt = 0 := by decide
  have e1 : (BitVec.ofNat 32 n).toInt = n := by
    rw [BitVec.toInt_eq_toNat_cond, BitVec.toNat_ofNat, Nat.mod_eq_of_lt (by omega), if_pos (by omega)]
  rw [e0] at a0
  rw [e1] at a1
  rw [BitVec.toInt_eq_toNat_cond] at a0 a1
  have := x.isLt
  split at a0 <;> omega

theorem eq_of_cmpi (x y : BitVec 32) (h : IntOp.cmpi .eq x y = 1#1) : x = y := by
  rw [cmpi_eq_eq] at h
  by_contra hc; rw [decide_eq_false hc] at h; exact absurd h (by decide)

theorem or_of_ori (x y : BitVec 1) (h : IntOp.ori x y = 1#1) : x = 1#1 ∨ y = 1#1 := by
  revert x y; decide

variable [Facts]
open Facts

theorem tables_of_fn {F : FTy → Type} [FloatOps F] (a0 a1 a2 : IVec S160 32) (a3 : FVec F S81920x2048 .f32) (a4 a5 : FVec F S32x2048x2048 .bf16)
    (a6 : FVec F S32x4096 .f32) (a7 : FVec F S32x2048x2048 .f32) (a8 : FVec F S32x2048 .f32)
    (h : fn a0 a1 a2 a3 a4 a5 a6 a7 a8 = fun _ => 1#1) : Tables a0 a1 a2 := by
  have hj := congrFun h (Shape.Idx.first h_S_)
  unfold fn fn_part1 at hj
  simp only [andi_apply, IntOp.andi_eq_one] at hj
  obtain ⟨⟨⟨q0, q1⟩, q2⟩, q3⟩ := hj
  have r0 := fun i => Host.reduce_andi_all _ _ _ _ _ q0 (ix1 i)
  have r1 := fun i => Host.reduce_andi_all _ _ _ _ _ q1 (ix1 i)
  have r2 := fun i => Host.reduce_andi_all _ _ _ _ _ q2 (ix1 i)
  have r3 := fun i => Host.reduce_andi_all _ _ _ _ _ q3 (ix1 i)
  simp only [andi_apply, IntOp.andi_eq_one] at r0 r2
  refine ⟨fun i => lt_of_signed _ 32 (by decide) (r0 i).1 (r0 i).2, fun i => ?_, fun i => lt_of_signed _ 160 (by decide) (r2 i).1 (r2 i).2, fun i hi => ?_⟩
  · exact (or_of_ori _ _ (r1 i)).imp (eq_of_cmpi _ _) (eq_of_cmpi _ _)
  · rcases or_of_ori _ _ (r3 i) with h0 | h0
    · have := eq_of_cmpi _ _ h0
      rw [hi] at this
      exact absurd this (by show (1#32 : BitVec 32) ≠ 0#32; decide)
    · have := congrArg BitVec.toNat (eq_of_cmpi _ _ h0)
      rw [this]
      show (BitVec.ofNat 32 i.val).toNat = i.val
      rw [BitVec.toNat_ofNat, Nat.mod_eq_of_lt (by omega)]

end Cert.Pre_tiles_in_order

namespace Cert.Kernel2Ideal.Moe

open Idealize.ShloMosaic Idealize.ShloMosaic.Pipeline Idealize.SL.Sem
open Cert.Kernel2Ideal Cert.Kernel2Ideal.Gen Cert.Pre_tiles_in_order Idealize.ShloMosaic.WordCmp

variable {F : FTy → Type} [FloatOps F]

/-! ## The tables' words -/

/-- The tile point `i` is in. -/
def tile (i : grid0.Coords) : Fin 160 := ⟨(i 0).val, (i 0).isLt⟩

/-- The chunk of the experts' hidden width point `i` is at. -/
def chunk (i : grid0.Coords) : Fin 4 := ⟨(i 1).val, (i 1).isLt⟩

/-- The three tables as arrays of words: the tiles' experts, marks and blocks of rows. -/
def tabE (pf : pre0.Contents (Elt F)) : IVec S160 32 := pf 0
def tabV (pf : pre0.Contents (Elt F)) : IVec S160 32 := pf 1
def tabB (pf : pre0.Contents (Elt F)) : IVec S160 32 := pf 2

/-- The one element a load of a table's word at the tile reads. -/
theorem emb_tile (i : grid0.Coords) (h : ∀ a, (k0_off1 i) a + S1.size a ≤ S160.size a) (h1 : 0 < S1.numel) :
    (Rect.unit (s := S160) (k0_off1 i) S1.size h).emb (Shape.Idx.first h1) = ix1 (tile i) := by
  funext a
  refine Fin.ext ?_
  obtain rfl : a = 0 := Subsingleton.elim _ _
  show k0_off1 i 0 + 1 * _ = (i 0).val
  simp only [k0_off1_eq, Shape.Idx.first, Nat.mul_zero, Nat.add_zero]
  rfl

theorem at0 (pf : pre0.Contents (Elt F)) (i : grid0.Coords) (h) : pf.at 0 (Rect.unit (s := S160) (k0_off1 i) S1.size h) numel1_S1 = tabE pf (ix1 (tile i)) :=
  congrArg (pf 0) (emb_tile i h _)

theorem at1 (pf : pre0.Contents (Elt F)) (i : grid0.Coords) (h) : pf.at 1 (Rect.unit (s := S160) (k0_off1 i) S1.size h) numel1_S1 = tabV pf (ix1 (tile i)) :=
  congrArg (pf 1) (emb_tile i h _)

theorem at2 (pf : pre0.Contents (Elt F)) (i : grid0.Coords) (h) : pf.at 2 (Rect.unit (s := S160) (k0_off1 i) S1.size h) numel1_S1 = tabB pf (ix1 (tile i)) :=
  congrArg (pf 2) (emb_tile i h _)

/-- The chunk the weights' windows stage at point `i`: the point's own in a marked tile, the last one elsewhere. -/
def staged (w : BitVec 32) (i : grid0.Coords) : Fin 4 := if w = 1#32 then chunk i else 3

theorem staged_eq (w : BitVec 32) (i : grid0.Coords) :
    (Scalar.select (Scalar.cmpi .eq w 1#32) (BitVec.ofNat 32 (i 1).val) 3#32 : BitVec 32).toNat = (staged w i).val := by
  have hc : (i 1).val < 4 := (i 1).isLt
  unfold staged
  by_cases h : w = 1#32
  · subst h
    rw [if_pos rfl]
    show (BitVec.ofNat 32 (i 1).val).toNat = (i 1).val
    rw [BitVec.toNat_ofNat, Nat.mod_eq_of_lt (by omega)]
  · rw [if_neg h]
    unfold Scalar.cmpi
    rw [cmpi_eq_eq, decide_eq_false h]
    rfl

variable (pf : pre0.Contents (Elt F))

theorem tr0 (i : grid0.Coords) : cc0_transform_0 k0_off1_inb numel1_S1 pf i = ![(tabB pf (ix1 (tile i))).toNat, 0] := by
  show ![BitVec.toNat (pf.at 2 (Rect.unit (s := S160) (k0_off1 i) S1.size (k0_off1_inb i)) numel1_S1), 0] = _
  rw [at2]

theorem tr1 (i : grid0.Coords) : cc0_transform_1 k0_off1_inb numel1_S1 pf i = ![(tabE pf (ix1 (tile i))).toNat, 0, (staged (tabV pf (ix1 (tile i))) i).val] := by
  rw [← staged_eq]
  show ![BitVec.toNat (pf.at 0 (Rect.unit (s := S160) (k0_off1 i) S1.size (k0_off1_inb i)) numel1_S1), 0, BitVec.toNat (Scalar.select (Scalar.cmpi .eq (pf.at 1 (Rect.unit (s := S160) (k0_off1 i) S1.size (k0_off1_inb i)) numel1_S1) 1#32) (BitVec.ofNat 32 (i 1).val) 3#32)] = _
  rw [at0, at1]

theorem tr2 (i : grid0.Coords) : cc0_transform_2 k0_off1_inb numel1_S1 pf i = ![(tabE pf (ix1 (tile i))).toNat, 0, (staged (tabV pf (ix1 (tile i))) i).val] := tr1 pf i

theorem tr3 (i : grid0.Coords) : cc0_transform_3 k0_off1_inb numel1_S1 pf i = ![(tabE pf (ix1 (tile i))).toNat, 0, (staged (tabV pf (ix1 (tile i))) i).val] := tr1 pf i

theorem tr4 (i : grid0.Coords) : cc0_transform_4 k0_off1_inb numel1_S1 pf i = ![(tabE pf (ix1 (tile i))).toNat, 0, (staged (tabV pf (ix1 (tile i))) i).val] := tr1 pf i

theorem tr5 (i : grid0.Coords) : cc0_transform_5 k0_off1_inb numel1_S1 pf i = ![(tabE pf (ix1 (tile i))).toNat, (staged (tabV pf (ix1 (tile i))) i).val, 0] := by
  rw [← staged_eq]
  show ![BitVec.toNat (pf.at 0 (Rect.unit (s := S160) (k0_off1 i) S1.size (k0_off1_inb i)) numel1_S1), BitVec.toNat (Scalar.select (Scalar.cmpi .eq (pf.at 1 (Rect.unit (s := S160) (k0_off1 i) S1.size (k0_off1_inb i)) numel1_S1) 1#32) (BitVec.ofNat 32 (i 1).val) 3#32), 0] = _
  rw [at0, at1]

theorem tr6 (i : grid0.Coords) : cc0_transform_6 k0_off1_inb numel1_S1 pf i = ![(tabE pf (ix1 (tile i))).toNat, 0, 0] := by
  show ![BitVec.toNat (pf.at 0 (Rect.unit (s := S160) (k0_off1 i) S1.size (k0_off1_inb i)) numel1_S1), 0, 0] = _
  rw [at0]

/-! ## Blocks inside their arrays -/

theorem in0 : ∀ b : Fin 160, ∀ a, ((![b.val, 0] : Fin 2 → ℕ) a + 1) * S512x2048.size a ≤ S81920x2048.size a := by decide +kernel
theorem in1 : ∀ (e : Fin 32) (k : Fin 4), ∀ a, ((![e.val, 0, k.val] : Fin 3 → ℕ) a + 1) * S1x2048x512.size a ≤ S32x2048x2048.size a := by decide +kernel
theorem in3 : ∀ (e : Fin 32) (k : Fin 4), ∀ a, ((![e.val, 0, k.val] : Fin 3 → ℕ) a + 1) * S1x1x512.size a ≤ S32x1x2048.size a := by decide +kernel
theorem in5 : ∀ (e : Fin 32) (k : Fin 4), ∀ a, ((![e.val, k.val, 0] : Fin 3 → ℕ) a + 1) * S1x512x2048.size a ≤ S32x2048x2048.size a := by decide +kernel
theorem in6 : ∀ (e : Fin 32), ∀ a, ((![e.val, 0, 0] : Fin 3 → ℕ) a + 1) * S1x1x2048.size a ≤ S32x1x2048.size a := by decide +kernel
theorem words1 : ∀ (e : Fin 32) (k : Fin 4), (Rect.block (s := S32x2048x2048) S1x2048x512.size ![e.val, 0, k.val] (in1 e k)).WholeWords (EltTy.packing .bf16) := by decide +kernel

theorem words1_of (ix : Fin 3 → ℕ) (e : Fin 32) (k : Fin 4) (h : ix = ![e.val, 0, k.val]) :
    ∃ h : (∀ a, (ix a + 1) * S1x2048x512.size a ≤ S32x2048x2048.size a), EltTy.bits .bf16 = 32 ∨ (Rect.block (s := S32x2048x2048) S1x2048x512.size ix h).WholeWords (EltTy.packing .bf16) := by
  subst h
  exact ⟨in1 e k, Or.inr (words1 e k)⟩

/-- Tables as the precondition has them put every block inside its array. -/
theorem ok_of_tables (h : Tables (tabE pf) (tabV pf) (tabB pf)) : ok0 (F := F) pf :=
  ⟨fun i => ⟨by rw [tr0 pf i]; exact in0 ⟨_, h.block (tile i)⟩, .inl rfl⟩,
   fun i => words1_of _ ⟨_, h.expert (tile i)⟩ (staged (tabV pf (ix1 (tile i))) i) (tr1 pf i),
   fun i => words1_of _ ⟨_, h.expert (tile i)⟩ (staged (tabV pf (ix1 (tile i))) i) (tr2 pf i),
   fun i => ⟨by rw [tr3 pf i]; exact in3 ⟨_, h.expert (tile i)⟩ _, .inl rfl⟩,
   fun i => ⟨by rw [tr4 pf i]; exact in3 ⟨_, h.expert (tile i)⟩ _, .inl rfl⟩,
   fun i => ⟨by rw [tr5 pf i]; exact in5 ⟨_, h.expert (tile i)⟩ _, .inl rfl⟩,
   fun i => ⟨by rw [tr6 pf i]; exact in6 ⟨_, h.expert (tile i)⟩, .inl rfl⟩⟩

/-! ## The marks -/

theorem cond1_iff (w : BitVec 32) : k0_cond1 w = 1#1 ↔ w = 1#32 := by
  unfold k0_cond1 Scalar.cmpi
  simp only [cmpi_eq_eq]
  by_cases h : w = 1#32
  · rw [decide_eq_true h]; exact ⟨fun _ => h, fun _ => by decide⟩
  · rw [decide_eq_false h]; exact ⟨fun h' => absurd h' (by decide), fun h' => absurd h' h⟩

theorem cond3_iff (i : grid0.Coords) (w : BitVec 32) : k0_cond3 i w = 1#1 ↔ w = 0#32 ∧ (i 1).val = 0 := by
  have hc : (i 1).val < 4 := (i 1).isLt
  have e : ((BitVec.ofNat 32 (i 1).val : BitVec 32) = 0#32) ↔ (i 1).val = 0 := by
    rw [← BitVec.toNat_inj, BitVec.toNat_ofNat, Nat.mod_eq_of_lt (by omega)]; rfl
  unfold k0_cond3 Scalar.cmpi
  simp only [cmpi_eq_eq]
  by_cases h : w = 0#32 <;> by_cases h' : (i 1).val = 0
  · rw [decide_eq_true h, decide_eq_true (e.mpr h')]; exact ⟨fun _ => ⟨h, h'⟩, fun _ => by decide⟩
  · rw [decide_eq_true h, decide_eq_false (fun x => h' (e.mp x))]; exact ⟨fun x => absurd x (by decide), fun x => absurd x.2 h'⟩
  · rw [decide_eq_false h, decide_eq_true (e.mpr h')]; exact ⟨fun x => absurd x (by decide), fun x => absurd x.1 h⟩
  · rw [decide_eq_false h, decide_eq_false (fun x => h' (e.mp x))]; exact ⟨fun x => absurd x (by decide), fun x => absurd x.1 h⟩

theorem coord1 (t : Fin grid0.N) : (grid0.coords t 1).val = t.val % 4 := by
  have e1 : (grid0.coords t 1).val = t.val / 1 % 4 := Pipeline.Grid.coords_val t 1 (by decide) rfl
  rw [e1, Nat.div_one]

theorem coord0 (t : Fin grid0.N) : (grid0.coords t 0).val = t.val / 4 := by
  have ht : t.val < 640 := Nat.lt_of_lt_of_eq t.isLt N_0
  have e1 : (grid0.coords t 0).val = t.val / 4 % 160 := Pipeline.Grid.coords_val t 0 (by decide) rfl
  rw [e1, Nat.mod_eq_of_lt (by omega)]

variable (m : (ℓ : Loc nD τ sig) → Buf (Elt F) ℓ)

theorem marked_iff (t : Fin grid0.N) : Marked m t ↔ tabV (tbl m) (ix1 (tile (grid0.coords t))) = 1#32 := by
  unfold Marked
  rw [cond1_iff]
  exact Iff.of_eq (congrArg (· = 1#32) (congrArg (tbl m 1) (emb_tile (grid0.coords t) (k0_off1_inb _) _)))

theorem cleared_iff (t : Fin grid0.N) : Cleared m t ↔ tabV (tbl m) (ix1 (tile (grid0.coords t))) = 0#32 ∧ t.val % 4 = 0 := by
  unfold Cleared
  rw [cond3_iff, coord1]
  exact and_congr_left fun _ => Iff.of_eq (congrArg (· = 0#32) (congrArg (tbl m 1) (emb_tile (grid0.coords t) (k0_off2_inb _) _)))

theorem marks_of_tables (h : Tables (tabE (tbl m)) (tabV (tbl m)) (tabB (tbl m))) : Marks m where
  clear t hk h0 := (cleared_iff m t).mpr ⟨(h.mark _).resolve_right fun x => hk ((marked_iff m t).mpr x), h0⟩
  not_both t hk hc := absurd (((marked_iff m t).mp hk).symm.trans ((cleared_iff m t).mp hc).1) (by decide)
  later t h0 hc := h0 ((cleared_iff m t).mp hc).2
  same t s h0 hs := by
    rw [marked_iff, marked_iff, show tile (grid0.coords t) = tile (grid0.coords s) from Fin.ext (by
      show (grid0.coords t 0).val = (grid0.coords s 0).val
      rw [coord0, coord0]; omega)]

end Cert.Kernel2Ideal.Moe

end
-- ==== Proof.WordMoePre.lean ====
/- The tables of the expert kernel: what the precondition says of them word by word, and from it what the run asks
   of them — every block inside its array, and the marks in order. -/
/- The same text for the kernel on machine words: `MoePre` with the other program. -/
module

public import proofs.«01_k».proof.Proof.MoePre
public import proofs.«01_k».proof.Defs
public import proofs.«01_k».proof.Proof.WordMoeKit
public import Idealize.ShloMosaic.Lib.Pointwise
public import Idealize.ShloMosaic.Lib.ReduceAll

@[expose] public section

set_option maxRecDepth 16384

noncomputable section

namespace Cert.Kernel2.Moe

open Idealize.ShloMosaic Idealize.ShloMosaic.Pipeline Idealize.SL.Sem
open Cert.Kernel2 Cert.Kernel2.Gen Cert.Pre_tiles_in_order Idealize.ShloMosaic.WordCmp

variable {F : FTy → Type} [FloatOps F]

/-! ## The tables' words -/

/-- The tile point `i` is in. -/
def tile (i : grid0.Coords) : Fin 160 := ⟨(i 0).val, (i 0).isLt⟩

/-- The chunk of the experts' hidden width point `i` is at. -/
def chunk (i : grid0.Coords) : Fin 4 := ⟨(i 1).val, (i 1).isLt⟩

/-- The three tables as arrays of words: the tiles' experts, marks and blocks of rows. -/
def tabE (pf : pre0.Contents (Elt F)) : IVec S160 32 := pf 0
def tabV (pf : pre0.Contents (Elt F)) : IVec S160 32 := pf 1
def tabB (pf : pre0.Contents (Elt F)) : IVec S160 32 := pf 2

/-- The one element a load of a table's word at the tile reads. -/
theorem emb_tile (i : grid0.Coords) (h : ∀ a, (k0_off1 i) a + S1.size a ≤ S160.size a) (h1 : 0 < S1.numel) :
    (Rect.unit (s := S160) (k0_off1 i) S1.size h).emb (Shape.Idx.first h1) = ix1 (tile i) := by
  funext a
  refine Fin.ext ?_
  obtain rfl : a = 0 := Subsingleton.elim _ _
  show k0_off1 i 0 + 1 * _ = (i 0).val
  simp only [k0_off1_eq, Shape.Idx.first, Nat.mul_zero, Nat.add_zero]
  rfl

theorem at0 (pf : pre0.Contents (Elt F)) (i : grid0.Coords) (h) : pf.at 0 (Rect.unit (s := S160) (k0_off1 i) S1.size h) numel1_S1 = tabE pf (ix1 (tile i)) :=
  congrArg (pf 0) (emb_tile i h _)

theorem at1 (pf : pre0.Contents (Elt F)) (i : grid0.Coords) (h) : pf.at 1 (Rect.unit (s := S160) (k0_off1 i) S1.size h) numel1_S1 = tabV pf (ix1 (tile i)) :=
  congrArg (pf 1) (emb_tile i h _)

theorem at2 (pf : pre0.Contents (Elt F)) (i : grid0.Coords) (h) : pf.at 2 (Rect.unit (s := S160) (k0_off1 i) S1.size h) numel1_S1 = tabB pf (ix1 (tile i)) :=
  congrArg (pf 2) (emb_tile i h _)

/-- The chunk the weights' windows stage at point `i`: the point's own in a marked tile, the last one elsewhere. -/
def staged (w : BitVec 32) (i : grid0.Coords) : Fin 4 := if w = 1#32 then chunk i else 3

theorem staged_eq (w : BitVec 32) (i : grid0.Coords) :
    (Scalar.select (Scalar.cmpi .eq w 1#32) (BitVec.ofNat 32 (i 1).val) 3#32 : BitVec 32).toNat = (staged w i).val := by
  have hc : (i 1).val < 4 := (i 1).isLt
  unfold staged
  by_cases h : w = 1#32
  · subst h
    rw [if_pos rfl]
    show (BitVec.ofNat 32 (i 1).val).toNat = (i 1).val
    rw [BitVec.toNat_ofNat, Nat.mod_eq_of_lt (by omega)]
  · rw [if_neg h]
    unfold Scalar.cmpi
    rw [cmpi_eq_eq, decide_eq_false h]
    rfl

variable (pf : pre0.Contents (Elt F))

theorem tr0 (i : grid0.Coords) : cc0_transform_0 k0_off1_inb numel1_S1 pf i = ![(tabB pf (ix1 (tile i))).toNat, 0] := by
  show ![BitVec.toNat (pf.at 2 (Rect.unit (s := S160) (k0_off1 i) S1.size (k0_off1_inb i)) numel1_S1), 0] = _
  rw [at2]

theorem tr1 (i : grid0.Coords) : cc0_transform_1 k0_off1_inb numel1_S1 pf i = ![(tabE pf (ix1 (tile i))).toNat, 0, (staged (tabV pf (ix1 (tile i))) i).val] := by
  rw [← staged_eq]
  show ![BitVec.toNat (pf.at 0 (Rect.unit (s := S160) (k0_off1 i) S1.size (k0_off1_inb i)) numel1_S1), 0, BitVec.toNat (Scalar.select (Scalar.cmpi .eq (pf.at 1 (Rect.unit (s := S160) (k0_off1 i) S1.size (k0_off1_inb i)) numel1_S1) 1#32) (BitVec.ofNat 32 (i 1).val) 3#32)] = _
  rw [at0, at1]

theorem tr2 (i : grid0.Coords) : cc0_transform_2 k0_off1_inb numel1_S1 pf i = ![(tabE pf (ix1 (tile i))).toNat, 0, (staged (tabV pf (ix1 (tile i))) i).val] := tr1 pf i

theorem tr3 (i : grid0.Coords) : cc0_transform_3 k0_off1_inb numel1_S1 pf i = ![(tabE pf (ix1 (tile i))).toNat, 0, (staged (tabV pf (ix1 (tile i))) i).val] := tr1 pf i

theorem tr4 (i : grid0.Coords) : cc0_transform_4 k0_off1_inb numel1_S1 pf i = ![(tabE pf (ix1 (tile i))).toNat, 0, (staged (tabV pf (ix1 (tile i))) i).val] := tr1 pf i

theorem tr5 (i : grid0.Coords) : cc0_transform_5 k0_off1_inb numel1_S1 pf i = ![(tabE pf (ix1 (tile i))).toNat, (staged (tabV pf (ix1 (tile i))) i).val, 0] := by
  rw [← staged_eq]
  show ![BitVec.toNat (pf.at 0 (Rect.unit (s := S160) (k0_off1 i) S1.size (k0_off1_inb i)) numel1_S1), BitVec.toNat (Scalar.select (Scalar.cmpi .eq (pf.at 1 (Rect.unit (s := S160) (k0_off1 i) S1.size (k0_off1_inb i)) numel1_S1) 1#32) (BitVec.ofNat 32 (i 1).val) 3#32), 0] = _
  rw [at0, at1]

theorem tr6 (i : grid0.Coords) : cc0_transform_6 k0_off1_inb numel1_S1 pf i = ![(tabE pf (ix1 (tile i))).toNat, 0, 0] := by
  show ![BitVec.toNat (pf.at 0 (Rect.unit (s := S160) (k0_off1 i) S1.size (k0_off1_inb i)) numel1_S1), 0, 0] = _
  rw [at0]

/-! ## Blocks inside their arrays -/

theorem in0 : ∀ b : Fin 160, ∀ a, ((![b.val, 0] : Fin 2 → ℕ) a + 1) * S512x2048.size a ≤ S81920x2048.size a := by decide +kernel
theorem in1 : ∀ (e : Fin 32) (k : Fin 4), ∀ a, ((![e.val, 0, k.val] : Fin 3 → ℕ) a + 1) * S1x2048x512.size a ≤ S32x2048x2048.size a := by decide +kernel
theorem in3 : ∀ (e : Fin 32) (k : Fin 4), ∀ a, ((![e.val, 0, k.val] : Fin 3 → ℕ) a + 1) * S1x1x512.size a ≤ S32x1x2048.size a := by decide +kernel
theorem in5 : ∀ (e : Fin 32) (k : Fin 4), ∀ a, ((![e.val, k.val, 0] : Fin 3 → ℕ) a + 1) * S1x512x2048.size a ≤ S32x2048x2048.size a := by decide +kernel
theorem in6 : ∀ (e : Fin 32), ∀ a, ((![e.val, 0, 0] : Fin 3 → ℕ) a + 1) * S1x1x2048.size a ≤ S32x1x2048.size a := by decide +kernel
theorem words1 : ∀ (e : Fin 32) (k : Fin 4), (Rect.block (s := S32x2048x2048) S1x2048x512.size ![e.val, 0, k.val] (in1 e k)).WholeWords (EltTy.packing .bf16) := by decide +kernel

theorem words1_of (ix : Fin 3 → ℕ) (e : Fin 32) (k : Fin 4) (h : ix = ![e.val, 0, k.val]) :
    ∃ h : (∀ a, (ix a + 1) * S1x2048x512.size a ≤ S32x2048x2048.size a), EltTy.bits .bf16 = 32 ∨ (Rect.block (s := S32x2048x2048) S1x2048x512.size ix h).WholeWords (EltTy.packing .bf16) := by
  subst h
  exact ⟨in1 e k, Or.inr (words1 e k)⟩

/-- Tables as the precondition has them put every block inside its array. -/
theorem ok_of_tables (h : Tables (tabE pf) (tabV pf) (tabB pf)) : ok0 (F := F) pf :=
  ⟨fun i => ⟨by rw [tr0 pf i]; exact in0 ⟨_, h.block (tile i)⟩, .inl rfl⟩,
   fun i => words1_of _ ⟨_, h.expert (tile i)⟩ (staged (tabV pf (ix1 (tile i))) i) (tr1 pf i),
   fun i => words1_of _ ⟨_, h.expert (tile i)⟩ (staged (tabV pf (ix1 (tile i))) i) (tr2 pf i),
   fun i => ⟨by rw [tr3 pf i]; exact in3 ⟨_, h.expert (tile i)⟩ _, .inl rfl⟩,
   fun i => ⟨by rw [tr4 pf i]; exact in3 ⟨_, h.expert (tile i)⟩ _, .inl rfl⟩,
   fun i => ⟨by rw [tr5 pf i]; exact in5 ⟨_, h.expert (tile i)⟩ _, .inl rfl⟩,
   fun i => ⟨by rw [tr6 pf i]; exact in6 ⟨_, h.expert (tile i)⟩, .inl rfl⟩⟩

/-! ## The marks -/

theorem cond1_iff (w : BitVec 32) : k0_cond1 w = 1#1 ↔ w = 1#32 := by
  unfold k0_cond1 Scalar.cmpi
  simp only [cmpi_eq_eq]
  by_cases h : w = 1#32
  · rw [decide_eq_true h]; exact ⟨fun _ => h, fun _ => by decide⟩
  · rw [decide_eq_false h]; exact ⟨fun h' => absurd h' (by decide), fun h' => absurd h' h⟩

theorem cond3_iff (i : grid0.Coords) (w : BitVec 32) : k0_cond3 i w = 1#1 ↔ w = 0#32 ∧ (i 1).val = 0 := by
  have hc : (i 1).val < 4 := (i 1).isLt
  have e : ((BitVec.ofNat 32 (i 1).val : BitVec 32) = 0#32) ↔ (i 1).val = 0 := by
    rw [← BitVec.toNat_inj, BitVec.toNat_ofNat, Nat.mod_eq_of_lt (by omega)]; rfl
  unfold k0_cond3 Scalar.cmpi
  simp only [cmpi_eq_eq]
  by_cases h : w = 0#32 <;> by_cases h' : (i 1).val = 0
  · rw [decide_eq_true h, decide_eq_true (e.mpr h')]; exact ⟨fun _ => ⟨h, h'⟩, fun _ => by decide⟩
  · rw [decide_eq_true h, decide_eq_false (fun x => h' (e.mp x))]; exact ⟨fun x => absurd x (by decide), fun x => absurd x.2 h'⟩
  · rw [decide_eq_false h, decide_eq_true (e.mpr h')]; exact ⟨fun x => absurd x (by decide), fun x => absurd x.1 h⟩
  · rw [decide_eq_false h, decide_eq_false (fun x => h' (e.mp x))]; exact ⟨fun x => absurd x (by decide), fun x => absurd x.1 h⟩

theorem coord1 (t : Fin grid0.N) : (grid0.coords t 1).val = t.val % 4 := by
  have e1 : (grid0.coords t 1).val = t.val / 1 % 4 := Pipeline.Grid.coords_val t 1 (by decide) rfl
  rw [e1, Nat.div_one]

theorem coord0 (t : Fin grid0.N) : (grid0.coords t 0).val = t.val / 4 := by
  have ht : t.val < 640 := Nat.lt_of_lt_of_eq t.isLt N_0
  have e1 : (grid0.coords t 0).val = t.val / 4 % 160 := Pipeline.Grid.coords_val t 0 (by decide) rfl
  rw [e1, Nat.mod_eq_of_lt (by omega)]

variable (m : (ℓ : Loc nD τ sig) → Buf (Elt F) ℓ)

theorem marked_iff (t : Fin grid0.N) : Marked m t ↔ tabV (tbl m) (ix1 (tile (grid0.coords t))) = 1#32 := by
  unfold Marked
  rw [cond1_iff]
  exact Iff.of_eq (congrArg (· = 1#32) (congrArg (tbl m 1) (emb_tile (grid0.coords t) (k0_off1_inb _) _)))

theorem cleared_iff (t : Fin grid0.N) : Cleared m t ↔ tabV (tbl m) (ix1 (tile (grid0.coords t))) = 0#32 ∧ t.val % 4 = 0 := by
  unfold Cleared
  rw [cond3_iff, coord1]
  exact and_congr_left fun _ => Iff.of_eq (congrArg (· = 0#32) (congrArg (tbl m 1) (emb_tile (grid0.coords t) (k0_off2_inb _) _)))

theorem marks_of_tables (h : Tables (tabE (tbl m)) (tabV (tbl m)) (tabB (tbl m))) : Marks m where
  clear t hk h0 := (cleared_iff m t).mpr ⟨(h.mark _).resolve_right fun x => hk ((marked_iff m t).mpr x), h0⟩
  not_both t hk hc := absurd (((marked_iff m t).mp hk).symm.trans ((cleared_iff m t).mp hc).1) (by decide)
  later t h0 hc := h0 ((cleared_iff m t).mp hc).2
  same t s h0 hs := by
    rw [marked_iff, marked_iff, show tile (grid0.coords t) = tile (grid0.coords s) from Fin.ext (by
      show (grid0.coords t 0).val = (grid0.coords s 0).val
      rw [coord0, coord0]; omega)]

end Cert.Kernel2.Moe

end
-- ==== Proof.MoeRunFirst.lean ====
/- The expert kernel's body at the first point of a marked tile. -/
module

public import proofs.«01_k».proof.Proof.MoeKit
public import Idealize.ShloMosaic.Lib.Pipeline.ValueKit

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

set_option maxHeartbeats 2000000 in
/-- The body at the first point of a marked tile: it casts the rows into the scratch, starts the tile at the bias,
    and adds the first chunk's product. -/
theorem run_first (c : Dev nD) (i : grid0.Coords) (arg5 : Memref sig .tc .vmem S512x2048 .f32) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x512x2048 .f32) (harg10 : arg10.IsWhole) (arg11 : Memref sig .tc .vmem S1x1x2048 .f32) (harg11 : arg11.IsWhole) (arg12 : Memref sig .tc .vmem S512x2048 .f32) (harg12 : arg12.IsWhole) (arg13 : Memref sig .tc .vmem S512x2048 .bf16) (harg13 : arg13.IsWhole)
    (x0 : Vec F S512x2048 .f32) (x1 : Vec F S1x2048x512 .bf16) (x2 : Vec F S1x2048x512 .bf16) (x3 : Vec F S1x1x512 .f32) (x4 : Vec F S1x1x512 .f32) (x5 : Vec F S1x512x2048 .f32) (x6 : Vec F S1x1x2048 .f32)   (xt0 : TbBuf0 (F := F) c tbM0_0) (xt1 : TbBuf0 (F := F) c tbM0_1) (xt2 : TbBuf0 (F := F) c tbM0_2)
    (hc1 : k0_cond1 (tbM0_1.view.readAt (Elt F) (Rect.unit (s := S160) (k0_off1 i) S1.size (k0_off1_inb i)).toLoadRect xt1 (Shape.Idx.first (numel1_S1.symm ▸ Nat.one_pos))) = 1#1) (hc2 : k0_cond2 i = 1#1) (hc3 : ¬ k0_cond3 i (tbM0_1.view.readAt (Elt F) (Rect.unit (s := S160) (k0_off2 i) S1.size (k0_off2_inb i)).toLoadRect xt1 (Shape.Idx.first (numel1_S1.symm ▸ Nat.one_pos))) = 1#1) (E : Set ℕ) (K : PUnit → sProp (MT nD τ sig Unit (Elt F) ℕ (UR sig nD τ) ℕ)) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ (∃ d, owns (c : Thread nD τ) arg12 fullShare d) ∗ (∃ d, owns (c : Thread nD τ) arg13 fullShare d) ∗ tbPt0 c tbM0_0 xt0 ∗ tbPt0 c tbM0_1 xt1 ∗ tbPt0 c tbM0_2 xt2
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare (k0_pay1 (k0_pay5 (k0_pay4 x6)) (k0_pay6 (k0_pay3 x0) x1 x3 x2 x4) x5) ∗ owns (c : Thread nD τ) arg13 fullShare (k0_pay3 x0) ∗ tbPt0 c tbM0_0 xt0 ∗ tbPt0 c tbM0_1 xt1 ∗ tbPt0 c tbM0_2 xt2) -∗ K ⟨⟩))
      ⊢ wp frame (wpE (defs₀ (F := F)) Variants.none c none) E (cc0_moe_experts i tbM0_0 htbM0_0 tbM0_1 htbM0_1 tbM0_2 htbM0_2 arg5 harg5 arg6 harg6 arg7 harg7 arg8 harg8 arg9 harg9 arg10 harg10 arg11 harg11 arg12 harg12 arg13 harg13) K := by
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, HT0, HT1, HT2, Hk⟩
  obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6
  sl_exec (disch := first | sl_exact hc1 | sl_exact hc2 | sl_exact hc3)
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; · ipureintro; exact harg8.read_unread _
    iexact H3
  isplitl [H4]
  · iexists _; isplitr; · ipureintro; exact harg9.read_unread _
    iexact H4
  isplitl [H5]
  · iexists _; isplitr; · ipureintro; exact harg10.read_unread _
    iexact H5
  isplitl [H6]
  · iexists _; isplitr; · ipureintro; exact harg11.read_unread _
    iexact H6
  isplitl [H7]
  · iexists _; isplitr; swap; · iexact H7
    ipureintro
    refine (View.read_writes_eq_canon _ _ _ (fun y => View.cover_of_tiledL _ S512x2048.size (by sl_kernel_rfl) y)).trans ?_
    sl_unfold_words
    simp (disch := decide) only [View.canon_cons_unit_lit', View.ld_unit_lit', View.readCov_unit_lit', View.readAt_eq_ld, Memref.IsWhole.read_unread]
  isplitl [HS0]
  · iexists _; isplitr; swap; · iexact HS0
    ipureintro
    refine (View.read_writes_eq_canon _ _ _ (fun y => View.cover_of_tiledL _ S512x2048.size (by sl_kernel_rfl) y)).trans ?_
    sl_unfold_words
    simp (disch := decide) only [View.canon_cons_unit_lit', View.ld_unit_lit', View.readCov_unit_lit', View.readAt_eq_ld, Memref.IsWhole.read_unread]
  isplitl [HT0]; · iexact HT0
  isplitl [HT1]; · iexact HT1
  iexact HT2

end Cert.Kernel2Ideal.Moe

end
-- ==== Proof.MoeRunNext.lean ====
/- The expert kernel's body at a later point of a marked tile. -/
module

public import proofs.«01_k».proof.Proof.MoeKit
public import Idealize.ShloMosaic.Lib.Pipeline.ValueKit

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

set_option maxHeartbeats 2000000 in
/-- The body at a later point of a marked tile: it adds the chunk's product to the tile. -/
theorem run_next (c : Dev nD) (i : grid0.Coords) (arg5 : Memref sig .tc .vmem S512x2048 .f32) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x512x2048 .f32) (harg10 : arg10.IsWhole) (arg11 : Memref sig .tc .vmem S1x1x2048 .f32) (harg11 : arg11.IsWhole) (arg12 : Memref sig .tc .vmem S512x2048 .f32) (harg12 : arg12.IsWhole) (arg13 : Memref sig .tc .vmem S512x2048 .bf16) (harg13 : arg13.IsWhole)
    (x0 : Vec F S512x2048 .f32) (x1 : Vec F S1x2048x512 .bf16) (x2 : Vec F S1x2048x512 .bf16) (x3 : Vec F S1x1x512 .f32) (x4 : Vec F S1x1x512 .f32) (x5 : Vec F S1x512x2048 .f32) (x6 : Vec F S1x1x2048 .f32) (o : Vec F S512x2048 .f32) (w : Vec F S512x2048 .bf16) (xt0 : TbBuf0 (F := F) c tbM0_0) (xt1 : TbBuf0 (F := F) c tbM0_1) (xt2 : TbBuf0 (F := F) c tbM0_2)
    (hc1 : k0_cond1 (tbM0_1.view.readAt (Elt F) (Rect.unit (s := S160) (k0_off1 i) S1.size (k0_off1_inb i)).toLoadRect xt1 (Shape.Idx.first (numel1_S1.symm ▸ Nat.one_pos))) = 1#1) (hc2 : ¬ k0_cond2 i = 1#1) (hc3 : ¬ k0_cond3 i (tbM0_1.view.readAt (Elt F) (Rect.unit (s := S160) (k0_off2 i) S1.size (k0_off2_inb i)).toLoadRect xt1 (Shape.Idx.first (numel1_S1.symm ▸ Nat.one_pos))) = 1#1) (E : Set ℕ) (K : PUnit → sProp (MT nD τ sig Unit (Elt F) ℕ (UR sig nD τ) ℕ)) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare o ∗ owns (c : Thread nD τ) arg13 fullShare w ∗ tbPt0 c tbM0_0 xt0 ∗ tbPt0 c tbM0_1 xt1 ∗ tbPt0 c tbM0_2 xt2
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare (k0_pay1 (k0_pay5 o) (k0_pay6 w x1 x3 x2 x4) x5) ∗ owns (c : Thread nD τ) arg13 fullShare w ∗ tbPt0 c tbM0_0 xt0 ∗ tbPt0 c tbM0_1 xt1 ∗ tbPt0 c tbM0_2 xt2) -∗ K ⟨⟩))
      ⊢ wp frame (wpE (defs₀ (F := F)) Variants.none c none) E (cc0_moe_experts i tbM0_0 htbM0_0 tbM0_1 htbM0_1 tbM0_2 htbM0_2 arg5 harg5 arg6 harg6 arg7 harg7 arg8 harg8 arg9 harg9 arg10 harg10 arg11 harg11 arg12 harg12 arg13 harg13) K := by
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, HT0, HT1, HT2, Hk⟩
  obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6
  obtain rfl := harg12.eq_unread hf7
  obtain rfl := harg13.eq_unread hfs0
  sl_exec (disch := first | sl_exact hc1 | sl_exact hc2 | sl_exact hc3)
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; · ipureintro; exact harg8.read_unread _
    iexact H3
  isplitl [H4]
  · iexists _; isplitr; · ipureintro; exact harg9.read_unread _
    iexact H4
  isplitl [H5]
  · iexists _; isplitr; · ipureintro; exact harg10.read_unread _
    iexact H5
  isplitl [H6]
  · iexists _; isplitr; · ipureintro; exact harg11.read_unread _
    iexact H6
  isplitl [H7]
  · iexists _; isplitr; swap; · iexact H7
    ipureintro
    refine (View.read_writes_eq_canon _ _ _ (fun y => View.cover_of_tiledL _ S512x2048.size (by sl_kernel_rfl) y)).trans ?_
    sl_unfold_words
    simp (disch := decide) only [View.canon_cons_unit_lit', View.ld_unit_lit', View.readCov_unit_lit', View.readAt_eq_ld, Memref.IsWhole.read_unread]
  isplitl [HS0]
  · iexists _; isplitr; · ipureintro; exact harg13.read_unread _
    iexact HS0
  isplitl [HT0]; · iexact HT0
  isplitl [HT1]; · iexact HT1
  iexact HT2

end Cert.Kernel2Ideal.Moe

end
-- ==== Proof.MoeRunSkip.lean ====
/- The expert kernel's body at the points of a tile not marked. -/
module

public import proofs.«01_k».proof.Proof.MoeKit
public import Idealize.ShloMosaic.Lib.Pipeline.ValueKit

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

set_option maxHeartbeats 2000000 in
/-- The body at the first point of a tile not marked: it clears the tile. -/
theorem run_clear (c : Dev nD) (i : grid0.Coords) (arg5 : Memref sig .tc .vmem S512x2048 .f32) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x512x2048 .f32) (harg10 : arg10.IsWhole) (arg11 : Memref sig .tc .vmem S1x1x2048 .f32) (harg11 : arg11.IsWhole) (arg12 : Memref sig .tc .vmem S512x2048 .f32) (harg12 : arg12.IsWhole) (arg13 : Memref sig .tc .vmem S512x2048 .bf16) (harg13 : arg13.IsWhole)
    (x0 : Vec F S512x2048 .f32) (x1 : Vec F S1x2048x512 .bf16) (x2 : Vec F S1x2048x512 .bf16) (x3 : Vec F S1x1x512 .f32) (x4 : Vec F S1x1x512 .f32) (x5 : Vec F S1x512x2048 .f32) (x6 : Vec F S1x1x2048 .f32)   (xt0 : TbBuf0 (F := F) c tbM0_0) (xt1 : TbBuf0 (F := F) c tbM0_1) (xt2 : TbBuf0 (F := F) c tbM0_2)
    (hc1 : ¬ k0_cond1 (tbM0_1.view.readAt (Elt F) (Rect.unit (s := S160) (k0_off1 i) S1.size (k0_off1_inb i)).toLoadRect xt1 (Shape.Idx.first (numel1_S1.symm ▸ Nat.one_pos))) = 1#1) (hc3 : k0_cond3 i (tbM0_1.view.readAt (Elt F) (Rect.unit (s := S160) (k0_off2 i) S1.size (k0_off2_inb i)).toLoadRect xt1 (Shape.Idx.first (numel1_S1.symm ▸ Nat.one_pos))) = 1#1) (E : Set ℕ) (K : PUnit → sProp (MT nD τ sig Unit (Elt F) ℕ (UR sig nD τ) ℕ)) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ (∃ d, owns (c : Thread nD τ) arg12 fullShare d) ∗ (∃ d, owns (c : Thread nD τ) arg13 fullShare d) ∗ tbPt0 c tbM0_0 xt0 ∗ tbPt0 c tbM0_1 xt1 ∗ tbPt0 c tbM0_2 xt2
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare (k0_pay2 (F := F)) ∗ (∃ d, owns (c : Thread nD τ) arg13 fullShare d) ∗ tbPt0 c tbM0_0 xt0 ∗ tbPt0 c tbM0_1 xt1 ∗ tbPt0 c tbM0_2 xt2) -∗ K ⟨⟩))
      ⊢ wp frame (wpE (defs₀ (F := F)) Variants.none c none) E (cc0_moe_experts i tbM0_0 htbM0_0 tbM0_1 htbM0_1 tbM0_2 htbM0_2 arg5 harg5 arg6 harg6 arg7 harg7 arg8 harg8 arg9 harg9 arg10 harg10 arg11 harg11 arg12 harg12 arg13 harg13) K := by
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, HT0, HT1, HT2, Hk⟩
  obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6
  sl_exec (disch := first | sl_exact hc1 | sl_exact hc3)
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; · ipureintro; exact harg8.read_unread _
    iexact H3
  isplitl [H4]
  · iexists _; isplitr; · ipureintro; exact harg9.read_unread _
    iexact H4
  isplitl [H5]
  · iexists _; isplitr; · ipureintro; exact harg10.read_unread _
    iexact H5
  isplitl [H6]
  · iexists _; isplitr; · ipureintro; exact harg11.read_unread _
    iexact H6
  isplitl [H7]
  · iexists _; isplitr; swap; · iexact H7
    ipureintro
    refine (View.read_writes_eq_canon _ _ _ (fun y => View.cover_of_tiledL _ S512x2048.size (by sl_kernel_rfl) y)).trans ?_
    sl_unfold_words
    simp (disch := decide) only [View.canon_cons_unit_lit', View.ld_unit_lit', View.readCov_unit_lit', View.readAt_eq_ld, Memref.IsWhole.read_unread]
  isplitl [HS0]
  · iexists _, _; isplitr; swap; · iexact HS0
    ipureintro; rfl
  isplitl [HT0]; · iexact HT0
  isplitl [HT1]; · iexact HT1
  iexact HT2

set_option maxHeartbeats 2000000 in
/-- The body at a later point of a tile not marked: it stores nothing. -/
theorem run_keep (c : Dev nD) (i : grid0.Coords) (arg5 : Memref sig .tc .vmem S512x2048 .f32) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x512x2048 .f32) (harg10 : arg10.IsWhole) (arg11 : Memref sig .tc .vmem S1x1x2048 .f32) (harg11 : arg11.IsWhole) (arg12 : Memref sig .tc .vmem S512x2048 .f32) (harg12 : arg12.IsWhole) (arg13 : Memref sig .tc .vmem S512x2048 .bf16) (harg13 : arg13.IsWhole)
    (x0 : Vec F S512x2048 .f32) (x1 : Vec F S1x2048x512 .bf16) (x2 : Vec F S1x2048x512 .bf16) (x3 : Vec F S1x1x512 .f32) (x4 : Vec F S1x1x512 .f32) (x5 : Vec F S1x512x2048 .f32) (x6 : Vec F S1x1x2048 .f32) (o : Vec F S512x2048 .f32)  (xt0 : TbBuf0 (F := F) c tbM0_0) (xt1 : TbBuf0 (F := F) c tbM0_1) (xt2 : TbBuf0 (F := F) c tbM0_2)
    (hc1 : ¬ k0_cond1 (tbM0_1.view.readAt (Elt F) (Rect.unit (s := S160) (k0_off1 i) S1.size (k0_off1_inb i)).toLoadRect xt1 (Shape.Idx.first (numel1_S1.symm ▸ Nat.one_pos))) = 1#1) (hc3 : ¬ k0_cond3 i (tbM0_1.view.readAt (Elt F) (Rect.unit (s := S160) (k0_off2 i) S1.size (k0_off2_inb i)).toLoadRect xt1 (Shape.Idx.first (numel1_S1.symm ▸ Nat.one_pos))) = 1#1) (E : Set ℕ) (K : PUnit → sProp (MT nD τ sig Unit (Elt F) ℕ (UR sig nD τ) ℕ)) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare o ∗ (∃ d, owns (c : Thread nD τ) arg13 fullShare d) ∗ tbPt0 c tbM0_0 xt0 ∗ tbPt0 c tbM0_1 xt1 ∗ tbPt0 c tbM0_2 xt2
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare o ∗ (∃ d, owns (c : Thread nD τ) arg13 fullShare d) ∗ tbPt0 c tbM0_0 xt0 ∗ tbPt0 c tbM0_1 xt1 ∗ tbPt0 c tbM0_2 xt2) -∗ K ⟨⟩))
      ⊢ wp frame (wpE (defs₀ (F := F)) Variants.none c none) E (cc0_moe_experts i tbM0_0 htbM0_0 tbM0_1 htbM0_1 tbM0_2 htbM0_2 arg5 harg5 arg6 harg6 arg7 harg7 arg8 harg8 arg9 harg9 arg10 harg10 arg11 harg11 arg12 harg12 arg13 harg13) K := by
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, HT0, HT1, HT2, Hk⟩
  obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6
  obtain rfl := harg12.eq_unread hf7
  sl_exec (disch := first | sl_exact hc1 | sl_exact hc3)
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; · ipureintro; exact harg8.read_unread _
    iexact H3
  isplitl [H4]
  · iexists _; isplitr; · ipureintro; exact harg9.read_unread _
    iexact H4
  isplitl [H5]
  · iexists _; isplitr; · ipureintro; exact harg10.read_unread _
    iexact H5
  isplitl [H6]
  · iexists _; isplitr; · ipureintro; exact harg11.read_unread _
    iexact H6
  isplitl [H7]
  · iexists _; isplitr; · ipureintro; exact harg12.read_unread _
    iexact H7
  isplitl [HS0]
  · iexists _, _; isplitr; swap; · iexact HS0
    ipureintro; rfl
  isplitl [HT0]; · iexact HT0
  isplitl [HT1]; · iexact HT1
  iexact HT2

end Cert.Kernel2Ideal.Moe

end
-- ==== Proof.MoeFrame.lean ====
/- The expert kernel's run: what the result's buffer and the scratch hold after each point, the body's triple at
   every point, and from them the run of the pipeline and its frame. For any float values. -/
module

public import proofs.«01_k».proof.Proof.MoeRunFirst
public import proofs.«01_k».proof.Proof.MoeRunNext
public import proofs.«01_k».proof.Proof.MoeRunSkip
public import Idealize.ShloMosaic.Lib.Claim

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

variable (m : (ℓ : Loc nD τ sig) → Buf (Elt F) ℓ) (ρ : Dev nD → PrngReg)

/-! ## What the buffers hold -/

/-- The first of the four points of the tile that point `t` is in. -/
def head (t : Fin grid0.N) : Fin grid0.N := ⟨t.val - t.val % 4, Nat.lt_of_le_of_lt (Nat.sub_le _ _) t.isLt⟩

/-- The tile's rows as the scratch holds them: the block of its first point, cast. -/
def rows (hO : Ok m) (c : Dev nD) (t : Fin grid0.N) : Vec F S512x2048 .bf16 := k0_pay3 (iblk m hO c 0 (head t))

open Classical in
/-- What the body leaves in the result's buffer at point `t`, where `prev` is what the point before left. -/
def step (hO : Ok m) (c : Dev nD) (t : Fin grid0.N) (prev : Vec F S512x2048 .f32) : Vec F S512x2048 .f32 :=
  if Marked m t then
    k0_pay1 (k0_pay5 (if t.val % 4 = 0 then k0_pay4 (iblk m hO c 6 t) else prev))
      (k0_pay6 (rows m hO c t) (iblk m hO c 1 t) (iblk m hO c 3 t) (iblk m hO c 2 t) (iblk m hO c 4 t)) (iblk m hO c 5 t)
  else if t.val % 4 = 0 then k0_pay2 (F := F) else prev

/-- What the result's buffer holds after point `n`. -/
def outs (hO : Ok m) (c : Dev nD) : (n : ℕ) → n < grid0.N → Vec F S512x2048 .f32
  | 0, h => step m hO c ⟨0, h⟩ (k0_pay2 (F := F))
  | n + 1, h => step m hO c ⟨n + 1, h⟩ (outs hO c n (Nat.lt_of_succ_lt h))

/-- The recursion at a point that is not the first. -/
theorem outs_pos (hO : Ok m) (c : Dev nD) (t : Fin grid0.N) (h : t.val ≠ 0) :
    outs m hO c t.val t.isLt = step m hO c t (outs m hO c (t.val - 1) (Nat.lt_of_le_of_lt (Nat.sub_le _ _) t.isLt)) := by
  obtain ⟨n, hn⟩ := t
  cases n with
  | zero => exact absurd rfl h
  | succ n => rfl

/-- At a tile's first point nothing is taken from the point before. -/
theorem outs_head (hO : Ok m) (c : Dev nD) (t : Fin grid0.N) (h : t.val % 4 = 0) (prev : Vec F S512x2048 .f32) :
    outs m hO c t.val t.isLt = step m hO c t prev := by
  obtain ⟨n, hn⟩ := t
  cases n with
  | zero => show step m hO c ⟨0, hn⟩ _ = _; unfold step; simp only [Nat.zero_mod, if_true]
  | succ n => show step m hO c ⟨n + 1, hn⟩ _ = _; unfold step; simp only at h; simp only [h, if_true]

/-- The scratch holds the tile's rows where a later point of a marked tile reads it. -/
def Good (hO : Ok m) (c : Dev nD) (n : ℕ) (d : Vec F S512x2048 .bf16) : Prop :=
  ∀ t : Fin grid0.N, t.val = n → t.val % 4 ≠ 0 → Marked m t → d = rows m hO c t

/-- What is held between points: the scratch at the tile's rows where they are read, the generator's register, and
    the tables' halves. -/
def Inv (hO : Ok m) (c : Dev nD) (n : ℕ) : sProp (MT nD τ sig Unit (Elt F) ℕ (UR sig nD τ) ℕ) :=
  iprop(((∃ d, ⌜Good m hO c n d⌝ ∗ owns (c : Thread nD τ) scM0_0 fullShare d) ∗ (∃ r, prngReg c r)) ∗ Pipeline.ΦT pre0 (tbl m) c)

/-- The pipeline's proof data: the arrays as the region finds them, each input's buffer left at its block, the
    result's at `outs`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outs m hO c t.val t.isLt
  Φ t := Inv m hO c t.val
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = outs m hO c t.val t.isLt := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## The result's buffer at points that store nothing -/

/-- A table's word at an offset is its word under the one-element rectangle there. -/
theorem word_at (pf : pre0.Contents (Elt F)) (off : Fin 1 → ℕ) (h : ∀ a, off a + S1.size a ≤ S160.size a) :
    pf.atD 1 off = tbM0_1.view.readAt (Elt F) (Rect.unit (s := S160) off S1.size h).toLoadRect (pf 1) (Shape.Idx.first (numel1_S1.symm ▸ Nat.one_pos)) := by
  unfold Pipeline.Prefetch.Contents.atD
  refine (dif_pos (show ∀ a, off a + 1 ≤ S160.size a from fun a => by obtain rfl : a = 0 := Subsingleton.elim _ _; exact h 0)).trans ?_
  refine congrArg (pf 1) (funext fun a => Fin.ext ?_)
  show off a = off a + 1 * _
  simp only [Shape.Idx.first, Nat.mul_zero, Nat.add_zero]

/-- A point where the result's window is idle is one that neither adds to the tile nor clears it. -/
theorem idle_skips (hO : Ok m) (t : Fin grid0.N) (h : (cfgM m hO).idle 7 (grid0.coords t) = true) :
    ¬ Marked m t ∧ ¬ Cleared m t := by
  have e1 := word_at (tbl m) (k0_off1 (grid0.coords t)) (k0_off1_inb (grid0.coords t))
  have e2 := word_at (tbl m) (k0_off2 (grid0.coords t)) (k0_off2_inb (grid0.coords t))
  have h' : (!(k0_cond1 ((tbl m).atD 1 (k0_off1 (grid0.coords t))) == 1#1 && k0_cond2 (grid0.coords t) == 1#1) && !(k0_cond1 ((tbl m).atD 1 (k0_off1 (grid0.coords t))) == 1#1) && !(k0_cond3 (grid0.coords t) ((tbl m).atD 1 (k0_off2 (grid0.coords t))) == 1#1)) = true := h
  rw [e1, e2] at h'
  simp only [Bool.and_eq_true, Bool.not_eq_true', beq_eq_false_iff_ne] at h'
  exact ⟨h'.1.2, h'.2⟩

/-- A point that neither adds nor clears is a later point of a tile not marked, and leaves the buffer as it was. -/
theorem idle_later (hO : Ok m) (hM : Marks m) (t : Fin grid0.N) (h : (cfgM m hO).idle 7 (grid0.coords t) = true) : t.val % 4 ≠ 0 := fun h0 =>
  (idle_skips m hO t h).2 (hM.clear t (idle_skips m hO t h).1 h0)

theorem idle_outs (hO : Ok m) (hM : Marks m) (c : Dev nD) (t : Fin grid0.N) (h : (cfgM m hO).idle 7 (grid0.coords t) = true) :
    outs m hO c t.val t.isLt = outs m hO c (t.val - 1) (Nat.lt_of_le_of_lt (Nat.sub_le _ _) t.isLt) := by
  have h0 := idle_later m hO hM t h
  rw [outs_pos m hO c t (fun e => h0 (by rw [e]))]
  unfold step
  rw [if_neg (idle_skips m hO t h).1, if_neg h0]

/-- At a later point of a tile the result's buffer holds what the points before left. -/
theorem before0_7 (hO : Ok m) (hM : Marks m) (c : Dev nD) : ∀ (n : ℕ) (t : Fin grid0.N), t.val = n → t.val % 4 ≠ 0 → ∀ d,
    (dats m hO 0 c).before 7 t d = outs m hO c (t.val - 1) (Nat.lt_of_le_of_lt (Nat.sub_le _ _) t.isLt)
  | 0, t, hn, h0, _ => absurd (by rw [hn]) h0
  | n + 1, t, hn, h0, d => by
    have hN : t.val < 640 := lt_of_lt_of_eq t.isLt N_0
    have ht : t.val ≠ 0 := by omega
    have hfl : ((cfgM m hO).win 7).flush ⟨t.val - 1, Nat.lt_of_le_of_lt (Nat.sub_le _ _) t.isLt⟩ = false :=
      Bool.eq_false_iff.mpr fun h => by have := (flush0_7 (adm m hO) _).mp h; dsimp only at this; omega
    cases hi : (cfgM m hO).idle 7 (grid0.coords ⟨t.val - 1, Nat.lt_of_le_of_lt (Nat.sub_le _ _) t.isLt⟩) with
    | true =>
      have hl := idle_later m hO hM _ hi
      rw [(dats m hO 0 c).before_of_pos 7 t ht (Pipeline.Window.fetch_out _ rfl t), hfl, if_neg Bool.false_ne_true,
        idle_outs m hO hM c ⟨t.val - 1, _⟩ hi]
      unfold Dat.left; rw [hi]
      exact before0_7 hO hM c n ⟨t.val - 1, Nat.lt_of_le_of_lt (Nat.sub_le _ _) t.isLt⟩ (by simp only; omega) hl d
    | false =>
      rw [(dats m hO 0 c).before_of_pos 7 t ht (Pipeline.Window.fetch_out _ rfl t), hfl, if_neg Bool.false_ne_true]
      unfold Dat.left; rw [hi]
      show (dats m hO 0 c).kept 7 _ d = _
      unfold Dat.kept
      rw [Pipeline.fill_of_clip_none _ _ (fun _ => rfl) d ((dats m hO 0 c).after 7 _), Pipeline.Window.fill_cut, after0_7]

/-- The buffer at `outs` is what the pipeline asks of the body, where it stores and where it does not. -/
theorem leaves0_7 (hO : Ok m) (hM : Marks m) (c : Dev nD) (t : Fin grid0.N) :
    (owns (c : Thread nD τ) (ms0_7 m hO t) fullShare (outs m hO c t.val t.isLt) : sProp (MT nD τ sig Unit (Elt F) ℕ (UR sig nD τ) ℕ)) ⊢ (dats m hO 0 c).leavesExact 7 t := by
  cases hi : (cfgM m hO).idle 7 (grid0.coords t) with
  | false =>
    unfold Dat.leavesExact; rw [hi]
    show _ ⊢ (owns (c : Thread nD τ) (ms0_7 m hO t) fullShare ((dats m hO 0 c).after 7 t) : sProp (MT nD τ sig Unit (Elt F) ℕ (UR sig nD τ) ℕ))
    rw [after0_7]
  | true =>
    cases hf : ((cfgM m hO).win 7).flush t with
    | false =>
      rw [(dats m hO 0 c).leavesExact_idle 7 t hi hf]
      iintro H
      iexists (outs m hO c t.val t.isLt)
      have e := (before0_7 m hO hM c _ t rfl (idle_later m hO hM t hi) (outs m hO c t.val t.isLt)).trans (idle_outs m hO hM c t hi).symm
      erw [e]
      iexact H
    | true =>
      unfold Dat.leavesExact; rw [hi, hf]
      show _ ⊢ (owns (c : Thread nD τ) (ms0_7 m hO t) fullShare ((dats m hO 0 c).after 7 t) : sProp (MT nD τ sig Unit (Elt F) ℕ (UR sig nD τ) ℕ))
      rw [after0_7]

/-! ## The body at a point -/

/-- What the body is called with at point `t`, and what it leaves. -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ (dats m hO 0 c).leavesExact 7 t)

/-- The next point of a tile keeps its head; the scratch that serves it serves the next. -/
theorem rows_next (hO : Ok m) (c : Dev nD) (t s : Fin grid0.N) (h : s.val = t.val + 1) (h0 : s.val % 4 ≠ 0) : rows m hO c s = rows m hO c t := by
  unfold rows
  rw [show head s = head t from Fin.ext (by simp only [head]; omega)]

theorem good_rows (hO : Ok m) (c : Dev nD) (t : Fin grid0.N) : Good m hO c (t.val + 1) (rows m hO c t) := fun s hs h0 _ =>
  (rows_next m hO c t s hs h0).symm

theorem good_skip (hO : Ok m) (hM : Marks m) (c : Dev nD) (t : Fin grid0.N) (h : ¬ Marked m t) (d) : Good m hO c (t.val + 1) d := fun s hs h0 hs' =>
  absurd ((hM.same s t h0 (by omega)).mp hs') h

set_option maxHeartbeats 4000000 in
/-- The body at the first point of a marked tile. -/
theorem body_first (hO : Ok m) (hM : Marks m) (c : Dev nD) (t : Fin (cfgM m hO).N) (hk : Marked m t) (h0 : t.val % 4 = 0) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).owesAt () t.succ = (dats m hO 0 c).owesAt () t.castSucc from rfl,
    after0_0, after0_1, after0_2, after0_3, after0_4, after0_5, after0_6,
    show (dats m hO 0 c).Φ t.succ = Inv m hO c (t.val + 1) from rfl, show (dats m hO 0 c).Φ t.castSucc = Inv m hO c t.val from rfl]
  unfold Inv
  rw [PhiT0_eq]
  have post := leaves0_7 m hO hM c t
  have hr : rows m hO c t = k0_pay3 (iblk m hO c 0 t) := by
    unfold rows; rw [show head t = t from Fin.ext (by simp only [head]; omega)]
  have good := good_rows m hO c t
  rw [hr] at good
  rw [outs_head m hO c t h0 (k0_pay2 (F := F))] at post
  unfold step at post
  rw [if_pos hk, if_pos h0, hr] at post
  iintro ⟨⟨⟨⟨%g, %hg, HS0⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_first c (grid0.coords t) _ _ _ _ _ _ _ _ _ _ _ _ _ _ _ _ _ _ _ _ _ _ _ _ _ (tbl m 0) (tbl m 1) (tbl m 2) hk ((first_iff t).mpr h0) (hM.not_both t hk) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexists _; iexact HS0
  isplitl [HT0]; · iexact HT0
  isplitl [HT1]; · iexact HT1
  isplitl [HT2]; · iexact HT2
  iintro ⟨H0, H1, H2, H3, H4, H5, H6, H7, HS0, HT0, HT1, HT2⟩
  isplitl [HS0 Hg HT0 HT1 HT2]
  · isplitl [HS0 Hg]
    · isplitl [HS0]
      · iexists _; isplitr; · ipureintro; exact good
        iexact HS0
      iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply post
  iexact H7

set_option maxHeartbeats 4000000 in
/-- The body at a later point of a marked tile. -/
theorem body_next (hO : Ok m) (hM : Marks m) (c : Dev nD) (t : Fin (cfgM m hO).N) (hk : Marked m t) (h0 : t.val % 4 ≠ 0) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).owesAt () t.succ = (dats m hO 0 c).owesAt () t.castSucc from rfl,
    after0_0, after0_1, after0_2, after0_3, after0_4, after0_5, after0_6,
    show (dats m hO 0 c).Φ t.succ = Inv m hO c (t.val + 1) from rfl, show (dats m hO 0 c).Φ t.castSucc = Inv m hO c t.val from rfl]
  unfold Inv
  rw [PhiT0_eq]
  have post := leaves0_7 m hO hM c t
  have hb := before0_7 m hO hM c _ t rfl h0
  have good := good_rows m hO c t
  rw [outs_pos m hO c t (fun e => h0 (by rw [e]))] at post
  unfold step at post
  rw [if_pos hk, if_neg h0] at post
  simp only [hb]
  iintro ⟨⟨⟨⟨%g, %hg, HS0⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain rfl := hg t rfl h0 hk
  iapply (run_next c (grid0.coords t) _ _ _ _ _ _ _ _ _ _ _ _ _ _ _ _ _ _ _ _ _ _ _ _ _ _ _ (tbl m 0) (tbl m 1) (tbl m 2) hk (fun h => h0 ((first_iff t).mp h)) (hM.not_both t hk) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HT0]; · iexact HT0
  isplitl [HT1]; · iexact HT1
  isplitl [HT2]; · iexact HT2
  iintro ⟨H0, H1, H2, H3, H4, H5, H6, H7, HS0, HT0, HT1, HT2⟩
  isplitl [HS0 Hg HT0 HT1 HT2]
  · isplitl [HS0 Hg]
    · isplitl [HS0]
      · iexists _; isplitr; · ipureintro; exact good
        iexact HS0
      iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply post
  iexact H7

set_option maxHeartbeats 4000000 in
/-- The body at the first point of a tile not marked. -/
theorem body_clear (hO : Ok m) (hM : Marks m) (c : Dev nD) (t : Fin (cfgM m hO).N) (hk : ¬ Marked m t) (h0 : t.val % 4 = 0) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).owesAt () t.succ = (dats m hO 0 c).owesAt () t.castSucc from rfl,
    after0_0, after0_1, after0_2, after0_3, after0_4, after0_5, after0_6,
    show (dats m hO 0 c).Φ t.succ = Inv m hO c (t.val + 1) from rfl, show (dats m hO 0 c).Φ t.castSucc = Inv m hO c t.val from rfl]
  unfold Inv
  rw [PhiT0_eq]
  have post := leaves0_7 m hO hM c t
  rw [outs_head m hO c t h0 (k0_pay2 (F := F))] at post
  unfold step at post
  rw [if_neg hk, if_pos h0] at post
  iintro ⟨⟨⟨⟨%g, %hg, HS0⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_clear c (grid0.coords t) _ _ _ _ _ _ _ _ _ _ _ _ _ _ _ _ _ _ _ _ _ _ _ _ _ (tbl m 0) (tbl m 1) (tbl m 2) hk (hM.clear t hk h0) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexists _; iexact HS0
  isplitl [HT0]; · iexact HT0
  isplitl [HT1]; · iexact HT1
  isplitl [HT2]; · iexact HT2
  iintro ⟨H0, H1, H2, H3, H4, H5, H6, H7, ⟨%es0, HS0⟩, HT0, HT1, HT2⟩
  isplitl [HS0 Hg HT0 HT1 HT2]
  · isplitl [HS0 Hg]
    · isplitl [HS0]
      · iexists _; isplitr; · ipureintro; exact good_skip m hO hM c t hk es0
        iexact HS0
      iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply post
  iexact H7

set_option maxHeartbeats 4000000 in
/-- The body at a later point of a tile not marked. -/
theorem body_keep (hO : Ok m) (hM : Marks m) (c : Dev nD) (t : Fin (cfgM m hO).N) (hk : ¬ Marked m t) (h0 : t.val % 4 ≠ 0) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).owesAt () t.succ = (dats m hO 0 c).owesAt () t.castSucc from rfl,
    after0_0, after0_1, after0_2, after0_3, after0_4, after0_5, after0_6,
    show (dats m hO 0 c).Φ t.succ = Inv m hO c (t.val + 1) from rfl, show (dats m hO 0 c).Φ t.castSucc = Inv m hO c t.val from rfl]
  unfold Inv
  rw [PhiT0_eq]
  have post := leaves0_7 m hO hM c t
  have hb := before0_7 m hO hM c _ t rfl h0
  rw [outs_pos m hO c t (fun e => h0 (by rw [e]))] at post
  unfold step at post
  rw [if_neg hk, if_neg h0] at post
  simp only [hb]
  iintro ⟨⟨⟨⟨%g, %hg, HS0⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_keep c (grid0.coords t) _ _ _ _ _ _ _ _ _ _ _ _ _ _ _ _ _ _ _ _ _ _ _ _ _ _ (tbl m 0) (tbl m 1) (tbl m 2) hk (hM.later t h0) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexists _; iexact HS0
  isplitl [HT0]; · iexact HT0
  isplitl [HT1]; · iexact HT1
  isplitl [HT2]; · iexact HT2
  iintro ⟨H0, H1, H2, H3, H4, H5, H6, H7, ⟨%es0, HS0⟩, HT0, HT1, HT2⟩
  isplitl [HS0 Hg HT0 HT1 HT2]
  · isplitl [HS0 Hg]
    · isplitl [HS0]
      · iexists _; isplitr; · ipureintro; exact good_skip m hO hM c t hk es0
        iexact HS0
      iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply post
  iexact H7

/-- The body's triple at every point. -/
theorem sound_body (hO : Ok m) (hM : Marks m) (c : Dev nD) (t : Fin (cfgM m hO).N) :
    bodyPre m hO c t ⊢ wp frame (wpE (defs₀ (F := F)) Variants.none c none) Set.univ (bodyAt0 (adm m hO) t) (fun _ => bodyPost m hO c t) := by
  by_cases hk : Marked m t
  · by_cases h0 : t.val % 4 = 0
    · exact body_first m hO hM c t hk h0
    · exact body_next m hO hM c t hk h0
  · by_cases h0 : t.val % 4 = 0
    · exact body_clear m hO hM c t hk h0
    · exact body_keep m hO hM c t hk h0

/-- The body table's row at point `t` is the body. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (hM : Marks m) (c : Dev nD) : BodyObligation (dats (F := F) m hO 0 c) (defs₀ (F := F)) Variants.none () Set.univ := fun t => by
  rw [bigSep_W0, bigSep_W0, defs₀_row m hO]
  exact triple_restated (sound_body m hO hM c t) rfl .rfl fun _ => .rfl

/-- What the launch hands the region is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = Inv m hO c 0 from rfl, PhiA0_eq]
  unfold Inv
  iintro ⟨⟨⟨%d, HS0⟩, Hg⟩, HT⟩
  isplitl [HS0 Hg]
  · isplitl [HS0]
    · iexists d; isplitr
      · ipureintro; exact fun t ht h0 _ => absurd (by rw [ht]) h0
      iexact HS0
    iexact Hg
  iexact HT

/-- After the last point the invariant gives the scratch and the register back. -/
theorem hout (hO : Ok m) (c : Dev nD) : (dats m hO 0 c).Φ (Fin.last (cfgM m hO).N) ⊢ Pipeline.ΦA spec0 c := by
  rw [show (dats m hO 0 c).Φ (Fin.last (cfgM m hO).N) = Inv m hO c (cfgM m hO).N from rfl, PhiA0_eq]
  unfold Inv
  iintro ⟨⟨⟨%d, -, HS0⟩, Hg⟩, -⟩
  isplitl [HS0]
  · iexists d; iexact HS0
  iexact Hg

/-! ## The run and the frame -/

set_option backward.isDefEq.respectTransparency.types false in
/-- The run of the program: it ends, with every array of the pipeline at what the proof data says and every semaphore
    at zero. -/
theorem run_main_quiescent (hO : Ok m) (hM : Marks m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hM c).loose) (hshare := fun c => (dats m hO 0 c).share_full fun _ => rfl)
    (howed := fun _ _ => rfl) (V := V m) (hmain := hmain m Variants.none) (hA := A_eq m hO) (hpf := V_pre m)
    (hin := hin m hO) (hout := hout m hO)

theorem run_main (hO : Ok m) (hM : Marks m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hM)

/-- The argument arrays end as launched. -/
theorem unchanged (hO : Ok m) (hM : Marks m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (fun c => (dats m hO 0 c).toR) (A_eq m hO)
    ((θ_run defs _ _).mono (fun r h c => ⟨fun w => ((dats m hO 0 c).toR_arrAt_iff w _ _).mpr ((h c).1 w), (h c).2⟩) (run_main m ρ hO hM))

/-- The frame: the argument arrays end as launched and every semaphore at zero. -/
theorem frame (hO : Ok m) (hM : Marks m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO hM) ((θ_run defs _ _).mono (fun _ h => h.2) (run_main_quiescent m ρ hO hM))

end Cert.Kernel2Ideal.Moe

end
-- ==== Proof.MoeMath.lean ====
/- The experts' layer as mathematics on extended reals: one expert's gated hidden value, its result, and the row a
   tile's expert gives. -/
module

public import proofs.«01_k».proof.Kernel2Ideal
public import Idealize.ShloMosaic.Lib.Pointwise

@[expose] public section

noncomputable section

namespace Cert.Moe

open Idealize.ShloMosaic Cert.Kernel2Ideal

/-- The clamped gated activation of a gate value and an up value. -/
def swiglu (g u : EReal) : EReal :=
  min g (Ideal.ofBits .f32 0x40E00000#32) * Ideal.logistic (Ideal.ofBits .f32 0x3FD9DB23#32 * min g (Ideal.ofBits .f32 0x40E00000#32))
    * (min (Ideal.ofBits .f32 0x40E00000#32) (max (Ideal.ofBits .f32 0xC0E00000#32) u) + 1)

variable (te tv : IVec S160 32) (x : FVec Ideal S81920x2048 .f32) (wg wu : FVec Ideal S32x2048x2048 .bf16) (b : FVec Ideal S32x4096 .f32)
  (wd : FVec Ideal S32x2048x2048 .f32) (bd : FVec Ideal S32x2048 .f32)

/-- Expert `e`'s hidden value `f` of row `r`. -/
def hidden (e : Fin 32) (r : Fin 81920) (f : Fin 2048) : EReal :=
  swiglu ((∑ k : Fin 2048, x (ix2 r k) * wg (ix3 e k f)) + b (ix2 e ⟨2 * f.val, by omega⟩))
    ((∑ k : Fin 2048, x (ix2 r k) * wu (ix3 e k f)) + b (ix2 e ⟨2 * f.val + 1, by omega⟩))

/-- Expert `e`'s result at row `r`, column `j`. -/
def expert (e : Fin 32) (r : Fin 81920) (j : Fin 2048) : EReal :=
  (∑ f : Fin 2048, hidden x wg wu b e r f * wd (ix3 e f j)) + bd (ix2 e j)

/-- The number of row `r`'s tile, and the expert of a tile. -/
def tileOf (r : Fin 81920) : Fin 160 := ⟨r.val / 512, by omega⟩
def expertOf (i : Fin 160) : Fin 32 := ⟨(te (ix1 i)).toNat % 32, Nat.mod_lt _ (by decide)⟩

/-- The layer's result: a marked tile's rows by the tile's expert, the others zero. -/
def moe (r : Fin 81920) (j : Fin 2048) : EReal :=
  if tv (ix1 (tileOf r)) = 1#32 then expert x wg wu b wd bd (expertOf te (tileOf r)) r j else 0

/-- The part of an expert's result that one chunk of 512 of the hidden width gives. -/
def part (e : Fin 32) (r : Fin 81920) (j : Fin 2048) (k : ℕ) : EReal :=
  ∑ f : Fin 512, hidden x wg wu b e r ⟨(k * 512 + f.val) % 2048, Nat.mod_lt _ (by decide)⟩ * wd (ix3 e ⟨(k * 512 + f.val) % 2048, Nat.mod_lt _ (by decide)⟩ j)

/-- A sum over the hidden width is the sum of its four chunks' sums. -/
theorem sum_chunks (g : Fin 2048 → EReal) : ∑ f, g f = ∑ k ∈ Finset.range 4, ∑ f : Fin 512, g ⟨(k * 512 + f.val) % 2048, Nat.mod_lt _ (by decide)⟩ := by
  rw [Finset.sum_range, ← (finProdFinEquiv (m := 4) (n := 512)).sum_comp, Fintype.sum_prod_type]
  refine Finset.sum_congr rfl fun k _ => Finset.sum_congr rfl fun f _ => congrArg g (Fin.ext ?_)
  show f.val + 512 * k.val = (k.val * 512 + f.val) % 2048
  omega

theorem expert_eq (e : Fin 32) (r : Fin 81920) (j : Fin 2048) :
    expert x wg wu b wd bd e r j = bd (ix2 e j) + ∑ k ∈ Finset.range 4, part x wg wu b wd e r j k := by
  unfold expert part
  rw [sum_chunks, add_comm]

end Cert.Moe

end
-- ==== Proof.MoeValue.lean ====
/- What the expert call leaves in its result array, index by index. -/
module

public import proofs.«01_k».proof.Proof.MoeFrame
public import proofs.«01_k».proof.Proof.MoePre
public import proofs.«01_k».proof.Proof.MoeMath
public import Idealize.ShloMosaic.Lib.Pointwise
public import Idealize.ShloMosaic.Lib.Pipeline.ValueKit
public import Idealize.ShloMosaic.Lib.Pipeline.Covers

@[expose] public section

set_option maxRecDepth 16384

noncomputable section

namespace Cert.Kernel2Ideal.Moe

open Cert.Kernel2Ideal Cert.Kernel2Ideal.Gen Idealize.ShloMosaic Idealize.ShloMosaic.TcCoe Idealize.SL.Sem
open Idealize.ShloMosaic.Pipeline (Dat)
open Cert.Pre_tiles_in_order Cert.Moe

/-! ## The body's values at an index -/

theorem pay1_at (o : FVec Ideal S512x2048 .f32) (a : FVec Ideal S512x512 .bf16) (w : Vec Ideal S1x512x2048 .f32) (r : Fin 512) (j : Fin 2048) :
    k0_pay1 (F := Ideal) o a w (ix2 r j) = o (ix2 r j) + ∑ f : Fin 512, a (ix2 r f) * w (ix3 0 f j) := by
  unfold k0_pay1
  pointwise

theorem pay2_at (r : Fin 512) (j : Fin 2048) : k0_pay2 (F := Ideal) (ix2 r j) = 0 := by
  unfold k0_pay2
  pointwise

theorem pay3_at (x : Vec Ideal S512x2048 .f32) (r : Fin 512) (j : Fin 2048) : k0_pay3 (F := Ideal) x (ix2 r j) = x (ix2 r j) := by
  unfold k0_pay3
  pointwise

theorem pay4_at (x : Vec Ideal S1x1x2048 .f32) (r : Fin 512) (j : Fin 2048) : k0_pay4 (F := Ideal) x (ix2 r j) = x (ix3 0 0 j) := by
  unfold k0_pay4
  pointwise

theorem pay5_at (x : Vec Ideal S512x2048 .f32) (r : Fin 512) (j : Fin 2048) : k0_pay5 (F := Ideal) x (ix2 r j) = x (ix2 r j) := by
  unfold k0_pay5
  pointwise

theorem pay6_at (x : Vec Ideal S512x2048 .bf16) (wg : Vec Ideal S1x2048x512 .bf16) (bg : Vec Ideal S1x1x512 .f32) (wu : Vec Ideal S1x2048x512 .bf16) (bu : Vec Ideal S1x1x512 .f32) (r f : Fin 512) :
    k0_pay6 (F := Ideal) x wg bg wu bu (ix2 r f)
      = swiglu ((∑ k : Fin 2048, x (ix2 r k) * wg (ix3 0 k f)) + bg (ix3 0 0 f)) ((∑ k : Fin 2048, x (ix2 r k) * wu (ix3 0 k f)) + bu (ix3 0 0 f)) := by
  unfold k0_pay6
  pointwise
  rfl

/-! ## The blocks at an index -/

variable (m : (ℓ : Loc nD τ sig) → Buf (Elt Ideal) ℓ)

/-- The argument arrays. -/
abbrev A3 (c : Dev nD) : FVec Ideal S81920x2048 .f32 := m ((c : Thread nD τ).loc main_arg3)
abbrev A4 (c : Dev nD) : FVec Ideal S32x2048x2048 .bf16 := m ((c : Thread nD τ).loc main_arg4)
abbrev A5 (c : Dev nD) : FVec Ideal S32x2048x2048 .bf16 := m ((c : Thread nD τ).loc main_arg5)
abbrev A6 (c : Dev nD) : FVec Ideal S32x4096 .f32 := m ((c : Thread nD τ).loc main_arg6)
abbrev A7 (c : Dev nD) : FVec Ideal S32x2048x2048 .f32 := m ((c : Thread nD τ).loc main_arg7)
abbrev A8 (c : Dev nD) : FVec Ideal S32x2048 .f32 := m ((c : Thread nD τ).loc main_arg8)

/-- What the host leaves in the three bias arrays. -/
theorem V_gate (c : Dev nD) (e : Fin 32) (f : Fin 2048) : (V m c main_v1 : FVec Ideal S32x1x2048 .f32) (ix3 e 0 f) = A6 m c (ix2 e ⟨2 * f.val, by omega⟩) := by
  have h : (V m c main_v1 : FVec Ideal S32x1x2048 .f32) = broadcastInDim S32x1x2048 ![0, 2] bcast_S32x2048_S32x1x2048_0_2 (Host.slice S32x2048 ![0, 0] ![1, 2] (A6 m c) slicesBy_S32x4096_S32x2048_0s1_0s2) := rfl
  rw [h]
  pointwise

theorem V_up (c : Dev nD) (e : Fin 32) (f : Fin 2048) : (V m c main_v3 : FVec Ideal S32x1x2048 .f32) (ix3 e 0 f) = A6 m c (ix2 e ⟨2 * f.val + 1, by omega⟩) := by
  have h : (V m c main_v3 : FVec Ideal S32x1x2048 .f32) = broadcastInDim S32x1x2048 ![0, 2] bcast_S32x2048_S32x1x2048_0_2 (Host.slice S32x2048 ![0, 1] ![1, 2] (A6 m c) slicesBy_S32x4096_S32x2048_0s1_1s2) := rfl
  rw [h]
  pointwise
  exact congrArg (fun i => A6 m c (ix2 e i)) (Fin.ext (Nat.add_comm _ _))

theorem V_down (c : Dev nD) (e : Fin 32) (j : Fin 2048) : (V m c main_v4 : FVec Ideal S32x1x2048 .f32) (ix3 e 0 j) = A8 m c (ix2 e j) := by
  have h : (V m c main_v4 : FVec Ideal S32x1x2048 .f32) = broadcastInDim S32x1x2048 ![0, 2] bcast_S32x2048_S32x1x2048_0_2 (A8 m c) := rfl
  rw [h]
  pointwise

variable (hO : Ok m) (hT : Tables (tabE (tbl m)) (tabV (tbl m)) (tabB (tbl m)))

/-- Point `t`'s tile and its expert. -/
abbrev tileAt (t : Fin grid0.N) : Fin 160 := tile (grid0.coords t)
abbrev expertAt (t : Fin grid0.N) : Fin 32 := expertOf (tabE (tbl m)) (tileAt t)

include hT in
theorem expert_val (t : Fin grid0.N) : (tabE (tbl m) (ix1 (tileAt t))).toNat = (expertAt m t).val :=
  (Nat.mod_eq_of_lt (hT.expert (tileAt t))).symm

theorem staged_val (t : Fin grid0.N) (hk : Marked m t) : (staged (tabV (tbl m) (ix1 (tileAt t))) (grid0.coords t)).val = t.val % 4 := by
  unfold staged
  rw [if_pos ((marked_iff m t).mp hk)]
  exact coord1 t

/-- Row `r` of the tile point `t` is in. -/
def rowAt (t : Fin grid0.N) (r : Fin 512) : Fin 81920 := ⟨t.val / 4 * 512 + r.val, by have h : t.val < 640 := lt_of_lt_of_eq t.isLt N_0; omega⟩

/-- Column `f` of the chunk of the hidden width point `t` is at. -/
def colAt (t : Fin grid0.N) (f : Fin 512) : Fin 2048 := ⟨(t.val % 4 * 512 + f.val) % 2048, Nat.mod_lt _ (by decide)⟩

/-- The seven blocks at point `t`. -/
def blkX (c : Dev nD) (t : Fin grid0.N) : Vec Ideal S512x2048 .f32 := iblk m hO c 0 t
def blkG (c : Dev nD) (t : Fin grid0.N) : Vec Ideal S1x2048x512 .bf16 := iblk m hO c 1 t
def blkU (c : Dev nD) (t : Fin grid0.N) : Vec Ideal S1x2048x512 .bf16 := iblk m hO c 2 t
def blkGb (c : Dev nD) (t : Fin grid0.N) : Vec Ideal S1x1x512 .f32 := iblk m hO c 3 t
def blkUb (c : Dev nD) (t : Fin grid0.N) : Vec Ideal S1x1x512 .f32 := iblk m hO c 4 t
def blkD (c : Dev nD) (t : Fin grid0.N) : Vec Ideal S1x512x2048 .f32 := iblk m hO c 5 t
def blkDb (c : Dev nD) (t : Fin grid0.N) : Vec Ideal S1x1x2048 .f32 := iblk m hO c 6 t

include hT in
theorem x_at (c : Dev nD) (t : Fin grid0.N) (hk : Marked m t) (r : Fin 512) (k : Fin 2048) :
    blkX m hO c t (ix2 r k) = A3 m c (ix2 (rowAt t r) k) := by
  have hb : (tabB (tbl m) (ix1 (tileAt t))).toNat = t.val / 4 := (hT.own _ ((marked_iff m t).mp hk)).trans (coord0 t)
  refine Eq.trans (congrArg (V m c main_arg3) (funext fun a => Fin.ext ?_)) (congrFun (V_main_arg3 m c) (ix2 (rowAt t r) k))
  match a with
  | ⟨0, _⟩ =>
    show cc0_transform_0 k0_off1_inb numel1_S1 (tbl m) (grid0.coords t) 0 * 512 + 1 * r.val = t.val / 4 * 512 + r.val
    rw [tr0]
    show (tabB (tbl m) (ix1 (tileAt t))).toNat * 512 + 1 * r.val = _
    rw [hb, one_mul]
  | ⟨1, _⟩ =>
    show cc0_transform_0 k0_off1_inb numel1_S1 (tbl m) (grid0.coords t) 1 * 2048 + 1 * k.val = k.val
    rw [tr0]
    show 0 * 2048 + 1 * k.val = k.val
    omega

include hT in
theorem g_at (c : Dev nD) (t : Fin grid0.N) (hk : Marked m t) (k : Fin 2048) (f : Fin 512) :
    blkG m hO c t (ix3 0 k f) = A4 m c (ix3 (expertAt m t) k (colAt t f)) := by
  have he := expert_val m hT t
  have hc := staged_val m t hk
  have h4 : t.val % 4 < 4 := Nat.mod_lt _ (by decide)
  refine Eq.trans (congrArg (V m c main_arg4) (funext fun a => Fin.ext ?_)) (congrFun (V_main_arg4 m c) (ix3 (expertAt m t) k (colAt t f)))
  match a with
  | ⟨0, _⟩ =>
    show cc0_transform_1 k0_off1_inb numel1_S1 (tbl m) (grid0.coords t) 0 * 1 + 1 * (0 : Fin 1).val = (expertAt m t).val
    rw [tr1]
    show (tabE (tbl m) (ix1 (tileAt t))).toNat * 1 + 1 * (0 : Fin 1).val = (expertAt m t).val
    rw [he]; omega
  | ⟨1, _⟩ =>
    show cc0_transform_1 k0_off1_inb numel1_S1 (tbl m) (grid0.coords t) 1 * 2048 + 1 * k.val = k.val
    rw [tr1]
    show 0 * 2048 + 1 * k.val = k.val
    omega
  | ⟨2, _⟩ =>
    show cc0_transform_1 k0_off1_inb numel1_S1 (tbl m) (grid0.coords t) 2 * 512 + 1 * f.val = (colAt t f).val
    rw [tr1]
    show (staged (tabV (tbl m) (ix1 (tileAt t))) (grid0.coords t)).val * 512 + 1 * f.val = (colAt t f).val
    rw [hc]; simp only [colAt]; omega

include hT in
theorem u_at (c : Dev nD) (t : Fin grid0.N) (hk : Marked m t) (k : Fin 2048) (f : Fin 512) :
    blkU m hO c t (ix3 0 k f) = A5 m c (ix3 (expertAt m t) k (colAt t f)) := by
  have he := expert_val m hT t
  have hc := staged_val m t hk
  have h4 : t.val % 4 < 4 := Nat.mod_lt _ (by decide)
  refine Eq.trans (congrArg (V m c main_arg5) (funext fun a => Fin.ext ?_)) (congrFun (V_main_arg5 m c) (ix3 (expertAt m t) k (colAt t f)))
  match a with
  | ⟨0, _⟩ =>
    show cc0_transform_2 k0_off1_inb numel1_S1 (tbl m) (grid0.coords t) 0 * 1 + 1 * (0 : Fin 1).val = (expertAt m t).val
    rw [tr2]
    show (tabE (tbl m) (ix1 (tileAt t))).toNat * 1 + 1 * (0 : Fin 1).val = (expertAt m t).val
    rw [he]; omega
  | ⟨1, _⟩ =>
    show cc0_transform_2 k0_off1_inb numel1_S1 (tbl m) (grid0.coords t) 1 * 2048 + 1 * k.val = k.val
    rw [tr2]
    show 0 * 2048 + 1 * k.val = k.val
    omega
  | ⟨2, _⟩ =>
    show cc0_transform_2 k0_off1_inb numel1_S1 (tbl m) (grid0.coords t) 2 * 512 + 1 * f.val = (colAt t f).val
    rw [tr2]
    show (staged (tabV (tbl m) (ix1 (tileAt t))) (grid0.coords t)).val * 512 + 1 * f.val = (colAt t f).val
    rw [hc]; simp only [colAt]; omega

include hT in
theorem gb_at (c : Dev nD) (t : Fin grid0.N) (hk : Marked m t) (f : Fin 512) :
    blkGb m hO c t (ix3 0 0 f) = A6 m c (ix2 (expertAt m t) ⟨2 * (colAt t f).val, by omega⟩) := by
  have he := expert_val m hT t
  have hc := staged_val m t hk
  have h4 : t.val % 4 < 4 := Nat.mod_lt _ (by decide)
  refine Eq.trans (congrArg (V m c main_v1) (funext fun a => Fin.ext ?_)) (V_gate m c (expertAt m t) (colAt t f))
  match a with
  | ⟨0, _⟩ =>
    show cc0_transform_3 k0_off1_inb numel1_S1 (tbl m) (grid0.coords t) 0 * 1 + 1 * (0 : Fin 1).val = (expertAt m t).val
    rw [tr3]
    show (tabE (tbl m) (ix1 (tileAt t))).toNat * 1 + 1 * (0 : Fin 1).val = (expertAt m t).val
    rw [he]; omega
  | ⟨1, _⟩ =>
    show cc0_transform_3 k0_off1_inb numel1_S1 (tbl m) (grid0.coords t) 1 * 1 + 1 * (0 : Fin 1).val = (0 : Fin 1).val
    rw [tr3]
    show 0 * 1 + 1 * (0 : Fin 1).val = (0 : Fin 1).val
    omega
  | ⟨2, _⟩ =>
    show cc0_transform_3 k0_off1_inb numel1_S1 (tbl m) (grid0.coords t) 2 * 512 + 1 * f.val = (colAt t f).val
    rw [tr3]
    show (staged (tabV (tbl m) (ix1 (tileAt t))) (grid0.coords t)).val * 512 + 1 * f.val = (colAt t f).val
    rw [hc]; simp only [colAt]; omega

include hT in
theorem ub_at (c : Dev nD) (t : Fin grid0.N) (hk : Marked m t) (f : Fin 512) :
    blkUb m hO c t (ix3 0 0 f) = A6 m c (ix2 (expertAt m t) ⟨2 * (colAt t f).val + 1, by omega⟩) := by
  have he := expert_val m hT t
  have hc := staged_val m t hk
  have h4 : t.val % 4 < 4 := Nat.mod_lt _ (by decide)
  refine Eq.trans (congrArg (V m c main_v3) (funext fun a => Fin.ext ?_)) (V_up m c (expertAt m t) (colAt t f))
  match a with
  | ⟨0, _⟩ =>
    show cc0_transform_4 k0_off1_inb numel1_S1 (tbl m) (grid0.coords t) 0 * 1 + 1 * (0 : Fin 1).val = (expertAt m t).val
    rw [tr4]
    show (tabE (tbl m) (ix1 (tileAt t))).toNat * 1 + 1 * (0 : Fin 1).val = (expertAt m t).val
    rw [he]; omega
  | ⟨1, _⟩ =>
    show cc0_transform_4 k0_off1_inb numel1_S1 (tbl m) (grid0.coords t) 1 * 1 + 1 * (0 : Fin 1).val = (0 : Fin 1).val
    rw [tr4]
    show 0 * 1 + 1 * (0 : Fin 1).val = (0 : Fin 1).val
    omega
  | ⟨2, _⟩ =>
    show cc0_transform_4 k0_off1_inb numel1_S1 (tbl m) (grid0.coords t) 2 * 512 + 1 * f.val = (colAt t f).val
    rw [tr4]
    show (staged (tabV (tbl m) (ix1 (tileAt t))) (grid0.coords t)).val * 512 + 1 * f.val = (colAt t f).val
    rw [hc]; simp only [colAt]; omega

include hT in
theorem d_at (c : Dev nD) (t : Fin grid0.N) (hk : Marked m t) (f : Fin 512) (j : Fin 2048) :
    blkD m hO c t (ix3 0 f j) = A7 m c (ix3 (expertAt m t) (colAt t f) j) := by
  have he := expert_val m hT t
  have hc := staged_val m t hk
  have h4 : t.val % 4 < 4 := Nat.mod_lt _ (by decide)
  refine Eq.trans (congrArg (V m c main_arg7) (funext fun a => Fin.ext ?_)) (congrFun (V_main_arg7 m c) (ix3 (expertAt m t) (colAt t f) j))
  match a with
  | ⟨0, _⟩ =>
    show cc0_transform_5 k0_off1_inb numel1_S1 (tbl m) (grid0.coords t) 0 * 1 + 1 * (0 : Fin 1).val = (expertAt m t).val
    rw [tr5]
    show (tabE (tbl m) (ix1 (tileAt t))).toNat * 1 + 1 * (0 : Fin 1).val = (expertAt m t).val
    rw [he]; omega
  | ⟨1, _⟩ =>
    show cc0_transform_5 k0_off1_inb numel1_S1 (tbl m) (grid0.coords t) 1 * 512 + 1 * f.val = (colAt t f).val
    rw [tr5]
    show (staged (tabV (tbl m) (ix1 (tileAt t))) (grid0.coords t)).val * 512 + 1 * f.val = (colAt t f).val
    rw [hc]; simp only [colAt]; omega
  | ⟨2, _⟩ =>
    show cc0_transform_5 k0_off1_inb numel1_S1 (tbl m) (grid0.coords t) 2 * 2048 + 1 * j.val = j.val
    rw [tr5]
    show 0 * 2048 + 1 * j.val = j.val
    omega

include hT in
theorem db_at (c : Dev nD) (t : Fin grid0.N) (j : Fin 2048) :
    blkDb m hO c t (ix3 0 0 j) = A8 m c (ix2 (expertAt m t) j) := by
  have he := expert_val m hT t
  refine Eq.trans (congrArg (V m c main_v4) (funext fun a => Fin.ext ?_)) (V_down m c (expertAt m t) j)
  match a with
  | ⟨0, _⟩ =>
    show cc0_transform_6 k0_off1_inb numel1_S1 (tbl m) (grid0.coords t) 0 * 1 + 1 * (0 : Fin 1).val = (expertAt m t).val
    rw [tr6]
    show (tabE (tbl m) (ix1 (tileAt t))).toNat * 1 + 1 * (0 : Fin 1).val = (expertAt m t).val
    rw [he]; omega
  | ⟨1, _⟩ =>
    show cc0_transform_6 k0_off1_inb numel1_S1 (tbl m) (grid0.coords t) 1 * 1 + 1 * (0 : Fin 1).val = (0 : Fin 1).val
    rw [tr6]
    show 0 * 1 + 1 * (0 : Fin 1).val = (0 : Fin 1).val
    omega
  | ⟨2, _⟩ =>
    show cc0_transform_6 k0_off1_inb numel1_S1 (tbl m) (grid0.coords t) 2 * 2048 + 1 * j.val = j.val
    rw [tr6]
    show 0 * 2048 + 1 * j.val = j.val
    omega

/-! ## A point, and a tile's four points -/

theorem head_mod (t : Fin grid0.N) : (head t).val % 4 = 0 := by simp only [head]; omega
theorem head_div (t : Fin grid0.N) : (head t).val / 4 = t.val / 4 := by simp only [head]; omega

theorem tile_head (t : Fin grid0.N) : tileAt (head t) = tileAt t := Fin.ext (by
  show (grid0.coords (head t) 0).val = (grid0.coords t 0).val
  rw [coord0, coord0, head_div])

theorem marked_head (t : Fin grid0.N) (hk : Marked m t) : Marked m (head t) := by
  rw [marked_iff] at hk ⊢
  rw [show tile (grid0.coords (head t)) = tile (grid0.coords t) from tile_head t]
  exact hk

include hT in
theorem rows_at (c : Dev nD) (t : Fin grid0.N) (hk : Marked m t) (r : Fin 512) (k : Fin 2048) :
    rows m hO c t (ix2 r k) = A3 m c (ix2 (rowAt t r) k) := by
  refine (pay3_at (blkX m hO c (head t)) r k).trans ((x_at m hO hT c (head t) (marked_head m t hk) r k).trans ?_)
  rw [show rowAt (head t) r = rowAt t r from Fin.ext (by simp only [rowAt, head_div])]

/-- The part of a row's result point `t` adds. -/
abbrev partAt (c : Dev nD) (t : Fin grid0.N) (r : Fin 512) (j : Fin 2048) (k : ℕ) : EReal :=
  part (A3 m c) (A4 m c) (A5 m c) (A6 m c) (A7 m c) (expertAt m t) (rowAt t r) j k

include hT in
theorem hidden_at (c : Dev nD) (t : Fin grid0.N) (hk : Marked m t) (r f : Fin 512) :
    k0_pay6 (F := Ideal) (rows m hO c t) (blkG m hO c t) (blkGb m hO c t) (blkU m hO c t) (blkUb m hO c t) (ix2 r f)
      = hidden (A3 m c) (A4 m c) (A5 m c) (A6 m c) (expertAt m t) (rowAt t r) (colAt t f) := by
  rw [pay6_at, gb_at m hO hT c t hk f, ub_at m hO hT c t hk f]
  unfold Cert.Moe.hidden
  congr 2
  · exact Finset.sum_congr rfl fun k _ => by rw [rows_at m hO hT c t hk r k, g_at m hO hT c t hk k f]
  · exact Finset.sum_congr rfl fun k _ => by rw [rows_at m hO hT c t hk r k, u_at m hO hT c t hk k f]

include hT in
/-- A point of a marked tile adds its chunk's part to the bias, at the tile's first point, or to what was there. -/
theorem step_marked (c : Dev nD) (t : Fin grid0.N) (hk : Marked m t) (prev : Vec Ideal S512x2048 .f32) (r : Fin 512) (j : Fin 2048) :
    step m hO c t prev (ix2 r j) = (if t.val % 4 = 0 then A8 m c (ix2 (expertAt m t) j) else prev (ix2 r j)) + partAt m c t r j (t.val % 4) := by
  unfold step
  rw [if_pos hk]
  refine (pay1_at _ _ (blkD m hO c t) r j).trans ?_
  refine congr (congrArg _ ?_) (Finset.sum_congr rfl fun f _ => ?_)
  · rw [pay5_at]
    by_cases h0 : t.val % 4 = 0
    · rw [if_pos h0, if_pos h0]
      exact (pay4_at (blkDb m hO c t) r j).trans (db_at m hO hT c t j)
    · rw [if_neg h0, if_neg h0]
  · exact congr (congrArg _ (hidden_at m hO hT c t hk r f)) (d_at m hO hT c t hk f j)

include hT in
/-- After a point of a marked tile the result's buffer holds the bias and the parts of the chunks so far. -/
theorem outs_marked (c : Dev nD) (r : Fin 512) (j : Fin 2048) : ∀ (n : ℕ) (t : Fin grid0.N), t.val = n → Marked m t →
    outs m hO c t.val t.isLt (ix2 r j) = A8 m c (ix2 (expertAt m t) j) + ∑ k ∈ Finset.range (t.val % 4 + 1), partAt m c t r j k := by
  intro n
  induction n with
  | zero =>
    intro t hn hk
    have h0 : t.val % 4 = 0 := by rw [hn]
    rw [outs_head m hO c t h0 (k0_pay2 (F := Ideal)), step_marked m hO hT c t hk, if_pos h0, h0]
    simp only [zero_add, Finset.sum_range_one]
  | succ n ih =>
    intro t hn hk
    by_cases h0 : t.val % 4 = 0
    · rw [outs_head m hO c t h0 (k0_pay2 (F := Ideal)), step_marked m hO hT c t hk, if_pos h0, h0]
      simp only [zero_add, Finset.sum_range_one]
    · have hlt : t.val - 1 < grid0.N := Nat.lt_of_le_of_lt (Nat.sub_le _ _) t.isLt
      have hk' : Marked m ⟨t.val - 1, hlt⟩ := ((marks_of_tables m hT).same t ⟨t.val - 1, hlt⟩ h0 rfl).mp hk
      have hd : (t.val - 1) / 4 = t.val / 4 := by omega
      have et : tileAt ⟨t.val - 1, hlt⟩ = tileAt t := Fin.ext (by
        show (grid0.coords ⟨t.val - 1, hlt⟩ 0).val = (grid0.coords t 0).val
        rw [coord0, coord0, hd])
      have ee : expertAt m ⟨t.val - 1, hlt⟩ = expertAt m t := by unfold expertAt; rw [et]
      have er : rowAt ⟨t.val - 1, hlt⟩ r = rowAt t r := Fin.ext (by simp only [rowAt, hd])
      have ih' := ih ⟨t.val - 1, hlt⟩ (by simp only; omega) hk'
      unfold partAt at ih'
      rw [ee, er] at ih'
      rw [outs_pos m hO c t (fun e => h0 (by rw [e])), step_marked m hO hT c t hk, if_neg h0, ih',
        show (⟨t.val - 1, hlt⟩ : Fin grid0.N).val % 4 + 1 = t.val % 4 from by simp only; omega, Finset.sum_range_succ, add_assoc]

include hT in
/-- In a tile not marked the buffer holds zeros. -/
theorem outs_clear (c : Dev nD) (r : Fin 512) (j : Fin 2048) : ∀ (n : ℕ) (t : Fin grid0.N), t.val = n → ¬ Marked m t →
    outs m hO c t.val t.isLt (ix2 r j) = 0 := by
  intro n
  induction n with
  | zero =>
    intro t hn hk
    have h0 : t.val % 4 = 0 := by rw [hn]
    rw [outs_head m hO c t h0 (k0_pay2 (F := Ideal))]
    unfold step
    rw [if_neg hk, if_pos h0, pay2_at]
  | succ n ih =>
    intro t hn hk
    by_cases h0 : t.val % 4 = 0
    · rw [outs_head m hO c t h0 (k0_pay2 (F := Ideal))]
      unfold step
      rw [if_neg hk, if_pos h0, pay2_at]
    · have hlt : t.val - 1 < grid0.N := Nat.lt_of_le_of_lt (Nat.sub_le _ _) t.isLt
      have hk' : ¬ Marked m ⟨t.val - 1, hlt⟩ := fun x => hk (((marks_of_tables m hT).same t ⟨t.val - 1, hlt⟩ h0 rfl).mpr x)
      rw [outs_pos m hO c t (fun e => h0 (by rw [e]))]
      unfold step
      rw [if_neg hk, if_neg h0]
      exact ih ⟨t.val - 1, hlt⟩ (by simp only; omega) hk'

/-! ## The array -/

theorem tr7 (i : grid0.Coords) : cc0_transform_7 i = ![(i 0).val, 0] := by
  have h : (i 0).val < 160 := (i 0).isLt
  have e : (BitVec.ofNat 32 (i 0).val).toNat = (i 0).val := by rw [BitVec.toNat_ofNat]; omega
  funext a
  match a with
  | ⟨0, _⟩ => exact e
  | ⟨1, _⟩ => rfl

/-- The coordinates of a tile's first point. -/
def tileCoords (b : Fin 160) : grid0.Coords := fun a => match a with
  | ⟨0, _⟩ => b
  | ⟨1, _⟩ => ⟨0, Nat.zero_lt_succ _⟩

/-- The whole result array. -/
def moeArr (c : Dev nD) : FVec Ideal S81920x2048 .f32 := fun y =>
  moe (tabE (tbl m)) (tabV (tbl m)) (A3 m c) (A4 m c) (A5 m c) (A6 m c) (A7 m c) (A8 m c) (y 0) (y 1)

include hT in
theorem outs_last (c : Dev nD) (t : Fin grid0.N) (h3 : t.val % 4 = 3) (r : Fin 512) (j : Fin 2048) :
    outs m hO c t.val t.isLt (ix2 r j) = moeArr m c (ix2 (rowAt t r) j) := by
  have et : tileOf (rowAt t r) = tileAt t := Fin.ext (by
    show (t.val / 4 * 512 + r.val) / 512 = (grid0.coords t 0).val
    rw [coord0]; omega)
  show _ = moe (tabE (tbl m)) (tabV (tbl m)) (A3 m c) (A4 m c) (A5 m c) (A6 m c) (A7 m c) (A8 m c) (rowAt t r) j
  unfold moe
  rw [et]
  by_cases hk : Marked m t
  · rw [if_pos ((marked_iff m t).mp hk), expert_eq, outs_marked m hO hT c r j _ t rfl hk, h3]
  · rw [if_neg (fun x => hk ((marked_iff m t).mpr x)), outs_clear m hO hT c r j _ t rfl hk]

set_option maxHeartbeats 2000000 in
include hT in
theorem final (c : Dev nD) : (dats m hO 0 c).arrAt 7 (cfgM m hO).N = moeArr m c := by
  refine (dats m hO 0 c).arrAt_eq_of_covers 7 _ ?_ fun t hf y => ?_
  · refine ((cfgM m hO).win 7).covers_of_indexMap_surj rfl (fun a => by match a with | ⟨0, _⟩ => exact Nat.zero_lt_succ _ | ⟨1, _⟩ => exact Nat.zero_lt_succ _) fun β =>
      ⟨tileCoords ⟨(β ⟨0, Nat.zero_lt_succ _⟩).val, lt_of_lt_of_eq (β ⟨0, Nat.zero_lt_succ _⟩).isLt (show (81920 + 512 - 1) / 512 = 160 by norm_num)⟩, fun a => ?_⟩
    match a with
    | ⟨0, _⟩ =>
      show cc0_transform_7 (tileCoords _) 0 = _
      rw [tr7]
      rfl
    | ⟨1, _⟩ =>
      have hb : (β ⟨1, Nat.lt_succ_self _⟩).val < 1 := lt_of_lt_of_eq (β ⟨1, Nat.lt_succ_self _⟩).isLt (show (2048 + 2048 - 1) / 2048 = 1 by norm_num)
      show cc0_transform_7 (tileCoords ⟨(β ⟨0, Nat.zero_lt_succ _⟩).val, lt_of_lt_of_eq (β ⟨0, Nat.zero_lt_succ _⟩).isLt (show (81920 + 512 - 1) / 512 = 160 by norm_num)⟩) 1 = _
      rw [tr7]
      exact (Nat.lt_one_iff.mp hb).symm
  · have h3 := (flush0_7 (adm m hO) t).mp hf
    have y0 : (y ⟨0, Nat.zero_lt_succ _⟩ : ℕ) < 512 := (y ⟨0, Nat.zero_lt_succ _⟩).isLt
    have y1 : (y ⟨1, Nat.lt_succ_self _⟩ : ℕ) < 2048 := (y ⟨1, Nat.lt_succ_self _⟩).isLt
    refine (congrFun (after0_7 m hO c t) _).trans ((congrArg (outs m hO c t.val t.isLt) (?_ : _ = ix2 ⟨(y ⟨0, Nat.zero_lt_succ _⟩ : ℕ), y0⟩ ⟨(y ⟨1, Nat.lt_succ_self _⟩ : ℕ), y1⟩)).trans
      ((outs_last m hO hT c t h3 ⟨(y ⟨0, Nat.zero_lt_succ _⟩ : ℕ), y0⟩ ⟨(y ⟨1, Nat.lt_succ_self _⟩ : ℕ), y1⟩).trans (congrArg (moeArr m c) (funext fun a => Fin.ext ?_))))
    · funext a
      match a with
      | ⟨0, _⟩ => rfl
      | ⟨1, _⟩ => rfl
    · match a with
      | ⟨0, _⟩ =>
        show t.val / 4 * 512 + (y ⟨0, Nat.zero_lt_succ _⟩ : ℕ) = cc0_transform_7 (grid0.coords t) 0 * 512 + 1 * (y ⟨0, Nat.zero_lt_succ _⟩ : ℕ)
        rw [tr7]
        show _ = (grid0.coords t 0).val * 512 + 1 * _
        rw [coord0, one_mul]
      | ⟨1, _⟩ =>
        show (y ⟨1, Nat.lt_succ_self _⟩ : ℕ) = cc0_transform_7 (grid0.coords t) 1 * 2048 + 1 * (y ⟨1, Nat.lt_succ_self _⟩ : ℕ)
        rw [tr7]
        show _ = 0 * 2048 + 1 * _
        omega

end Cert.Kernel2Ideal.Moe

end
-- ==== Proof.MoeRun.lean ====
/-
  The experts' call from its launch: with the tile tables in order it runs, keeps its arguments, and leaves `moeArr`.
-/
module

public import proofs.«01_k».proof.Proof.MoeValue

@[expose] public section

noncomputable section

namespace Cert.Kernel2Ideal.Moe

open Cert.Kernel2Ideal Cert.Kernel2Ideal.Gen
open Idealize.ShloMosaic Idealize.ShloMosaic.TcCoe Idealize.SL.Sem
open Cert.Pre_tiles_in_order

variable {F : FTy → Type} [FloatOps F]

/-- The precondition of the argument arrays. -/
def InOrder (m : (ℓ : Loc nD τ sig) → Buf (Elt F) ℓ) : Prop := ∀ c : Dev nD,
  @Cert.Pre_tiles_in_order.fn Cert.Pre_tiles_in_order.facts F _ (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) = fun _ => 1#1

theorem tab_eq (m : (ℓ : Loc nD τ sig) → Buf (Elt F) ℓ) (c : Dev nD) :
    tabE (tbl m) = m ((c.tc : Thread nD τ).loc main_arg0) ∧ tabV (tbl m) = m ((c.tc : Thread nD τ).loc main_arg1) ∧ tabB (tbl m) = m ((c.tc : Thread nD τ).loc main_arg2) := by
  obtain rfl : c = 0 := Subsingleton.elim _ _
  exact ⟨V_main_arg0 m 0, V_main_arg1 m 0, V_main_arg2 m 0⟩

theorem tables (m : (ℓ : Loc nD τ sig) → Buf (Elt F) ℓ) (h : InOrder m) : Tables (tabE (tbl m)) (tabV (tbl m)) (tabB (tbl m)) := by
  obtain ⟨e0, e1, e2⟩ := tab_eq m 0
  rw [e0, e1, e2]
  exact @tables_of_fn Cert.Pre_tiles_in_order.facts F _ _ _ _ _ _ _ _ _ _ (h 0)

theorem ok (m : (ℓ : Loc nD τ sig) → Buf (Elt F) ℓ) (h : InOrder m) : Ok m := ok_of_tables _ (tables m h)

/-- The frame under the precondition. -/
theorem frame_of_inOrder (m : (ℓ : Loc nD τ sig) → Buf (Elt F) ℓ) (ρ : Dev nD → PrngReg) (h : InOrder m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  frame m ρ (ok m h) (marks_of_tables m (tables m h))

/-- The call's result. -/
theorem result (m : (ℓ : Loc nD τ sig) → Buf (Elt Ideal) ℓ) (ρ : Dev nD → PrngReg) (h : InOrder m) :
    θ_run defs (onTc (τ := τ) (main (F := Ideal))) ⟨m, fun _ => 0, ρ⟩ (fun r => ∀ c : Dev nD, r.2.mem ((c.tc : Thread nD τ).loc main_v5) = moeArr m c) :=
  (θ_run defs _ _).mono (fun _ hr c => (Pipeline.FramePost.out_eq hr c 7).trans (final m (ok m h) (tables m h) c))
    (run_main m ρ (ok m h) (marks_of_tables m (tables m h)))

end Cert.Kernel2Ideal.Moe

end
-- ==== Proof.MoeRef.lean ====
/-
  What the experts' reference leaves in its result, index by index: every expert's result on every row, weighted by one for the
  expert of the row's marked tile and by zero for the others. On extended reals zero times anything is zero, so the sum is the one
  expert's result.
-/
module

public import proofs.«01_k».proof.Proof.Gen.Reference2Ideal
public import proofs.«01_k».proof.Proof.Gen.Reference2Ideal.Run
public import proofs.«01_k».proof.Proof.MoeMath
public import Idealize.ShloMosaic.Lib.Pointwise
public import Idealize.ShloMosaic.Lib.WordCmp

@[expose] public section

set_option maxRecDepth 16384

noncomputable section

namespace Cert.Reference2Ideal.Moe

open Cert.Reference2Ideal Cert.Reference2Ideal.Gen Idealize.ShloMosaic Idealize.SL.Sem
open Cert.Moe

set_option maxHeartbeats 2000000

section
variable (te tv : IVec S160 32) (x : FVec Ideal S81920x2048 .f32) (wg wu : FVec Ideal S32x2048x2048 .bf16) (b : FVec Ideal S32x4096 .f32)
  (wd : FVec Ideal S32x2048x2048 .f32) (bd : FVec Ideal S32x2048 .f32)

/-- A table of the tiles, given to every row of a tile. -/
def perRow (tb : IVec S160 32) : IVec S81920 32 :=
  shapeCast S81920 (broadcastInDim S160x512 ![0, 1] bcast_S160x1_S160x512_0_1 (broadcastInDim S160x1 ![0] bcast_S160_S160x1_0 tb)) shapeCasts_S160x512_S81920

/-- Whether a row is expert `e`'s, as a bit. -/
def mine (re rv : IVec S81920 32) : IVec S32x81920 1 :=
  andi (cmpi .eq (broadcastInDim S32x81920 ![0, 1] bcast_S32x1_S32x81920_0_1 (broadcastInDim S32x1 ![0] bcast_S32_S32x1_0 (iotaInDim S32 32 0)))
      (broadcastInDim S32x81920 ![0, 1] bcast_S1x81920_S32x81920_0_1 (broadcastInDim S1x81920 ![1] bcast_S81920_S1x81920_1 re)))
    (broadcastInDim S32x81920 ![0, 1] bcast_S1x81920_S32x81920_0_1
      (cmpi .eq (broadcastInDim S1x81920 ![1] bcast_S81920_S1x81920_1 rv) (broadcastInDim S1x81920 ![] bcast_S_S1x81920 (constantI S_ 32 1#32))))

/-- The weights. -/
def weight (k : IVec S32x81920 1) : FVec Ideal S32x81920 .f32 := sitofp .f32 (extui 32 k natLt_1_32)

/-- The gate values before the clamp. -/
def gate : FVec Ideal S81920x32x2048 .f32 :=
  addf (Host.dotGeneral dot_S81920x2048_S32x2048x2048_S81920x32x2048_1_1_0_02_n_n none x (extf .f32 wg bitsLt_bf16_f32))
    (broadcastInDim S81920x32x2048 ![0, 1, 2] bcast_S1x32x2048_S81920x32x2048_0_1_2 (broadcastInDim S1x32x2048 ![1, 2] bcast_S32x2048_S1x32x2048_1_2
      (Host.slice S32x2048 ![0, 0] ![1, 2] b slicesBy_S32x4096_S32x2048_0s1_0s2)))

/-- The up values before the clamp. -/
def up : FVec Ideal S81920x32x2048 .f32 :=
  addf (Host.dotGeneral dot_S81920x2048_S32x2048x2048_S81920x32x2048_1_1_0_02_n_n none x (extf .f32 wu bitsLt_bf16_f32))
    (broadcastInDim S81920x32x2048 ![0, 1, 2] bcast_S1x32x2048_S81920x32x2048_0_1_2 (broadcastInDim S1x32x2048 ![1, 2] bcast_S32x2048_S1x32x2048_1_2
      (Host.slice S32x2048 ![0, 1] ![1, 2] b slicesBy_S32x4096_S32x2048_0s1_1s2)))

/-- The hidden values. -/
def act (g u : FVec Ideal S81920x32x2048 .f32) : FVec Ideal S81920x32x2048 .f32 :=
  mulf (mulf (minimumf g (broadcastInDim S81920x32x2048 ![] bcast_S_S81920x32x2048 (constant S_ .f32 0x40E00000#32)))
      (Host.divf (broadcastInDim S81920x32x2048 ![] bcast_S_S81920x32x2048 (constant S_ .f32 0x3F800000#32))
        (addf (broadcastInDim S81920x32x2048 ![] bcast_S_S81920x32x2048 (constant S_ .f32 0x3F800000#32))
          (Host.exp (Host.negf (mulf (broadcastInDim S81920x32x2048 ![] bcast_S_S81920x32x2048 (constant S_ .f32 0x3FD9DB23#32))
            (minimumf g (broadcastInDim S81920x32x2048 ![] bcast_S_S81920x32x2048 (constant S_ .f32 0x40E00000#32)))))))))
    (addf (minimumf (broadcastInDim S81920x32x2048 ![] bcast_S_S81920x32x2048 (id (constant S_ .f32 0x40E00000#32)))
        (maximumf (broadcastInDim S81920x32x2048 ![] bcast_S_S81920x32x2048 (id (constant S_ .f32 0xC0E00000#32))) u))
      (broadcastInDim S81920x32x2048 ![] bcast_S_S81920x32x2048 (constant S_ .f32 0x3F800000#32)))

/-- Every expert's result on every row, weighted and summed. -/
def mix (w : FVec Ideal S32x81920 .f32) (h : FVec Ideal S81920x32x2048 .f32) : FVec Ideal S81920x2048 .f32 :=
  Host.reduceAdd (mulf (broadcastInDim S32x81920x2048 ![0, 1, 2] bcast_S32x81920x1_S32x81920x2048_0_1_2 (broadcastInDim S32x81920x1 ![0, 1] bcast_S32x81920_S32x81920x1_0_1 w))
      (addf (Host.dotGeneral dot_S81920x32x2048_S32x2048x2048_S32x81920x2048_2_1_0_2_1_0 none h wd)
        (broadcastInDim S32x81920x2048 ![0, 1, 2] bcast_S32x1x2048_S32x81920x2048_0_1_2 (broadcastInDim S32x1x2048 ![0, 2] bcast_S32x2048_S32x1x2048_0_2 bd))))
    (constant S_ .f32 0x00000000#32) reducesTo_S32x81920x2048_S81920x2048_d0 h_S_

/-- The reference's result. -/
def result : FVec Ideal S81920x2048 .f32 :=
  mix wd bd (weight (mine (perRow te) (perRow tv))) (act (gate x wg b) (up x wu b))

theorem perRow_at (tb : IVec S160 32) (r : Fin 81920) : perRow tb (ix1 r) = tb (ix1 (tileOf r)) := by
  unfold perRow
  pointwise
  rfl

theorem mine_at (re rv : IVec S81920 32) (e : Fin 32) (r : Fin 81920) :
    mine re rv (ix2 e r) = if BitVec.ofNat 32 e.val = re (ix1 r) ∧ rv (ix1 r) = 1#32 then 1#1 else 0#1 := by
  unfold mine
  pointwise
  show BitVec.ofBool (BitVec.ofNat 32 e.val == re (ix1 r)) &&& BitVec.ofBool (rv (ix1 r) == 1#32) = _
  by_cases h1 : BitVec.ofNat 32 e.val = re (ix1 r)
  · by_cases h2 : rv (ix1 r) = 1#32
    · rw [if_pos ⟨h1, h2⟩, h1, h2]; simp
    · rw [if_neg (fun h => h2 h.2), beq_eq_false_iff_ne.mpr h2]; simp
  · rw [if_neg (fun h => h1 h.1), beq_eq_false_iff_ne.mpr h1]; simp

theorem weight_at (k : IVec S32x81920 1) (e : Fin 32) (r : Fin 81920) :
    weight k (ix2 e r) = if k (ix2 e r) = 1#1 then 1 else 0 := by
  unfold weight
  pointwise
  show ((((BitVec.setWidth 32 (k (ix2 e r))).toInt : ℝ)) : EReal) = _
  by_cases h : k (ix2 e r) = 1#1
  · rw [if_pos h, h]; norm_num
  · have h0 : k (ix2 e r) = 0#1 := by
      have := (k (ix2 e r)).isLt
      refine BitVec.eq_of_toNat_eq ?_
      have hn : (k (ix2 e r)).toNat ≠ 1 := fun x => h (BitVec.eq_of_toNat_eq x)
      show _ = 0
      omega
    rw [if_neg h, h0]; norm_num

theorem gate_at (r : Fin 81920) (e : Fin 32) (f : Fin 2048) :
    gate x wg b (ix3 r e f) = (∑ k : Fin 2048, x (ix2 r k) * wg (ix3 e k f)) + b (ix2 e ⟨2 * f.val, by omega⟩) := by
  unfold gate
  pointwise

theorem up_at (r : Fin 81920) (e : Fin 32) (f : Fin 2048) :
    up x wu b (ix3 r e f) = (∑ k : Fin 2048, x (ix2 r k) * wu (ix3 e k f)) + b (ix2 e ⟨2 * f.val + 1, by omega⟩) := by
  unfold up
  pointwise
  exact congrArg (fun i => (∑ k : Fin 2048, x (ix2 r k) * wu (ix3 e k f)) + b (ix2 e i)) (Fin.ext (Nat.add_comm _ _))

theorem act_at (g u : FVec Ideal S81920x32x2048 .f32) (r : Fin 81920) (e : Fin 32) (f : Fin 2048) :
    act g u (ix3 r e f) = swiglu (g (ix3 r e f)) (u (ix3 r e f)) := by
  unfold act swiglu Ideal.logistic
  pointwise
  rfl

theorem mix_at (w : FVec Ideal S32x81920 .f32) (h : FVec Ideal S81920x32x2048 .f32) (r : Fin 81920) (j : Fin 2048) :
    mix wd bd w h (ix2 r j) = ∑ e : Fin 32, w (ix2 e r) * ((∑ f : Fin 2048, h (ix3 r e f) * wd (ix3 e f j)) + bd (ix2 e j)) := by
  unfold mix
  pointwise

/-- The reference's result at an index is the row's expert's, or zero. -/
theorem result_at (hte : ∀ i, (te (ix1 i)).toNat < 32) (r : Fin 81920) (j : Fin 2048) :
    result te tv x wg wu b wd bd (ix2 r j) = moe te tv x wg wu b wd bd r j := by
  unfold result moe
  rw [mix_at]
  have hw : ∀ e : Fin 32, weight (mine (perRow te) (perRow tv)) (ix2 e r) = if e = expertOf te (tileOf r) ∧ tv (ix1 (tileOf r)) = 1#32 then 1 else 0 := by
    intro e
    have he : BitVec.ofNat 32 e.val = te (ix1 (tileOf r)) ↔ e = expertOf te (tileOf r) := by
      have h1 := hte (tileOf r)
      have h2 := e.isLt
      rw [← BitVec.toNat_inj, BitVec.toNat_ofNat, Fin.ext_iff]
      show _ ↔ e.val = (te (ix1 (tileOf r))).toNat % 32
      omega
    rw [weight_at, mine_at, perRow_at, perRow_at]
    simp only [he]
    by_cases h : e = expertOf te (tileOf r) ∧ tv (ix1 (tileOf r)) = 1#32
    · rw [if_pos h, if_pos h, if_pos rfl]
    · rw [if_neg h, if_neg h, if_neg (by decide)]
  simp only [hw, act_at, gate_at, up_at]
  by_cases hv : tv (ix1 (tileOf r)) = 1#32
  · rw [if_pos hv, Finset.sum_eq_single (expertOf te (tileOf r)), if_pos ⟨rfl, hv⟩, one_mul]
    · rfl
    · intro e _ hne
      rw [if_neg (fun h => hne h.1), zero_mul]
    · intro h
      exact absurd (Finset.mem_univ _) h
  · rw [if_neg hv]
    exact Finset.sum_eq_zero fun e _ => by rw [if_neg (fun h => hv h.2), zero_mul]
end

end Cert.Reference2Ideal.Moe

end
-- ==== Proof.Inproj.lean ====
/-
  The input projection: what the call leaves in its result array, index by index, and that the reference leaves the same.

  Each row of the prompt and of the samples is scaled and shifted by its modulation row, then multiplied into the weights, whose columns
  stand regrouped: first the recurrent branch's, then the latent group's, a gap, the step columns in pairs of eight, a gap, the rest.
  The call keeps a block of 512 modulated rows for the eight column blocks.
-/
module

public import proofs.«01_k».proof.Proof.Gen.Kernel3Ideal.Frame
public import proofs.«01_k».proof.Proof.Gen.Reference3Ideal
public import proofs.«01_k».proof.Proof.Gen.Reference3Ideal.Run
public import Idealize.ShloMosaic.Lib.Pointwise
public import Idealize.ShloMosaic.Lib.Pipeline.ValueKit

@[expose] public section

set_option maxRecDepth 16384

noncomputable section

namespace Cert.Kernel3Ideal.Inproj

open Cert.Kernel3Ideal Cert.Kernel3Ideal.Gen Idealize.ShloMosaic Idealize.ShloMosaic.TcCoe Idealize.SL.Sem
open Idealize.ShloMosaic.Pipeline (Dat)

/-- Which of the two row blocks a grid point takes. -/
theorem pick (i : grid0.Coords) {α : Type} (x y : α) :
    Scalar.select (Scalar.cmpi CmpIPredicate.slt (BitVec.ofNat 32 (i 0).val) 16#32) x y = if (i 0).val < 16 then x else y := by
  have h : ∀ n : Fin 32, (Scalar.cmpi CmpIPredicate.slt (BitVec.ofNat 32 n.val) 16#32 = 1#1) ↔ n.val < 16 := by decide +kernel
  have hi := h ⟨(i 0).val, (i 0).isLt⟩
  unfold Scalar.select
  by_cases c : (i 0).val < 16
  · rw [if_pos c]; exact if_pos (hi.mpr c)
  · rw [if_neg c]; exact if_neg fun q => c (hi.mp q)

theorem pay1_at (i : grid0.Coords) (v9 v11 : Vec Ideal S512x2048 .f32) (v14 v20 : Vec Ideal S1x1x2048 .f32) (r : Fin 512) (k : Fin 2048) :
    k0_pay1 i v9 v11 v14 v20 (ix2 r k) = (if (i 0).val < 16 then v9 (ix2 r k) else v11 (ix2 r k)) * (1 + v14 (ix3 0 0 k)) + v20 (ix3 0 0 k) := by
  unfold k0_pay1
  pointwise
  simp only [pick]

theorem pay2_at (v3 : Vec Ideal S512x2048 .bf16) (v4 : Vec Ideal S2048x2048 .bf16) (r : Fin 512) (j : Fin 2048) :
    k0_pay2 v3 v4 (ix2 r j) = ∑ k : Fin 2048, v3 (ix2 r k) * v4 (ix2 k j) := by
  unfold k0_pay2
  pointwise

variable (m : (ℓ : Loc nD τ sig) → Buf (Elt Ideal) ℓ)

theorem outs_first (c : Dev nD) (t : Fin cfg0.N) (h0 : t.val % 8 = 0) (y) :
    (outsAt0 m c t.val t.isLt).2 y = k0_pay1 (grid0.coords t) (iblk m c 0 t) (iblk m c 1 t) (iblk m c 2 t) (iblk m c 3 t) y
    ∧ (outsAt0 m c t.val t.isLt).1 y = k0_pay2 (k0_pay1 (grid0.coords t) (iblk m c 0 t) (iblk m c 1 t) (iblk m c 2 t) (iblk m c 3 t)) (iblk m c 4 t) y := by
  rw [outsAt0_A m c t h0]
  constructor
  · frame_out
  · frame_out

theorem outs_next (c : Dev nD) (t : Fin cfg0.N) (h0 : ¬ t.val % 8 = 0) (y) :
    (outsAt0 m c t.val t.isLt).2 y = (outsAt0 m c (t.val - 1) (Nat.lt_of_le_of_lt (Nat.sub_le _ _) t.isLt)).2 y
    ∧ (outsAt0 m c t.val t.isLt).1 y = k0_pay2 (outsAt0 m c (t.val - 1) (Nat.lt_of_le_of_lt (Nat.sub_le _ _) t.isLt)).2 (iblk m c 4 t) y := by
  rw [outsAt0_B m c t h0]
  constructor
  · rfl
  · frame_out
    exact congrArg (fun x => k0_pay2 x (iblk m c 4 t) y) (Memref.IsWhole.read_unread _ _)

/-! ### The reordered weights -/

/-- The order in which the 128 step columns stand: eight of the first half, eight of the second, and so on. -/
def perm (q : Fin 128) : Fin 128 := ⟨q.val / 16 * 8 + q.val % 8 + (if q.val % 16 < 8 then 0 else 64), by have := q.isLt; split <;> omega⟩

/-- The weight the projected column `C` takes at `k`: the columns regrouped, zero in the two gaps. -/
def wcol (a3 : FVec Ideal S1x2048x15552 .f32) (k : Fin 2048) (C : Fin 16384) : EReal :=
  if h : C.val < 10240 then a3 (ix3 0 k ⟨C.val, by omega⟩)
  else if h : C.val < 11328 then a3 (ix3 0 k ⟨C.val + 128, by omega⟩)
  else if h : C.val < 11392 then 0
  else if h : C.val < 11520 then a3 (ix3 0 k ⟨10240 + (perm ⟨C.val - 11392, by omega⟩).val, by have := (perm ⟨C.val - 11392, by omega⟩).isLt; omega⟩)
  else if h : C.val < 12288 then 0
  else a3 (ix3 0 k ⟨C.val - 12288 + 11456, by have := C.isLt; omega⟩)

/-- The positions the step columns are taken from. -/
def steps : IVec S128x1 32 := broadcastInDim S128x1 ![0] bcast_S128_S128x1_0
  (select (constantI S128 1 0#1) (addi (fun i => lit0 (S128.rowMajor i)) (broadcastInDim S128 ![] bcast_S_S128 (constantI S_ 32 128#32))) (fun i => lit0 (S128.rowMajor i)))

theorem steps_at : ∀ q : Fin 128, (steps (ix2 q 0)).toInt.toNat = (perm q).val := by decide +kernel

/-- Taking whole columns by position. -/
theorem columns (x : FVec Ideal S2048x128 .f32) (k : Fin 2048) (q : Fin 128) :
    Host.gather gather_S2048x128_S128x1_S2048x128_0_1_n_n_1_1_20481 x steps (ix2 k q) = x (ix2 k (perm q)) := by
  unfold Host.gather
  refine congrArg x (funext fun a => Fin.ext ?_)
  fin_cases a
  · show GatherDims.start gather_S2048x128_S128x1_S2048x128_0_1_n_n_1_1_20481 (ix2 k q) steps 0
      + GatherDims.batchCoord gather_S2048x128_S128x1_S2048x128_0_1_n_n_1_1_20481 (ix2 k q) 0
      + GatherDims.offCoord gather_S2048x128_S128x1_S2048x128_0_1_n_n_1_1_20481 (ix2 k q) 0 = k.val
    have h0 : GatherDims.start gather_S2048x128_S128x1_S2048x128_0_1_n_n_1_1_20481 (ix2 k q) steps 0 = 0 := rfl
    have h1 : GatherDims.batchCoord gather_S2048x128_S128x1_S2048x128_0_1_n_n_1_1_20481 (ix2 k q) 0 = 0 := rfl
    have h2 : GatherDims.offCoord gather_S2048x128_S128x1_S2048x128_0_1_n_n_1_1_20481 (ix2 k q) 0 = k.val := rfl
    rw [h0, h1, h2]; omega
  · show GatherDims.start gather_S2048x128_S128x1_S2048x128_0_1_n_n_1_1_20481 (ix2 k q) steps 1
      + GatherDims.batchCoord gather_S2048x128_S128x1_S2048x128_0_1_n_n_1_1_20481 (ix2 k q) 1
      + GatherDims.offCoord gather_S2048x128_S128x1_S2048x128_0_1_n_n_1_1_20481 (ix2 k q) 1 = (perm q).val
    have h0 : GatherDims.start gather_S2048x128_S128x1_S2048x128_0_1_n_n_1_1_20481 (ix2 k q) steps 1
        = min (steps (GatherDims.siIdx gather_S2048x128_S128x1_S2048x128_0_1_n_n_1_1_20481 (ix2 k q) ⟨0, by decide⟩)).toInt.toNat 127 := rfl
    have hs : GatherDims.siIdx gather_S2048x128_S128x1_S2048x128_0_1_n_n_1_1_20481 (ix2 k q) ⟨0, by decide⟩ = ix2 q 0 := by
      funext b; fin_cases b <;> rfl
    have h1 : GatherDims.batchCoord gather_S2048x128_S128x1_S2048x128_0_1_n_n_1_1_20481 (ix2 k q) 1 = 0 := rfl
    have h2 : GatherDims.offCoord gather_S2048x128_S128x1_S2048x128_0_1_n_n_1_1_20481 (ix2 k q) 1 = 0 := rfl
    have := (perm q).isLt
    rw [h0, hs, steps_at, h1, h2]; omega

/-- The weights as the call is given them. -/
def wide (a3 : FVec Ideal S1x2048x15552 .f32) : FVec Ideal S2048x16384 .bf16 :=
  truncf .bf16 (concatenate S2048x16384 1
    [⟨S2048x4096, extractStridedSlice S2048x4096 ![0, 0] (shapeCast S2048x15552 a3 shapeCasts_S1x2048x15552_S2048x15552) slices_S2048x15552_S2048x4096_0_0⟩,
     ⟨S2048x6144, extractStridedSlice S2048x6144 ![0, 4096] (shapeCast S2048x15552 a3 shapeCasts_S1x2048x15552_S2048x15552) slices_S2048x15552_S2048x6144_0_4096⟩,
     ⟨S2048x512, extractStridedSlice S2048x512 ![0, 10368] (shapeCast S2048x15552 a3 shapeCasts_S1x2048x15552_S2048x15552) slices_S2048x15552_S2048x512_0_10368⟩,
     ⟨S2048x512, extractStridedSlice S2048x512 ![0, 0] (extractStridedSlice S2048x576 ![0, 10880] (shapeCast S2048x15552 a3 shapeCasts_S1x2048x15552_S2048x15552) slices_S2048x15552_S2048x576_0_10880) slices_S2048x576_S2048x512_0_0⟩,
     ⟨S2048x64, extractStridedSlice S2048x64 ![0, 512] (extractStridedSlice S2048x576 ![0, 10880] (shapeCast S2048x15552 a3 shapeCasts_S1x2048x15552_S2048x15552) slices_S2048x15552_S2048x576_0_10880) slices_S2048x576_S2048x64_0_512⟩,
     ⟨S2048x64, broadcastInDim S2048x64 ![] bcast_S_S2048x64 (constant S_ .f32 0x00000000#32)⟩,
     ⟨S2048x128, Host.gather gather_S2048x128_S128x1_S2048x128_0_1_n_n_1_1_20481 (extractStridedSlice S2048x128 ![0, 10240] (shapeCast S2048x15552 a3 shapeCasts_S1x2048x15552_S2048x15552) slices_S2048x15552_S2048x128_0_10240) steps⟩,
     ⟨S2048x768, broadcastInDim S2048x768 ![] bcast_S_S2048x768 (constant S_ .f32 0x00000000#32)⟩,
     ⟨S2048x4096, extractStridedSlice S2048x4096 ![0, 11456] (shapeCast S2048x15552 a3 shapeCasts_S1x2048x15552_S2048x15552) slices_S2048x15552_S2048x4096_0_11456⟩]
    concatenates_S2048x4096_S2048x6144_S2048x512_S2048x512_S2048x64_S2048x64_S2048x128_S2048x768_S2048x4096_S2048x16384_d1) bitsLt_bf16_f32

theorem V_wide (c : Dev nD) : (V m c main_v20 : FVec Ideal S2048x16384 .bf16) = wide (m ((c : Thread nD τ).loc main_arg3)) := by
  rfl

theorem wide_at (a3 : FVec Ideal S1x2048x15552 .f32) (k : Fin 2048) (C : Fin 16384) : wide a3 (ix2 k C) = wcol a3 k C := by
  unfold wide wcol
  pointwise
  have b := C.isLt
  by_cases c0 : C.val < 10240
  · rw [dif_pos c0]
    by_cases c1 : C.val < 4096
    · rw [dif_pos c1]
    · rw [dif_neg c1, dif_pos (show C.val - 4096 < 6144 by omega)]
      exact congrArg (fun z => a3 (ix3 0 k z)) (Fin.ext (show 4096 + (C.val - 4096) = C.val by omega))
  rw [dif_neg c0, dif_neg (show ¬ C.val < 4096 by omega), dif_neg (show ¬ C.val - 4096 < 6144 by omega)]
  by_cases c1 : C.val < 11328
  · rw [dif_pos c1]
    by_cases d1 : C.val - 4096 - 6144 < 512
    · rw [dif_pos d1]
      exact congrArg (fun z => a3 (ix3 0 k z)) (Fin.ext (show 10368 + (C.val - 4096 - 6144) = C.val + 128 by omega))
    rw [dif_neg d1]
    by_cases d2 : C.val - 4096 - 6144 - 512 < 512
    · rw [dif_pos d2]
      exact congrArg (fun z => a3 (ix3 0 k z)) (Fin.ext (show 10880 + (C.val - 4096 - 6144 - 512) = C.val + 128 by omega))
    rw [dif_neg d2, dif_pos (show C.val - 4096 - 6144 - 512 - 512 < 64 by omega)]
    exact congrArg (fun z => a3 (ix3 0 k z)) (Fin.ext (show 10880 + (512 + (C.val - 4096 - 6144 - 512 - 512)) = C.val + 128 by omega))
  rw [dif_neg c1, dif_neg (show ¬ C.val - 4096 - 6144 < 512 by omega), dif_neg (show ¬ C.val - 4096 - 6144 - 512 < 512 by omega),
    dif_neg (show ¬ C.val - 4096 - 6144 - 512 - 512 < 64 by omega)]
  by_cases c2 : C.val < 11392
  · rw [dif_pos c2, dif_pos (show C.val - 4096 - 6144 - 512 - 512 - 64 < 64 by omega)]
  rw [dif_neg c2, dif_neg (show ¬ C.val - 4096 - 6144 - 512 - 512 - 64 < 64 by omega)]
  by_cases c3 : C.val < 11520
  · rw [dif_pos c3, dif_pos (show C.val - 4096 - 6144 - 512 - 512 - 64 - 64 < 128 by omega)]
    refine (columns _ k _).trans ?_
    pointwise
    refine congrArg (fun z => a3 (ix3 0 k z)) (Fin.ext ?_)
    exact congrArg (fun q : Fin 128 => 10240 + (perm q).val) (Fin.ext (show C.val - 4096 - 6144 - 512 - 512 - 64 - 64 = C.val - 11392 by omega))
  rw [dif_neg c3, dif_neg (show ¬ C.val - 4096 - 6144 - 512 - 512 - 64 - 64 < 128 by omega)]
  by_cases c4 : C.val < 12288
  · rw [dif_pos c4, dif_pos (show C.val - 4096 - 6144 - 512 - 512 - 64 - 64 - 128 < 768 by omega)]
  rw [dif_neg c4, dif_neg (show ¬ C.val - 4096 - 6144 - 512 - 512 - 64 - 64 - 128 < 768 by omega)]
  exact congrArg (fun z => a3 (ix3 0 k z)) (Fin.ext (show 11456 + (C.val - 4096 - 6144 - 512 - 512 - 64 - 64 - 128 - 768) = C.val - 12288 + 11456 by omega))

/-- Where the windows' blocks stand at each grid point. -/
theorem idx : ∀ t : Fin cfg0.N, t.val < 256
    ∧ (grid0.coords t 0 : ℕ) = t.val / 8
    ∧ win0_0.index t = ![min (t.val / 8) 15, 0] ∧ win0_1.index t = ![t.val / 8 - 16, 0]
    ∧ win0_2.index t = ![if t.val / 8 < 16 then 0 else 1 + (t.val / 8 - 16) / 4, 0, 1]
    ∧ win0_3.index t = ![if t.val / 8 < 16 then 0 else 1 + (t.val / 8 - 16) / 4, 0, 0]
    ∧ win0_4.index t = ![0, t.val % 8] ∧ win0_5.index t = ![t.val / 8, t.val % 8] :=
  (by decide +kernel : ∀ t : Fin grid0.N, _)

/-! ### The modulated rows -/

/-- The row `R` at `k`, scaled and shifted: the prompt's rows by the first modulation row, a sample's by its own. -/
def hrow (a0 : FVec Ideal S32x256x2048 .f32) (a1 : FVec Ideal S4x2048x2048 .f32) (a2 : FVec Ideal S8x12288 .f32) (R : Fin 16384) (k : Fin 2048) : EReal :=
  if h : R.val < 8192 then
    a0 (ix3 ⟨R.val / 256, by omega⟩ ⟨R.val % 256, by omega⟩ k) * (1 + a2 (ix2 0 ⟨2048 + k.val, by omega⟩)) + a2 (ix2 0 ⟨k.val, by omega⟩)
  else
    a1 (ix3 ⟨(R.val - 8192) / 2048, by omega⟩ ⟨(R.val - 8192) % 2048, by omega⟩ k) * (1 + a2 (ix2 ⟨1 + (R.val - 8192) / 2048, by omega⟩ ⟨2048 + k.val, by omega⟩))
      + a2 (ix2 ⟨1 + (R.val - 8192) / 2048, by omega⟩ ⟨k.val, by omega⟩)

/-- The projected array at row `R`, column `C`. -/
def proj (a0 : FVec Ideal S32x256x2048 .f32) (a1 : FVec Ideal S4x2048x2048 .f32) (a2 : FVec Ideal S8x12288 .f32) (a3 : FVec Ideal S1x2048x15552 .f32)
    (R : Fin 16384) (C : Fin 16384) : EReal := ∑ k : Fin 2048, hrow a0 a1 a2 R k * wcol a3 k C

theorem cast_prompt (a : FVec Ideal S32x256x2048 .f32) (R : Fin 8192) (k : Fin 2048) :
    shapeCast S8192x2048 a shapeCasts_S32x256x2048_S8192x2048 (ix2 R k) = a (ix3 ⟨R.val / 256, by omega⟩ ⟨R.val % 256, by omega⟩ k) := by
  pointwise

theorem cast_sample (a : FVec Ideal S4x2048x2048 .f32) (R : Fin 8192) (k : Fin 2048) :
    shapeCast S8192x2048 a shapeCasts_S4x2048x2048_S8192x2048 (ix2 R k) = a (ix3 ⟨R.val / 2048, by omega⟩ ⟨R.val % 2048, by omega⟩ k) := by
  pointwise

theorem cast_mods (a : FVec Ideal S8x12288 .f32) (r : Fin 8) (k : Fin 12288) :
    shapeCast S8x1x12288 a shapeCasts_S8x12288_S8x1x12288 (ix3 r 0 k) = a (ix2 r k) := by
  pointwise

theorem V_prompt (c : Dev nD) (R : Fin 8192) (k : Fin 2048) : (V m c main_v0 : FVec Ideal S8192x2048 .f32) (ix2 R k)
    = (m ((c : Thread nD τ).loc main_arg0) : FVec Ideal S32x256x2048 .f32) (ix3 ⟨R.val / 256, by omega⟩ ⟨R.val % 256, by omega⟩ k) := by
  have h : (V m c main_v0 : FVec Ideal S8192x2048 .f32) = shapeCast S8192x2048 (m ((c : Thread nD τ).loc main_arg0) : FVec Ideal S32x256x2048 .f32) shapeCasts_S32x256x2048_S8192x2048 := rfl
  exact (congrFun h _).trans (cast_prompt _ R k)

theorem V_sample (c : Dev nD) (R : Fin 8192) (k : Fin 2048) : (V m c main_v1 : FVec Ideal S8192x2048 .f32) (ix2 R k)
    = (m ((c : Thread nD τ).loc main_arg1) : FVec Ideal S4x2048x2048 .f32) (ix3 ⟨R.val / 2048, by omega⟩ ⟨R.val % 2048, by omega⟩ k) := by
  have h : (V m c main_v1 : FVec Ideal S8192x2048 .f32) = shapeCast S8192x2048 (m ((c : Thread nD τ).loc main_arg1) : FVec Ideal S4x2048x2048 .f32) shapeCasts_S4x2048x2048_S8192x2048 := rfl
  exact (congrFun h _).trans (cast_sample _ R k)

theorem V_mods (c : Dev nD) (r : Fin 8) (k : Fin 12288) : (V m c main_v2 : FVec Ideal S8x1x12288 .f32) (ix3 r 0 k)
    = (m ((c : Thread nD τ).loc main_arg2) : FVec Ideal S8x12288 .f32) (ix2 r k) := by
  have h : (V m c main_v2 : FVec Ideal S8x1x12288 .f32) = shapeCast S8x1x12288 (m ((c : Thread nD τ).loc main_arg2) : FVec Ideal S8x12288 .f32) shapeCasts_S8x12288_S8x1x12288 := rfl
  exact (congrFun h _).trans (cast_mods _ r k)

/-- What a row block's first point computes. -/
theorem rows_at (c : Dev nD) (t : Fin cfg0.N) (r : Fin 512) (k : Fin 2048) :
    k0_pay1 (grid0.coords t) (iblk m c 0 t) (iblk m c 1 t) (iblk m c 2 t) (iblk m c 3 t) (ix2 r k)
      = hrow (m ((c : Thread nD τ).loc main_arg0)) (m ((c : Thread nD τ).loc main_arg1)) (m ((c : Thread nD τ).loc main_arg2))
          ⟨t.val / 8 * 512 + r.val, by have := (idx t).1; have := r.isLt; omega⟩ k := by
  obtain ⟨hN, hc, e0, e1, e2, e3, e4, e5⟩ := idx t
  refine (pay1_at _ _ _ _ _ r k).trans ?_
  rw [hc]
  have hr := r.isLt
  have hk := k.isLt
  unfold hrow
  by_cases h : t.val / 8 < 16
  · rw [if_pos h, dif_pos (show t.val / 8 * 512 + r.val < 8192 by omega)]
    rw [if_pos h] at e2 e3
    rw [Nat.min_eq_left (by omega)] at e0
    refine congrArg₂ (· + ·) (congrArg₂ (· * ·) ?_ (congrArg₂ (· + ·) rfl ?_)) ?_
    · refine Eq.trans ?_ (V_prompt m c ⟨t.val / 8 * 512 + r.val, by omega⟩ k)
      blk_ext [iblk, e0]
    · refine Eq.trans ?_ (V_mods m c 0 ⟨2048 + k.val, by omega⟩)
      blk_ext [iblk, e2]
    · refine Eq.trans ?_ (V_mods m c 0 ⟨k.val, by omega⟩)
      blk_ext [iblk, e3]
  · rw [if_neg h, dif_neg (show ¬ t.val / 8 * 512 + r.val < 8192 by omega)]
    rw [if_neg h] at e2 e3
    refine congrArg₂ (· + ·) (congrArg₂ (· * ·) ?_ (congrArg₂ (· + ·) rfl ?_)) ?_
    · refine Eq.trans ?_ ((V_sample m c ⟨t.val / 8 * 512 + r.val - 8192, by omega⟩ k))
      blk_ext [iblk, e1]
    · refine Eq.trans ?_ (V_mods m c ⟨1 + (t.val / 8 * 512 + r.val - 8192) / 2048, by omega⟩ ⟨2048 + k.val, by omega⟩)
      blk_ext [iblk, e2]
    · refine Eq.trans ?_ (V_mods m c ⟨1 + (t.val / 8 * 512 + r.val - 8192) / 2048, by omega⟩ ⟨k.val, by omega⟩)
      blk_ext [iblk, e3]

/-- The scratch keeps the row block's rows through its eight points. -/
theorem scratch_at (c : Dev nD) : ∀ (n : ℕ) (hn : n < cfg0.N) (r : Fin 512) (k : Fin 2048),
    (outsAt0 m c n hn).2 (ix2 r k)
      = hrow (m ((c : Thread nD τ).loc main_arg0)) (m ((c : Thread nD τ).loc main_arg1)) (m ((c : Thread nD τ).loc main_arg2))
          ⟨n / 8 * 512 + r.val, by have := (idx ⟨n, hn⟩).1; have := r.isLt; simp only at *; omega⟩ k := by
  intro n
  induction n with
  | zero => exact fun hn r k => ((outs_first m c ⟨0, hn⟩ rfl _).1).trans (rows_at m c ⟨0, hn⟩ r k)
  | succ n ih =>
    intro hn r k
    by_cases h0 : (n + 1) % 8 = 0
    · exact ((outs_first m c ⟨n + 1, hn⟩ h0 _).1).trans (rows_at m c ⟨n + 1, hn⟩ r k)
    · refine ((outs_next m c ⟨n + 1, hn⟩ h0 _).1).trans ((ih _ r k).trans ?_)
      exact congrArg (fun z => hrow _ _ _ z k) (Fin.ext (show n / 8 * 512 + r.val = (n + 1) / 8 * 512 + r.val by omega))

/-- The whole result array. -/
def projArr (c : Dev nD) : Vec Ideal S16384x16384 .f32 := fun y =>
  proj (m ((c : Thread nD τ).loc main_arg0)) (m ((c : Thread nD τ).loc main_arg1)) (m ((c : Thread nD τ).loc main_arg2)) (m ((c : Thread nD τ).loc main_arg3))
    ⟨(y 0 : ℕ), (y 0).isLt⟩ ⟨(y 1 : ℕ), (y 1).isLt⟩

theorem weights_at (c : Dev nD) (t : Fin cfg0.N) (k j : Fin 2048) : (iblk m c 4 t : Vec Ideal S2048x2048 .bf16) (ix2 k j)
    = wcol (m ((c : Thread nD τ).loc main_arg3)) k ⟨t.val % 8 * 2048 + j.val, by have := j.isLt; omega⟩ := by
  obtain ⟨hN, hc, e0, e1, e2, e3, e4, e5⟩ := idx t
  have hj := j.isLt
  refine Eq.trans ?_ (((congrFun (V_wide m c) (ix2 k ⟨t.val % 8 * 2048 + j.val, by omega⟩))).trans (wide_at _ k _))
  blk_ext [iblk, e4]

/-- A point's output block. -/
theorem out_at (c : Dev nD) (t : Fin cfg0.N) (r : Fin 512) (j : Fin 2048) :
    (outsAt0 m c t.val t.isLt).1 (ix2 r j)
      = proj (m ((c : Thread nD τ).loc main_arg0)) (m ((c : Thread nD τ).loc main_arg1)) (m ((c : Thread nD τ).loc main_arg2)) (m ((c : Thread nD τ).loc main_arg3))
          ⟨t.val / 8 * 512 + r.val, by have := (idx t).1; have := r.isLt; omega⟩ ⟨t.val % 8 * 2048 + j.val, by have := j.isLt; omega⟩ := by
  have hN := (idx t).1
  have hr := r.isLt
  by_cases h0 : t.val % 8 = 0
  · refine ((outs_first m c t h0 _).2).trans ((pay2_at _ _ r j).trans ?_)
    exact Finset.sum_congr rfl fun k _ => congrArg₂ (· * ·) (rows_at m c t r k) (weights_at m c t k j)
  · refine ((outs_next m c t h0 _).2).trans ((pay2_at _ _ r j).trans ?_)
    refine Finset.sum_congr rfl fun k _ => congrArg₂ (· * ·) ((scratch_at m c _ _ r k).trans ?_) (weights_at m c t k j)
    exact congrArg (fun z => hrow _ _ _ z k) (Fin.ext (show (t.val - 1) / 8 * 512 + r.val = t.val / 8 * 512 + r.val by omega))

theorem final (c : Dev nD) : (dats m 0 c).arrAt 5 cfg0.N = projArr m c := by
  refine (dats m 0 c).arrAt_eq_of_covers 5 _ (by decide +kernel) fun t hf y => ?_
  blk_simp
  rw [after0_5]
  obtain ⟨hN, hc, e0, e1, e2, e3, e4, e5⟩ := idx t
  have y0 : (y 0 : ℕ) < 512 := (y 0).isLt
  have y1 : (y 1 : ℕ) < 2048 := (y 1).isLt
  have e : y = ix2 ⟨(y 0 : ℕ), y0⟩ ⟨(y 1 : ℕ), y1⟩ := by funext a; fin_cases a <;> rfl
  refine (congrArg _ e).trans ((out_at m c t ⟨(y 0 : ℕ), y0⟩ ⟨(y 1 : ℕ), y1⟩).trans ?_)
  unfold projArr
  exact congrArg₂ (proj _ _ _ _) (Fin.ext (by blk_simp [e5])) (Fin.ext (by blk_simp [e5]))

/-- The call runs, leaves the projected array and keeps its arguments. -/
theorem run_blocks (ρ : Dev nD → PrngReg) : θ_run (defs (F := Ideal)) (onTc (τ := τ) (main (F := Ideal))) ⟨m, fun _ => 0, ρ⟩ fun r => ∀ c : Dev nD,
      r.2.mem ((c : Thread nD τ).loc main_v21) = projArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 5).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.Kernel3Ideal.Inproj

namespace Cert.Reference3Ideal.Inproj

open Cert.Reference3Ideal Cert.Reference3Ideal.Gen Idealize.ShloMosaic Idealize.SL.Sem
open Cert.Kernel3Ideal.Inproj (hrow wcol proj perm cast_prompt cast_sample)

/-- The first row of the scales or shifts, the one the prompt takes. -/
def firstRow (s : FVec Ideal S8x2048 .f32) : FVec Ideal S2048 .f32 :=
  shapeCast S2048 (extractStridedSlice S1x2048 ![0, 0] s slices_S8x2048_S1x2048_0_0) shapeCasts_S1x2048_S2048

/-- The prompt's rows, scaled and shifted. -/
def prompt (a0 : FVec Ideal S32x256x2048 .f32) (sh sc : FVec Ideal S8x2048 .f32) : FVec Ideal S32x256x2048 .f32 :=
  addf (mulf a0 (broadcastInDim S32x256x2048 ![0, 1, 2] bcast_S1x1x2048_S32x256x2048_0_1_2 (broadcastInDim S1x1x2048 ![2] bcast_S2048_S1x1x2048_2
      (addf (broadcastInDim S2048 ![] bcast_S_S2048 (constant S_ .f32 0x3F800000#32)) (firstRow sc)))))
    (broadcastInDim S32x256x2048 ![0, 1, 2] bcast_S1x1x2048_S32x256x2048_0_1_2 (broadcastInDim S1x1x2048 ![2] bcast_S2048_S1x1x2048_2 (firstRow sh)))

/-- The samples' rows, scaled and shifted. -/
def sample (a1 : FVec Ideal S4x2048x2048 .f32) (sh sc : FVec Ideal S8x2048 .f32) : FVec Ideal S4x2048x2048 .f32 :=
  addf (mulf a1 (broadcastInDim S4x2048x2048 ![0, 1, 2] bcast_S4x1x2048_S4x2048x2048_0_1_2
      (addf (broadcastInDim S4x1x2048 ![] bcast_S_S4x1x2048 (constant S_ .f32 0x3F800000#32))
        (broadcastInDim S4x1x2048 ![0, 2] bcast_S4x2048_S4x1x2048_0_2 (extractStridedSlice S4x2048 ![1, 0] sc slices_S8x2048_S4x2048_1_0)))))
    (broadcastInDim S4x2048x2048 ![0, 1, 2] bcast_S4x1x2048_S4x2048x2048_0_1_2
      (broadcastInDim S4x1x2048 ![0, 2] bcast_S4x2048_S4x1x2048_0_2 (extractStridedSlice S4x2048 ![1, 0] sh slices_S8x2048_S4x2048_1_0)))

/-- The shifts and the scales. -/
def shifts (a2 : FVec Ideal S8x12288 .f32) : FVec Ideal S8x2048 .f32 := extractStridedSlice S8x2048 ![0, 0] a2 slices_S8x12288_S8x2048_0_0
def scales (a2 : FVec Ideal S8x12288 .f32) : FVec Ideal S8x2048 .f32 := extractStridedSlice S8x2048 ![0, 2048] a2 slices_S8x12288_S8x2048_0_2048

theorem prompt_at (a0 : FVec Ideal S32x256x2048 .f32) (a2 : FVec Ideal S8x12288 .f32) (g : Fin 32) (r : Fin 256) (k : Fin 2048) :
    prompt a0 (shifts a2) (scales a2) (ix3 g r k) = a0 (ix3 g r k) * (1 + a2 (ix2 0 ⟨2048 + k.val, by omega⟩)) + a2 (ix2 0 ⟨k.val, by omega⟩) := by
  unfold prompt firstRow shifts scales
  pointwise

theorem sample_at (a1 : FVec Ideal S4x2048x2048 .f32) (a2 : FVec Ideal S8x12288 .f32) (g : Fin 4) (r : Fin 2048) (k : Fin 2048) :
    sample a1 (shifts a2) (scales a2) (ix3 g r k)
      = a1 (ix3 g r k) * (1 + a2 (ix2 ⟨1 + g.val, by omega⟩ ⟨2048 + k.val, by omega⟩)) + a2 (ix2 ⟨1 + g.val, by omega⟩ ⟨k.val, by omega⟩) := by
  unfold sample shifts scales
  pointwise

/-- All rows together. -/
def rows (a0 : FVec Ideal S32x256x2048 .f32) (a1 : FVec Ideal S4x2048x2048 .f32) (a2 : FVec Ideal S8x12288 .f32) : FVec Ideal S16384x2048 .f32 :=
  concatenate S16384x2048 0 [⟨S8192x2048, shapeCast S8192x2048 (prompt a0 (shifts a2) (scales a2)) shapeCasts_S32x256x2048_S8192x2048⟩,
    ⟨S8192x2048, shapeCast S8192x2048 (sample a1 (shifts a2) (scales a2)) shapeCasts_S4x2048x2048_S8192x2048⟩] concatenates_S8192x2048_S8192x2048_S16384x2048_d0

/-- Two arrays of rows one after the other. -/
theorem joined (x y : FVec Ideal S8192x2048 .f32) (R : Fin 16384) (k : Fin 2048) :
    concatenate S16384x2048 0 [⟨S8192x2048, x⟩, ⟨S8192x2048, y⟩] concatenates_S8192x2048_S8192x2048_S16384x2048_d0 (ix2 R k)
      = if h : R.val < 8192 then x (ix2 ⟨R.val, h⟩ k) else y (ix2 ⟨R.val - 8192, by omega⟩ k) := by
  pointwise

theorem rows_at (a0 : FVec Ideal S32x256x2048 .f32) (a1 : FVec Ideal S4x2048x2048 .f32) (a2 : FVec Ideal S8x12288 .f32) (R : Fin 16384) (k : Fin 2048) :
    rows a0 a1 a2 (ix2 R k) = hrow a0 a1 a2 R k := by
  refine (joined _ _ R k).trans ?_
  unfold hrow
  by_cases h : R.val < 8192
  · rw [dif_pos h, dif_pos h]
    exact (cast_prompt _ _ k).trans (prompt_at a0 a2 _ _ k)
  · rw [dif_neg h, dif_neg h]
    exact (cast_sample _ _ k).trans (sample_at a1 a2 _ _ k)

/-- The step columns by group, then direction, then head in the group. -/
def grouped (x : FVec Ideal S16384x128 .f32) : FVec Ideal S16384x128 .f32 :=
  shapeCast S16384x128 (transpose S16384x8x2x8 [0, 2, 1, 3] (shapeCast S16384x2x8x8 x shapeCasts_S16384x128_S16384x2x8x8)
    transposes_S16384x2x8x8_S16384x8x2x8_0_2_1_3) shapeCasts_S16384x8x2x8_S16384x128

theorem columns (x : FVec Ideal S16384x128 .f32) (r : Fin 16384) (q : Fin 128) : grouped x (ix2 r q) = x (ix2 r (perm q)) := by
  unfold grouped
  pointwise
  refine congrArg (fun z => x (ix2 r z)) (Fin.ext ?_)
  show q.val / 8 % 2 * 64 + q.val / 16 * 8 + q.val % 8 = q.val / 16 * 8 + q.val % 8 + (if q.val % 16 < 8 then 0 else 64)
  split <;> omega

/-- The projection in the weights' own column order. -/
def plain (h : FVec Ideal S16384x2048 .f32) (a3 : FVec Ideal S1x2048x15552 .f32) : FVec Ideal S16384x15552 .f32 :=
  Host.dotGeneral dot_S16384x2048_S2048x15552_S16384x15552_1_0_0_1_n_n none h (shapeCast S2048x15552 a3 shapeCasts_S1x2048x15552_S2048x15552)

theorem plain_at (h : FVec Ideal S16384x2048 .f32) (a3 : FVec Ideal S1x2048x15552 .f32) (R : Fin 16384) (C : Fin 15552) :
    plain h a3 (ix2 R C) = ∑ k : Fin 2048, h (ix2 R k) * a3 (ix3 0 k C) := by
  unfold plain
  pointwise

/-- The columns regrouped. -/
def regroup (p : FVec Ideal S16384x15552 .f32) : FVec Ideal S16384x16384 .f32 :=
  concatenate S16384x16384 1
    [⟨S16384x10240, extractStridedSlice S16384x10240 ![0, 0] p slices_S16384x15552_S16384x10240_0_0⟩,
     ⟨S16384x1088, extractStridedSlice S16384x1088 ![0, 10368] p slices_S16384x15552_S16384x1088_0_10368⟩,
     ⟨S16384x64, broadcastInDim S16384x64 ![] bcast_S_S16384x64 (constant S_ .f32 0x00000000#32)⟩,
     ⟨S16384x128, grouped (extractStridedSlice S16384x128 ![0, 10240] p slices_S16384x15552_S16384x128_0_10240)⟩,
     ⟨S16384x768, broadcastInDim S16384x768 ![] bcast_S_S16384x768 (constant S_ .f32 0x00000000#32)⟩,
     ⟨S16384x4096, extractStridedSlice S16384x4096 ![0, 11456] p slices_S16384x15552_S16384x4096_0_11456⟩]
    concatenates_S16384x10240_S16384x1088_S16384x64_S16384x128_S16384x768_S16384x4096_S16384x16384_d1

theorem regroup_at (p : FVec Ideal S16384x15552 .f32) (R : Fin 16384) (C : Fin 16384) : regroup p (ix2 R C) =
    if h : C.val < 10240 then p (ix2 R ⟨C.val, by omega⟩)
    else if h : C.val < 11328 then p (ix2 R ⟨C.val + 128, by omega⟩)
    else if h : C.val < 11392 then 0
    else if h : C.val < 11520 then p (ix2 R ⟨10240 + (perm ⟨C.val - 11392, by omega⟩).val, by have := (perm ⟨C.val - 11392, by omega⟩).isLt; omega⟩)
    else if h : C.val < 12288 then 0
    else p (ix2 R ⟨C.val - 12288 + 11456, by have := C.isLt; omega⟩) := by
  unfold regroup
  pointwise
  have b := C.isLt
  by_cases c0 : C.val < 10240
  · rw [dif_pos c0, dif_pos c0]
  rw [dif_neg c0, dif_neg c0]
  by_cases c1 : C.val < 11328
  · rw [dif_pos c1, dif_pos (show C.val - 10240 < 1088 by omega)]
    exact congrArg (fun z => p (ix2 R z)) (Fin.ext (show 10368 + (C.val - 10240) = C.val + 128 by omega))
  rw [dif_neg c1, dif_neg (show ¬ C.val - 10240 < 1088 by omega)]
  by_cases c2 : C.val < 11392
  · rw [dif_pos c2, dif_pos (show C.val - 10240 - 1088 < 64 by omega)]
  rw [dif_neg c2, dif_neg (show ¬ C.val - 10240 - 1088 < 64 by omega)]
  by_cases c3 : C.val < 11520
  · rw [dif_pos c3, dif_pos (show C.val - 10240 - 1088 - 64 < 128 by omega)]
    refine (columns _ R _).trans ?_
    pointwise
    refine congrArg (fun z => p (ix2 R z)) (Fin.ext ?_)
    exact congrArg (fun q : Fin 128 => 10240 + (perm q).val) (Fin.ext (show C.val - 10240 - 1088 - 64 = C.val - 11392 by omega))
  rw [dif_neg c3, dif_neg (show ¬ C.val - 10240 - 1088 - 64 < 128 by omega)]
  by_cases c4 : C.val < 12288
  · rw [dif_pos c4, dif_pos (show C.val - 10240 - 1088 - 64 - 128 < 768 by omega)]
  rw [dif_neg c4, dif_neg (show ¬ C.val - 10240 - 1088 - 64 - 128 < 768 by omega)]
  exact congrArg (fun z => p (ix2 R z)) (Fin.ext (show 11456 + (C.val - 10240 - 1088 - 64 - 128 - 768) = C.val - 12288 + 11456 by omega))

/-- The reference's result. -/
def result (a0 : FVec Ideal S32x256x2048 .f32) (a1 : FVec Ideal S4x2048x2048 .f32) (a2 : FVec Ideal S8x12288 .f32) (a3 : FVec Ideal S1x2048x15552 .f32) :
    FVec Ideal S16384x16384 .f32 := regroup (plain (rows a0 a1 a2) a3)

theorem result_at (a0 : FVec Ideal S32x256x2048 .f32) (a1 : FVec Ideal S4x2048x2048 .f32) (a2 : FVec Ideal S8x12288 .f32) (a3 : FVec Ideal S1x2048x15552 .f32)
    (R C : Fin 16384) : result a0 a1 a2 a3 (ix2 R C) = proj a0 a1 a2 a3 R C := by
  have hp : ∀ q : Fin 15552, plain (rows a0 a1 a2) a3 (ix2 R q) = ∑ k : Fin 2048, hrow a0 a1 a2 R k * a3 (ix3 0 k q) := fun q =>
    (plain_at _ a3 R q).trans (Finset.sum_congr rfl fun k _ => congrArg (· * _) (rows_at a0 a1 a2 R k))
  have hz : (0 : EReal) = ∑ k : Fin 2048, hrow a0 a1 a2 R k * 0 := by simp only [mul_zero, Finset.sum_const_zero]
  refine (regroup_at _ R C).trans ?_
  unfold proj wcol
  by_cases c0 : C.val < 10240
  · simp only [dif_pos c0]; exact hp _
  simp only [dif_neg c0]
  by_cases c1 : C.val < 11328
  · simp only [dif_pos c1]; exact hp _
  simp only [dif_neg c1]
  by_cases c2 : C.val < 11392
  · simp only [dif_pos c2]; exact hz
  simp only [dif_neg c2]
  by_cases c3 : C.val < 11520
  · simp only [dif_pos c3]; exact hp _
  simp only [dif_neg c3]
  by_cases c4 : C.val < 12288
  · simp only [dif_pos c4]; exact hz
  simp only [dif_neg c4]
  exact hp _

/-- The run's result is this one. -/
theorem res_eq (m : (ℓ : Loc nD τ sig) → Buf (Elt Ideal) ℓ) (c : Dev nD) : Value.res_main_v38 m c
    = result (m ((c.tc : Thread nD τ).loc main_arg0)) (m ((c.tc : Thread nD τ).loc main_arg1)) (m ((c.tc : Thread nD τ).loc main_arg2)) (m ((c.tc : Thread nD τ).loc main_arg3)) := rfl

end Cert.Reference3Ideal.Inproj
-- ==== Proof.Merge.lean ====
/-
  The two branches' output projections, gated and added: what the call leaves in its result array, index by index, and that the
  reference leaves the same.

  Row `r`, column `j` of the result is `σ(g) · ∑ y w + σ(g') · ∑ o w'`, where the first 8192 rows of `y` and `o` are the prompt's and
  the rest the samples', and the two gates stand in columns 12288 + j and 14336 + j of the projected tokens.
-/
module

public import proofs.«01_k».proof.Proof.Gen.Kernel4Ideal.Value
public import proofs.«01_k».proof.Proof.Gen.Reference4Ideal
public import proofs.«01_k».proof.Proof.Gen.Reference4Ideal.Run
public import Idealize.ShloMosaic.Lib.Pointwise
public import Idealize.ShloMosaic.Lib.Pipeline.ValueKit

@[expose] public section

set_option maxRecDepth 16384

noncomputable section

namespace Cert.Kernel4Ideal.Merge

open Cert.Kernel4Ideal Cert.Kernel4Ideal.Gen Idealize.ShloMosaic Idealize.ShloMosaic.TcCoe Idealize.SL.Sem
open Idealize.ShloMosaic.Pipeline (Dat)

/-- Row `r` of the prompt's rows followed by the samples'. -/
def stacked {n : ℕ} (lo hi : Fin 8192 → Fin n → EReal) (r : Fin 16384) (k : Fin n) : EReal :=
  if h : r.val < 8192 then lo ⟨r.val, h⟩ k else hi ⟨r.val - 8192, by omega⟩ k

/-- The result at row `r`, column `j`, from the seven argument arrays. -/
def merged (a0 a1 : FVec Ideal S8192x4096 .bf16) (a2 a3 : FVec Ideal S8192x2048 .bf16) (a4 : FVec Ideal S1x4096x2048 .f32)
    (a5 : FVec Ideal S1x2048x2048 .f32) (a6 : FVec Ideal S16384x16384 .f32) (r : Fin 16384) (j : Fin 2048) : EReal :=
  Ideal.logistic (a6 (ix2 r ⟨12288 + j.val, by omega⟩))
      * (∑ k : Fin 4096, stacked (fun i k => a0 (ix2 i k)) (fun i k => a1 (ix2 i k)) r k * a4 (ix3 0 k j))
    + Ideal.logistic (a6 (ix2 r ⟨14336 + j.val, by omega⟩))
      * (∑ k : Fin 2048, stacked (fun i k => a2 (ix2 i k)) (fun i k => a3 (ix2 i k)) r k * a5 (ix3 0 k j))

/-- Which of the two row blocks a grid point takes. -/
theorem pick (i : grid0.Coords) {α : Type} (x y : α) :
    Scalar.select (Scalar.cmpi CmpIPredicate.slt (BitVec.ofNat 32 (i 0).val) 16#32) x y = if (i 0).val < 16 then x else y := by
  have h : ∀ n : Fin 32, (Scalar.cmpi CmpIPredicate.slt (BitVec.ofNat 32 n.val) 16#32 = 1#1) ↔ n.val < 16 := by decide +kernel
  have hi := h ⟨(i 0).val, (i 0).isLt⟩
  unfold Scalar.select
  by_cases c : (i 0).val < 16
  · rw [if_pos c]; exact if_pos (hi.mpr c)
  · rw [if_neg c]; exact if_neg fun q => c (hi.mp q)

theorem pay_at (i : grid0.Coords) (v1 v2 : Vec Ideal S512x4096 .bf16) (v4 : Vec Ideal S4096x512 .bf16) (v8 v9 : Vec Ideal S512x2048 .bf16)
    (v11 : Vec Ideal S2048x512 .bf16) (v14 v17 : Vec Ideal S512x512 .f32) (r j : Fin 512) :
    k0_pay1 i v1 v2 v4 v8 v9 v11 v14 v17 (ix2 r j)
      = Ideal.logistic (v14 (ix2 r j)) * (∑ k : Fin 4096, (if (i 0).val < 16 then v1 (ix2 r k) else v2 (ix2 r k)) * v4 (ix2 k j))
        + Ideal.logistic (v17 (ix2 r j)) * (∑ k : Fin 2048, (if (i 0).val < 16 then v8 (ix2 r k) else v9 (ix2 r k)) * v11 (ix2 k j)) := by
  unfold k0_pay1
  pointwise
  simp only [pick]

variable (m : (ℓ : Loc nD τ sig) → Buf (Elt Ideal) ℓ)

/-- The whole result array. -/
def mergedArr (c : Dev nD) : Vec Ideal S16384x2048 .bf16 := fun y =>
  merged (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    ⟨(y 0 : ℕ), (y 0).isLt⟩ ⟨(y 1 : ℕ), (y 1).isLt⟩

/-- Where the windows' blocks stand at each grid point. -/
theorem idx : ∀ t : Fin cfg0.N,
    (grid0.coords t 0).val = t.val / 4 ∧ t.val < 128
    ∧ win0_0.index t = ![min (t.val / 4) 15, 0] ∧ win0_1.index t = ![t.val / 4 - 16, 0]
    ∧ win0_2.index t = ![min (t.val / 4) 15, 0] ∧ win0_3.index t = ![t.val / 4 - 16, 0]
    ∧ win0_4.index t = ![0, t.val % 4] ∧ win0_5.index t = ![0, t.val % 4]
    ∧ win0_6.index t = ![t.val / 4, 24 + t.val % 4] ∧ win0_7.index t = ![t.val / 4, 28 + t.val % 4]
    ∧ win0_8.index t = ![t.val / 4, t.val % 4] :=
  (by decide +kernel : ∀ t : Fin grid0.N, _)

set_option maxHeartbeats 2000000 in
theorem final (c : Dev nD) : (dats m 0 c).arrAt 8 cfg0.N = mergedArr m c := by
  refine (dats m 0 c).arrAt_eq_of_covers 8 _ (by decide +kernel) fun t hf y => ?_
  blk_simp
  rw [after0_8]
  frame_out
  obtain ⟨ec, hN, e0, e1, e2, e3, e4, e5, e6, e7, e8⟩ := idx t
  have y0 : (y 0 : ℕ) < 512 := (y 0).isLt
  have y1 : (y 1 : ℕ) < 512 := (y 1).isLt
  have e : y = ix2 ⟨(y 0 : ℕ), y0⟩ ⟨(y 1 : ℕ), y1⟩ := by funext a; fin_cases a <;> rfl
  refine (congrArg _ e).trans ((pay_at _ _ _ _ _ _ _ _ _ ⟨(y 0 : ℕ), y0⟩ ⟨(y 1 : ℕ), y1⟩).trans ?_)
  rw [ec]
  unfold mergedArr merged stacked
  by_cases h : t.val / 4 < 16
  · simp only [if_pos h]
    refine congrArg₂ (· + ·) (congrArg₂ (· * ·) (congrArg _ ?_) (Finset.sum_congr rfl fun k _ => congrArg₂ (· * ·) ?_ ?_))
      (congrArg₂ (· * ·) (congrArg _ ?_) (Finset.sum_congr rfl fun k _ => congrArg₂ (· * ·) ?_ ?_))
    · blk_point [iblk, V, e6, e8]
    · rw [dif_pos (by blk_simp [e8]; omega)]
      blk_point [iblk, V, e0, e8]
    · blk_point [iblk, V, e4, e8]
    · blk_point [iblk, V, e7, e8]
    · rw [dif_pos (by blk_simp [e8]; omega)]
      blk_point [iblk, V, e2, e8]
    · blk_point [iblk, V, e5, e8]
  · simp only [if_neg h]
    refine congrArg₂ (· + ·) (congrArg₂ (· * ·) (congrArg _ ?_) (Finset.sum_congr rfl fun k _ => congrArg₂ (· * ·) ?_ ?_))
      (congrArg₂ (· * ·) (congrArg _ ?_) (Finset.sum_congr rfl fun k _ => congrArg₂ (· * ·) ?_ ?_))
    · blk_point [iblk, V, e6, e8]
    · rw [dif_neg (by blk_simp [e8]; omega)]
      blk_point [iblk, V, e1, e8]
    · blk_point [iblk, V, e4, e8]
    · blk_point [iblk, V, e7, e8]
    · rw [dif_neg (by blk_simp [e8]; omega)]
      blk_point [iblk, V, e3, e8]
    · blk_point [iblk, V, e5, e8]

end Cert.Kernel4Ideal.Merge

namespace Cert.Reference4Ideal.Merge

open Cert.Reference4Ideal Cert.Reference4Ideal.Gen Idealize.ShloMosaic Idealize.SL.Sem
open Cert.Kernel4Ideal.Merge (stacked merged)

/-- The gates: the logistic function of the last 4096 columns. -/
def gates (a6 : FVec Ideal S16384x16384 .f32) : FVec Ideal S16384x4096 .f32 :=
  Host.divf (broadcastInDim S16384x4096 ![] bcast_S_S16384x4096 (constant S_ .f32 0x3F800000#32))
    (addf (broadcastInDim S16384x4096 ![] bcast_S_S16384x4096 (constant S_ .f32 0x3F800000#32))
      (Host.exp (Host.negf (extractStridedSlice S16384x4096 ![0, 12288] a6 slices_S16384x16384_S16384x4096_0_12288))))

theorem gates_at (a6 : FVec Ideal S16384x16384 .f32) (r : Fin 16384) (k : Fin 4096) : gates a6 (ix2 r k) = Ideal.logistic (a6 (ix2 r ⟨12288 + k.val, by omega⟩)) := by
  unfold gates
  pointwise
  rfl

/-- The first branch's projected output. -/
def first (a0 a1 : FVec Ideal S8192x4096 .bf16) (a4 : FVec Ideal S1x4096x2048 .f32) : FVec Ideal S16384x2048 .f32 :=
  Host.dotGeneral dot_S16384x4096_S4096x2048_S16384x2048_1_0_0_1_n_n none
    (extf .f32 (concatenate S16384x4096 0 [⟨S8192x4096, a0⟩, ⟨S8192x4096, a1⟩] concatenates_S8192x4096_S8192x4096_S16384x4096_d0) bitsLt_bf16_f32)
    (shapeCast _ a4 shapeCasts_S1x4096x2048_S4096x2048)

theorem first_at (a0 a1 : FVec Ideal S8192x4096 .bf16) (a4 : FVec Ideal S1x4096x2048 .f32) (r : Fin 16384) (j : Fin 2048) :
    first a0 a1 a4 (ix2 r j) = ∑ k : Fin 4096, stacked (fun i k => a0 (ix2 i k)) (fun i k => a1 (ix2 i k)) r k * a4 (ix3 0 k j) := by
  unfold first stacked
  pointwise

/-- The second branch's. -/
def second (a2 a3 : FVec Ideal S8192x2048 .bf16) (a5 : FVec Ideal S1x2048x2048 .f32) : FVec Ideal S16384x2048 .f32 :=
  Host.dotGeneral dot_S16384x2048_S2048x2048_S16384x2048_1_0_0_1_n_n none
    (extf .f32 (concatenate S16384x2048 0 [⟨S8192x2048, a2⟩, ⟨S8192x2048, a3⟩] concatenates_S8192x2048_S8192x2048_S16384x2048_d0) bitsLt_bf16_f32)
    (shapeCast _ a5 shapeCasts_S1x2048x2048_S2048x2048)

theorem second_at (a2 a3 : FVec Ideal S8192x2048 .bf16) (a5 : FVec Ideal S1x2048x2048 .f32) (r : Fin 16384) (j : Fin 2048) :
    second a2 a3 a5 (ix2 r j) = ∑ k : Fin 2048, stacked (fun i k => a2 (ix2 i k)) (fun i k => a3 (ix2 i k)) r k * a5 (ix3 0 k j) := by
  unfold second stacked
  pointwise

/-- The reference's result. -/
def result (a0 a1 : FVec Ideal S8192x4096 .bf16) (a2 a3 : FVec Ideal S8192x2048 .bf16) (a4 : FVec Ideal S1x4096x2048 .f32)
    (a5 : FVec Ideal S1x2048x2048 .f32) (a6 : FVec Ideal S16384x16384 .f32) : FVec Ideal S16384x2048 .bf16 :=
  truncf .bf16 (addf (mulf (extractStridedSlice S16384x2048 ![0, 0] (gates a6) slices_S16384x4096_S16384x2048_0_0) (first a0 a1 a4))
    (mulf (extractStridedSlice S16384x2048 ![0, 2048] (gates a6) slices_S16384x4096_S16384x2048_0_2048) (second a2 a3 a5))) bitsLt_bf16_f32

theorem result_at (a0 a1 : FVec Ideal S8192x4096 .bf16) (a2 a3 : FVec Ideal S8192x2048 .bf16) (a4 : FVec Ideal S1x4096x2048 .f32)
    (a5 : FVec Ideal S1x2048x2048 .f32) (a6 : FVec Ideal S16384x16384 .f32) (r : Fin 16384) (j : Fin 2048) :
    result a0 a1 a2 a3 a4 a5 a6 (ix2 r j) = merged a0 a1 a2 a3 a4 a5 a6 r j := by
  unfold result merged
  pointwise
  refine congrArg₂ (· + ·) (congrArg₂ (· * ·) ((gates_at _ _ _).trans ?_) (first_at _ _ _ _ _))
    (congrArg₂ (· * ·) ((gates_at _ _ _).trans ?_) (second_at _ _ _ _ _))
  · exact congrArg (fun i => Ideal.logistic (a6 (ix2 r i))) (Fin.ext (by simp))
  · exact congrArg (fun i => Ideal.logistic (a6 (ix2 r i))) (Fin.ext (by show 12288 + (2048 + j.val) = 14336 + j.val; omega))

end Cert.Reference4Ideal.Merge
-- ==== Proof.Cache.lean ====
/-
  The context's two caches and its keys and values: what the call leaves in its four result arrays, index by index, and that the
  reference leaves the same.

  The latent is columns 10752 to 11263 of the projected prompt, root-mean-square normalised and weighted; the rotary part is columns
  11264 to 11327; the keys and values are the latent times the up-projection.
-/
module

public import proofs.«01_k».proof.Proof.Gen.Kernel5Ideal.Value
public import proofs.«01_k».proof.Proof.Gen.Reference5Ideal
public import proofs.«01_k».proof.Proof.Gen.Reference5Ideal.Run
public import Idealize.ShloMosaic.Lib.Pointwise
public import Idealize.ShloMosaic.Lib.Pipeline.ValueKit

@[expose] public section

set_option maxRecDepth 16384

noncomputable section

namespace Cert.Kernel5Ideal.Cache

open Cert.Kernel5Ideal Cert.Kernel5Ideal.Gen Idealize.ShloMosaic Idealize.ShloMosaic.TcCoe Idealize.SL.Sem
open Idealize.ShloMosaic.Pipeline (Dat)

/-- An entry of a row of 512 numbers, normalised by the row's root mean square and weighted. -/
def normed (x : Fin 512 → EReal) (w : Fin 512 → EReal) (j : Fin 512) : EReal :=
  x j * Ideal.rsqrt (Ideal.div (∑ k : Fin 512, x k * x k) (Ideal.ofBits FTy.f32 0x44000000#32) + Ideal.ofBits FTy.f32 0x358637BD#32) * w j

/-- The latent at row `r`, lane `j`. -/
def latent (a0 : FVec Ideal S16384x16384 .f32) (a1 : FVec Ideal S1x512 .f32) (r : Fin 8192) (j : Fin 512) : EReal :=
  normed (fun k => a0 (ix2 ⟨r.val, by omega⟩ ⟨10752 + k.val, by omega⟩)) (fun k => a1 (ix2 0 k)) j

/-- The rotary part at row `r`, lane `j`. -/
def rotary (a0 : FVec Ideal S16384x16384 .f32) (r : Fin 8192) (j : Fin 64) : EReal :=
  a0 (ix2 ⟨r.val, by omega⟩ ⟨11264 + j.val, by omega⟩)

/-- The keys and values at row `r`, column `j`. -/
def keysValues (a0 : FVec Ideal S16384x16384 .f32) (a1 : FVec Ideal S1x512 .f32) (a2 : FVec Ideal S1x512x4096 .f32) (r : Fin 8192) (j : Fin 4096) : EReal :=
  ∑ k : Fin 512, latent a0 a1 r k * a2 (ix3 0 k j)

theorem pay1_at (v0 : Vec Ideal S512x512 .f32) (v1 : Vec Ideal S1x512 .f32) (r : Fin 512) (j : Fin 512) :
    k0_pay1 v0 v1 (ix2 r j) = normed (fun k => v0 (ix2 r k)) (fun k => v1 (ix2 0 k)) j := by
  unfold k0_pay1
  pointwise
  rfl

theorem pay2_at (v0 : Vec Ideal S512x512 .f32) (v1 : Vec Ideal S1x512 .f32) (v17 : Vec Ideal S512x4096 .bf16) (r : Fin 512) (j : Fin 4096) :
    k0_pay2 v0 v1 v17 (ix2 r j) = ∑ k : Fin 512, normed (fun k => v0 (ix2 r k)) (fun k => v1 (ix2 0 k)) k * v17 (ix2 k j) := by
  unfold k0_pay2
  pointwise
  exact Finset.sum_congr rfl fun k _ => congrArg₂ (· * ·) (pay1_at _ _ _ _) rfl

variable (m : (ℓ : Loc nD τ sig) → Buf (Elt Ideal) ℓ)

/-- The four result arrays. -/
def latentArr (c : Dev nD) : Vec Ideal S8192x512 .f32 := fun y =>
  latent (m ((c : Thread nD τ).loc main_arg0)) (m ((c : Thread nD τ).loc main_arg1)) ⟨(y 0 : ℕ), (y 0).isLt⟩ ⟨(y 1 : ℕ), (y 1).isLt⟩
def rotaryArr (c : Dev nD) : Vec Ideal S8192x64 .f32 := fun y =>
  rotary (m ((c : Thread nD τ).loc main_arg0)) ⟨(y 0 : ℕ), (y 0).isLt⟩ ⟨(y 1 : ℕ), (y 1).isLt⟩
def rotaryNarrowArr (c : Dev nD) : Vec Ideal S8192x64 .bf16 := fun y =>
  rotary (m ((c : Thread nD τ).loc main_arg0)) ⟨(y 0 : ℕ), (y 0).isLt⟩ ⟨(y 1 : ℕ), (y 1).isLt⟩
def keysValuesArr (c : Dev nD) : Vec Ideal S8192x4096 .bf16 := fun y =>
  keysValues (m ((c : Thread nD τ).loc main_arg0)) (m ((c : Thread nD τ).loc main_arg1)) (m ((c : Thread nD τ).loc main_arg2)) ⟨(y 0 : ℕ), (y 0).isLt⟩ ⟨(y 1 : ℕ), (y 1).isLt⟩

/-- Where the windows' blocks stand at each grid point. -/
theorem idx : ∀ t : Fin cfg0.N, t.val < 16
    ∧ win0_0.index t = ![t.val, 21] ∧ win0_1.index t = ![t.val, 88] ∧ win0_2.index t = ![0, 0] ∧ win0_3.index t = ![0, 0]
    ∧ win0_6.index t = ![t.val, 0] ∧ win0_7.index t = ![t.val, 0] ∧ win0_8.index t = ![t.val, 0] ∧ win0_9.index t = ![t.val, 0] :=
  (by decide +kernel : ∀ t : Fin grid0.N, _)

/-- The row the normalisation reads at point `t`. -/
theorem row_at (c : Dev nD) (t : Fin cfg0.N) (r : Fin 512) (k : Fin 512) (R : Fin 16384) (hR : R.val = t.val * 512 + r.val) :
    (iblk m c 0 t : Vec Ideal S512x512 .f32) (ix2 r k) = (m ((c : Thread nD τ).loc main_arg0) : FVec Ideal S16384x16384 .f32) (ix2 R ⟨10752 + k.val, by omega⟩) := by
  obtain ⟨hN, e0, -⟩ := idx t
  blk_point [iblk, V, e0]

theorem weight_at (c : Dev nD) (t : Fin cfg0.N) (k : Fin 512) :
    (iblk m c 2 t : Vec Ideal S1x512 .f32) (ix2 0 k) = (m ((c : Thread nD τ).loc main_arg1) : FVec Ideal S1x512 .f32) (ix2 0 k) := by
  obtain ⟨hN, -, -, e2, -⟩ := idx t
  blk_point [iblk, V, e2]

theorem up_at (c : Dev nD) (t : Fin cfg0.N) (k : Fin 512) (j : Fin 4096) :
    (iblk m c 3 t : Vec Ideal S512x4096 .bf16) (ix2 k j) = (m ((c : Thread nD τ).loc main_arg2) : FVec Ideal S1x512x4096 .f32) (ix3 0 k j) := by
  obtain ⟨hN, -, -, -, e3, -⟩ := idx t
  blk_point [iblk, V, e3]

theorem latent_block (c : Dev nD) (t : Fin cfg0.N) (r : Fin 512) (k : Fin 512) (R : Fin 8192) (hR : R.val = t.val * 512 + r.val) :
    normed (fun k => (iblk m c 0 t : Vec Ideal S512x512 .f32) (ix2 r k)) (fun k => (iblk m c 2 t : Vec Ideal S1x512 .f32) (ix2 0 k)) k
      = latent (m ((c : Thread nD τ).loc main_arg0)) (m ((c : Thread nD τ).loc main_arg1)) R k := by
  unfold latent
  exact congrArg₂ (fun x w => normed x w k) (funext fun k => row_at m c t r k _ hR) (funext fun k => weight_at m c t k)

set_option maxHeartbeats 2000000 in
theorem final_latent (c : Dev nD) : (dats m 0 c).arrAt 6 cfg0.N = latentArr m c := by
  refine (dats m 0 c).arrAt_eq_of_covers 6 _ (by decide +kernel) fun t hf y => ?_
  blk_simp
  rw [after0_6]
  frame_out
  have e6 := (idx t).2.2.2.2.2.1
  have y0 : (y 0 : ℕ) < 512 := (y 0).isLt
  have y1 : (y 1 : ℕ) < 512 := (y 1).isLt
  have e : y = ix2 ⟨(y 0 : ℕ), y0⟩ ⟨(y 1 : ℕ), y1⟩ := by funext a; fin_cases a <;> rfl
  refine (congrArg _ e).trans ((pay1_at _ _ ⟨(y 0 : ℕ), y0⟩ ⟨(y 1 : ℕ), y1⟩).trans ?_)
  unfold latentArr
  have hN := (idx t).1
  refine (latent_block m c t ⟨(y 0 : ℕ), y0⟩ ⟨(y 1 : ℕ), y1⟩ ⟨t.val * 512 + (y 0 : ℕ), by omega⟩ rfl).trans ?_
  exact congrArg₂ (latent _ _) (Fin.ext (by blk_simp [e6])) (Fin.ext (by blk_simp [e6]))

set_option maxHeartbeats 2000000 in
theorem final_rotary (c : Dev nD) : (dats m 0 c).arrAt 7 cfg0.N = rotaryArr m c := by
  refine (dats m 0 c).arrAt_eq_of_covers 7 _ (by decide +kernel) fun t hf y => ?_
  blk_simp
  rw [after0_7]
  frame_out
  obtain ⟨hN, e0, e1, e2, e3, e6, e7, e8, e9⟩ := idx t
  unfold rotaryArr rotary
  pointwise
  blk_point [iblk, V, e1, e7]

set_option maxHeartbeats 2000000 in
theorem final_rotaryNarrow (c : Dev nD) : (dats m 0 c).arrAt 8 cfg0.N = rotaryNarrowArr m c := by
  refine (dats m 0 c).arrAt_eq_of_covers 8 _ (by decide +kernel) fun t hf y => ?_
  blk_simp
  rw [after0_8]
  frame_out
  obtain ⟨hN, e0, e1, e2, e3, e6, e7, e8, e9⟩ := idx t
  unfold rotaryNarrowArr rotary k0_pay3
  pointwise
  blk_point [iblk, V, e1, e8]

set_option maxHeartbeats 2000000 in
theorem final_keysValues (c : Dev nD) : (dats m 0 c).arrAt 9 cfg0.N = keysValuesArr m c := by
  refine (dats m 0 c).arrAt_eq_of_covers 9 _ (by decide +kernel) fun t hf y => ?_
  blk_simp
  rw [after0_9]
  frame_out
  have e9 := (idx t).2.2.2.2.2.2.2.2
  have y0 : (y 0 : ℕ) < 512 := (y 0).isLt
  have y1 : (y 1 : ℕ) < 4096 := (y 1).isLt
  have e : y = ix2 ⟨(y 0 : ℕ), y0⟩ ⟨(y 1 : ℕ), y1⟩ := by funext a; fin_cases a <;> rfl
  refine (congrArg _ e).trans ((pay2_at _ _ _ ⟨(y 0 : ℕ), y0⟩ ⟨(y 1 : ℕ), y1⟩).trans ?_)
  unfold keysValuesArr keysValues
  have hN := (idx t).1
  refine Finset.sum_congr rfl fun k _ => congrArg₂ (· * ·) ((latent_block m c t ⟨(y 0 : ℕ), y0⟩ k ⟨t.val * 512 + (y 0 : ℕ), by omega⟩ rfl).trans
    (congrArg (fun i => latent _ _ i k) (Fin.ext (by blk_simp [e9])))) ((up_at m c t k ⟨(y 1 : ℕ), y1⟩).trans ?_)
  exact congrArg (fun i => (m ((c : Thread nD τ).loc main_arg2) : FVec Ideal S1x512x4096 .f32) (ix3 0 k i)) (Fin.ext (by blk_simp [e9]))

end Cert.Kernel5Ideal.Cache

namespace Cert.Reference5Ideal.Cache

open Cert.Reference5Ideal Cert.Reference5Ideal.Gen Idealize.ShloMosaic Idealize.SL.Sem
open Cert.Kernel5Ideal.Cache (normed latent rotary keysValues)

/-- The reference's latent. -/
def lat (a0 : FVec Ideal S16384x16384 .f32) (a1 : FVec Ideal S1x512 .f32) : FVec Ideal S8192x512 .f32 :=
  mulf (mulf (extractStridedSlice S8192x512 ![0, 10752] a0 slices_S16384x16384_S8192x512_0_10752)
      (broadcastInDim S8192x512 ![0, 1] bcast_S8192x1_S8192x512_0_1 (Host.rsqrt (addf
        (Host.divf (broadcastInDim S8192x1 ![0] bcast_S8192_S8192x1_0
            (Host.reduceAdd (mulf (extractStridedSlice S8192x512 ![0, 10752] a0 slices_S16384x16384_S8192x512_0_10752)
              (extractStridedSlice S8192x512 ![0, 10752] a0 slices_S16384x16384_S8192x512_0_10752)) (constant S_ .f32 0x00000000#32) reducesTo_S8192x512_S8192_d1 h_S_))
          (broadcastInDim S8192x1 ![] bcast_S_S8192x1 (constant S_ .f32 0x44000000#32)))
        (broadcastInDim S8192x1 ![] bcast_S_S8192x1 (constant S_ .f32 0x358637BD#32))))))
    (broadcastInDim S8192x512 ![0, 1] bcast_S1x512_S8192x512_0_1 (broadcastInDim S1x512 ![1] bcast_S512_S1x512_1 (shapeCast _ a1 shapeCasts_S1x512_S512)))

theorem lat_at (a0 : FVec Ideal S16384x16384 .f32) (a1 : FVec Ideal S1x512 .f32) (r : Fin 8192) (j : Fin 512) : lat a0 a1 (ix2 r j) = latent a0 a1 r j := by
  unfold lat
  pointwise
  rfl

/-- Its rotary part. -/
def rot (a0 : FVec Ideal S16384x16384 .f32) : FVec Ideal S8192x64 .f32 :=
  extractStridedSlice S8192x64 ![0, 11264] a0 slices_S16384x16384_S8192x64_0_11264

theorem rot_at (a0 : FVec Ideal S16384x16384 .f32) (r : Fin 8192) (j : Fin 64) : rot a0 (ix2 r j) = rotary a0 r j := by
  unfold rot rotary
  pointwise

/-- The same in the narrow format. -/
def rotNarrow (a0 : FVec Ideal S16384x16384 .f32) : FVec Ideal S8192x64 .bf16 :=
  truncf .bf16 (extractStridedSlice S8192x64 ![0, 11264] a0 slices_S16384x16384_S8192x64_0_11264) bitsLt_bf16_f32

theorem rotNarrow_at (a0 : FVec Ideal S16384x16384 .f32) (r : Fin 8192) (j : Fin 64) : rotNarrow a0 (ix2 r j) = rotary a0 r j := by
  unfold rotNarrow rotary
  pointwise

/-- Its keys and values. -/
def kv (a0 : FVec Ideal S16384x16384 .f32) (a1 : FVec Ideal S1x512 .f32) (a2 : FVec Ideal S1x512x4096 .f32) : FVec Ideal S8192x4096 .bf16 :=
  truncf .bf16 (Host.dotGeneral dot_S8192x512_S512x4096_S8192x4096_1_0_0_1_n_n none (lat a0 a1) (shapeCast _ a2 shapeCasts_S1x512x4096_S512x4096)) bitsLt_bf16_f32

theorem kv_at (a0 : FVec Ideal S16384x16384 .f32) (a1 : FVec Ideal S1x512 .f32) (a2 : FVec Ideal S1x512x4096 .f32) (r : Fin 8192) (j : Fin 4096) :
    kv a0 a1 a2 (ix2 r j) = keysValues a0 a1 a2 r j := by
  unfold kv keysValues
  pointwise
  exact Finset.sum_congr rfl fun k _ => congrArg₂ (· * ·) (lat_at a0 a1 r k) rfl

end Cert.Reference5Ideal.Cache
-- ==== Proof.Mods.lean ====
/-
  The modulation rows: what the call leaves in its result array, index by index, and that the reference leaves the same.

  Row 0 is the context's condition, rows 1 to 4 the samples', the last three are zero conditions; each row is `silu(c) W + b`.
-/
module

public import proofs.«01_k».proof.Proof.Gen.Kernel6Ideal.Value
public import proofs.«01_k».proof.Proof.Gen.Reference6Ideal
public import proofs.«01_k».proof.Proof.Gen.Reference6Ideal.Run
public import Idealize.ShloMosaic.Lib.Pointwise
public import Idealize.ShloMosaic.Lib.Pipeline.ValueKit
public import Idealize.ShloMosaic.Lib.Routing.OpsSet

@[expose] public section

set_option maxRecDepth 16384

noncomputable section

namespace Cert.Kernel6Ideal.Mods

open Cert.Kernel6Ideal Cert.Kernel6Ideal.Gen Idealize.ShloMosaic Idealize.ShloMosaic.TcCoe Idealize.SL.Sem
open Idealize.ShloMosaic.Pipeline (Dat)

/-- The condition of row `r`: the context's, a sample's, or zero. -/
def condition (a0 : FVec Ideal S4x2048 .f32) (a1 : FVec Ideal S2048 .f32) (r : Fin 8) (k : Fin 2048) : EReal :=
  if r.val < 1 then a1 (ix1 k) else if h : r.val - 1 < 4 then a0 (ix2 ⟨r.val - 1, h⟩ k) else 0

/-- The result at row `r`, column `j`. -/
def mods (a0 : FVec Ideal S4x2048 .f32) (a1 : FVec Ideal S2048 .f32) (a2 : FVec Ideal S1x2048x12288 .f32) (a3 : FVec Ideal S1x12288 .f32)
    (r : Fin 8) (j : Fin 12288) : EReal :=
  (∑ k : Fin 2048, condition a0 a1 r k * Ideal.logistic (condition a0 a1 r k) * a2 (ix3 0 k j)) + a3 (ix2 0 j)

theorem pay_at (v0 : Vec Ideal S8x2048 .f32) (v5 : Vec Ideal S2048x1024 .f32) (v9 : Vec Ideal S1x1024 .f32) (r : Fin 8) (j : Fin 1024) :
    k0_pay1 v0 v5 v9 (ix2 r j)
      = (∑ k : Fin 2048, v0 (ix2 r k) * Ideal.logistic (v0 (ix2 r k)) * v5 (ix2 k j)) + v9 (ix2 0 j) := by
  unfold k0_pay1
  pointwise

variable (m : (ℓ : Loc nD τ sig) → Buf (Elt Ideal) ℓ)

/-- Setting row 0 of an array. -/
theorem set_first (x : FVec Ideal S8x2048 .f32) (u : FVec Ideal S2048 .f32) (r : Fin 8) (k : Fin 2048) :
    Host.scatter scatter_S8x2048_S1_S2048_0_0_0_0 (fun _ b => b) x (broadcastInDim S1 ![] bcast_S_S1 (constantI S_ 32 0#32)) u (ix2 r k)
      = if r.val < 1 then u (ix1 k) else x (ix2 r k) := by
  have lands : ∀ (j : S2048.Idx), scatter_S8x2048_S1_S2048_0_0_0_0.resultIdx? j (broadcastInDim S1 ![] bcast_S_S1 (constantI S_ 32 0#32)) = some (ix2 r k)
      ↔ r.val = 0 ∧ (j 0 : ℕ) = k.val := fun j => by
    have hs0 : scatter_S8x2048_S1_S2048_0_0_0_0.start j (broadcastInDim S1 ![] bcast_S_S1 (constantI S_ 32 0#32)) 0 = 0 := rfl
    have hs1 : scatter_S8x2048_S1_S2048_0_0_0_0.start j (broadcastInDim S1 ![] bcast_S_S1 (constantI S_ 32 0#32)) 1 = 0 := rfl
    have hw0 : scatter_S8x2048_S1_S2048_0_0_0_0.window j 0 = 0 := rfl
    have hw1 : scatter_S8x2048_S1_S2048_0_0_0_0.window j 1 = (j 0 : ℕ) := rfl
    refine (Routing.resultIdx?_ix2 (R := 8) (C := 2048) scatter_S8x2048_S1_S2048_0_0_0_0 j _ r k).trans ?_
    rw [hs0, hs1, hw0, hw1]
    omega
  by_cases h : r.val < 1
  · rw [if_pos h]
    refine Routing.scatter_set_hit _ x _ u _ _ (fun j hj => congrArg u ?_) (ix1 k) ((lands (ix1 k)).mpr ⟨by omega, rfl⟩)
    have e := ((lands j).mp hj).2
    funext a
    fin_cases a
    exact Fin.ext e
  · rw [if_neg h]
    exact Routing.scatter_set_miss _ x _ u _ fun j hj => h (by have := ((lands j).mp hj).1; omega)

/-- Setting rows 1 to 4 of an array. -/
theorem set_next (x : FVec Ideal S8x2048 .f32) (u : FVec Ideal S4x2048 .f32) (r : Fin 8) (k : Fin 2048) :
    Host.scatter scatter_S8x2048_S1_S4x2048_01_n_0_0 (fun _ b => b) x (broadcastInDim S1 ![] bcast_S_S1 (constantI S_ 32 1#32)) u (ix2 r k)
      = if h : 1 ≤ r.val ∧ r.val - 1 < 4 then u (ix2 ⟨r.val - 1, h.2⟩ k) else x (ix2 r k) := by
  have lands : ∀ (j : S4x2048.Idx), scatter_S8x2048_S1_S4x2048_01_n_0_0.resultIdx? j (broadcastInDim S1 ![] bcast_S_S1 (constantI S_ 32 1#32)) = some (ix2 r k)
      ↔ 1 + (j 0 : ℕ) = r.val ∧ (j 1 : ℕ) = k.val := fun j => by
    have hs0 : scatter_S8x2048_S1_S4x2048_01_n_0_0.start j (broadcastInDim S1 ![] bcast_S_S1 (constantI S_ 32 1#32)) 0 = 1 := rfl
    have hs1 : scatter_S8x2048_S1_S4x2048_01_n_0_0.start j (broadcastInDim S1 ![] bcast_S_S1 (constantI S_ 32 1#32)) 1 = 0 := rfl
    have hw0 : scatter_S8x2048_S1_S4x2048_01_n_0_0.window j 0 = (j 0 : ℕ) := rfl
    have hw1 : scatter_S8x2048_S1_S4x2048_01_n_0_0.window j 1 = (j 1 : ℕ) := rfl
    refine (Routing.resultIdx?_ix2 (R := 8) (C := 2048) scatter_S8x2048_S1_S4x2048_01_n_0_0 j _ r k).trans ?_
    rw [hs0, hs1, hw0, hw1]
    omega
  by_cases h : 1 ≤ r.val ∧ r.val - 1 < 4
  · rw [dif_pos h]
    refine Routing.scatter_set_hit _ x _ u _ _ (fun j hj => congrArg u ?_) (ix2 ⟨r.val - 1, h.2⟩ k)
      ((lands (ix2 ⟨r.val - 1, h.2⟩ k)).mpr ⟨by show 1 + (r.val - 1) = r.val; omega, rfl⟩)
    have e := (lands j).mp hj
    funext a
    fin_cases a
    · exact Fin.ext (by show (j 0 : ℕ) = r.val - 1; omega)
    · exact Fin.ext e.2
  · rw [dif_neg h]
    refine Routing.scatter_set_miss _ x _ u _ fun j hj => h ?_
    have e := ((lands j).mp hj).1
    have b : (j 0 : ℕ) < 4 := (j 0).isLt
    omega

theorem V_cond (c : Dev nD) (r : Fin 8) (k : Fin 2048) : (V m c main_v4 : FVec Ideal S8x2048 .f32) (ix2 r k)
    = condition (m ((c : Thread nD τ).loc main_arg0)) (m ((c : Thread nD τ).loc main_arg1)) r k := by
  entry_read
  refine (set_next _ _ r k).trans ?_
  unfold condition
  by_cases h0 : r.val < 1
  · rw [dif_neg (by omega), if_pos h0]
    exact (set_first _ _ r k).trans (if_pos h0)
  · rw [if_neg h0]
    by_cases h : r.val - 1 < 4
    · rw [dif_pos (by omega), dif_pos h]
    · rw [dif_neg (by omega), dif_neg h]
      refine (set_first _ _ r k).trans ((if_neg h0).trans ?_)
      pointwise

/-- The whole result array. -/
def modsArr (c : Dev nD) : Vec Ideal S8x12288 .f32 := fun y =>
  mods (m ((c : Thread nD τ).loc main_arg0)) (m ((c : Thread nD τ).loc main_arg1)) (m ((c : Thread nD τ).loc main_arg2)) (m ((c : Thread nD τ).loc main_arg3))
    ⟨(y 0 : ℕ), (y 0).isLt⟩ ⟨(y 1 : ℕ), (y 1).isLt⟩

/-- Where the windows' blocks stand at each grid point. -/
theorem idx : ∀ t : Fin cfg0.N, t.val < 12
    ∧ win0_0.index t = ![0, 0] ∧ win0_1.index t = ![0, t.val] ∧ win0_2.index t = ![0, t.val] ∧ win0_3.index t = ![0, t.val] :=
  (by decide +kernel : ∀ t : Fin grid0.N, _)

theorem cond_at (c : Dev nD) (t : Fin cfg0.N) (r : Fin 8) (k : Fin 2048) : (iblk m c 0 t : Vec Ideal S8x2048 .f32) (ix2 r k)
    = condition (m ((c : Thread nD τ).loc main_arg0)) (m ((c : Thread nD τ).loc main_arg1)) r k := by
  obtain ⟨hN, e0, -⟩ := idx t
  refine Eq.trans ?_ (V_cond m c r k)
  blk_ext [iblk, e0]

set_option maxHeartbeats 2000000 in
theorem final (c : Dev nD) : (dats m 0 c).arrAt 3 cfg0.N = modsArr m c := by
  refine (dats m 0 c).arrAt_eq_of_covers 3 _ (by decide +kernel) fun t hf y => ?_
  blk_simp
  rw [after0_3]
  frame_out
  obtain ⟨hN, e0, e1, e2, e3⟩ := idx t
  have y0 : (y 0 : ℕ) < 8 := (y 0).isLt
  have y1 : (y 1 : ℕ) < 1024 := (y 1).isLt
  have e : y = ix2 ⟨(y 0 : ℕ), y0⟩ ⟨(y 1 : ℕ), y1⟩ := by funext a; fin_cases a <;> rfl
  refine (congrArg _ e).trans ((pay_at _ _ _ ⟨(y 0 : ℕ), y0⟩ ⟨(y 1 : ℕ), y1⟩).trans ?_)
  unfold modsArr mods
  have hc : ∀ k, (iblk m c 0 t : Vec Ideal S8x2048 .f32) (ix2 ⟨(y 0 : ℕ), y0⟩ k)
      = condition (m ((c : Thread nD τ).loc main_arg0)) (m ((c : Thread nD τ).loc main_arg1)) ⟨((((cfg0.win 3).blk t).view.emb y) 0 : ℕ), ((((cfg0.win 3).blk t).view.emb y) 0).isLt⟩ k :=
    fun k => (cond_at m c t _ k).trans (congrArg (fun i => condition _ _ i k) (Fin.ext (by blk_simp [e3])))
  refine congrArg₂ (· + ·) (Finset.sum_congr rfl fun k _ => congrArg₂ (· * ·) (congrArg₂ (fun a b => a * Ideal.logistic b) (hc k) (hc k)) ?_) ?_
  · blk_point [iblk, V, e1, e3]
  · blk_point [iblk, V, e2, e3]

end Cert.Kernel6Ideal.Mods

namespace Cert.Reference6Ideal.Mods

open Cert.Reference6Ideal Cert.Reference6Ideal.Gen Idealize.ShloMosaic Idealize.SL.Sem
open Cert.Kernel6Ideal.Mods (condition mods)

/-- The eight conditions. -/
def conds (a0 : FVec Ideal S4x2048 .f32) (a1 : FVec Ideal S2048 .f32) : FVec Ideal S8x2048 .f32 :=
  concatenate S8x2048 0 [⟨S1x2048, broadcastInDim S1x2048 ![1] bcast_S2048_S1x2048_1 a1⟩, ⟨S4x2048, a0⟩,
    ⟨S3x2048, broadcastInDim S3x2048 ![] bcast_S_S3x2048 (constant S_ .f32 0x00000000#32)⟩] concatenates_S1x2048_S4x2048_S3x2048_S8x2048_d0

theorem conds_at (a0 : FVec Ideal S4x2048 .f32) (a1 : FVec Ideal S2048 .f32) (r : Fin 8) (k : Fin 2048) : conds a0 a1 (ix2 r k) = condition a0 a1 r k := by
  unfold conds condition
  pointwise
  by_cases h : r.val < 1
  · rw [dif_pos h, if_pos h]
  · rw [dif_neg h, if_neg h]

/-- The reference's result. -/
def result (a0 : FVec Ideal S4x2048 .f32) (a1 : FVec Ideal S2048 .f32) (a2 : FVec Ideal S1x2048x12288 .f32) (a3 : FVec Ideal S1x12288 .f32) : FVec Ideal S8x12288 .f32 :=
  addf (Host.dotGeneral dot_S8x2048_S2048x12288_S8x12288_1_0_0_1_n_n none
      (mulf (conds a0 a1) (Host.divf (broadcastInDim S8x2048 ![] bcast_S_S8x2048 (constant S_ .f32 0x3F800000#32))
        (addf (broadcastInDim S8x2048 ![] bcast_S_S8x2048 (constant S_ .f32 0x3F800000#32)) (Host.exp (Host.negf (conds a0 a1))))))
      (shapeCast _ a2 shapeCasts_S1x2048x12288_S2048x12288))
    (broadcastInDim S8x12288 ![0, 1] bcast_S1x12288_S8x12288_0_1 (broadcastInDim S1x12288 ![1] bcast_S12288_S1x12288_1 (shapeCast _ a3 shapeCasts_S1x12288_S12288)))

theorem result_at (a0 : FVec Ideal S4x2048 .f32) (a1 : FVec Ideal S2048 .f32) (a2 : FVec Ideal S1x2048x12288 .f32) (a3 : FVec Ideal S1x12288 .f32) (r : Fin 8) (j : Fin 12288) :
    result a0 a1 a2 a3 (ix2 r j) = mods a0 a1 a2 a3 r j := by
  unfold result mods
  pointwise
  refine congrArg₂ (· + ·) (Finset.sum_congr rfl fun k _ => congrArg₂ (· * ·) ?_ rfl) rfl
  rw [conds_at]
  rfl

end Cert.Reference6Ideal.Mods
-- ==== Proof.NormSpec.lean ====
/-
  The output projection, the first normalization, the modulated rows the experts take and the router's logits, as functions of the
  indices.

  Row `r` of the 16384 rows is the prompt's row for the first 8192 and the samples' for the rest; its modulation row is 0 for the prompt
  and 1 to 4 for the four samples.
-/
module

public import proofs.«01_k».proof.Proof.Gen.Kernel7Ideal
public import Idealize.ShloMosaic.Lib.Pointwise

@[expose] public section

noncomputable section

namespace Cert.Kernel7Ideal.Norm

open Cert.Kernel7Ideal Cert.Kernel7Ideal.Gen Idealize.ShloMosaic Idealize.SL.Sem

/-- An entry less the row's mean. -/
def centred (x : Fin 2048 → EReal) (k : Fin 2048) : EReal :=
  x k - Ideal.div (∑ i : Fin 2048, x i) (Ideal.ofBits FTy.f32 0x45000000#32)

/-- The reciprocal of the row's deviation. -/
def spread (x : Fin 2048 → EReal) : EReal :=
  Ideal.rsqrt (Ideal.div (∑ i : Fin 2048, centred x i * centred x i) (Ideal.ofBits FTy.f32 0x45000000#32) + Ideal.ofBits FTy.f32 0x3727C5AC#32)

/-- An entry of the row normalized, weighted and shifted. -/
def layerNorm (x w b : Fin 2048 → EReal) (k : Fin 2048) : EReal := centred x k * spread x * w k + b k

/-- The token at row `r`. -/
def token (a2 : FVec Ideal S32x256x2048 .f32) (a3 : FVec Ideal S4x2048x2048 .f32) (r : Fin 16384) (k : Fin 2048) : EReal :=
  if h : r.val < 8192 then a2 (ix3 ⟨r.val / 256, by omega⟩ ⟨r.val % 256, by omega⟩ k)
  else a3 (ix3 ⟨(r.val - 8192) / 2048, by omega⟩ ⟨(r.val - 8192) % 2048, by omega⟩ k)

/-- The modulation of row `r`, column `k` of the six vectors side by side. -/
def modAt (a4 : FVec Ideal S8x12288 .f32) (r : Fin 16384) (k : Fin 12288) : EReal :=
  if r.val < 8192 then a4 (ix2 0 k) else a4 (ix2 ⟨1 + (r.val - 8192) / 2048, by omega⟩ k)

/-- The row before the normalization: the token scaled, with the gated output projection. -/
def mixed (a0 : FVec Ideal S16384x2048 .bf16) (a1 : FVec Ideal S1x2048x2048 .f32) (a2 : FVec Ideal S32x256x2048 .f32) (a3 : FVec Ideal S4x2048x2048 .f32)
    (a4 : FVec Ideal S8x12288 .f32) (r : Fin 16384) (k : Fin 2048) : EReal :=
  Ideal.ofBits FTy.f32 0x3F9837F0#32 * token a2 a3 r k
    + modAt a4 r ⟨4096 + k.val, by omega⟩ * ∑ i : Fin 2048, a0 (ix2 r i) * a1 (ix3 0 i k)

/-- The normalized row. -/
def first (a0 : FVec Ideal S16384x2048 .bf16) (a1 : FVec Ideal S1x2048x2048 .f32) (a2 : FVec Ideal S32x256x2048 .f32) (a3 : FVec Ideal S4x2048x2048 .f32)
    (a4 : FVec Ideal S8x12288 .f32) (a5 a6 : FVec Ideal S1x2048 .f32) (r : Fin 16384) (k : Fin 2048) : EReal :=
  layerNorm (mixed a0 a1 a2 a3 a4 r) (fun k => a5 (ix2 0 k)) (fun k => a6 (ix2 0 k)) k

/-- The row the experts take. -/
def second (a0 : FVec Ideal S16384x2048 .bf16) (a1 : FVec Ideal S1x2048x2048 .f32) (a2 : FVec Ideal S32x256x2048 .f32) (a3 : FVec Ideal S4x2048x2048 .f32)
    (a4 : FVec Ideal S8x12288 .f32) (a5 a6 : FVec Ideal S1x2048 .f32) (r : Fin 16384) (k : Fin 2048) : EReal :=
  first a0 a1 a2 a3 a4 a5 a6 r k * (1 + modAt a4 r ⟨8192 + k.val, by omega⟩) + modAt a4 r ⟨6144 + k.val, by omega⟩

/-- The logit of the row and one of the 32 experts; zero in the 96 further columns. -/
def logit (a0 : FVec Ideal S16384x2048 .bf16) (a1 : FVec Ideal S1x2048x2048 .f32) (a2 : FVec Ideal S32x256x2048 .f32) (a3 : FVec Ideal S4x2048x2048 .f32)
    (a4 : FVec Ideal S8x12288 .f32) (a5 a6 : FVec Ideal S1x2048 .f32) (a7 : FVec Ideal S1x2048x32 .f32) (a8 : FVec Ideal S1x32 .f32)
    (r : Fin 16384) (j : Fin 128) : EReal :=
  if h : j.val < 32 then (∑ k : Fin 2048, second a0 a1 a2 a3 a4 a5 a6 r k * a7 (ix3 0 k ⟨j.val, h⟩)) + a8 (ix2 0 ⟨j.val, h⟩) else 0

end Cert.Kernel7Ideal.Norm
-- ==== Proof.NormHost.lean ====
/-
  The arrays the host prepares for the call with the output projection and the first normalization, and what the call computes of its
  blocks, index by index.
-/
module

public import proofs.«01_k».proof.Proof.NormSpec
public import proofs.«01_k».proof.Proof.Gen.Kernel7Ideal.Value
public import Idealize.ShloMosaic.Lib.Pointwise
public import Idealize.ShloMosaic.Lib.Routing.OpsSet
public import Idealize.ShloMosaic.Lib.Pipeline.ValueKit

@[expose] public section

set_option maxRecDepth 16384

noncomputable section

namespace Cert.Kernel7Ideal.Norm

open Cert.Kernel7Ideal Cert.Kernel7Ideal.Gen Idealize.ShloMosaic Idealize.ShloMosaic.TcCoe Idealize.SL.Sem
open Idealize.ShloMosaic.Pipeline (Dat)

/-- Which of the two row blocks a grid point takes. -/
theorem pick (i : grid0.Coords) {α : Type} (x y : α) :
    Scalar.select (Scalar.cmpi CmpIPredicate.slt (BitVec.ofNat 32 (i 0).val) 32#32) x y = if (i 0).val < 32 then x else y := by
  have h : ∀ n : Fin 64, (Scalar.cmpi CmpIPredicate.slt (BitVec.ofNat 32 n.val) 32#32 = 1#1) ↔ n.val < 32 := by decide +kernel
  have hi := h ⟨(i 0).val, (i 0).isLt⟩
  unfold Scalar.select
  by_cases c : (i 0).val < 32
  · rw [if_pos c]; exact if_pos (hi.mpr c)
  · rw [if_neg c]; exact if_neg fun q => c (hi.mp q)

/-- A row of a block before the normalization. -/
def blockRow (i : grid0.Coords) (v0 : Vec Ideal S256x2048 .bf16) (v1 : Vec Ideal S2048x2048 .bf16) (v5 v7 : Vec Ideal S256x2048 .f32)
    (v12 : Vec Ideal S1x1x2048 .f32) (r : Fin 256) (k : Fin 2048) : EReal :=
  Ideal.ofBits FTy.f32 0x3F9837F0#32 * (if (i 0).val < 32 then v5 (ix2 r k) else v7 (ix2 r k))
    + v12 (ix3 0 0 k) * ∑ q : Fin 2048, v0 (ix2 r q) * v1 (ix2 q k)

theorem pay6_at (i : grid0.Coords) (v0 : Vec Ideal S256x2048 .bf16) (v1 : Vec Ideal S2048x2048 .bf16) (v5 v7 : Vec Ideal S256x2048 .f32)
    (v12 : Vec Ideal S1x1x2048 .f32) (r : Fin 256) (k : Fin 2048) :
    k0_pay6 i v0 v1 v5 v7 v12 (ix2 r k) = centred (blockRow i v0 v1 v5 v7 v12 r) k := by
  unfold k0_pay6
  pointwise
  simp only [pick]
  rfl

theorem pay7_at (i : grid0.Coords) (v0 : Vec Ideal S256x2048 .bf16) (v1 : Vec Ideal S2048x2048 .bf16) (v5 v7 : Vec Ideal S256x2048 .f32)
    (v12 : Vec Ideal S1x1x2048 .f32) (r : Fin 256) (k : Fin 2048) :
    k0_pay7 i v0 v1 v5 v7 v12 (ix2 r k) = spread (blockRow i v0 v1 v5 v7 v12 r) := by
  unfold k0_pay7
  pointwise
  unfold spread
  exact congrArg (fun z => Ideal.rsqrt (Ideal.div z _ + _))
    (Finset.sum_congr rfl fun q _ => congrArg₂ (· * ·) (pay6_at i v0 v1 v5 v7 v12 r q) (pay6_at i v0 v1 v5 v7 v12 r q))

theorem pay1_at (v18 v20 : FVec Ideal S1x2048 .f32) (v26 v35 : FVec Ideal S256x2048 .f32) (r : Fin 256) (k : Fin 2048) :
    k0_pay1 v18 v20 v26 v35 (ix2 r k) = v26 (ix2 r k) * v35 (ix2 r k) * v18 (ix2 0 k) + v20 (ix2 0 k) := by
  unfold k0_pay1
  pointwise

theorem pay2_at (v18 v20 : FVec Ideal S1x2048 .f32) (v26 v35 : FVec Ideal S256x2048 .f32) (v42 v48 : Vec Ideal S1x1x2048 .f32) (r : Fin 256) (k : Fin 2048) :
    k0_pay2 v18 v20 v26 v35 v42 v48 (ix2 r k) = k0_pay1 v18 v20 v26 v35 (ix2 r k) * (1 + v42 (ix3 0 0 k)) + v48 (ix3 0 0 k) := by
  unfold k0_pay2
  pointwise

theorem pay3_at (v18 v20 : FVec Ideal S1x2048 .f32) (v26 v35 : FVec Ideal S256x2048 .f32) (v42 v48 : Vec Ideal S1x1x2048 .f32)
    (v54 : Vec Ideal S2048x128 .bf16) (v57 : Vec Ideal S1x128 .f32) (r : Fin 256) (j : Fin 128) :
    k0_pay3 v18 v20 v26 v35 v42 v48 v54 v57 (ix2 r j)
      = (∑ k : Fin 2048, k0_pay2 v18 v20 v26 v35 v42 v48 (ix2 r k) * v54 (ix2 k j)) + v57 (ix2 0 j) := by
  unfold k0_pay3
  pointwise

theorem pay4_at (v17 : Vec Ideal S1x2048 .f32) (k : Fin 2048) : k0_pay4 v17 (ix2 0 k) = v17 (ix2 0 k) := by
  unfold k0_pay4
  pointwise

theorem pay5_at (v17 : Vec Ideal S1x2048 .f32) (k : Fin 2048) : k0_pay5 v17 (ix2 0 k) = v17 (ix2 0 k) := by
  unfold k0_pay5
  pointwise

/-- Setting the first 32 columns of an array. -/
theorem set_columns (x : FVec Ideal S2048x128 .f32) (u : FVec Ideal S2048x32 .f32) (r : Fin 2048) (k : Fin 128) :
    Host.scatter scatter_S2048x128_S1_S2048x32_01_n_1_0 (fun _ b => b) x (broadcastInDim S1 ![] bcast_S_S1 (constantI S_ 32 0#32)) u (ix2 r k)
      = if h : k.val < 32 then u (ix2 r ⟨k.val, h⟩) else x (ix2 r k) := by
  have lands : ∀ (j : S2048x32.Idx), scatter_S2048x128_S1_S2048x32_01_n_1_0.resultIdx? j (broadcastInDim S1 ![] bcast_S_S1 (constantI S_ 32 0#32)) = some (ix2 r k)
      ↔ (j 0 : ℕ) = r.val ∧ (j 1 : ℕ) = k.val := fun j => by
    have hs0 : scatter_S2048x128_S1_S2048x32_01_n_1_0.start j (broadcastInDim S1 ![] bcast_S_S1 (constantI S_ 32 0#32)) 0 = 0 := rfl
    have hs1 : scatter_S2048x128_S1_S2048x32_01_n_1_0.start j (broadcastInDim S1 ![] bcast_S_S1 (constantI S_ 32 0#32)) 1 = 0 := rfl
    have hw0 : scatter_S2048x128_S1_S2048x32_01_n_1_0.window j 0 = (j 0 : ℕ) := rfl
    have hw1 : scatter_S2048x128_S1_S2048x32_01_n_1_0.window j 1 = (j 1 : ℕ) := rfl
    refine (Routing.resultIdx?_ix2 (R := 2048) (C := 128) scatter_S2048x128_S1_S2048x32_01_n_1_0 j _ r k).trans ?_
    rw [hs0, hs1, hw0, hw1]
    omega
  by_cases h : k.val < 32
  · rw [dif_pos h]
    refine Routing.scatter_set_hit _ x _ u _ _ (fun j hj => congrArg u ?_) (ix2 r ⟨k.val, h⟩) ((lands (ix2 r ⟨k.val, h⟩)).mpr ⟨rfl, rfl⟩)
    have e := (lands j).mp hj
    funext a
    fin_cases a
    · exact Fin.ext e.1
    · exact Fin.ext e.2
  · rw [dif_neg h]
    refine Routing.scatter_set_miss _ x _ u _ fun j hj => h ?_
    have e := ((lands j).mp hj).2
    have b : (j 1 : ℕ) < 32 := (j 1).isLt
    omega

/-- The index pair at which the bias's row is set: the origin. -/
def origin : IVec S2 32 := concatenate S2 0 [⟨S1, broadcastInDim S1 ![] bcast_S_S1 (constantI S_ 32 0#32)⟩, ⟨S1, broadcastInDim S1 ![] bcast_S_S1 (constantI S_ 32 0#32)⟩] concatenates_S1_S1_S2_d0

/-- Setting the first 32 entries of an array of one row. -/
theorem set_entries (x : FVec Ideal S1x128 .f32) (u : FVec Ideal S32 .f32) (k : Fin 128) :
    Host.scatter scatter_S1x128_S2_S32_0_0_01_0 (fun _ b => b) x origin u (ix2 0 k)
      = if h : k.val < 32 then u (ix1 ⟨k.val, h⟩) else x (ix2 0 k) := by
  have lands : ∀ (j : S32.Idx), scatter_S1x128_S2_S32_0_0_01_0.resultIdx? j origin = some (ix2 0 k)
      ↔ (j 0 : ℕ) = k.val := fun j => by
    have hs0 : scatter_S1x128_S2_S32_0_0_01_0.start j origin 0 = 0 := by rfl
    have hs1 : scatter_S1x128_S2_S32_0_0_01_0.start j origin 1 = 0 := by rfl
    have hw0 : scatter_S1x128_S2_S32_0_0_01_0.window j 0 = 0 := rfl
    have hw1 : scatter_S1x128_S2_S32_0_0_01_0.window j 1 = (j 0 : ℕ) := rfl
    refine (Routing.resultIdx?_ix2 (R := 1) (C := 128) scatter_S1x128_S2_S32_0_0_01_0 j _ 0 k).trans ?_
    rw [hs0, hs1, hw0, hw1]
    show _ ∧ _ ↔ _
    simp
  by_cases h : k.val < 32
  · rw [dif_pos h]
    refine Routing.scatter_set_hit _ x _ u _ _ (fun j hj => congrArg u ?_) (ix1 ⟨k.val, h⟩) ((lands (ix1 ⟨k.val, h⟩)).mpr rfl)
    have e := (lands j).mp hj
    funext a
    fin_cases a
    exact Fin.ext e
  · rw [dif_neg h]
    refine Routing.scatter_set_miss _ x _ u _ fun j hj => h ?_
    have e := (lands j).mp hj
    have b : (j 0 : ℕ) < 32 := (j 0).isLt
    omega

/-! The host's arrays, over variables. -/

theorem cast_prompt (a : FVec Ideal S32x256x2048 .f32) (R : Fin 8192) (k : Fin 2048) :
    shapeCast S8192x2048 a shapeCasts_S32x256x2048_S8192x2048 (ix2 R k) = a (ix3 ⟨R.val / 256, by omega⟩ ⟨R.val % 256, by omega⟩ k) := by
  pointwise

theorem cast_sample (a : FVec Ideal S4x2048x2048 .f32) (R : Fin 8192) (k : Fin 2048) :
    shapeCast S8192x2048 a shapeCasts_S4x2048x2048_S8192x2048 (ix2 R k) = a (ix3 ⟨R.val / 2048, by omega⟩ ⟨R.val % 2048, by omega⟩ k) := by
  pointwise

theorem cast_mods (a : FVec Ideal S8x12288 .f32) (r : Fin 8) (k : Fin 12288) :
    shapeCast S8x1x12288 a shapeCasts_S8x12288_S8x1x12288 (ix3 r 0 k) = a (ix2 r k) := by
  pointwise

theorem cast_out (a : FVec Ideal S1x2048x2048 .f32) (i k : Fin 2048) :
    truncf .bf16 (shapeCast S2048x2048 a shapeCasts_S1x2048x2048_S2048x2048) bitsLt_bf16_f32 (ix2 i k) = a (ix3 0 i k) := by
  pointwise

theorem cast_vec (a : FVec Ideal S1x2048 .f32) (k : Fin 2048) :
    broadcastInDim S1x2048 ![1] bcast_S2048_S1x2048_1 (shapeCast S2048 a shapeCasts_S1x2048_S2048) (ix2 0 k) = a (ix2 0 k) := by
  pointwise

/-- An entry of the router's weights, zero past the 32 experts. -/
def padW (a : FVec Ideal S1x2048x32 .f32) (k : Fin 2048) (j : Fin 128) : EReal := if h : j.val < 32 then a (ix3 0 k ⟨j.val, h⟩) else 0

/-- An entry of the router's biases, zero past the 32 experts. -/
def padB (a : FVec Ideal S1x32 .f32) (j : Fin 128) : EReal := if h : j.val < 32 then a (ix2 0 ⟨j.val, h⟩) else 0

/-- The router's weights beside 96 columns of zeros. -/
def routerW (a : FVec Ideal S1x2048x32 .f32) : FVec Ideal S2048x128 .bf16 :=
  truncf .bf16 (Host.scatter scatter_S2048x128_S1_S2048x32_01_n_1_0 (fun _ b => b)
    (broadcastInDim S2048x128 ![] bcast_S_S2048x128 (constant S_ .f32 0x00000000#32)) (broadcastInDim S1 ![] bcast_S_S1 (constantI S_ 32 0#32))
    (shapeCast S2048x32 a shapeCasts_S1x2048x32_S2048x32)) bitsLt_bf16_f32

theorem routerW_at (a : FVec Ideal S1x2048x32 .f32) (k : Fin 2048) (j : Fin 128) :
    routerW a (ix2 k j) = padW a k j := by
  have ht : ∀ x : FVec Ideal S2048x128 .f32, truncf .bf16 x bitsLt_bf16_f32 (ix2 k j) = x (ix2 k j) := fun x => by pointwise
  unfold routerW padW
  refine (ht _).trans ((set_columns _ _ k j).trans ?_)
  by_cases h : j.val < 32
  · rw [dif_pos h, dif_pos h]
    pointwise
  · rw [dif_neg h, dif_neg h]
    pointwise

/-- The router's biases beside 96 zeros. -/
def routerB (a : FVec Ideal S1x32 .f32) : FVec Ideal S1x128 .f32 :=
  Host.scatter scatter_S1x128_S2_S32_0_0_01_0 (fun _ b => b)
    (broadcastInDim S1x128 ![] bcast_S_S1x128 (constant S_ .f32 0x00000000#32)) origin (shapeCast S32 a shapeCasts_S1x32_S32)

theorem routerB_at (a : FVec Ideal S1x32 .f32) (j : Fin 128) :
    routerB a (ix2 0 j) = padB a j := by
  unfold routerB padB
  refine (set_entries _ _ j).trans ?_
  by_cases h : j.val < 32
  · rw [dif_pos h, dif_pos h]
    pointwise
  · rw [dif_neg h, dif_neg h]
    pointwise

variable (m : (ℓ : Loc nD τ sig) → Buf (Elt Ideal) ℓ)

theorem V_prompt (c : Dev nD) (R : Fin 8192) (k : Fin 2048) : (V m c main_v13 : FVec Ideal S8192x2048 .f32) (ix2 R k)
    = (m ((c : Thread nD τ).loc main_arg2) : FVec Ideal S32x256x2048 .f32) (ix3 ⟨R.val / 256, by omega⟩ ⟨R.val % 256, by omega⟩ k) := by
  have h : (V m c main_v13 : FVec Ideal S8192x2048 .f32) = shapeCast S8192x2048 (m ((c : Thread nD τ).loc main_arg2) : FVec Ideal S32x256x2048 .f32) shapeCasts_S32x256x2048_S8192x2048 := rfl
  exact (congrFun h _).trans (cast_prompt _ R k)

theorem V_sample (c : Dev nD) (R : Fin 8192) (k : Fin 2048) : (V m c main_v14 : FVec Ideal S8192x2048 .f32) (ix2 R k)
    = (m ((c : Thread nD τ).loc main_arg3) : FVec Ideal S4x2048x2048 .f32) (ix3 ⟨R.val / 2048, by omega⟩ ⟨R.val % 2048, by omega⟩ k) := by
  have h : (V m c main_v14 : FVec Ideal S8192x2048 .f32) = shapeCast S8192x2048 (m ((c : Thread nD τ).loc main_arg3) : FVec Ideal S4x2048x2048 .f32) shapeCasts_S4x2048x2048_S8192x2048 := rfl
  exact (congrFun h _).trans (cast_sample _ R k)

theorem V_mods (c : Dev nD) (r : Fin 8) (k : Fin 12288) : (V m c main_v15 : FVec Ideal S8x1x12288 .f32) (ix3 r 0 k)
    = (m ((c : Thread nD τ).loc main_arg4) : FVec Ideal S8x12288 .f32) (ix2 r k) := by
  have h : (V m c main_v15 : FVec Ideal S8x1x12288 .f32) = shapeCast S8x1x12288 (m ((c : Thread nD τ).loc main_arg4) : FVec Ideal S8x12288 .f32) shapeCasts_S8x12288_S8x1x12288 := rfl
  exact (congrFun h _).trans (cast_mods _ r k)

theorem V_out (c : Dev nD) (i k : Fin 2048) : (V m c main_v12 : FVec Ideal S2048x2048 .bf16) (ix2 i k)
    = (m ((c : Thread nD τ).loc main_arg1) : FVec Ideal S1x2048x2048 .f32) (ix3 0 i k) := by
  entry_read
  exact cast_out _ i k

theorem V_weight (c : Dev nD) (k : Fin 2048) : (V m c main_v17 : FVec Ideal S1x2048 .f32) (ix2 0 k)
    = (m ((c : Thread nD τ).loc main_arg5) : FVec Ideal S1x2048 .f32) (ix2 0 k) := by
  have h : (V m c main_v17 : FVec Ideal S1x2048 .f32)
      = broadcastInDim S1x2048 ![1] bcast_S2048_S1x2048_1 (shapeCast S2048 (m ((c : Thread nD τ).loc main_arg5) : FVec Ideal S1x2048 .f32) shapeCasts_S1x2048_S2048) := rfl
  exact (congrFun h _).trans (cast_vec _ k)

theorem V_bias (c : Dev nD) (k : Fin 2048) : (V m c main_v19 : FVec Ideal S1x2048 .f32) (ix2 0 k)
    = (m ((c : Thread nD τ).loc main_arg6) : FVec Ideal S1x2048 .f32) (ix2 0 k) := by
  have h : (V m c main_v19 : FVec Ideal S1x2048 .f32)
      = broadcastInDim S1x2048 ![1] bcast_S2048_S1x2048_1 (shapeCast S2048 (m ((c : Thread nD τ).loc main_arg6) : FVec Ideal S1x2048 .f32) shapeCasts_S1x2048_S2048) := rfl
  exact (congrFun h _).trans (cast_vec _ k)

theorem V_routerW (c : Dev nD) (k : Fin 2048) (j : Fin 128) : (V m c main_v4 : FVec Ideal S2048x128 .bf16) (ix2 k j)
    = padW (m ((c : Thread nD τ).loc main_arg7)) k j := by
  entry_read
  exact routerW_at _ k j

theorem V_routerB (c : Dev nD) (j : Fin 128) : (V m c main_v10 : FVec Ideal S1x128 .f32) (ix2 0 j)
    = padB (m ((c : Thread nD τ).loc main_arg8)) j := by
  entry_read
  exact routerB_at _ j

end Cert.Kernel7Ideal.Norm
-- ==== Proof.Norm.lean ====
/-
  What the call with the output projection and the first normalization leaves in its three result arrays, index by index.
-/
module

public import proofs.«01_k».proof.Proof.NormHost
public import Idealize.ShloMosaic.Lib.Pointwise
public import Idealize.ShloMosaic.Lib.Pipeline.ValueKit

@[expose] public section

set_option maxRecDepth 16384

noncomputable section

namespace Cert.Kernel7Ideal.Norm

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- Where the windows' blocks stand at each grid point. -/
theorem idx : ∀ t : Fin cfg0.N, t.val < 64 ∧ (grid0.coords t 0).val = t.val
    ∧ win0_0.index t = ![t.val, 0] ∧ win0_1.index t = ![0, 0]
    ∧ win0_2.index t = ![min t.val 31, 0] ∧ win0_3.index t = ![t.val - 32, 0]
    ∧ win0_4.index t = ![if t.val < 32 then 0 else 1 + (t.val - 32) / 8, 0, 2]
    ∧ win0_5.index t = ![0, 0] ∧ win0_6.index t = ![0, 0]
    ∧ win0_7.index t = ![if t.val < 32 then 0 else 1 + (t.val - 32) / 8, 0, 4]
    ∧ win0_8.index t = ![if t.val < 32 then 0 else 1 + (t.val - 32) / 8, 0, 3]
    ∧ win0_9.index t = ![0, 0] ∧ win0_10.index t = ![0, 0]
    ∧ win0_11.index t = ![t.val, 0] ∧ win0_12.index t = ![t.val, 0] ∧ win0_13.index t = ![t.val, 0] :=
  (by decide +kernel : ∀ t : Fin grid0.N, _)

theorem merged_at (c : Dev nD) (t : Fin cfg0.N) (r : Fin 256) (k : Fin 2048) (R : Fin 16384) (hR : R.val = t.val * 256 + r.val) :
    (iblk m c 0 t : Vec Ideal S256x2048 .bf16) (ix2 r k) = (m ((c : Thread nD τ).loc main_arg0) : FVec Ideal S16384x2048 .bf16) (ix2 R k) := by
  obtain ⟨hN, hc, e0, -⟩ := idx t
  blk_point [iblk, V, e0]

theorem out_at (c : Dev nD) (t : Fin cfg0.N) (i k : Fin 2048) :
    (iblk m c 1 t : Vec Ideal S2048x2048 .bf16) (ix2 i k) = (m ((c : Thread nD τ).loc main_arg1) : FVec Ideal S1x2048x2048 .f32) (ix3 0 i k) := by
  obtain ⟨hN, hc, e0, e1, -⟩ := idx t
  refine Eq.trans ?_ (V_out m c i k)
  blk_ext [iblk, e1]

theorem token_at (c : Dev nD) (t : Fin cfg0.N) (r : Fin 256) (k : Fin 2048) (R : Fin 16384) (hR : R.val = t.val * 256 + r.val) :
    (if t.val < 32 then (iblk m c 2 t : Vec Ideal S256x2048 .f32) (ix2 r k) else (iblk m c 3 t : Vec Ideal S256x2048 .f32) (ix2 r k))
      = token (m ((c : Thread nD τ).loc main_arg2)) (m ((c : Thread nD τ).loc main_arg3)) R k := by
  obtain ⟨hN, hc, e0, e1, e2, e3, -⟩ := idx t
  have hr := r.isLt
  have hRlt := R.isLt
  unfold token
  by_cases h : t.val < 32
  · rw [if_pos h, dif_pos (show R.val < 8192 by omega)]
    rw [Nat.min_eq_left (by omega)] at e2
    refine Eq.trans ?_ (V_prompt m c ⟨R.val, by omega⟩ k)
    blk_ext [iblk, e2]
  · rw [if_neg h, dif_neg (show ¬ R.val < 8192 by omega)]
    refine Eq.trans ?_ (V_sample m c ⟨R.val - 8192, by omega⟩ k)
    blk_ext [iblk, e3]

theorem gate_at (c : Dev nD) (t : Fin cfg0.N) (k : Fin 2048) (R : Fin 16384) (hR : R.val / 256 = t.val) :
    (iblk m c 4 t : Vec Ideal S1x1x2048 .f32) (ix3 0 0 k) = modAt (m ((c : Thread nD τ).loc main_arg4)) R ⟨4096 + k.val, by omega⟩ := by
  obtain ⟨hN, hc, e0, e1, e2, e3, e4, -⟩ := idx t
  have hRlt := R.isLt
  unfold modAt
  by_cases h : t.val < 32
  · rw [if_pos (show R.val < 8192 by omega)]
    rw [if_pos h] at e4
    refine Eq.trans ?_ (V_mods m c 0 ⟨4096 + k.val, by omega⟩)
    blk_ext [iblk, e4]
  · rw [if_neg (show ¬ R.val < 8192 by omega)]
    rw [if_neg h] at e4
    refine Eq.trans ?_ (V_mods m c ⟨1 + (R.val - 8192) / 2048, by omega⟩ ⟨4096 + k.val, by omega⟩)
    blk_ext [iblk, e4]

theorem scale_at (c : Dev nD) (t : Fin cfg0.N) (k : Fin 2048) (R : Fin 16384) (hR : R.val / 256 = t.val) :
    (iblk m c 7 t : Vec Ideal S1x1x2048 .f32) (ix3 0 0 k) = modAt (m ((c : Thread nD τ).loc main_arg4)) R ⟨8192 + k.val, by omega⟩ := by
  obtain ⟨hN, hc, e0, e1, e2, e3, e4, e5, e6, e7, -⟩ := idx t
  have hRlt := R.isLt
  unfold modAt
  by_cases h : t.val < 32
  · rw [if_pos (show R.val < 8192 by omega)]
    rw [if_pos h] at e7
    refine Eq.trans ?_ (V_mods m c 0 ⟨8192 + k.val, by omega⟩)
    blk_ext [iblk, e7]
  · rw [if_neg (show ¬ R.val < 8192 by omega)]
    rw [if_neg h] at e7
    refine Eq.trans ?_ (V_mods m c ⟨1 + (R.val - 8192) / 2048, by omega⟩ ⟨8192 + k.val, by omega⟩)
    blk_ext [iblk, e7]

theorem shift_at (c : Dev nD) (t : Fin cfg0.N) (k : Fin 2048) (R : Fin 16384) (hR : R.val / 256 = t.val) :
    (iblk m c 8 t : Vec Ideal S1x1x2048 .f32) (ix3 0 0 k) = modAt (m ((c : Thread nD τ).loc main_arg4)) R ⟨6144 + k.val, by omega⟩ := by
  obtain ⟨hN, hc, e0, e1, e2, e3, e4, e5, e6, e7, e8, -⟩ := idx t
  have hRlt := R.isLt
  unfold modAt
  by_cases h : t.val < 32
  · rw [if_pos (show R.val < 8192 by omega)]
    rw [if_pos h] at e8
    refine Eq.trans ?_ (V_mods m c 0 ⟨6144 + k.val, by omega⟩)
    blk_ext [iblk, e8]
  · rw [if_neg (show ¬ R.val < 8192 by omega)]
    rw [if_neg h] at e8
    refine Eq.trans ?_ (V_mods m c ⟨1 + (R.val - 8192) / 2048, by omega⟩ ⟨6144 + k.val, by omega⟩)
    blk_ext [iblk, e8]

theorem weight_at (c : Dev nD) (t : Fin cfg0.N) (k : Fin 2048) :
    (iblk m c 5 t : Vec Ideal S1x2048 .f32) (ix2 0 k) = (m ((c : Thread nD τ).loc main_arg5) : FVec Ideal S1x2048 .f32) (ix2 0 k) := by
  obtain ⟨hN, hc, e0, e1, e2, e3, e4, e5, -⟩ := idx t
  refine Eq.trans ?_ (V_weight m c k)
  blk_ext [iblk, e5]

theorem bias_at (c : Dev nD) (t : Fin cfg0.N) (k : Fin 2048) :
    (iblk m c 6 t : Vec Ideal S1x2048 .f32) (ix2 0 k) = (m ((c : Thread nD τ).loc main_arg6) : FVec Ideal S1x2048 .f32) (ix2 0 k) := by
  obtain ⟨hN, hc, e0, e1, e2, e3, e4, e5, e6, -⟩ := idx t
  refine Eq.trans ?_ (V_bias m c k)
  blk_ext [iblk, e6]

theorem routerW_block (c : Dev nD) (t : Fin cfg0.N) (k : Fin 2048) (j : Fin 128) :
    (iblk m c 9 t : Vec Ideal S2048x128 .bf16) (ix2 k j)
      = padW (m ((c : Thread nD τ).loc main_arg7)) k j := by
  obtain ⟨hN, hc, e0, e1, e2, e3, e4, e5, e6, e7, e8, e9, -⟩ := idx t
  refine Eq.trans ?_ (V_routerW m c k j)
  blk_simp [iblk, e9]
  generalize (V m c main_v4 : FVec Ideal S2048x128 .bf16) = A
  blk_ext [e9]

theorem routerB_block (c : Dev nD) (t : Fin cfg0.N) (j : Fin 128) :
    (iblk m c 10 t : Vec Ideal S1x128 .f32) (ix2 0 j)
      = padB (m ((c : Thread nD τ).loc main_arg8)) j := by
  obtain ⟨hN, hc, e0, e1, e2, e3, e4, e5, e6, e7, e8, e9, e10, -⟩ := idx t
  refine Eq.trans ?_ (V_routerB m c j)
  blk_ext [iblk, e10]

/-- The block's row before the normalization is the array's. -/
theorem blockRow_eq (c : Dev nD) (t : Fin cfg0.N) (r : Fin 256) (R : Fin 16384) (hR : R.val = t.val * 256 + r.val) :
    blockRow (grid0.coords t) (iblk m c 0 t) (iblk m c 1 t) (iblk m c 2 t) (iblk m c 3 t) (iblk m c 4 t) r
      = mixed (m ((c : Thread nD τ).loc main_arg0)) (m ((c : Thread nD τ).loc main_arg1)) (m ((c : Thread nD τ).loc main_arg2))
          (m ((c : Thread nD τ).loc main_arg3)) (m ((c : Thread nD τ).loc main_arg4)) R := by
  funext k
  unfold blockRow mixed
  have hr := r.isLt
  rw [(idx t).2.1]
  exact congrArg₂ (· + ·) (congrArg _ (token_at m c t r k R hR)) (congrArg₂ (· * ·) (gate_at m c t k R (by omega))
    (Finset.sum_congr rfl fun i _ => congrArg₂ (· * ·) (merged_at m c t r i R hR) (out_at m c t i k)))

theorem first_block (c : Dev nD) (t : Fin cfg0.N) (r : Fin 256) (k : Fin 2048) (R : Fin 16384) (hR : R.val = t.val * 256 + r.val) :
    k0_pay1 (k0_pay4 (iblk m c 5 t)) (k0_pay5 (iblk m c 6 t))
        (k0_pay6 (grid0.coords t) (iblk m c 0 t) (iblk m c 1 t) (iblk m c 2 t) (iblk m c 3 t) (iblk m c 4 t))
        (k0_pay7 (grid0.coords t) (iblk m c 0 t) (iblk m c 1 t) (iblk m c 2 t) (iblk m c 3 t) (iblk m c 4 t)) (ix2 r k)
      = first (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) R k := by
  refine (pay1_at _ _ _ _ r k).trans ?_
  unfold first layerNorm
  refine congrArg₂ (· + ·) (congrArg₂ (· * ·) (congrArg₂ (· * ·) ((pay6_at _ _ _ _ _ _ r k).trans ?_) ((pay7_at _ _ _ _ _ _ r k).trans ?_))
    ((pay4_at _ k).trans (weight_at m c t k))) ((pay5_at _ k).trans (bias_at m c t k))
  · exact congrArg (fun x => centred x k) (blockRow_eq m c t r R hR)
  · exact congrArg spread (blockRow_eq m c t r R hR)

theorem second_block (c : Dev nD) (t : Fin cfg0.N) (r : Fin 256) (k : Fin 2048) (R : Fin 16384) (hR : R.val = t.val * 256 + r.val) :
    k0_pay2 (k0_pay4 (iblk m c 5 t)) (k0_pay5 (iblk m c 6 t))
        (k0_pay6 (grid0.coords t) (iblk m c 0 t) (iblk m c 1 t) (iblk m c 2 t) (iblk m c 3 t) (iblk m c 4 t))
        (k0_pay7 (grid0.coords t) (iblk m c 0 t) (iblk m c 1 t) (iblk m c 2 t) (iblk m c 3 t) (iblk m c 4 t)) (iblk m c 7 t) (iblk m c 8 t) (ix2 r k)
      = second (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) R k := by
  have hr := r.isLt
  refine (pay2_at _ _ _ _ _ _ r k).trans ?_
  unfold second
  exact congrArg₂ (· + ·) (congrArg₂ (· * ·) (first_block m c t r k R hR) (congrArg₂ (· + ·) rfl (scale_at m c t k R (by omega)))) (shift_at m c t k R (by omega))

/-- With the router's arrays beside zeros, the sums past the 32 experts are zero. -/
theorem padded (a0 : FVec Ideal S16384x2048 .bf16) (a1 : FVec Ideal S1x2048x2048 .f32) (a2 : FVec Ideal S32x256x2048 .f32) (a3 : FVec Ideal S4x2048x2048 .f32)
    (a4 : FVec Ideal S8x12288 .f32) (a5 a6 : FVec Ideal S1x2048 .f32) (a7 : FVec Ideal S1x2048x32 .f32) (a8 : FVec Ideal S1x32 .f32)
    (r : Fin 16384) (j : Fin 128) :
    (∑ k : Fin 2048, second a0 a1 a2 a3 a4 a5 a6 r k * padW a7 k j) + padB a8 j = logit a0 a1 a2 a3 a4 a5 a6 a7 a8 r j := by
  unfold logit padW padB
  by_cases h : j.val < 32
  · simp only [dif_pos h]
  · simp only [dif_neg h, mul_zero, Finset.sum_const_zero, add_zero]

theorem logit_block (c : Dev nD) (t : Fin cfg0.N) (r : Fin 256) (j : Fin 128) (R : Fin 16384) (hR : R.val = t.val * 256 + r.val) :
    k0_pay3 (k0_pay4 (iblk m c 5 t)) (k0_pay5 (iblk m c 6 t))
        (k0_pay6 (grid0.coords t) (iblk m c 0 t) (iblk m c 1 t) (iblk m c 2 t) (iblk m c 3 t) (iblk m c 4 t))
        (k0_pay7 (grid0.coords t) (iblk m c 0 t) (iblk m c 1 t) (iblk m c 2 t) (iblk m c 3 t) (iblk m c 4 t)) (iblk m c 7 t) (iblk m c 8 t)
        (iblk m c 9 t) (iblk m c 10 t) (ix2 r j)
      = logit (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) R j := by
  refine (pay3_at _ _ _ _ _ _ _ _ r j).trans ?_
  refine Eq.trans (congrArg₂ (· + ·) (Finset.sum_congr rfl fun k _ => congrArg₂ (· * ·) (second_block m c t r k R hR) (routerW_block m c t k j))
    (routerB_block m c t j)) ?_
  exact padded _ _ _ _ _ _ _ _ _ R j

/-- The three result arrays. -/
def firstArr (c : Dev nD) : Vec Ideal S16384x2048 .f32 := fun y =>
  first (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) ⟨(y 0 : ℕ), (y 0).isLt⟩ ⟨(y 1 : ℕ), (y 1).isLt⟩
def secondArr (c : Dev nD) : Vec Ideal S16384x2048 .f32 := fun y =>
  second (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) ⟨(y 0 : ℕ), (y 0).isLt⟩ ⟨(y 1 : ℕ), (y 1).isLt⟩
def logitArr (c : Dev nD) : Vec Ideal S16384x128 .f32 := fun y =>
  logit (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    ⟨(y 0 : ℕ), (y 0).isLt⟩ ⟨(y 1 : ℕ), (y 1).isLt⟩

set_option maxHeartbeats 2000000 in
theorem final_first (c : Dev nD) : (dats m 0 c).arrAt 11 cfg0.N = firstArr m c := by
  refine (dats m 0 c).arrAt_eq_of_covers 11 _ (by decide +kernel) fun t hf y => ?_
  blk_simp
  rw [after0_11]
  unfold_out out0_11
  frame_out
  have ew : win0_11.index t = ![t.val, 0] := (idx t).2.2.2.2.2.2.2.2.2.2.2.2.2.1
  have hN := (idx t).1
  have y0 : (y 0 : ℕ) < 256 := (y 0).isLt
  have y1 : (y 1 : ℕ) < 2048 := (y 1).isLt
  have e : y = ix2 ⟨(y 0 : ℕ), y0⟩ ⟨(y 1 : ℕ), y1⟩ := by funext a; fin_cases a <;> rfl
  refine (congrArg _ e).trans ((first_block m c t ⟨(y 0 : ℕ), y0⟩ ⟨(y 1 : ℕ), y1⟩ ⟨t.val * 256 + (y 0 : ℕ), by omega⟩ rfl).trans ?_)
  unfold firstArr
  exact congrArg₂ (first _ _ _ _ _ _ _) (Fin.ext (by blk_simp [ew])) (Fin.ext (by blk_simp [ew]))

set_option maxHeartbeats 2000000 in
theorem final_second (c : Dev nD) : (dats m 0 c).arrAt 12 cfg0.N = secondArr m c := by
  refine (dats m 0 c).arrAt_eq_of_covers 12 _ (by decide +kernel) fun t hf y => ?_
  blk_simp
  rw [after0_12]
  unfold_out out0_12
  frame_out
  have ew : win0_12.index t = ![t.val, 0] := (idx t).2.2.2.2.2.2.2.2.2.2.2.2.2.2.1
  have hN := (idx t).1
  have y0 : (y 0 : ℕ) < 256 := (y 0).isLt
  have y1 : (y 1 : ℕ) < 2048 := (y 1).isLt
  have e : y = ix2 ⟨(y 0 : ℕ), y0⟩ ⟨(y 1 : ℕ), y1⟩ := by funext a; fin_cases a <;> rfl
  refine (congrArg _ e).trans ((second_block m c t ⟨(y 0 : ℕ), y0⟩ ⟨(y 1 : ℕ), y1⟩ ⟨t.val * 256 + (y 0 : ℕ), by omega⟩ rfl).trans ?_)
  unfold secondArr
  exact congrArg₂ (second _ _ _ _ _ _ _) (Fin.ext (by blk_simp [ew])) (Fin.ext (by blk_simp [ew]))

set_option maxHeartbeats 2000000 in
theorem final_logit (c : Dev nD) : (dats m 0 c).arrAt 13 cfg0.N = logitArr m c := by
  refine (dats m 0 c).arrAt_eq_of_covers 13 _ (by decide +kernel) fun t hf y => ?_
  blk_simp
  rw [after0_13]
  unfold_out out0_13
  frame_out
  have ew : win0_13.index t = ![t.val, 0] := (idx t).2.2.2.2.2.2.2.2.2.2.2.2.2.2.2
  have hN := (idx t).1
  have y0 : (y 0 : ℕ) < 256 := (y 0).isLt
  have y1 : (y 1 : ℕ) < 128 := (y 1).isLt
  have e : y = ix2 ⟨(y 0 : ℕ), y0⟩ ⟨(y 1 : ℕ), y1⟩ := by funext a; fin_cases a <;> rfl
  refine (congrArg _ e).trans ((logit_block m c t ⟨(y 0 : ℕ), y0⟩ ⟨(y 1 : ℕ), y1⟩ ⟨t.val * 256 + (y 0 : ℕ), by omega⟩ rfl).trans ?_)
  unfold logitArr
  exact congrArg₂ (logit _ _ _ _ _ _ _ _ _) (Fin.ext (by blk_simp [ew])) (Fin.ext (by blk_simp [ew]))

end Cert.Kernel7Ideal.Norm
-- ==== Proof.NormRef.lean ====
/-
  What the reference of the output projection and the first normalization leaves in its three result arrays, index by index.
-/
module

public import proofs.«01_k».proof.Proof.NormSpec
public import proofs.«01_k».proof.Proof.Gen.Reference7Ideal
public import proofs.«01_k».proof.Proof.Gen.Reference7Ideal.Run
public import Idealize.ShloMosaic.Lib.Pointwise

@[expose] public section

set_option maxRecDepth 16384

noncomputable section

namespace Cert.Reference7Ideal.Norm

open Cert.Reference7Ideal Cert.Reference7Ideal.Gen Idealize.ShloMosaic Idealize.SL.Sem
open Cert.Kernel7Ideal.Norm (centred spread layerNorm token modAt mixed first second logit)

/-- Two arrays of 8192 rows, one after the other. -/
theorem joined (x y : FVec Ideal S8192x2048 .f32) (R : Fin 16384) (k : Fin 2048) :
    concatenate S16384x2048 0 [⟨S8192x2048, x⟩, ⟨S8192x2048, y⟩] concatenates_S8192x2048_S8192x2048_S16384x2048_d0 (ix2 R k)
      = if h : R.val < 8192 then x (ix2 ⟨R.val, h⟩ k) else y (ix2 ⟨R.val - 8192, by omega⟩ k) := by
  pointwise

theorem joinedMods (x y : FVec Ideal S8192x12288 .f32) (R : Fin 16384) (k : Fin 12288) :
    concatenate S16384x12288 0 [⟨S8192x12288, x⟩, ⟨S8192x12288, y⟩] concatenates_S8192x12288_S8192x12288_S16384x12288_d0 (ix2 R k)
      = if h : R.val < 8192 then x (ix2 ⟨R.val, h⟩ k) else y (ix2 ⟨R.val - 8192, by omega⟩ k) := by
  pointwise

/-- The tokens of both groups. -/
def tokens (a2 : FVec Ideal S32x256x2048 .f32) (a3 : FVec Ideal S4x2048x2048 .f32) : FVec Ideal S16384x2048 .f32 :=
  concatenate S16384x2048 0 [⟨S8192x2048, shapeCast _ a2 shapeCasts_S32x256x2048_S8192x2048⟩, ⟨S8192x2048, shapeCast _ a3 shapeCasts_S4x2048x2048_S8192x2048⟩] concatenates_S8192x2048_S8192x2048_S16384x2048_d0

theorem tokens_at (a2 : FVec Ideal S32x256x2048 .f32) (a3 : FVec Ideal S4x2048x2048 .f32) (R : Fin 16384) (k : Fin 2048) :
    tokens a2 a3 (ix2 R k) = token a2 a3 R k := by
  refine (joined _ _ R k).trans ?_
  unfold token
  by_cases h : R.val < 8192
  · rw [dif_pos h, dif_pos h]
    pointwise
  · rw [dif_neg h, dif_neg h]
    pointwise

/-- The prompt's modulation on each of its rows. -/
def promptMods (a4 : FVec Ideal S8x12288 .f32) : FVec Ideal S8192x12288 .f32 :=
  broadcastInDim S8192x12288 ![1] bcast_S12288_S8192x12288_1 (shapeCast _ (extractStridedSlice S1x12288 ![0, 0] a4 slices_S8x12288_S1x12288_0_0) shapeCasts_S1x12288_S12288)

theorem promptMods_at (a4 : FVec Ideal S8x12288 .f32) (R : Fin 8192) (k : Fin 12288) : promptMods a4 (ix2 R k) = a4 (ix2 0 k) := by
  unfold promptMods
  pointwise

/-- The samples' on each of theirs. -/
def sampleMods (a4 : FVec Ideal S8x12288 .f32) : FVec Ideal S8192x12288 .f32 :=
  shapeCast _ (broadcastInDim S4x2048x12288 ![0, 1, 2] bcast_S4x1x12288_S4x2048x12288_0_1_2 (broadcastInDim S4x1x12288 ![0, 2] bcast_S4x12288_S4x1x12288_0_2
    (extractStridedSlice S4x12288 ![1, 0] a4 slices_S8x12288_S4x12288_1_0))) shapeCasts_S4x2048x12288_S8192x12288

theorem sampleMods_at (a4 : FVec Ideal S8x12288 .f32) (R : Fin 8192) (k : Fin 12288) :
    sampleMods a4 (ix2 R k) = a4 (ix2 ⟨1 + R.val / 2048, by omega⟩ k) := by
  unfold sampleMods
  pointwise

/-- The modulation of every row. -/
def rowMods (a4 : FVec Ideal S8x12288 .f32) : FVec Ideal S16384x12288 .f32 :=
  concatenate S16384x12288 0 [⟨S8192x12288, promptMods a4⟩, ⟨S8192x12288, sampleMods a4⟩] concatenates_S8192x12288_S8192x12288_S16384x12288_d0

theorem rowMods_at (a4 : FVec Ideal S8x12288 .f32) (R : Fin 16384) (k : Fin 12288) : rowMods a4 (ix2 R k) = modAt a4 R k := by
  refine (joinedMods _ _ R k).trans ?_
  unfold modAt
  by_cases h : R.val < 8192
  · rw [dif_pos h, if_pos h]
    exact promptMods_at a4 _ k
  · rw [dif_neg h, if_neg h]
    exact sampleMods_at a4 _ k

/-- The rows before the normalization, from the tokens, the gates and the two factors. -/
def blend (x g : FVec Ideal S16384x2048 .f32) (a0 : FVec Ideal S16384x2048 .bf16) (a1 : FVec Ideal S1x2048x2048 .f32) : FVec Ideal S16384x2048 .f32 :=
  addf (mulf (broadcastInDim S16384x2048 ![] bcast_S_S16384x2048 (constant S_ .f32 0x3F9837F0#32)) x)
    (mulf g (Host.dotGeneral dot_S16384x2048_S2048x2048_S16384x2048_1_0_0_1_n_n none (extf .f32 a0 bitsLt_bf16_f32) (shapeCast _ a1 shapeCasts_S1x2048x2048_S2048x2048)))

theorem blend_at (x g : FVec Ideal S16384x2048 .f32) (a0 : FVec Ideal S16384x2048 .bf16) (a1 : FVec Ideal S1x2048x2048 .f32) (R : Fin 16384) (k : Fin 2048) :
    blend x g a0 a1 (ix2 R k) = Ideal.ofBits FTy.f32 0x3F9837F0#32 * x (ix2 R k) + g (ix2 R k) * ∑ i : Fin 2048, a0 (ix2 R i) * a1 (ix3 0 i k) := by
  unfold blend
  pointwise

def gates (a4 : FVec Ideal S8x12288 .f32) : FVec Ideal S16384x2048 .f32 :=
  extractStridedSlice S16384x2048 ![0, 4096] (rowMods a4) slices_S16384x12288_S16384x2048_0_4096

theorem gates_at (a4 : FVec Ideal S8x12288 .f32) (R : Fin 16384) (k : Fin 2048) : gates a4 (ix2 R k) = modAt a4 R ⟨4096 + k.val, by omega⟩ := by
  refine Eq.trans ?_ (rowMods_at a4 R ⟨4096 + k.val, by omega⟩)
  unfold gates
  pointwise

def scales (a4 : FVec Ideal S8x12288 .f32) : FVec Ideal S16384x2048 .f32 :=
  extractStridedSlice S16384x2048 ![0, 8192] (rowMods a4) slices_S16384x12288_S16384x2048_0_8192

theorem scales_at (a4 : FVec Ideal S8x12288 .f32) (R : Fin 16384) (k : Fin 2048) : scales a4 (ix2 R k) = modAt a4 R ⟨8192 + k.val, by omega⟩ := by
  refine Eq.trans ?_ (rowMods_at a4 R ⟨8192 + k.val, by omega⟩)
  unfold scales
  pointwise

def shifts (a4 : FVec Ideal S8x12288 .f32) : FVec Ideal S16384x2048 .f32 :=
  extractStridedSlice S16384x2048 ![0, 6144] (rowMods a4) slices_S16384x12288_S16384x2048_0_6144

theorem shifts_at (a4 : FVec Ideal S8x12288 .f32) (R : Fin 16384) (k : Fin 2048) : shifts a4 (ix2 R k) = modAt a4 R ⟨6144 + k.val, by omega⟩ := by
  refine Eq.trans ?_ (rowMods_at a4 R ⟨6144 + k.val, by omega⟩)
  unfold shifts
  pointwise

/-- Each row less its mean. -/
def centre (x : FVec Ideal S16384x2048 .f32) : FVec Ideal S16384x2048 .f32 :=
  subf x (broadcastInDim S16384x2048 ![0, 1] bcast_S16384x1_S16384x2048_0_1 (Host.divf (broadcastInDim S16384x1 ![0] bcast_S16384_S16384x1_0
    (Host.reduceAdd x (constant S_ .f32 0x00000000#32) reducesTo_S16384x2048_S16384_d1 h_S_)) (broadcastInDim S16384x1 ![] bcast_S_S16384x1 (constant S_ .f32 0x45000000#32))))

theorem centre_at (x : FVec Ideal S16384x2048 .f32) (R : Fin 16384) (k : Fin 2048) : centre x (ix2 R k) = centred (fun k => x (ix2 R k)) k := by
  unfold centre
  pointwise
  rfl

/-- The rows normalized, from the centred ones. -/
def normalize (y : FVec Ideal S16384x2048 .f32) (a5 a6 : FVec Ideal S1x2048 .f32) : FVec Ideal S16384x2048 .f32 :=
  addf (mulf (mulf y (broadcastInDim S16384x2048 ![0, 1] bcast_S16384x1_S16384x2048_0_1 (Host.rsqrt (addf (Host.divf (broadcastInDim S16384x1 ![0] bcast_S16384_S16384x1_0
      (Host.reduceAdd (mulf y y) (constant S_ .f32 0x00000000#32) reducesTo_S16384x2048_S16384_d1 h_S_)) (broadcastInDim S16384x1 ![] bcast_S_S16384x1 (constant S_ .f32 0x45000000#32)))
      (broadcastInDim S16384x1 ![] bcast_S_S16384x1 (constant S_ .f32 0x3727C5AC#32))))))
    (broadcastInDim S16384x2048 ![0, 1] bcast_S1x2048_S16384x2048_0_1 (broadcastInDim S1x2048 ![1] bcast_S2048_S1x2048_1 (shapeCast _ a5 shapeCasts_S1x2048_S2048))))
    (broadcastInDim S16384x2048 ![0, 1] bcast_S1x2048_S16384x2048_0_1 (broadcastInDim S1x2048 ![1] bcast_S2048_S1x2048_1 (shapeCast _ a6 shapeCasts_S1x2048_S2048)))

theorem normalize_at (y : FVec Ideal S16384x2048 .f32) (a5 a6 : FVec Ideal S1x2048 .f32) (R : Fin 16384) (k : Fin 2048) :
    normalize y a5 a6 (ix2 R k) = y (ix2 R k) * Ideal.rsqrt (Ideal.div (∑ i : Fin 2048, y (ix2 R i) * y (ix2 R i)) (Ideal.ofBits FTy.f32 0x45000000#32) + Ideal.ofBits FTy.f32 0x3727C5AC#32)
      * a5 (ix2 0 k) + a6 (ix2 0 k) := by
  unfold normalize
  pointwise

/-- The first result. -/
def result1 (a0 : FVec Ideal S16384x2048 .bf16) (a1 : FVec Ideal S1x2048x2048 .f32) (a2 : FVec Ideal S32x256x2048 .f32) (a3 : FVec Ideal S4x2048x2048 .f32)
    (a4 : FVec Ideal S8x12288 .f32) (a5 a6 : FVec Ideal S1x2048 .f32) : FVec Ideal S16384x2048 .f32 :=
  normalize (centre (blend (tokens a2 a3) (gates a4) a0 a1)) a5 a6

theorem result1_at (a0 : FVec Ideal S16384x2048 .bf16) (a1 : FVec Ideal S1x2048x2048 .f32) (a2 : FVec Ideal S32x256x2048 .f32) (a3 : FVec Ideal S4x2048x2048 .f32)
    (a4 : FVec Ideal S8x12288 .f32) (a5 a6 : FVec Ideal S1x2048 .f32) (R : Fin 16384) (k : Fin 2048) :
    result1 a0 a1 a2 a3 a4 a5 a6 (ix2 R k) = first a0 a1 a2 a3 a4 a5 a6 R k := by
  have hb : (fun k => blend (tokens a2 a3) (gates a4) a0 a1 (ix2 R k)) = mixed a0 a1 a2 a3 a4 R := funext fun k => by
    refine (blend_at _ _ a0 a1 R k).trans ?_
    unfold mixed
    rw [tokens_at, gates_at]
  have hc : ∀ k, centre (blend (tokens a2 a3) (gates a4) a0 a1) (ix2 R k) = centred (mixed a0 a1 a2 a3 a4 R) k := fun k =>
    (centre_at _ R k).trans (congrArg (fun x => centred x k) hb)
  refine (normalize_at _ a5 a6 R k).trans ?_
  unfold first layerNorm spread
  simp only [hc]

/-- The second result, from the first. -/
def modulate (x : FVec Ideal S16384x2048 .f32) (a4 : FVec Ideal S8x12288 .f32) : FVec Ideal S16384x2048 .f32 :=
  addf (mulf x (addf (broadcastInDim S16384x2048 ![] bcast_S_S16384x2048 (constant S_ .f32 0x3F800000#32)) (scales a4))) (shifts a4)

def result2 (a0 : FVec Ideal S16384x2048 .bf16) (a1 : FVec Ideal S1x2048x2048 .f32) (a2 : FVec Ideal S32x256x2048 .f32) (a3 : FVec Ideal S4x2048x2048 .f32)
    (a4 : FVec Ideal S8x12288 .f32) (a5 a6 : FVec Ideal S1x2048 .f32) : FVec Ideal S16384x2048 .f32 :=
  modulate (result1 a0 a1 a2 a3 a4 a5 a6) a4

theorem result2_at (a0 : FVec Ideal S16384x2048 .bf16) (a1 : FVec Ideal S1x2048x2048 .f32) (a2 : FVec Ideal S32x256x2048 .f32) (a3 : FVec Ideal S4x2048x2048 .f32)
    (a4 : FVec Ideal S8x12288 .f32) (a5 a6 : FVec Ideal S1x2048 .f32) (R : Fin 16384) (k : Fin 2048) :
    result2 a0 a1 a2 a3 a4 a5 a6 (ix2 R k) = second a0 a1 a2 a3 a4 a5 a6 R k := by
  have h : ∀ x : FVec Ideal S16384x2048 .f32, modulate x a4 (ix2 R k) = x (ix2 R k) * (1 + scales a4 (ix2 R k)) + shifts a4 (ix2 R k) := fun x => by
    unfold modulate
    pointwise
  refine (h _).trans ?_
  unfold second
  rw [result1_at, scales_at, shifts_at]

/-- The third result, from the second. -/
def route (x : FVec Ideal S16384x2048 .f32) (a7 : FVec Ideal S1x2048x32 .f32) (a8 : FVec Ideal S1x32 .f32) : FVec Ideal S16384x32 .f32 :=
  addf (Host.dotGeneral dot_S16384x2048_S2048x32_S16384x32_1_0_0_1_n_n none x (shapeCast _ a7 shapeCasts_S1x2048x32_S2048x32))
    (broadcastInDim S16384x32 ![0, 1] bcast_S1x32_S16384x32_0_1 (broadcastInDim S1x32 ![1] bcast_S32_S1x32_1 (shapeCast _ a8 shapeCasts_S1x32_S32)))

theorem route_at (x : FVec Ideal S16384x2048 .f32) (a7 : FVec Ideal S1x2048x32 .f32) (a8 : FVec Ideal S1x32 .f32) (R : Fin 16384) (j : Fin 32) :
    route x a7 a8 (ix2 R j) = (∑ k : Fin 2048, x (ix2 R k) * a7 (ix3 0 k j)) + a8 (ix2 0 j) := by
  unfold route
  pointwise

def widen (x : FVec Ideal S16384x32 .f32) : FVec Ideal S16384x128 .f32 :=
  concatenate S16384x128 1 [⟨S16384x32, x⟩, ⟨S16384x96, broadcastInDim S16384x96 ![] bcast_S_S16384x96 (constant S_ .f32 0x00000000#32)⟩] concatenates_S16384x32_S16384x96_S16384x128_d1

theorem widen_at (x : FVec Ideal S16384x32 .f32) (R : Fin 16384) (j : Fin 128) : widen x (ix2 R j) = if h : j.val < 32 then x (ix2 R ⟨j.val, h⟩) else 0 := by
  unfold widen
  pointwise

def result3 (a0 : FVec Ideal S16384x2048 .bf16) (a1 : FVec Ideal S1x2048x2048 .f32) (a2 : FVec Ideal S32x256x2048 .f32) (a3 : FVec Ideal S4x2048x2048 .f32)
    (a4 : FVec Ideal S8x12288 .f32) (a5 a6 : FVec Ideal S1x2048 .f32) (a7 : FVec Ideal S1x2048x32 .f32) (a8 : FVec Ideal S1x32 .f32) : FVec Ideal S16384x128 .f32 :=
  widen (route (result2 a0 a1 a2 a3 a4 a5 a6) a7 a8)

theorem result3_at (a0 : FVec Ideal S16384x2048 .bf16) (a1 : FVec Ideal S1x2048x2048 .f32) (a2 : FVec Ideal S32x256x2048 .f32) (a3 : FVec Ideal S4x2048x2048 .f32)
    (a4 : FVec Ideal S8x12288 .f32) (a5 a6 : FVec Ideal S1x2048 .f32) (a7 : FVec Ideal S1x2048x32 .f32) (a8 : FVec Ideal S1x32 .f32) (R : Fin 16384) (j : Fin 128) :
    result3 a0 a1 a2 a3 a4 a5 a6 a7 a8 (ix2 R j) = logit a0 a1 a2 a3 a4 a5 a6 a7 a8 R j := by
  refine (widen_at _ R j).trans ?_
  unfold logit
  by_cases h : j.val < 32
  · rw [dif_pos h, dif_pos h]
    refine (route_at _ a7 a8 R ⟨j.val, h⟩).trans ?_
    simp only [result2_at]
  · rw [dif_neg h, dif_neg h]

open Idealize.ShloMosaic.TcCoe in
theorem res1_eq (m : (ℓ : Loc nD τ sig) → Buf (Elt Ideal) ℓ) (c : Dev nD) : Value.res_main_v44 m c
    = result1 (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := rfl

open Idealize.ShloMosaic.TcCoe in
theorem res2_eq (m : (ℓ : Loc nD τ sig) → Buf (Elt Ideal) ℓ) (c : Dev nD) : Value.res_main_v48 m c
    = result2 (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := rfl

open Idealize.ShloMosaic.TcCoe in
theorem res3_eq (m : (ℓ : Loc nD τ sig) → Buf (Elt Ideal) ℓ) (c : Dev nD) : Value.res_main_v56 m c
    = result3 (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) := rfl

end Cert.Reference7Ideal.Norm
-- ==== Proof.ScanCore.lean ====
/-
  The backward scan of the context group: what each stretch of its kernel computes, entry by entry.
-/
module

public import proofs.«01_k».proof.Proof.Gen.Kernel8Ideal.Frame
public import Idealize.ShloMosaic.Lib.Pointwise
public import Idealize.ShloMosaic.Lib.Pipeline.ValueKit

@[expose] public section

set_option maxRecDepth 16384

noncomputable section

namespace Cert.Kernel8Ideal.Scan

open Cert.Kernel8Ideal Cert.Kernel8Ideal.Gen Idealize.ShloMosaic Idealize.ShloMosaic.TcCoe Idealize.SL.Sem
open Idealize.ShloMosaic.Pipeline (Dat)

/-- The lower half of the lanes takes the first head of a pair, the upper half the second. -/
theorem lane (r q : Fin 128) {α : Type} (x y : α) : Scalar.select (k0_pay10 (ix2 r q)) x y = if q.val < 64 then x else y := by
  have h : ∀ q : Fin 128, (Scalar.cmpi CmpIPredicate.slt (BitVec.ofNat 32 q.val) 64#32 = 1#1) ↔ q.val < 64 := by decide +kernel
  have e : k0_pay10 (ix2 r q) = Scalar.cmpi CmpIPredicate.slt (BitVec.ofNat 32 q.val) 64#32 := by
    unfold k0_pay10
    pointwise
    rfl
  rw [e]
  unfold Scalar.select
  by_cases c : q.val < 64
  · rw [if_pos c]; exact if_pos ((h q).mpr c)
  · rw [if_neg c]; exact if_neg fun z => c ((h q).mp z)

theorem lane1 (q : Fin 128) {α : Type} (x y : α) : Scalar.select (k0_pay11 (ix2 0 q)) x y = if q.val < 64 then x else y := by
  have e : k0_pay11 (ix2 0 q) = k0_pay10 (ix2 0 q) := by unfold k0_pay11; pointwise
  rw [e]; exact lane 0 q x y

theorem pay7_at (v : FVec Ideal S1x128x128 .f32) (r q : Fin 128) : k0_pay7 v (ix2 r q) = v (ix3 0 r q) := by
  unfold k0_pay7; pointwise
theorem pay8_at (v : FVec Ideal S1x128x128 .f32) (r q : Fin 128) : k0_pay8 v (ix2 r q) = v (ix3 0 r q) := by
  unfold k0_pay8; pointwise
theorem pay9_at (v : FVec Ideal S1x1x128 .f32) (q : Fin 128) : k0_pay9 v (ix2 0 q) = v (ix3 0 0 q) := by
  unfold k0_pay9; pointwise
theorem pay12_at (v : FVec Ideal S128x128 .f32) (r q : Fin 128) : k0_pay12 (F := Ideal) v (ix2 r q) = v (ix2 q r) := by
  unfold k0_pay12; pointwise
theorem pay26_at (v : FVec Ideal S128x128 .f32) (r q : Fin 128) : k0_pay26 (F := Ideal) v (ix2 r q) = v (ix2 q r) := by
  unfold k0_pay26; pointwise
theorem pay13_at (v : FVec Ideal S1x128x512 .f32) (r : Fin 128) (q : Fin 512) : k0_pay13 v (ix2 r q) = v (ix3 0 r q) := by
  unfold k0_pay13; pointwise
theorem pay27_at (v : FVec Ideal S1x128x512 .f32) (r : Fin 128) (q : Fin 512) : k0_pay27 v (ix2 r q) = v (ix3 0 r q) := by
  unfold k0_pay27; pointwise
theorem pay3_at (v : FVec Ideal S1x128x512 .f32) (r : Fin 512) (q : Fin 128) : k0_pay3 v (ix3 0 r q) = v (ix3 0 q r) := by
  unfold k0_pay3; pointwise
theorem pay4_at (v : FVec Ideal S1x128x512 .f32) (r : Fin 512) (q : Fin 128) : k0_pay4 v (ix3 0 r q) = v (ix3 0 q r) := by
  unfold k0_pay4; pointwise
theorem pay5_at (v : FVec Ideal S1x512x128 .f32) (r : Fin 128) (q : Fin 512) : k0_pay5 v (ix3 0 r q) = v (ix3 0 q r) := by
  unfold k0_pay5; pointwise
theorem pay6_at (v : FVec Ideal S1x512x128 .f32) (r : Fin 128) (q : Fin 512) : k0_pay6 v (ix3 0 r q) = v (ix3 0 q r) := by
  unfold k0_pay6; pointwise
theorem pay14_at (c : FVec Ideal S128x128 .f32) (h : FVec Ideal S1x128x512 .f32) (r : Fin 128) (q : Fin 512) :
    k0_pay14 c h (ix2 r q) = ∑ n : Fin 128, c (ix2 r n) * h (ix3 0 n q) := by
  unfold k0_pay14
  pointwise
  exact Finset.sum_congr rfl fun n _ => congrArg (c (ix2 r n) * ·) (pay13_at h n q)
theorem pay28_at (c : FVec Ideal S128x128 .f32) (h : FVec Ideal S1x128x512 .f32) (r : Fin 128) (q : Fin 512) :
    k0_pay28 c h (ix2 r q) = ∑ n : Fin 128, c (ix2 r n) * h (ix3 0 n q) := by
  unfold k0_pay28
  pointwise
  exact Finset.sum_congr rfl fun n _ => congrArg (c (ix2 r n) * ·) (pay27_at h n q)
theorem pay33_at (v : FVec Ideal S128x128 .f32) (r : Fin 128) : k0_pay33 v (ix2 r 0) = v (ix2 r 26) := by
  unfold k0_pay33; pointwise
theorem pay34_at (v : FVec Ideal S128x128 .f32) (r : Fin 128) : k0_pay34 v (ix2 r 0) = v (ix2 r 27) := by
  unfold k0_pay34; pointwise
theorem pay40_at (v : FVec Ideal S1x128 .f32) (q : Fin 128) : k0_pay40 v (ix2 0 q) = v (ix2 0 28) := by
  unfold k0_pay40; pointwise
theorem pay41_at (v : FVec Ideal S1x128 .f32) (q : Fin 128) : k0_pay41 v (ix2 0 q) = v (ix2 0 29) := by
  unfold k0_pay41; pointwise
theorem pay18_at (e : FVec Ideal S128x128 .f32) (p : FVec Ideal S128x512 .f32) (r q : Fin 128) :
    k0_pay18 e k0_pay10 p (ix2 r q) = p (ix2 r ⟨128 + q.val, by omega⟩) * (if q.val < 64 then e (ix2 r 10) else e (ix2 r 11)) := by
  unfold k0_pay18
  pointwise
  exact congrArg _ (lane r q _ _)
theorem pay21_at (e : FVec Ideal S128x128 .f32) (p : FVec Ideal S128x512 .f32) (r q : Fin 128) :
    k0_pay21 e k0_pay10 p (ix2 r q) = p (ix2 r ⟨256 + q.val, by omega⟩) * (if q.val < 64 then e (ix2 r 12) else e (ix2 r 13)) := by
  unfold k0_pay21
  pointwise
  exact congrArg _ (lane r q _ _)
theorem pay22_at (e : FVec Ideal S128x128 .f32) (p : FVec Ideal S128x512 .f32) (r q : Fin 128) :
    k0_pay22 e k0_pay10 p (ix2 r q) = p (ix2 r ⟨384 + q.val, by omega⟩) * (if q.val < 64 then e (ix2 r 14) else e (ix2 r 15)) := by
  unfold k0_pay22
  pointwise
  exact congrArg _ (lane r q _ _)
theorem pay38_at (e : FVec Ideal S128x128 .f32) (p : FVec Ideal S128x512 .f32) (r q : Fin 128) :
    k0_pay38 e k0_pay10 p (ix2 r q) = p (ix2 r ⟨256 + q.val, by omega⟩) * (if q.val < 64 then e (ix2 r 28) else e (ix2 r 29)) := by
  unfold k0_pay38
  pointwise
  exact congrArg _ (lane r q _ _)
theorem pay1_at (e : FVec Ideal S128x128 .f32) (p : FVec Ideal S128x512 .f32) (r q : Fin 128) :
    k0_pay1 e k0_pay10 p (ix2 r q) = p (ix2 r ⟨384 + q.val, by omega⟩) * (if q.val < 64 then e (ix2 r 30) else e (ix2 r 31)) := by
  unfold k0_pay1
  pointwise
  exact congrArg _ (lane r q _ _)
theorem pay15_at (v : FVec Ideal S1x128x128 .f32) (c : FVec Ideal S128x128 .f32) (h : FVec Ideal S1x128x512 .f32) (r q : Fin 128) :
    k0_pay15 v c h (ix2 r q) = k0_pay14 (F := Ideal) c h (ix2 r ⟨q.val, by omega⟩) * (if q.val < 64 then k0_pay7 (F := Ideal) v (ix2 r 8) else k0_pay7 (F := Ideal) v (ix2 r 9)) := by
  unfold k0_pay15
  generalize k0_pay14 (F := Ideal) c h = p
  generalize k0_pay7 (F := Ideal) v = e
  pointwise
  exact congrArg _ (lane r q _ _)
theorem pay29_at (e : FVec Ideal S128x128 .f32) (c : FVec Ideal S128x128 .f32) (h : FVec Ideal S1x128x512 .f32) (r q : Fin 128) :
    k0_pay29 e k0_pay10 c h (ix2 r q) = k0_pay28 (F := Ideal) c h (ix2 r ⟨q.val, by omega⟩) * (if q.val < 64 then e (ix2 r 24) else e (ix2 r 25)) := by
  unfold k0_pay29
  generalize k0_pay28 (F := Ideal) c h = p
  pointwise
  exact congrArg _ (lane r q _ _)
theorem pay32_at (c : FVec Ideal S128x128 .f32) (h : FVec Ideal S1x128x512 .f32) (r q : Fin 128) :
    k0_pay32 c h (ix2 r q) = k0_pay28 (F := Ideal) c h (ix2 r ⟨128 + q.val, by omega⟩) := by
  unfold k0_pay32
  generalize k0_pay28 (F := Ideal) c h = p
  pointwise
theorem pay35_at (p : FVec Ideal S128x128 .f32) (a b : FVec Ideal S128x1 .f32) (r q : Fin 128) :
    k0_pay35 k0_pay10 p a b (ix2 r q) = p (ix2 r q) * (if q.val < 64 then a (ix2 r 0) else b (ix2 r 0)) := by
  unfold k0_pay35
  pointwise
  exact congrArg _ (lane r q _ _)
theorem pay16_at (w : FVec Ideal S128x128 .f32) (x : FVec Ideal S128x128 .f32) (r q : Fin 128) :
    k0_pay16 w k0_pay10 x (ix2 r q) = x (ix2 r q) * (if q.val < 64 then w (ix2 r 8) else w (ix2 r 9)) := by
  unfold k0_pay16
  pointwise
  exact congrArg _ (lane r q _ _)
theorem pay19_at (w : FVec Ideal S128x128 .f32) (x : FVec Ideal S128x128 .f32) (r q : Fin 128) :
    k0_pay19 w k0_pay10 x (ix2 r q) = x (ix2 r q) * (if q.val < 64 then w (ix2 r 10) else w (ix2 r 11)) := by
  unfold k0_pay19
  pointwise
  exact congrArg _ (lane r q _ _)
theorem pay30_at (w : FVec Ideal S128x128 .f32) (x : FVec Ideal S128x128 .f32) (r q : Fin 128) :
    k0_pay30 w k0_pay10 x (ix2 r q) = x (ix2 r q) * (if q.val < 64 then w (ix2 r 24) else w (ix2 r 25)) := by
  unfold k0_pay30
  pointwise
  exact congrArg _ (lane r q _ _)
theorem pay36_at (w : FVec Ideal S128x128 .f32) (x : FVec Ideal S128x128 .f32) (r q : Fin 128) :
    k0_pay36 w k0_pay10 x (ix2 r q) = x (ix2 r q) * (if q.val < 64 then w (ix2 r 26) else w (ix2 r 27)) := by
  unfold k0_pay36
  pointwise
  exact congrArg _ (lane r q _ _)
theorem pay39_at (w : FVec Ideal S128x128 .f32) (x : FVec Ideal S128x128 .f32) (r q : Fin 128) :
    k0_pay39 w k0_pay10 x (ix2 r q) = x (ix2 r q) * (if q.val < 64 then w (ix2 r 28) else w (ix2 r 29)) := by
  unfold k0_pay39
  pointwise
  exact congrArg _ (lane r q _ _)
theorem pay17_at (d : FVec Ideal S1x128 .f32) (q : Fin 128) :
    k0_pay17 d k0_pay11 (ix2 0 q) = (if q.val < 64 then d (ix2 0 8) else d (ix2 0 9)) := by
  unfold k0_pay17
  pointwise
  exact lane1 q _ _
theorem pay20_at (d : FVec Ideal S1x128 .f32) (q : Fin 128) :
    k0_pay20 d k0_pay11 (ix2 0 q) = (if q.val < 64 then d (ix2 0 10) else d (ix2 0 11)) := by
  unfold k0_pay20
  pointwise
  exact lane1 q _ _
theorem pay31_at (d : FVec Ideal S1x128 .f32) (q : Fin 128) :
    k0_pay31 d k0_pay11 (ix2 0 q) = (if q.val < 64 then d (ix2 0 24) else d (ix2 0 25)) := by
  unfold k0_pay31
  pointwise
  exact lane1 q _ _
theorem pay37_at (d : FVec Ideal S1x128 .f32) (q : Fin 128) :
    k0_pay37 d k0_pay11 (ix2 0 q) = (if q.val < 64 then d (ix2 0 26) else d (ix2 0 27)) := by
  unfold k0_pay37
  pointwise
  exact lane1 q _ _

/-- Four blocks side by side. -/
def four (a b c d : Fin 128 → EReal) (q : Fin 512) : EReal :=
  if h : q.val < 128 then a ⟨q.val, h⟩ else if h : q.val - 128 < 128 then b ⟨q.val - 128, h⟩
  else if h : q.val - 128 - 128 < 128 then c ⟨q.val - 128 - 128, h⟩ else d ⟨q.val - 128 - 128 - 128, by omega⟩

theorem pay23_at (w : FVec Ideal S128x128 .f32) (b : FVec Ideal S128x128 .bf16) (a0 a1 : FVec Ideal S128x128 .bf16) (x2 x3 : FVec Ideal S128x128 .f32) (n : Fin 128) (q : Fin 512) :
    k0_pay23 w k0_pay10 b a0 a1 x2 x3 (ix2 n q) = ∑ k : Fin 128, b (ix2 n k) * four (fun l => a0 (ix2 k l)) (fun l => a1 (ix2 k l))
      (fun l => x2 (ix2 k l) * (if l.val < 64 then w (ix2 k 12) else w (ix2 k 13)))
      (fun l => x3 (ix2 k l) * (if l.val < 64 then w (ix2 k 14) else w (ix2 k 15))) q := by
  unfold k0_pay23
  pointwise
  refine Finset.sum_congr rfl fun k _ => congrArg (b (ix2 n k) * ·) ?_
  simp only [lane, lane1]
  rfl
theorem pay24_at (d : FVec Ideal S1x128 .f32) (s : FVec Ideal S128x512 .f32) (a0 a1 : FVec Ideal S1x128 .f32) (n : Fin 128) (q : Fin 512) :
    k0_pay24 d k0_pay11 s a0 a1 (ix2 n q) = s (ix2 n q) * four (fun l => a0 (ix2 0 l)) (fun l => a1 (ix2 0 l))
      (fun l => if l.val < 64 then d (ix2 0 12) else d (ix2 0 13)) (fun l => if l.val < 64 then d (ix2 0 14) else d (ix2 0 15)) q := by
  unfold k0_pay24
  pointwise
  refine congrArg (s (ix2 n q) * ·) ?_
  simp only [lane, lane1]
  rfl
theorem pay25_at (p w : FVec Ideal S128x512 .f32) (n : Fin 128) (q : Fin 512) : k0_pay25 p w (ix3 0 n q) = w (ix2 n q) + p (ix2 n q) := by
  unfold k0_pay25; pointwise
theorem pay2_at (w : FVec Ideal S128x128 .f32) (d : FVec Ideal S1x128 .f32) (b : FVec Ideal S128x128 .bf16) (s : FVec Ideal S128x512 .f32)
    (a0 : FVec Ideal S128x128 .bf16) (d0 : FVec Ideal S1x128 .f32) (a1 : FVec Ideal S128x128 .bf16) (d1 : FVec Ideal S1x128 .f32)
    (a2 : FVec Ideal S128x128 .bf16) (d2 d2' : FVec Ideal S1x128 .f32) (x3 : FVec Ideal S128x128 .f32) (n : Fin 128) (q : Fin 512) :
    k0_pay2 w d k0_pay10 k0_pay11 b s a0 d0 a1 d1 a2 d2 d2' x3 (ix3 0 n q)
      = s (ix2 n q) * four (fun l => d0 (ix2 0 l)) (fun l => d1 (ix2 0 l)) (fun l => if l.val < 64 then d2 (ix2 0 l) else d2' (ix2 0 l))
          (fun l => if l.val < 64 then d (ix2 0 30) else d (ix2 0 31)) q
        + ∑ k : Fin 128, b (ix2 n k) * four (fun l => a0 (ix2 k l)) (fun l => a1 (ix2 k l)) (fun l => a2 (ix2 k l))
          (fun l => x3 (ix2 k l) * (if l.val < 64 then w (ix2 k 30) else w (ix2 k 31))) q := by
  unfold k0_pay2
  pointwise
  simp only [lane, lane1]
  rfl

theorem four_eq (G : Fin 512 → EReal) (a b c d : Fin 128 → EReal) (ha : ∀ l, a l = G ⟨0 + l.val, by omega⟩) (hb : ∀ l, b l = G ⟨128 + l.val, by omega⟩)
    (hc : ∀ l, c l = G ⟨256 + l.val, by omega⟩) (hd : ∀ l, d l = G ⟨384 + l.val, by omega⟩) (q : Fin 512) : four a b c d q = G q := by
  unfold four
  split
  · exact (ha _).trans (congrArg G (Fin.ext (by simp only; omega)))
  split
  · exact (hb _).trans (congrArg G (Fin.ext (by simp only; omega)))
  split
  · exact (hc _).trans (congrArg G (Fin.ext (by simp only; omega)))
  · exact (hd _).trans (congrArg G (Fin.ext (by simp only; omega)))

theorem sel (f : Fin 128 → EReal) (l a b t : Fin 128) (h : l.val < 64 → a = t) (h' : ¬ l.val < 64 → b = t) :
    (if l.val < 64 then f a else f b) = f t := by
  split
  · next c => rw [h c]
  · next c => rw [h' c]

/-- The lane the head of column `q` of the group `g` of a pair of groups stands in. -/
def ln (g : Fin 2) (q : Fin 512) : Fin 128 := ⟨16 * g.val + 8 + q.val / 64, by omega⟩
def gx (g : Fin 2) (q : Fin 512) : Fin 1024 := ⟨512 * g.val + q.val, by omega⟩
def gb (g : Fin 2) (n : Fin 128) : Fin 256 := ⟨128 * g.val + n.val, by omega⟩

/-- A chunk's output at a row, read from the state that enters it. -/
def yS (C : FVec Ideal S128x256 .f32) (E : FVec Ideal S1x128x128 .f32) (S : FVec Ideal S2x128x512 .f32) (r : Fin 128) (g : Fin 2) (q : Fin 512) : EReal :=
  (∑ n : Fin 128, C (ix2 r (gb g n)) * S (ix3 g n q)) * E (ix3 0 r (ln g q))

/-- The state that leaves a chunk. -/
def sS (X : FVec Ideal S128x1024 .f32) (B : FVec Ideal S128x256 .f32) (W : FVec Ideal S1x128x128 .f32) (D : FVec Ideal S1x8x128 .f32)
    (S : FVec Ideal S2x128x512 .f32) (g : Fin 2) (n : Fin 128) (q : Fin 512) : EReal :=
  S (ix3 g n q) * D (ix3 0 0 (ln g q)) + ∑ k : Fin 128, B (ix2 k (gb g n)) * (X (ix2 k (gx g q)) * W (ix3 0 k (ln g q)))

variable (X : FVec Ideal S128x1024 .f32) (B C : FVec Ideal S128x256 .f32) (E W : FVec Ideal S1x128x128 .f32) (D : FVec Ideal S1x8x128 .f32)
  (S : FVec Ideal S2x128x512 .f32)

theorem slice0_at (b : FVec Ideal S128x128 .f32) (hb : ∀ k n, b (ix2 k n) = B (ix2 k (gb 0 n)))
    (s : FVec Ideal S1x128x512 .f32) (hs : ∀ n q, s (ix3 0 n q) = S (ix3 0 n q)) (d : FVec Ideal S1x1x128 .f32) (hd : ∀ l, d (ix3 0 0 l) = D (ix3 0 0 l))
    (x0 : FVec Ideal S128x128 .f32) (hx0 : ∀ k l, x0 (ix2 k l) = X (ix2 k ⟨0 + l.val, by omega⟩))
    (x1 : FVec Ideal S128x128 .f32) (hx1 : ∀ k l, x1 (ix2 k l) = X (ix2 k ⟨128 + l.val, by omega⟩))
    (x2 : FVec Ideal S128x128 .f32) (hx2 : ∀ k l, x2 (ix2 k l) = X (ix2 k ⟨256 + l.val, by omega⟩))
    (x3 : FVec Ideal S128x128 .f32) (hx3 : ∀ k l, x3 (ix2 k l) = X (ix2 k ⟨384 + l.val, by omega⟩)) (n : Fin 128) (q : Fin 512) :
    k0_pay25 (F := Ideal) (k0_pay23 (k0_pay8 W) k0_pay10 (k0_pay12 b) (k0_pay16 (k0_pay8 W) k0_pay10 x0) (k0_pay19 (k0_pay8 W) k0_pay10 x1) x2 x3)
      (k0_pay24 (k0_pay9 d) k0_pay11 (k0_pay13 s) (k0_pay17 (k0_pay9 d) k0_pay11) (k0_pay20 (k0_pay9 d) k0_pay11)) (ix3 0 n q) = sS X B W D S 0 n q := by
  refine (pay25_at _ _ n q).trans (congrArg₂ (· + ·) ((pay24_at _ _ _ _ n q).trans (congrArg₂ (· * ·) ((pay13_at s n q).trans (hs n q)) ?_)) ((pay23_at _ _ _ _ _ _ n q).trans (Finset.sum_congr rfl fun k _ => congrArg₂ (· * ·) ((pay12_at b n k).trans (hb k n)) ?_)))
  · refine four_eq (fun q => D (ix3 0 0 (ln 0 q))) _ _ _ _ (fun l => ?_) (fun l => ?_) (fun l => ?_) (fun l => ?_) q
    · exact (pay17_at (k0_pay9 d) l).trans ((sel (fun z => k0_pay9 (F := Ideal) d (ix2 0 z)) l 8 9 ⟨8 + l.val / 64, by omega⟩ (fun h => Fin.ext (show 8 = 8 + l.val / 64 by omega)) (fun h => Fin.ext (show 9 = 8 + l.val / 64 by omega))).trans
        ((pay9_at d _).trans ((hd _).trans (congrArg (fun z => D (ix3 0 0 z)) (Fin.ext (show 8 + l.val / 64 = 16 * 0 + 8 + (0 + l.val) / 64 by omega))))))
    · exact (pay20_at (k0_pay9 d) l).trans ((sel (fun z => k0_pay9 (F := Ideal) d (ix2 0 z)) l 10 11 ⟨10 + l.val / 64, by omega⟩ (fun h => Fin.ext (show 10 = 10 + l.val / 64 by omega)) (fun h => Fin.ext (show 11 = 10 + l.val / 64 by omega))).trans
        ((pay9_at d _).trans ((hd _).trans (congrArg (fun z => D (ix3 0 0 z)) (Fin.ext (show 10 + l.val / 64 = 16 * 0 + 8 + (128 + l.val) / 64 by omega))))))
    · exact ((sel (fun z => k0_pay9 (F := Ideal) d (ix2 0 z)) l 12 13 ⟨12 + l.val / 64, by omega⟩ (fun h => Fin.ext (show 12 = 12 + l.val / 64 by omega)) (fun h => Fin.ext (show 13 = 12 + l.val / 64 by omega))).trans
        ((pay9_at d _).trans ((hd _).trans (congrArg (fun z => D (ix3 0 0 z)) (Fin.ext (show 12 + l.val / 64 = 16 * 0 + 8 + (256 + l.val) / 64 by omega))))))
    · exact ((sel (fun z => k0_pay9 (F := Ideal) d (ix2 0 z)) l 14 15 ⟨14 + l.val / 64, by omega⟩ (fun h => Fin.ext (show 14 = 14 + l.val / 64 by omega)) (fun h => Fin.ext (show 15 = 14 + l.val / 64 by omega))).trans
        ((pay9_at d _).trans ((hd _).trans (congrArg (fun z => D (ix3 0 0 z)) (Fin.ext (show 14 + l.val / 64 = 16 * 0 + 8 + (384 + l.val) / 64 by omega))))))
  · refine four_eq (fun q => X (ix2 k (gx 0 q)) * W (ix3 0 k (ln 0 q))) _ _ _ _ (fun l => ?_) (fun l => ?_) (fun l => ?_) (fun l => ?_) q
    · exact (pay16_at (k0_pay8 W) x0 k l).trans (congrArg₂ (· * ·) ((hx0 k l).trans (congrArg (fun z => X (ix2 k z)) (Fin.ext (show 0 + l.val = 512 * 0 + (0 + l.val) by omega))))
        ((sel (fun z => k0_pay8 (F := Ideal) W (ix2 k z)) l 8 9 ⟨8 + l.val / 64, by omega⟩ (fun h => Fin.ext (show 8 = 8 + l.val / 64 by omega)) (fun h => Fin.ext (show 9 = 8 + l.val / 64 by omega))).trans
        ((pay8_at W k _).trans (congrArg (fun z => W (ix3 0 k z)) (Fin.ext (show 8 + l.val / 64 = 16 * 0 + 8 + (0 + l.val) / 64 by omega))))))
    · exact (pay19_at (k0_pay8 W) x1 k l).trans (congrArg₂ (· * ·) ((hx1 k l).trans (congrArg (fun z => X (ix2 k z)) (Fin.ext (show 128 + l.val = 512 * 0 + (128 + l.val) by omega))))
        ((sel (fun z => k0_pay8 (F := Ideal) W (ix2 k z)) l 10 11 ⟨10 + l.val / 64, by omega⟩ (fun h => Fin.ext (show 10 = 10 + l.val / 64 by omega)) (fun h => Fin.ext (show 11 = 10 + l.val / 64 by omega))).trans
        ((pay8_at W k _).trans (congrArg (fun z => W (ix3 0 k z)) (Fin.ext (show 10 + l.val / 64 = 16 * 0 + 8 + (128 + l.val) / 64 by omega))))))
    · exact (congrArg₂ (· * ·) ((hx2 k l).trans (congrArg (fun z => X (ix2 k z)) (Fin.ext (show 256 + l.val = 512 * 0 + (256 + l.val) by omega))))
        ((sel (fun z => k0_pay8 (F := Ideal) W (ix2 k z)) l 12 13 ⟨12 + l.val / 64, by omega⟩ (fun h => Fin.ext (show 12 = 12 + l.val / 64 by omega)) (fun h => Fin.ext (show 13 = 12 + l.val / 64 by omega))).trans
        ((pay8_at W k _).trans (congrArg (fun z => W (ix3 0 k z)) (Fin.ext (show 12 + l.val / 64 = 16 * 0 + 8 + (256 + l.val) / 64 by omega))))))
    · exact (congrArg₂ (· * ·) ((hx3 k l).trans (congrArg (fun z => X (ix2 k z)) (Fin.ext (show 384 + l.val = 512 * 0 + (384 + l.val) by omega))))
        ((sel (fun z => k0_pay8 (F := Ideal) W (ix2 k z)) l 14 15 ⟨14 + l.val / 64, by omega⟩ (fun h => Fin.ext (show 14 = 14 + l.val / 64 by omega)) (fun h => Fin.ext (show 15 = 14 + l.val / 64 by omega))).trans
        ((pay8_at W k _).trans (congrArg (fun z => W (ix3 0 k z)) (Fin.ext (show 14 + l.val / 64 = 16 * 0 + 8 + (384 + l.val) / 64 by omega))))))

theorem y00_at (c : FVec Ideal S128x128 .f32) (hc : ∀ k n, c (ix2 k n) = C (ix2 k (gb 0 n)))
    (s : FVec Ideal S1x128x512 .f32) (hs : ∀ n q, s (ix3 0 n q) = S (ix3 0 n q)) (r l : Fin 128) :
    k0_pay15 (F := Ideal) E c s (ix2 r l) = yS C E S r 0 ⟨0 + l.val, by omega⟩ := by
  refine (pay15_at E c s r l).trans (congrArg₂ (· * ·) ((pay14_at c s r _).trans ?_) (((sel (fun z => k0_pay7 (F := Ideal) E (ix2 r z)) l 8 9 ⟨8 + l.val / 64, by omega⟩ (fun h => Fin.ext (show 8 = 8 + l.val / 64 by omega)) (fun h => Fin.ext (show 9 = 8 + l.val / 64 by omega)))).trans
    ((pay7_at E r _).trans (congrArg (fun z => E (ix3 0 r z)) (Fin.ext (show 8 + l.val / 64 = 16 * 0 + 8 + (0 + l.val) / 64 by omega))))))
  refine Finset.sum_congr rfl fun n _ => congrArg₂ (· * ·) (hc r n) ((hs n _).trans (congrArg (fun z => S (ix3 0 n z)) (Fin.ext ?_)))
  simp only; omega

theorem y01_at (c : FVec Ideal S128x128 .f32) (hc : ∀ k n, c (ix2 k n) = C (ix2 k (gb 0 n)))
    (s : FVec Ideal S1x128x512 .f32) (hs : ∀ n q, s (ix3 0 n q) = S (ix3 0 n q)) (r l : Fin 128) :
    k0_pay18 (F := Ideal) (k0_pay7 E) k0_pay10 (k0_pay14 c s) (ix2 r l) = yS C E S r 0 ⟨128 + l.val, by omega⟩ := by
  refine (pay18_at (k0_pay7 E) (k0_pay14 c s) r l).trans (congrArg₂ (· * ·) ((pay14_at c s r _).trans ?_) (((sel (fun z => k0_pay7 (F := Ideal) E (ix2 r z)) l 10 11 ⟨10 + l.val / 64, by omega⟩ (fun h => Fin.ext (show 10 = 10 + l.val / 64 by omega)) (fun h => Fin.ext (show 11 = 10 + l.val / 64 by omega)))).trans
    ((pay7_at E r _).trans (congrArg (fun z => E (ix3 0 r z)) (Fin.ext (show 10 + l.val / 64 = 16 * 0 + 8 + (128 + l.val) / 64 by omega))))))
  refine Finset.sum_congr rfl fun n _ => congrArg₂ (· * ·) (hc r n) ((hs n _).trans (congrArg (fun z => S (ix3 0 n z)) (Fin.ext ?_)))
  rfl

theorem y02_at (c : FVec Ideal S128x128 .f32) (hc : ∀ k n, c (ix2 k n) = C (ix2 k (gb 0 n)))
    (s : FVec Ideal S1x128x512 .f32) (hs : ∀ n q, s (ix3 0 n q) = S (ix3 0 n q)) (r l : Fin 128) :
    k0_pay21 (F := Ideal) (k0_pay7 E) k0_pay10 (k0_pay14 c s) (ix2 r l) = yS C E S r 0 ⟨256 + l.val, by omega⟩ := by
  refine (pay21_at (k0_pay7 E) (k0_pay14 c s) r l).trans (congrArg₂ (· * ·) ((pay14_at c s r _).trans ?_) (((sel (fun z => k0_pay7 (F := Ideal) E (ix2 r z)) l 12 13 ⟨12 + l.val / 64, by omega⟩ (fun h => Fin.ext (show 12 = 12 + l.val / 64 by omega)) (fun h => Fin.ext (show 13 = 12 + l.val / 64 by omega)))).trans
    ((pay7_at E r _).trans (congrArg (fun z => E (ix3 0 r z)) (Fin.ext (show 12 + l.val / 64 = 16 * 0 + 8 + (256 + l.val) / 64 by omega))))))
  refine Finset.sum_congr rfl fun n _ => congrArg₂ (· * ·) (hc r n) ((hs n _).trans (congrArg (fun z => S (ix3 0 n z)) (Fin.ext ?_)))
  rfl

theorem y03_at (c : FVec Ideal S128x128 .f32) (hc : ∀ k n, c (ix2 k n) = C (ix2 k (gb 0 n)))
    (s : FVec Ideal S1x128x512 .f32) (hs : ∀ n q, s (ix3 0 n q) = S (ix3 0 n q)) (r l : Fin 128) :
    k0_pay22 (F := Ideal) (k0_pay7 E) k0_pay10 (k0_pay14 c s) (ix2 r l) = yS C E S r 0 ⟨384 + l.val, by omega⟩ := by
  refine (pay22_at (k0_pay7 E) (k0_pay14 c s) r l).trans (congrArg₂ (· * ·) ((pay14_at c s r _).trans ?_) (((sel (fun z => k0_pay7 (F := Ideal) E (ix2 r z)) l 14 15 ⟨14 + l.val / 64, by omega⟩ (fun h => Fin.ext (show 14 = 14 + l.val / 64 by omega)) (fun h => Fin.ext (show 15 = 14 + l.val / 64 by omega)))).trans
    ((pay7_at E r _).trans (congrArg (fun z => E (ix3 0 r z)) (Fin.ext (show 14 + l.val / 64 = 16 * 0 + 8 + (384 + l.val) / 64 by omega))))))
  refine Finset.sum_congr rfl fun n _ => congrArg₂ (· * ·) (hc r n) ((hs n _).trans (congrArg (fun z => S (ix3 0 n z)) (Fin.ext ?_)))
  rfl

theorem slice1_at (b : FVec Ideal S128x128 .f32) (hb : ∀ k n, b (ix2 k n) = B (ix2 k (gb 1 n)))
    (s : FVec Ideal S1x128x512 .f32) (hs : ∀ n q, s (ix3 0 n q) = S (ix3 1 n q)) (d : FVec Ideal S1x1x128 .f32) (hd : ∀ l, d (ix3 0 0 l) = D (ix3 0 0 l))
    (x0 : FVec Ideal S128x128 .f32) (hx0 : ∀ k l, x0 (ix2 k l) = X (ix2 k ⟨512 + l.val, by omega⟩))
    (x1 : FVec Ideal S128x128 .f32) (hx1 : ∀ k l, x1 (ix2 k l) = X (ix2 k ⟨640 + l.val, by omega⟩))
    (x2 : FVec Ideal S128x128 .f32) (hx2 : ∀ k l, x2 (ix2 k l) = X (ix2 k ⟨768 + l.val, by omega⟩))
    (x3 : FVec Ideal S128x128 .f32) (hx3 : ∀ k l, x3 (ix2 k l) = X (ix2 k ⟨896 + l.val, by omega⟩)) (n : Fin 128) (q : Fin 512) :
    k0_pay2 (F := Ideal) (k0_pay8 W) (k0_pay9 d) k0_pay10 k0_pay11 (k0_pay26 b) (k0_pay27 s) (k0_pay30 (k0_pay8 W) k0_pay10 x0) (k0_pay31 (k0_pay9 d) k0_pay11)
      (k0_pay36 (k0_pay8 W) k0_pay10 x1) (k0_pay37 (k0_pay9 d) k0_pay11) (k0_pay39 (k0_pay8 W) k0_pay10 x2) (k0_pay40 (k0_pay9 d)) (k0_pay41 (k0_pay9 d)) x3 (ix3 0 n q) = sS X B W D S 1 n q := by
  refine (pay2_at _ _ _ _ _ _ _ _ _ _ _ _ n q).trans (congrArg₂ (· + ·) (congrArg₂ (· * ·) ((pay27_at s n q).trans (hs n q)) ?_) (Finset.sum_congr rfl fun k _ => congrArg₂ (· * ·) ((pay26_at b n k).trans (hb k n)) ?_))
  · refine four_eq (fun q => D (ix3 0 0 (ln 1 q))) _ _ _ _ (fun l => ?_) (fun l => ?_) (fun l => ?_) (fun l => ?_) q
    · exact (pay31_at (k0_pay9 d) l).trans ((sel (fun z => k0_pay9 (F := Ideal) d (ix2 0 z)) l 24 25 ⟨24 + l.val / 64, by omega⟩ (fun h => Fin.ext (show 24 = 24 + l.val / 64 by omega)) (fun h => Fin.ext (show 25 = 24 + l.val / 64 by omega))).trans
        ((pay9_at d _).trans ((hd _).trans (congrArg (fun z => D (ix3 0 0 z)) (Fin.ext (show 24 + l.val / 64 = 16 * 1 + 8 + (0 + l.val) / 64 by omega))))))
    · exact (pay37_at (k0_pay9 d) l).trans ((sel (fun z => k0_pay9 (F := Ideal) d (ix2 0 z)) l 26 27 ⟨26 + l.val / 64, by omega⟩ (fun h => Fin.ext (show 26 = 26 + l.val / 64 by omega)) (fun h => Fin.ext (show 27 = 26 + l.val / 64 by omega))).trans
        ((pay9_at d _).trans ((hd _).trans (congrArg (fun z => D (ix3 0 0 z)) (Fin.ext (show 26 + l.val / 64 = 16 * 1 + 8 + (128 + l.val) / 64 by omega))))))
    · exact (congrArg₂ (fun a b => if l.val < 64 then a else b) (pay40_at (k0_pay9 d) l) (pay41_at (k0_pay9 d) l)).trans ((sel (fun z => k0_pay9 (F := Ideal) d (ix2 0 z)) l 28 29 ⟨28 + l.val / 64, by omega⟩ (fun h => Fin.ext (show 28 = 28 + l.val / 64 by omega)) (fun h => Fin.ext (show 29 = 28 + l.val / 64 by omega))).trans
        ((pay9_at d _).trans ((hd _).trans (congrArg (fun z => D (ix3 0 0 z)) (Fin.ext (show 28 + l.val / 64 = 16 * 1 + 8 + (256 + l.val) / 64 by omega))))))
    · exact ((sel (fun z => k0_pay9 (F := Ideal) d (ix2 0 z)) l 30 31 ⟨30 + l.val / 64, by omega⟩ (fun h => Fin.ext (show 30 = 30 + l.val / 64 by omega)) (fun h => Fin.ext (show 31 = 30 + l.val / 64 by omega))).trans
        ((pay9_at d _).trans ((hd _).trans (congrArg (fun z => D (ix3 0 0 z)) (Fin.ext (show 30 + l.val / 64 = 16 * 1 + 8 + (384 + l.val) / 64 by omega))))))
  · refine four_eq (fun q => X (ix2 k (gx 1 q)) * W (ix3 0 k (ln 1 q))) _ _ _ _ (fun l => ?_) (fun l => ?_) (fun l => ?_) (fun l => ?_) q
    · exact (pay30_at (k0_pay8 W) x0 k l).trans (congrArg₂ (· * ·) ((hx0 k l).trans (congrArg (fun z => X (ix2 k z)) (Fin.ext (show 512 + l.val = 512 * 1 + (0 + l.val) by omega))))
        ((sel (fun z => k0_pay8 (F := Ideal) W (ix2 k z)) l 24 25 ⟨24 + l.val / 64, by omega⟩ (fun h => Fin.ext (show 24 = 24 + l.val / 64 by omega)) (fun h => Fin.ext (show 25 = 24 + l.val / 64 by omega))).trans
        ((pay8_at W k _).trans (congrArg (fun z => W (ix3 0 k z)) (Fin.ext (show 24 + l.val / 64 = 16 * 1 + 8 + (0 + l.val) / 64 by omega))))))
    · exact (pay36_at (k0_pay8 W) x1 k l).trans (congrArg₂ (· * ·) ((hx1 k l).trans (congrArg (fun z => X (ix2 k z)) (Fin.ext (show 640 + l.val = 512 * 1 + (128 + l.val) by omega))))
        ((sel (fun z => k0_pay8 (F := Ideal) W (ix2 k z)) l 26 27 ⟨26 + l.val / 64, by omega⟩ (fun h => Fin.ext (show 26 = 26 + l.val / 64 by omega)) (fun h => Fin.ext (show 27 = 26 + l.val / 64 by omega))).trans
        ((pay8_at W k _).trans (congrArg (fun z => W (ix3 0 k z)) (Fin.ext (show 26 + l.val / 64 = 16 * 1 + 8 + (128 + l.val) / 64 by omega))))))
    · exact (pay39_at (k0_pay8 W) x2 k l).trans (congrArg₂ (· * ·) ((hx2 k l).trans (congrArg (fun z => X (ix2 k z)) (Fin.ext (show 768 + l.val = 512 * 1 + (256 + l.val) by omega))))
        ((sel (fun z => k0_pay8 (F := Ideal) W (ix2 k z)) l 28 29 ⟨28 + l.val / 64, by omega⟩ (fun h => Fin.ext (show 28 = 28 + l.val / 64 by omega)) (fun h => Fin.ext (show 29 = 28 + l.val / 64 by omega))).trans
        ((pay8_at W k _).trans (congrArg (fun z => W (ix3 0 k z)) (Fin.ext (show 28 + l.val / 64 = 16 * 1 + 8 + (256 + l.val) / 64 by omega))))))
    · exact (congrArg₂ (· * ·) ((hx3 k l).trans (congrArg (fun z => X (ix2 k z)) (Fin.ext (show 896 + l.val = 512 * 1 + (384 + l.val) by omega))))
        ((sel (fun z => k0_pay8 (F := Ideal) W (ix2 k z)) l 30 31 ⟨30 + l.val / 64, by omega⟩ (fun h => Fin.ext (show 30 = 30 + l.val / 64 by omega)) (fun h => Fin.ext (show 31 = 30 + l.val / 64 by omega))).trans
        ((pay8_at W k _).trans (congrArg (fun z => W (ix3 0 k z)) (Fin.ext (show 30 + l.val / 64 = 16 * 1 + 8 + (384 + l.val) / 64 by omega))))))

theorem y10_at (c : FVec Ideal S128x128 .f32) (hc : ∀ k n, c (ix2 k n) = C (ix2 k (gb 1 n)))
    (s : FVec Ideal S1x128x512 .f32) (hs : ∀ n q, s (ix3 0 n q) = S (ix3 1 n q)) (r l : Fin 128) :
    k0_pay29 (F := Ideal) (k0_pay7 E) k0_pay10 c s (ix2 r l) = yS C E S r 1 ⟨0 + l.val, by omega⟩ := by
  refine (pay29_at (k0_pay7 E) c s r l).trans (congrArg₂ (· * ·) ((pay28_at c s r _).trans ?_) (((sel (fun z => k0_pay7 (F := Ideal) E (ix2 r z)) l 24 25 ⟨24 + l.val / 64, by omega⟩ (fun h => Fin.ext (show 24 = 24 + l.val / 64 by omega)) (fun h => Fin.ext (show 25 = 24 + l.val / 64 by omega)))).trans
    ((pay7_at E r _).trans (congrArg (fun z => E (ix3 0 r z)) (Fin.ext (show 24 + l.val / 64 = 16 * 1 + 8 + (0 + l.val) / 64 by omega))))))
  refine Finset.sum_congr rfl fun n _ => congrArg₂ (· * ·) (hc r n) ((hs n _).trans (congrArg (fun z => S (ix3 1 n z)) (Fin.ext ?_)))
  simp only; omega

theorem y11_at (c : FVec Ideal S128x128 .f32) (hc : ∀ k n, c (ix2 k n) = C (ix2 k (gb 1 n)))
    (s : FVec Ideal S1x128x512 .f32) (hs : ∀ n q, s (ix3 0 n q) = S (ix3 1 n q)) (r l : Fin 128) :
    k0_pay35 (F := Ideal) k0_pay10 (k0_pay32 c s) (k0_pay33 (k0_pay7 E)) (k0_pay34 (k0_pay7 E)) (ix2 r l) = yS C E S r 1 ⟨128 + l.val, by omega⟩ := by
  refine (pay35_at (k0_pay32 c s) (k0_pay33 (k0_pay7 E)) (k0_pay34 (k0_pay7 E)) r l).trans (congrArg₂ (· * ·) (((pay32_at c s r l).trans (pay28_at c s r _)).trans ?_) (((congrArg₂ (fun a b => if l.val < 64 then a else b) (pay33_at (k0_pay7 E) r) (pay34_at (k0_pay7 E) r)).trans (sel (fun z => k0_pay7 (F := Ideal) E (ix2 r z)) l 26 27 ⟨26 + l.val / 64, by omega⟩ (fun h => Fin.ext (show 26 = 26 + l.val / 64 by omega)) (fun h => Fin.ext (show 27 = 26 + l.val / 64 by omega)))).trans
    ((pay7_at E r _).trans (congrArg (fun z => E (ix3 0 r z)) (Fin.ext (show 26 + l.val / 64 = 16 * 1 + 8 + (128 + l.val) / 64 by omega))))))
  refine Finset.sum_congr rfl fun n _ => congrArg₂ (· * ·) (hc r n) ((hs n _).trans (congrArg (fun z => S (ix3 1 n z)) (Fin.ext ?_)))
  rfl

theorem y12_at (c : FVec Ideal S128x128 .f32) (hc : ∀ k n, c (ix2 k n) = C (ix2 k (gb 1 n)))
    (s : FVec Ideal S1x128x512 .f32) (hs : ∀ n q, s (ix3 0 n q) = S (ix3 1 n q)) (r l : Fin 128) :
    k0_pay38 (F := Ideal) (k0_pay7 E) k0_pay10 (k0_pay28 c s) (ix2 r l) = yS C E S r 1 ⟨256 + l.val, by omega⟩ := by
  refine (pay38_at (k0_pay7 E) (k0_pay28 c s) r l).trans (congrArg₂ (· * ·) ((pay28_at c s r _).trans ?_) (((sel (fun z => k0_pay7 (F := Ideal) E (ix2 r z)) l 28 29 ⟨28 + l.val / 64, by omega⟩ (fun h => Fin.ext (show 28 = 28 + l.val / 64 by omega)) (fun h => Fin.ext (show 29 = 28 + l.val / 64 by omega)))).trans
    ((pay7_at E r _).trans (congrArg (fun z => E (ix3 0 r z)) (Fin.ext (show 28 + l.val / 64 = 16 * 1 + 8 + (256 + l.val) / 64 by omega))))))
  refine Finset.sum_congr rfl fun n _ => congrArg₂ (· * ·) (hc r n) ((hs n _).trans (congrArg (fun z => S (ix3 1 n z)) (Fin.ext ?_)))
  rfl

theorem y13_at (c : FVec Ideal S128x128 .f32) (hc : ∀ k n, c (ix2 k n) = C (ix2 k (gb 1 n)))
    (s : FVec Ideal S1x128x512 .f32) (hs : ∀ n q, s (ix3 0 n q) = S (ix3 1 n q)) (r l : Fin 128) :
    k0_pay1 (F := Ideal) (k0_pay7 E) k0_pay10 (k0_pay28 c s) (ix2 r l) = yS C E S r 1 ⟨384 + l.val, by omega⟩ := by
  refine (pay1_at (k0_pay7 E) (k0_pay28 c s) r l).trans (congrArg₂ (· * ·) ((pay28_at c s r _).trans ?_) (((sel (fun z => k0_pay7 (F := Ideal) E (ix2 r z)) l 30 31 ⟨30 + l.val / 64, by omega⟩ (fun h => Fin.ext (show 30 = 30 + l.val / 64 by omega)) (fun h => Fin.ext (show 31 = 30 + l.val / 64 by omega)))).trans
    ((pay7_at E r _).trans (congrArg (fun z => E (ix3 0 r z)) (Fin.ext (show 30 + l.val / 64 = 16 * 1 + 8 + (384 + l.val) / 64 by omega))))))
  refine Finset.sum_congr rfl fun n _ => congrArg₂ (· * ·) (hc r n) ((hs n _).trans (congrArg (fun z => S (ix3 1 n z)) (Fin.ext ?_)))
  rfl

end Cert.Kernel8Ideal.Scan
-- ==== Proof.ScanPoint.lean ====
/-
  The backward scan, point by point: the state carried between points, and what each point leaves in its blocks.
-/
module

public import proofs.«01_k».proof.Proof.ScanCore

@[expose] public section

set_option maxRecDepth 16384

noncomputable section

namespace Cert.Kernel8Ideal.Scan

open Cert.Kernel8Ideal Cert.Kernel8Ideal.Gen Idealize.ShloMosaic Idealize.ShloMosaic.TcCoe Idealize.SL.Sem
open Idealize.ShloMosaic.Pipeline (Dat)

/-! ### The state's two slices -/

section
variable (L : List (View.Piece (Elt Ideal) S2x128x512 .f32)) (p : S1x128x512.Idx → EReal) (n : Fin 128) (q : Fin 512)

theorem top1 : View.canon (⟨Rect.unit (s := S2x128x512) ![1, 0, 0] ![1, 128, 512] inb_S2x128x512_S1x128x512_1_0_0, p⟩ :: L) (ix3 1 n q) = p (ix3 0 n q) := by
  have e : (ix3 1 n q : S2x128x512.Idx) = (Rect.unit (s := S2x128x512) ![1, 0, 0] ![1, 128, 512] inb_S2x128x512_S1x128x512_1_0_0).emb (ix3 0 n q) := by
    funext a; fin_cases a <;> apply Fin.ext <;> simp [ix3]
  rw [e]; exact View.canon_cons_emb _ _ _ _

theorem top0 : View.canon (⟨Rect.unit (s := S2x128x512) ![0, 0, 0] ![1, 128, 512] inb_S2x128x512_S1x128x512_0_0_0, p⟩ :: L) (ix3 0 n q) = p (ix3 0 n q) := by
  have e : (ix3 0 n q : S2x128x512.Idx) = (Rect.unit (s := S2x128x512) ![0, 0, 0] ![1, 128, 512] inb_S2x128x512_S1x128x512_0_0_0).emb (ix3 0 n q) := by
    funext a; fin_cases a <;> apply Fin.ext <;> simp [ix3]
  rw [e]; exact View.canon_cons_emb _ _ _ _

theorem under1 : View.canon (⟨Rect.unit (s := S2x128x512) ![1, 0, 0] ![1, 128, 512] inb_S2x128x512_S1x128x512_1_0_0, p⟩ :: L) (ix3 0 n q) = View.canon L (ix3 0 n q) :=
  View.canon_cons_of_not_mem _ _ (Rect.not_mem_set_of_axis _ _ 0 1 1 rfl rfl rfl (Or.inl (show 0 < 1 by decide)))

theorem under0 : View.canon (⟨Rect.unit (s := S2x128x512) ![0, 0, 0] ![1, 128, 512] inb_S2x128x512_S1x128x512_0_0_0, p⟩ :: L) (ix3 1 n q) = View.canon L (ix3 1 n q) :=
  View.canon_cons_of_not_mem _ _ (Rect.not_mem_set_of_axis _ _ 0 0 1 rfl rfl rfl (Or.inr (show 0 + 1 ≤ 1 by decide)))

theorem cov0 {sig : RefSig} {κ : Kind} {sp : Space} (v : View sig κ sp S2x128x512 .f32) :
    v.readCov L (Rect.unit (s := S2x128x512) ![0, 0, 0] ![1, 128, 512] inb_S2x128x512_S1x128x512_0_0_0).toLoadRect (ix3 0 n q) = View.canon L (ix3 0 n q) := by
  rw [View.readCov_eq_canon']
  exact congrArg (View.canon L) (by funext a; fin_cases a <;> apply Fin.ext <;> simp [ix3, LoadRect.idx])

theorem cov1 {sig : RefSig} {κ : Kind} {sp : Space} (v : View sig κ sp S2x128x512 .f32) :
    v.readCov L (Rect.unit (s := S2x128x512) ![1, 0, 0] ![1, 128, 512] inb_S2x128x512_S1x128x512_1_0_0).toLoadRect (ix3 0 n q) = View.canon L (ix3 1 n q) := by
  rw [View.readCov_eq_canon']
  exact congrArg (View.canon L) (by funext a; fin_cases a <;> apply Fin.ext <;> simp [ix3, LoadRect.idx])
end

theorem ldS0 (S : FVec Ideal S2x128x512 .f32) (n : Fin 128) (q : Fin 512) :
    View.ld (Val := Elt Ideal) (e' := .f32) S (Rect.unit (s := S2x128x512) ![0, 0, 0] ![1, 128, 512] inb_S2x128x512_S1x128x512_0_0_0) (ix3 0 n q) = S (ix3 0 n q) :=
  View.ld_unit_apply_of _ _ _ _ _ _ (by intro a; fin_cases a <;> simp [ix3])
theorem ldS1 (S : FVec Ideal S2x128x512 .f32) (n : Fin 128) (q : Fin 512) :
    View.ld (Val := Elt Ideal) (e' := .f32) S (Rect.unit (s := S2x128x512) ![1, 0, 0] ![1, 128, 512] inb_S2x128x512_S1x128x512_1_0_0) (ix3 0 n q) = S (ix3 1 n q) :=
  View.ld_unit_apply_of _ _ _ _ _ _ (by intro a; fin_cases a <;> simp [ix3])
theorem ldX (X : FVec Ideal S128x1024 .f32) (o : ℕ) (inb) (k l : Fin 128) (h : o + l.val < 1024) :
    View.ld (Val := Elt Ideal) (e' := .f32) X (Rect.unit (s := S128x1024) ![0, o] ![128, 128] inb) (ix2 k l) = X (ix2 k ⟨o + l.val, h⟩) :=
  View.ld_unit_apply_of _ _ _ _ _ _ (by intro a; fin_cases a <;> simp [ix2])
theorem ldB0 (B : FVec Ideal S128x256 .f32) (inb) (k n : Fin 128) :
    View.ld (Val := Elt Ideal) (e' := .f32) B (Rect.unit (s := S128x256) ![0, 0] ![128, 128] inb) (ix2 k n) = B (ix2 k (gb 0 n)) :=
  View.ld_unit_apply_of _ _ _ _ _ _ (by intro a; fin_cases a <;> simp [ix2, gb])
theorem ldB1 (B : FVec Ideal S128x256 .f32) (inb) (k n : Fin 128) :
    View.ld (Val := Elt Ideal) (e' := .f32) B (Rect.unit (s := S128x256) ![0, 128] ![128, 128] inb) (ix2 k n) = B (ix2 k (gb 1 n)) :=
  View.ld_unit_apply_of _ _ _ _ _ _ (by intro a; fin_cases a <;> simp [ix2, gb])
theorem ldD (D : FVec Ideal S1x8x128 .f32) (inb) (l : Fin 128) :
    View.ld (Val := Elt Ideal) (e' := .f32) D (Rect.unit (s := S1x8x128) ![0, 0, 0] ![1, 1, 128] inb) (ix3 0 0 l) = D (ix3 0 0 l) :=
  View.ld_unit_apply_of _ _ _ _ _ _ (by intro a; fin_cases a <;> simp [ix3])
theorem ldH (H : FVec Ideal S1x1024x128 .f32) (o : ℕ) (inb) (q : Fin 512) (n : Fin 128) (h : o + q.val < 1024) :
    View.ld (Val := Elt Ideal) (e' := .f32) H (Rect.unit (s := S1x1024x128) ![0, o, 0] ![1, 512, 128] inb) (ix3 0 q n) = H (ix3 0 ⟨o + q.val, h⟩ n) :=
  View.ld_unit_apply_of _ _ _ _ _ _ (by intro a; fin_cases a <;> simp [ix3])

/-- The state a sequence starts from, laid out as the call keeps it. -/
def initS (H : FVec Ideal S1x1024x128 .f32) : FVec Ideal S2x128x512 .f32 := fun y => H (ix3 0 (gx (y 0) (y 2)) (y 1))

theorem init0 (H : FVec Ideal S1x1024x128 .f32) (inb) (n : Fin 128) (q : Fin 512) :
    k0_pay5 (F := Ideal) (View.ld (Val := Elt Ideal) (e' := .f32) H (Rect.unit (s := S1x1024x128) ![0, 0, 0] ![1, 512, 128] inb)) (ix3 0 n q) = initS H (ix3 0 n q) :=
  (pay5_at _ n q).trans ((ldH H 0 inb q n (by omega)).trans (congrArg (fun z => H (ix3 0 z n)) (Fin.ext (show 0 + q.val = 512 * 0 + q.val by omega))))
theorem init1 (H : FVec Ideal S1x1024x128 .f32) (inb) (n : Fin 128) (q : Fin 512) :
    k0_pay6 (F := Ideal) (View.ld (Val := Elt Ideal) (e' := .f32) H (Rect.unit (s := S1x1024x128) ![0, 512, 0] ![1, 512, 128] inb)) (ix3 0 n q) = initS H (ix3 1 n q) :=
  (pay6_at _ n q).trans ((ldH H 512 inb q n (by omega)).trans (congrArg (fun z => H (ix3 0 z n)) (Fin.ext (show 512 + q.val = 512 * 1 + q.val by omega))))

variable (m : (ℓ : Loc nD τ sig) → Buf (Elt Ideal) ℓ)

/-- The state after a sequence's first point. -/
theorem state_first (c : Dev nD) (t : Fin cfg0.N) (h0 : t.val % 2 = 0) (h1 : ¬t.val % 2 = 1) (g : Fin 2) (n : Fin 128) (q : Fin 512) :
    (outsAt0 m c t.val t.isLt).2.2 (ix3 g n q) = sS (iblk m c 0 t) (iblk m c 1 t) (iblk m c 4 t) (iblk m c 5 t) (initS (iblk m c 6 t)) g n q := by
  rw [outsAt0_A m c t h0 h1]
  frame_out
  fin_cases g
  · refine (under1 _ _ n q).trans ((top0 _ _ n q).trans (slice0_at (iblk m c 0 t) (iblk m c 1 t) (iblk m c 4 t) (iblk m c 5 t) (initS (iblk m c 6 t)) _ (fun k n => ldB0 _ _ k n) _ (fun n q => ?_) _ (fun l => ldD _ _ l)
      _ (fun k l => ldX _ _ _ k l _) _ (fun k l => ldX _ _ _ k l _) _ (fun k l => ldX _ _ _ k l _) _ (fun k l => ldX _ _ _ k l _) n q))
    exact (cov0 _ n q _).trans ((under1 _ _ n q).trans ((top0 _ _ n q).trans (init0 _ _ n q)))
  · refine (top1 _ _ n q).trans (slice1_at (iblk m c 0 t) (iblk m c 1 t) (iblk m c 4 t) (iblk m c 5 t) (initS (iblk m c 6 t)) _ (fun k n => ldB1 _ _ k n) _ (fun n q => ?_) _ (fun l => ldD _ _ l)
      _ (fun k l => ldX _ _ _ k l _) _ (fun k l => ldX _ _ _ k l _) _ (fun k l => ldX _ _ _ k l _) _ (fun k l => ldX _ _ _ k l _) n q)
    exact (cov1 _ n q _).trans ((under0 _ _ n q).trans ((top1 _ _ n q).trans (init1 _ _ n q)))

/-- The state after a sequence's second point. -/
theorem state_next (c : Dev nD) (t : Fin cfg0.N) (h0 : ¬t.val % 2 = 0) (h1 : t.val % 2 = 1) (g : Fin 2) (n : Fin 128) (q : Fin 512) :
    (outsAt0 m c t.val t.isLt).2.2 (ix3 g n q) = sS (iblk m c 0 t) (iblk m c 1 t) (iblk m c 4 t) (iblk m c 5 t) (outsAt0 m c (t.val - 1) (Nat.lt_of_le_of_lt (Nat.sub_le _ _) t.isLt)).2.2 g n q := by
  rw [outsAt0_B m c t h0 h1]
  frame_out
  fin_cases g
  · exact (under1 _ _ n q).trans ((top0 _ _ n q).trans (slice0_at (iblk m c 0 t) (iblk m c 1 t) (iblk m c 4 t) (iblk m c 5 t) (outsAt0 m c (t.val - 1) (Nat.lt_of_le_of_lt (Nat.sub_le _ _) t.isLt)).2.2 _ (fun k n => ldB0 _ _ k n) _ (fun n q => ((congrFun (congrArg (fun x => View.ld (Val := Elt Ideal) (e' := .f32) x _) (Memref.IsWhole.read_unread _ _)) _).trans (ldS0 _ n q))) _ (fun l => ldD _ _ l) _ (fun k l => ldX _ _ _ k l _) _ (fun k l => ldX _ _ _ k l _) _ (fun k l => ldX _ _ _ k l _) _ (fun k l => ldX _ _ _ k l _) n q))
  · exact (top1 _ _ n q).trans (slice1_at (iblk m c 0 t) (iblk m c 1 t) (iblk m c 4 t) (iblk m c 5 t) (outsAt0 m c (t.val - 1) (Nat.lt_of_le_of_lt (Nat.sub_le _ _) t.isLt)).2.2 _ (fun k n => ldB1 _ _ k n) _ (fun n q => ((congrFun (congrArg (fun x => View.ld (Val := Elt Ideal) (e' := .f32) x _) (Memref.IsWhole.read_unread _ _)) _).trans (ldS1 _ n q))) _ (fun l => ldD _ _ l) _ (fun k l => ldX _ _ _ k l _) _ (fun k l => ldX _ _ _ k l _) _ (fun k l => ldX _ _ _ k l _) _ (fun k l => ldX _ _ _ k l _) n q)

/-- The final state's block, written at a sequence's second point: the state, turned. -/
theorem last_next (c : Dev nD) (t : Fin cfg0.N) (h0 : ¬t.val % 2 = 0) (h1 : t.val % 2 = 1) (y : S1x1024x128.Idx) :
    (outsAt0 m c t.val t.isLt).2.1 y = sS (iblk m c 0 t) (iblk m c 1 t) (iblk m c 4 t) (iblk m c 5 t) (outsAt0 m c (t.val - 1) (Nat.lt_of_le_of_lt (Nat.sub_le _ _) t.isLt)).2.2
      ⟨(y 1 : ℕ) / 512, by have : (y 1 : ℕ) < 1024 := (y 1).isLt; omega⟩ (y 2) ⟨(y 1 : ℕ) % 512, by omega⟩ := by
  rw [outsAt0_B m c t h0 h1]
  frame_out
  canon_tiles x h
  · refine (congrArg _ (show x = ix3 0 (x 1) (x 2) by funext a; fin_cases a; exact Subsingleton.elim (α := Fin 1) _ _; rfl; rfl)).trans ((pay4_at _ (x 1) (x 2)).trans ((cov1 _ (x 2) (x 1) _).trans ((top1 _ _ (x 2) (x 1)).trans ((slice1_at (iblk m c 0 t) (iblk m c 1 t) (iblk m c 4 t) (iblk m c 5 t) (outsAt0 m c (t.val - 1) (Nat.lt_of_le_of_lt (Nat.sub_le _ _) t.isLt)).2.2 _ (fun k n => ldB1 _ _ k n) _ (fun n q => ((congrFun (congrArg (fun x => View.ld (Val := Elt Ideal) (e' := .f32) x _) (Memref.IsWhole.read_unread _ _)) _).trans (ldS1 _ n q))) _ (fun l => ldD _ _ l) _ (fun k l => ldX _ _ _ k l _) _ (fun k l => ldX _ _ _ k l _) _ (fun k l => ldX _ _ _ k l _) _ (fun k l => ldX _ _ _ k l _) (x 2) (x 1)).trans ?_))))
    refine congr (congrArg₂ (sS _ _ _ _ _) ?_ ?_) ?_
    · apply Fin.ext; show 1 = _; simp only; omega
    · apply Fin.ext; omega
    · apply Fin.ext; simp only; omega
  · refine (congrArg _ (show x = ix3 0 (x 1) (x 2) by funext a; fin_cases a; exact Subsingleton.elim (α := Fin 1) _ _; rfl; rfl)).trans ((pay3_at _ (x 1) (x 2)).trans ((cov0 _ (x 2) (x 1) _).trans ((under1 _ _ (x 2) (x 1)).trans ((top0 _ _ (x 2) (x 1)).trans ((slice0_at (iblk m c 0 t) (iblk m c 1 t) (iblk m c 4 t) (iblk m c 5 t) (outsAt0 m c (t.val - 1) (Nat.lt_of_le_of_lt (Nat.sub_le _ _) t.isLt)).2.2 _ (fun k n => ldB0 _ _ k n) _ (fun n q => ((congrFun (congrArg (fun x => View.ld (Val := Elt Ideal) (e' := .f32) x _) (Memref.IsWhole.read_unread _ _)) _).trans (ldS0 _ n q))) _ (fun l => ldD _ _ l) _ (fun k l => ldX _ _ _ k l _) _ (fun k l => ldX _ _ _ k l _) _ (fun k l => ldX _ _ _ k l _) _ (fun k l => ldX _ _ _ k l _) (x 2) (x 1)).trans ?_)))))
    refine congr (congrArg₂ (sS _ _ _ _ _) ?_ ?_) ?_
    · apply Fin.ext; show 0 = _; simp only; omega
    · apply Fin.ext; omega
    · apply Fin.ext; simp only; omega

/-- A point's output block, from the state that enters it. -/
theorem out_first (c : Dev nD) (t : Fin cfg0.N) (h0 : t.val % 2 = 0) (h1 : ¬t.val % 2 = 1) (y : S128x1024.Idx) :
    (outsAt0 m c t.val t.isLt).1 y = yS (iblk m c 2 t) (iblk m c 3 t) (initS (iblk m c 6 t)) (y 0)
      ⟨(y 1 : ℕ) / 512, by have : (y 1 : ℕ) < 1024 := (y 1).isLt; omega⟩ ⟨(y 1 : ℕ) % 512, by omega⟩ := by
  rw [outsAt0_A m c t h0 h1]
  frame_out
  canon_tiles x h
  · refine (congrArg _ (show x = ix2 (x 0) (x 1) by funext a; fin_cases a <;> rfl)).trans ((y13_at (iblk m c 2 t) (iblk m c 3 t) (initS (iblk m c 6 t)) _ (fun k n => ldB1 _ _ k n) _ (fun n q => (cov1 _ n q _).trans ((under0 _ _ n q).trans ((top1 _ _ n q).trans (init1 _ _ n q)))) (x 0) (x 1)).trans ?_)
    refine congr (congrArg₂ (yS _ _ _) ?_ ?_) ?_
    · apply Fin.ext; omega
    · apply Fin.ext; show 1 = _; simp only; omega
    · apply Fin.ext; simp only; omega
  · refine (congrArg _ (show x = ix2 (x 0) (x 1) by funext a; fin_cases a <;> rfl)).trans ((y12_at (iblk m c 2 t) (iblk m c 3 t) (initS (iblk m c 6 t)) _ (fun k n => ldB1 _ _ k n) _ (fun n q => (cov1 _ n q _).trans ((under0 _ _ n q).trans ((top1 _ _ n q).trans (init1 _ _ n q)))) (x 0) (x 1)).trans ?_)
    refine congr (congrArg₂ (yS _ _ _) ?_ ?_) ?_
    · apply Fin.ext; omega
    · apply Fin.ext; show 1 = _; simp only; omega
    · apply Fin.ext; simp only; omega
  · refine (congrArg _ (show x = ix2 (x 0) (x 1) by funext a; fin_cases a <;> rfl)).trans ((y11_at (iblk m c 2 t) (iblk m c 3 t) (initS (iblk m c 6 t)) _ (fun k n => ldB1 _ _ k n) _ (fun n q => (cov1 _ n q _).trans ((under0 _ _ n q).trans ((top1 _ _ n q).trans (init1 _ _ n q)))) (x 0) (x 1)).trans ?_)
    refine congr (congrArg₂ (yS _ _ _) ?_ ?_) ?_
    · apply Fin.ext; omega
    · apply Fin.ext; show 1 = _; simp only; omega
    · apply Fin.ext; simp only; omega
  · refine (congrArg _ (show x = ix2 (x 0) (x 1) by funext a; fin_cases a <;> rfl)).trans ((y10_at (iblk m c 2 t) (iblk m c 3 t) (initS (iblk m c 6 t)) _ (fun k n => ldB1 _ _ k n) _ (fun n q => (cov1 _ n q _).trans ((under0 _ _ n q).trans ((top1 _ _ n q).trans (init1 _ _ n q)))) (x 0) (x 1)).trans ?_)
    refine congr (congrArg₂ (yS _ _ _) ?_ ?_) ?_
    · apply Fin.ext; omega
    · apply Fin.ext; show 1 = _; simp only; omega
    · apply Fin.ext; simp only; omega
  · refine (congrArg _ (show x = ix2 (x 0) (x 1) by funext a; fin_cases a <;> rfl)).trans ((y03_at (iblk m c 2 t) (iblk m c 3 t) (initS (iblk m c 6 t)) _ (fun k n => ldB0 _ _ k n) _ (fun n q => (cov0 _ n q _).trans ((under1 _ _ n q).trans ((top0 _ _ n q).trans (init0 _ _ n q)))) (x 0) (x 1)).trans ?_)
    refine congr (congrArg₂ (yS _ _ _) ?_ ?_) ?_
    · apply Fin.ext; omega
    · apply Fin.ext; show 0 = _; simp only; omega
    · apply Fin.ext; simp only; omega
  · refine (congrArg _ (show x = ix2 (x 0) (x 1) by funext a; fin_cases a <;> rfl)).trans ((y02_at (iblk m c 2 t) (iblk m c 3 t) (initS (iblk m c 6 t)) _ (fun k n => ldB0 _ _ k n) _ (fun n q => (cov0 _ n q _).trans ((under1 _ _ n q).trans ((top0 _ _ n q).trans (init0 _ _ n q)))) (x 0) (x 1)).trans ?_)
    refine congr (congrArg₂ (yS _ _ _) ?_ ?_) ?_
    · apply Fin.ext; omega
    · apply Fin.ext; show 0 = _; simp only; omega
    · apply Fin.ext; simp only; omega
  · refine (congrArg _ (show x = ix2 (x 0) (x 1) by funext a; fin_cases a <;> rfl)).trans ((y01_at (iblk m c 2 t) (iblk m c 3 t) (initS (iblk m c 6 t)) _ (fun k n => ldB0 _ _ k n) _ (fun n q => (cov0 _ n q _).trans ((under1 _ _ n q).trans ((top0 _ _ n q).trans (init0 _ _ n q)))) (x 0) (x 1)).trans ?_)
    refine congr (congrArg₂ (yS _ _ _) ?_ ?_) ?_
    · apply Fin.ext; omega
    · apply Fin.ext; show 0 = _; simp only; omega
    · apply Fin.ext; simp only; omega
  · refine (congrArg _ (show x = ix2 (x 0) (x 1) by funext a; fin_cases a <;> rfl)).trans ((y00_at (iblk m c 2 t) (iblk m c 3 t) (initS (iblk m c 6 t)) _ (fun k n => ldB0 _ _ k n) _ (fun n q => (cov0 _ n q _).trans ((under1 _ _ n q).trans ((top0 _ _ n q).trans (init0 _ _ n q)))) (x 0) (x 1)).trans ?_)
    refine congr (congrArg₂ (yS _ _ _) ?_ ?_) ?_
    · apply Fin.ext; omega
    · apply Fin.ext; show 0 = _; simp only; omega
    · apply Fin.ext; simp only; omega

/-- A point's output block, from the state that enters it. -/
theorem out_next (c : Dev nD) (t : Fin cfg0.N) (h0 : ¬t.val % 2 = 0) (h1 : t.val % 2 = 1) (y : S128x1024.Idx) :
    (outsAt0 m c t.val t.isLt).1 y = yS (iblk m c 2 t) (iblk m c 3 t) (outsAt0 m c (t.val - 1) (Nat.lt_of_le_of_lt (Nat.sub_le _ _) t.isLt)).2.2 (y 0)
      ⟨(y 1 : ℕ) / 512, by have : (y 1 : ℕ) < 1024 := (y 1).isLt; omega⟩ ⟨(y 1 : ℕ) % 512, by omega⟩ := by
  rw [outsAt0_B m c t h0 h1]
  frame_out
  canon_tiles x h
  · refine (congrArg _ (show x = ix2 (x 0) (x 1) by funext a; fin_cases a <;> rfl)).trans ((y13_at (iblk m c 2 t) (iblk m c 3 t) (outsAt0 m c (t.val - 1) (Nat.lt_of_le_of_lt (Nat.sub_le _ _) t.isLt)).2.2 _ (fun k n => ldB1 _ _ k n) _ (fun n q => ((congrFun (congrArg (fun x => View.ld (Val := Elt Ideal) (e' := .f32) x _) (Memref.IsWhole.read_unread _ _)) _).trans (ldS1 _ n q))) (x 0) (x 1)).trans ?_)
    refine congr (congrArg₂ (yS _ _ _) ?_ ?_) ?_
    · apply Fin.ext; omega
    · apply Fin.ext; show 1 = _; simp only; omega
    · apply Fin.ext; simp only; omega
  · refine (congrArg _ (show x = ix2 (x 0) (x 1) by funext a; fin_cases a <;> rfl)).trans ((y12_at (iblk m c 2 t) (iblk m c 3 t) (outsAt0 m c (t.val - 1) (Nat.lt_of_le_of_lt (Nat.sub_le _ _) t.isLt)).2.2 _ (fun k n => ldB1 _ _ k n) _ (fun n q => ((congrFun (congrArg (fun x => View.ld (Val := Elt Ideal) (e' := .f32) x _) (Memref.IsWhole.read_unread _ _)) _).trans (ldS1 _ n q))) (x 0) (x 1)).trans ?_)
    refine congr (congrArg₂ (yS _ _ _) ?_ ?_) ?_
    · apply Fin.ext; omega
    · apply Fin.ext; show 1 = _; simp only; omega
    · apply Fin.ext; simp only; omega
  · refine (congrArg _ (show x = ix2 (x 0) (x 1) by funext a; fin_cases a <;> rfl)).trans ((y11_at (iblk m c 2 t) (iblk m c 3 t) (outsAt0 m c (t.val - 1) (Nat.lt_of_le_of_lt (Nat.sub_le _ _) t.isLt)).2.2 _ (fun k n => ldB1 _ _ k n) _ (fun n q => ((congrFun (congrArg (fun x => View.ld (Val := Elt Ideal) (e' := .f32) x _) (Memref.IsWhole.read_unread _ _)) _).trans (ldS1 _ n q))) (x 0) (x 1)).trans ?_)
    refine congr (congrArg₂ (yS _ _ _) ?_ ?_) ?_
    · apply Fin.ext; omega
    · apply Fin.ext; show 1 = _; simp only; omega
    · apply Fin.ext; simp only; omega
  · refine (congrArg _ (show x = ix2 (x 0) (x 1) by funext a; fin_cases a <;> rfl)).trans ((y10_at (iblk m c 2 t) (iblk m c 3 t) (outsAt0 m c (t.val - 1) (Nat.lt_of_le_of_lt (Nat.sub_le _ _) t.isLt)).2.2 _ (fun k n => ldB1 _ _ k n) _ (fun n q => ((congrFun (congrArg (fun x => View.ld (Val := Elt Ideal) (e' := .f32) x _) (Memref.IsWhole.read_unread _ _)) _).trans (ldS1 _ n q))) (x 0) (x 1)).trans ?_)
    refine congr (congrArg₂ (yS _ _ _) ?_ ?_) ?_
    · apply Fin.ext; omega
    · apply Fin.ext; show 1 = _; simp only; omega
    · apply Fin.ext; simp only; omega
  · refine (congrArg _ (show x = ix2 (x 0) (x 1) by funext a; fin_cases a <;> rfl)).trans ((y03_at (iblk m c 2 t) (iblk m c 3 t) (outsAt0 m c (t.val - 1) (Nat.lt_of_le_of_lt (Nat.sub_le _ _) t.isLt)).2.2 _ (fun k n => ldB0 _ _ k n) _ (fun n q => ((congrFun (congrArg (fun x => View.ld (Val := Elt Ideal) (e' := .f32) x _) (Memref.IsWhole.read_unread _ _)) _).trans (ldS0 _ n q))) (x 0) (x 1)).trans ?_)
    refine congr (congrArg₂ (yS _ _ _) ?_ ?_) ?_
    · apply Fin.ext; omega
    · apply Fin.ext; show 0 = _; simp only; omega
    · apply Fin.ext; simp only; omega
  · refine (congrArg _ (show x = ix2 (x 0) (x 1) by funext a; fin_cases a <;> rfl)).trans ((y02_at (iblk m c 2 t) (iblk m c 3 t) (outsAt0 m c (t.val - 1) (Nat.lt_of_le_of_lt (Nat.sub_le _ _) t.isLt)).2.2 _ (fun k n => ldB0 _ _ k n) _ (fun n q => ((congrFun (congrArg (fun x => View.ld (Val := Elt Ideal) (e' := .f32) x _) (Memref.IsWhole.read_unread _ _)) _).trans (ldS0 _ n q))) (x 0) (x 1)).trans ?_)
    refine congr (congrArg₂ (yS _ _ _) ?_ ?_) ?_
    · apply Fin.ext; omega
    · apply Fin.ext; show 0 = _; simp only; omega
    · apply Fin.ext; simp only; omega
  · refine (congrArg _ (show x = ix2 (x 0) (x 1) by funext a; fin_cases a <;> rfl)).trans ((y01_at (iblk m c 2 t) (iblk m c 3 t) (outsAt0 m c (t.val - 1) (Nat.lt_of_le_of_lt (Nat.sub_le _ _) t.isLt)).2.2 _ (fun k n => ldB0 _ _ k n) _ (fun n q => ((congrFun (congrArg (fun x => View.ld (Val := Elt Ideal) (e' := .f32) x _) (Memref.IsWhole.read_unread _ _)) _).trans (ldS0 _ n q))) (x 0) (x 1)).trans ?_)
    refine congr (congrArg₂ (yS _ _ _) ?_ ?_) ?_
    · apply Fin.ext; omega
    · apply Fin.ext; show 0 = _; simp only; omega
    · apply Fin.ext; simp only; omega
  · refine (congrArg _ (show x = ix2 (x 0) (x 1) by funext a; fin_cases a <;> rfl)).trans ((y00_at (iblk m c 2 t) (iblk m c 3 t) (outsAt0 m c (t.val - 1) (Nat.lt_of_le_of_lt (Nat.sub_le _ _) t.isLt)).2.2 _ (fun k n => ldB0 _ _ k n) _ (fun n q => ((congrFun (congrArg (fun x => View.ld (Val := Elt Ideal) (e' := .f32) x _) (Memref.IsWhole.read_unread _ _)) _).trans (ldS0 _ n q))) (x 0) (x 1)).trans ?_)
    refine congr (congrArg₂ (yS _ _ _) ?_ ?_) ?_
    · apply Fin.ext; omega
    · apply Fin.ext; show 0 = _; simp only; omega
    · apply Fin.ext; simp only; omega

end Cert.Kernel8Ideal.Scan
-- ==== Proof.Scan.lean ====
/-
  The backward scan over whole arrays: two chunks of every sequence, the last first, and the two arrays the call leaves.
-/
module

public import proofs.«01_k».proof.Proof.ScanPoint

@[expose] public section

set_option maxRecDepth 16384

noncomputable section

namespace Cert.Kernel8Ideal.Scan

open Cert.Kernel8Ideal Cert.Kernel8Ideal.Gen Idealize.ShloMosaic Idealize.ShloMosaic.TcCoe Idealize.SL.Sem
open Idealize.ShloMosaic.Pipeline (Dat)

/-- Where the windows' blocks stand at each grid point: the second chunk of a sequence first, then its first. -/
theorem idx : ∀ t : Fin cfg0.N, t.val < 256
    ∧ win0_0.index t = ![2 * (t.val / 8) + 1 - t.val % 2, t.val / 2 % 4] ∧ win0_1.index t = ![2 * (t.val / 8) + 1 - t.val % 2, t.val / 2 % 4]
    ∧ win0_2.index t = ![2 * (t.val / 8) + 1 - t.val % 2, 4 + t.val / 2 % 4] ∧ win0_3.index t = ![t.val / 2 % 4, 2 * (t.val / 8) + 1 - t.val % 2, 0]
    ∧ win0_4.index t = ![t.val / 2 % 4, 2 * (t.val / 8) + 1 - t.val % 2, 0] ∧ win0_5.index t = ![t.val / 2 % 4, 2 * (t.val / 8) + 1 - t.val % 2, 0]
    ∧ win0_6.index t = ![0, t.val / 2 % 4, 0] ∧ win0_7.index t = ![2 * (t.val / 8) + 1 - t.val % 2, t.val / 2 % 4]
    ∧ win0_8.index t = ![t.val / 8, t.val / 2 % 4, 0] :=
  (by decide +kernel : ∀ t : Fin grid0.N, _)

/-- The lane a channel's head stands in. -/
def lane8 (Q : Fin 4096) : Fin 128 := ⟨16 * (Q.val / 512 % 2) + 8 + Q.val / 64 % 8, by omega⟩

/-- One chunk of the scan: the state decayed, the chunk's part added. `b` is the chunk's place among all chunks. -/
def step (a0 : FVec Ideal S16384x4096 .f32) (a1 : FVec Ideal S16384x2048 .f32) (a3 : FVec Ideal S4x16384x128 .f32) (a4 : FVec Ideal S4x1024x128 .f32)
    (b : Fin 64) (h : EReal) (Q : Fin 4096) (n : Fin 128) : EReal :=
  h * a4 (ix3 ⟨Q.val / 1024, by omega⟩ ⟨8 * b.val, by omega⟩ (lane8 Q))
    + ∑ k : Fin 128, a1 (ix2 ⟨128 * b.val + k.val, by omega⟩ ⟨128 * (Q.val / 512) + n.val, by omega⟩)
        * (a0 (ix2 ⟨128 * b.val + k.val, by omega⟩ Q) * a3 (ix3 ⟨Q.val / 1024, by omega⟩ ⟨128 * b.val + k.val, by omega⟩ (lane8 Q)))

/-- The state a sequence's first chunk is entered with. -/
def middle (a0 : FVec Ideal S16384x4096 .f32) (a1 : FVec Ideal S16384x2048 .f32) (a3 : FVec Ideal S4x16384x128 .f32) (a4 : FVec Ideal S4x1024x128 .f32)
    (a5 : FVec Ideal S1x2x4096x128 .f32) (s : Fin 32) (Q : Fin 4096) (n : Fin 128) : EReal :=
  step a0 a1 a3 a4 ⟨2 * s.val + 1, by omega⟩ (a5 (ix4 0 1 Q n)) Q n

/-- The state a sequence ends with. -/
def ending (a0 : FVec Ideal S16384x4096 .f32) (a1 : FVec Ideal S16384x2048 .f32) (a3 : FVec Ideal S4x16384x128 .f32) (a4 : FVec Ideal S4x1024x128 .f32)
    (a5 : FVec Ideal S1x2x4096x128 .f32) (s : Fin 32) (Q : Fin 4096) (n : Fin 128) : EReal :=
  step a0 a1 a3 a4 ⟨2 * s.val, by omega⟩ (middle a0 a1 a3 a4 a5 s Q n) Q n

/-- The output at row `R`, channel `Q`. -/
def output (a0 : FVec Ideal S16384x4096 .f32) (a1 : FVec Ideal S16384x2048 .f32) (a2 a3 : FVec Ideal S4x16384x128 .f32) (a4 : FVec Ideal S4x1024x128 .f32)
    (a5 : FVec Ideal S1x2x4096x128 .f32) (R : Fin 8192) (Q : Fin 4096) : EReal :=
  (∑ n : Fin 128, a1 (ix2 ⟨R.val, by omega⟩ ⟨1024 + 128 * (Q.val / 512) + n.val, by omega⟩)
      * (if R.val / 128 % 2 = 1 then a5 (ix4 0 1 Q n) else middle a0 a1 a3 a4 a5 ⟨R.val / 256, by omega⟩ Q n))
    * a2 (ix3 ⟨Q.val / 1024, by omega⟩ ⟨R.val, by omega⟩ (lane8 Q))

variable (m : (ℓ : Loc nD τ sig) → Buf (Elt Ideal) ℓ)

theorem init_host (a : FVec Ideal S1x2x4096x128 .f32) (Q : Fin 4096) (n : Fin 128) :
    shapeCast S1x4096x128 (extractStridedSlice S1x1x4096x128 ![0, 1, 0, 0] a slices_S1x2x4096x128_S1x1x4096x128_0_1_0_0) shapeCasts_S1x1x4096x128_S1x4096x128 (ix3 0 Q n)
      = a (ix4 0 1 Q n) := by
  pointwise

theorem V_init (c : Dev nD) (Q : Fin 4096) (n : Fin 128) : (V m c main_v1 : FVec Ideal S1x4096x128 .f32) (ix3 0 Q n)
    = (m ((c : Thread nD τ).loc main_arg5) : FVec Ideal S1x2x4096x128 .f32) (ix4 0 1 Q n) := by
  have h : (V m c main_v1 : FVec Ideal S1x4096x128 .f32) = shapeCast S1x4096x128 (extractStridedSlice S1x1x4096x128 ![0, 1, 0, 0]
      (m ((c : Thread nD τ).loc main_arg5) : FVec Ideal S1x2x4096x128 .f32) slices_S1x2x4096x128_S1x1x4096x128_0_1_0_0) shapeCasts_S1x1x4096x128_S1x4096x128 := rfl
  exact (congrFun h _).trans (init_host _ Q n)

section
variable (c : Dev nD) (t : Fin cfg0.N)

theorem blk0 (k : Fin 128) (x : Fin 1024) : (iblk m c 0 t : Vec Ideal S128x1024 .f32) (ix2 k x)
    = (m ((c : Thread nD τ).loc main_arg0) : FVec Ideal S16384x4096 .f32) (ix2 ⟨128 * (2 * (t.val / 8) + 1 - t.val % 2) + k.val, by have := (idx t).1; omega⟩ ⟨1024 * (t.val / 2 % 4) + x.val, by omega⟩) := by
  obtain ⟨hN, e0, e1, e2, e3, e4, e5, e6, e7, e8⟩ := idx t
  refine Eq.trans ?_ (congrFun (V_main_arg0 m c) _)
  blk_ext [iblk, e0]

theorem blk1 (k : Fin 128) (x : Fin 256) : (iblk m c 1 t : Vec Ideal S128x256 .f32) (ix2 k x)
    = (m ((c : Thread nD τ).loc main_arg1) : FVec Ideal S16384x2048 .f32) (ix2 ⟨128 * (2 * (t.val / 8) + 1 - t.val % 2) + k.val, by have := (idx t).1; omega⟩ ⟨256 * (t.val / 2 % 4) + x.val, by omega⟩) := by
  obtain ⟨hN, e0, e1, e2, e3, e4, e5, e6, e7, e8⟩ := idx t
  refine Eq.trans ?_ (congrFun (V_main_arg1 m c) _)
  blk_ext [iblk, e1]

theorem blk2 (k : Fin 128) (x : Fin 256) : (iblk m c 2 t : Vec Ideal S128x256 .f32) (ix2 k x)
    = (m ((c : Thread nD τ).loc main_arg1) : FVec Ideal S16384x2048 .f32) (ix2 ⟨128 * (2 * (t.val / 8) + 1 - t.val % 2) + k.val, by have := (idx t).1; omega⟩ ⟨1024 + 256 * (t.val / 2 % 4) + x.val, by omega⟩) := by
  obtain ⟨hN, e0, e1, e2, e3, e4, e5, e6, e7, e8⟩ := idx t
  refine Eq.trans ?_ (congrFun (V_main_arg1 m c) _)
  blk_ext [iblk, e2]

theorem blk3 (k l : Fin 128) : (iblk m c 3 t : Vec Ideal S1x128x128 .f32) (ix3 0 k l)
    = (m ((c : Thread nD τ).loc main_arg2) : FVec Ideal S4x16384x128 .f32) (ix3 ⟨t.val / 2 % 4, by omega⟩ ⟨128 * (2 * (t.val / 8) + 1 - t.val % 2) + k.val, by have := (idx t).1; omega⟩ l) := by
  obtain ⟨hN, e0, e1, e2, e3, e4, e5, e6, e7, e8⟩ := idx t
  refine Eq.trans ?_ (congrFun (V_main_arg2 m c) _)
  blk_ext [iblk, e3]

theorem blk4 (k l : Fin 128) : (iblk m c 4 t : Vec Ideal S1x128x128 .f32) (ix3 0 k l)
    = (m ((c : Thread nD τ).loc main_arg3) : FVec Ideal S4x16384x128 .f32) (ix3 ⟨t.val / 2 % 4, by omega⟩ ⟨128 * (2 * (t.val / 8) + 1 - t.val % 2) + k.val, by have := (idx t).1; omega⟩ l) := by
  obtain ⟨hN, e0, e1, e2, e3, e4, e5, e6, e7, e8⟩ := idx t
  refine Eq.trans ?_ (congrFun (V_main_arg3 m c) _)
  blk_ext [iblk, e4]

theorem blk5 (l : Fin 128) : (iblk m c 5 t : Vec Ideal S1x8x128 .f32) (ix3 0 0 l)
    = (m ((c : Thread nD τ).loc main_arg4) : FVec Ideal S4x1024x128 .f32) (ix3 ⟨t.val / 2 % 4, by omega⟩ ⟨8 * (2 * (t.val / 8) + 1 - t.val % 2), by have := (idx t).1; omega⟩ l) := by
  obtain ⟨hN, e0, e1, e2, e3, e4, e5, e6, e7, e8⟩ := idx t
  refine Eq.trans ?_ (congrFun (V_main_arg4 m c) _)
  blk_ext [iblk, e5]

theorem blk6 (x : Fin 1024) (n : Fin 128) : (iblk m c 6 t : Vec Ideal S1x1024x128 .f32) (ix3 0 x n)
    = (m ((c : Thread nD τ).loc main_arg5) : FVec Ideal S1x2x4096x128 .f32) (ix4 0 1 ⟨1024 * (t.val / 2 % 4) + x.val, by omega⟩ n) := by
  obtain ⟨hN, e0, e1, e2, e3, e4, e5, e6, e7, e8⟩ := idx t
  refine Eq.trans ?_ (V_init m c ⟨1024 * (t.val / 2 % 4) + x.val, by omega⟩ n)
  blk_ext [iblk, e6]

/-- The channel column `q` of group `g` stands for at a point. -/
def chan (g : Fin 2) (q : Fin 512) : Fin 4096 := ⟨1024 * (t.val / 2 % 4) + (512 * g.val + q.val), by omega⟩

theorem lane_chan (g : Fin 2) (q : Fin 512) : lane8 (chan t g q) = ln g q := by
  apply Fin.ext
  show 16 * ((1024 * (t.val / 2 % 4) + (512 * g.val + q.val)) / 512 % 2) + 8 + (1024 * (t.val / 2 % 4) + (512 * g.val + q.val)) / 64 % 8 = 16 * g.val + 8 + q.val / 64
  omega

theorem step_at (S : FVec Ideal S2x128x512 .f32) (g : Fin 2) (n : Fin 128) (q : Fin 512) :
    sS (iblk m c 0 t) (iblk m c 1 t) (iblk m c 4 t) (iblk m c 5 t) S g n q
      = step (m ((c : Thread nD τ).loc main_arg0)) (m ((c : Thread nD τ).loc main_arg1)) (m ((c : Thread nD τ).loc main_arg3)) (m ((c : Thread nD τ).loc main_arg4))
          ⟨2 * (t.val / 8) + 1 - t.val % 2, by have := (idx t).1; omega⟩ (S (ix3 g n q)) (chan t g q) n := by
  have hP : (⟨(chan t g q).val / 1024, by omega⟩ : Fin 4) = ⟨t.val / 2 % 4, by omega⟩ :=
    Fin.ext (show (1024 * (t.val / 2 % 4) + (512 * g.val + q.val)) / 1024 = t.val / 2 % 4 by omega)
  unfold sS step
  rw [lane_chan, hP]
  refine congrArg₂ (· + ·) (congrArg _ (blk5 m c t _)) (Finset.sum_congr rfl fun k _ => congrArg₂ (· * ·) ((blk1 m c t k _).trans (congrArg (fun z => (m ((c : Thread nD τ).loc main_arg1) : FVec Ideal S16384x2048 .f32) (ix2 _ z)) (Fin.ext ?_)))
    (congrArg₂ (· * ·) (blk0 m c t k _) (blk4 m c t k _)))
  show 256 * (t.val / 2 % 4) + (128 * g.val + n.val) = 128 * ((1024 * (t.val / 2 % 4) + (512 * g.val + q.val)) / 512) + n.val
  omega

theorem init_at (g : Fin 2) (n : Fin 128) (q : Fin 512) : initS (iblk m c 6 t) (ix3 g n q)
    = (m ((c : Thread nD τ).loc main_arg5) : FVec Ideal S1x2x4096x128 .f32) (ix4 0 1 (chan t g q) n) := blk6 m c t (gx g q) n

end

/-- After a sequence's first point the scratch holds the middle state. -/
theorem middle_at (c : Dev nD) (t : Fin cfg0.N) (h0 : t.val % 2 = 0) (g : Fin 2) (n : Fin 128) (q : Fin 512) :
    (outsAt0 m c t.val t.isLt).2.2 (ix3 g n q)
      = middle (m ((c : Thread nD τ).loc main_arg0)) (m ((c : Thread nD τ).loc main_arg1)) (m ((c : Thread nD τ).loc main_arg3)) (m ((c : Thread nD τ).loc main_arg4))
          (m ((c : Thread nD τ).loc main_arg5)) ⟨t.val / 8, by have := (idx t).1; omega⟩ (chan t g q) n := by
  refine (state_first m c t h0 (by omega) g n q).trans ((step_at m c t _ g n q).trans ?_)
  unfold middle
  rw [init_at]
  exact congrArg (fun b => step _ _ _ _ b _ _ _) (Fin.ext (show 2 * (t.val / 8) + 1 - t.val % 2 = 2 * (t.val / 8) + 1 by omega))

theorem entering (c : Dev nD) (t : Fin cfg0.N) (h1 : t.val % 2 = 1) (g : Fin 2) (n : Fin 128) (q : Fin 512) :
    (outsAt0 m c (t.val - 1) (Nat.lt_of_le_of_lt (Nat.sub_le _ _) t.isLt)).2.2 (ix3 g n q)
      = middle (m ((c : Thread nD τ).loc main_arg0)) (m ((c : Thread nD τ).loc main_arg1)) (m ((c : Thread nD τ).loc main_arg3)) (m ((c : Thread nD τ).loc main_arg4))
          (m ((c : Thread nD τ).loc main_arg5)) ⟨t.val / 8, by have := (idx t).1; omega⟩ (chan t g q) n := by
  refine (middle_at m c ⟨t.val - 1, Nat.lt_of_le_of_lt (Nat.sub_le _ _) t.isLt⟩ (show (t.val - 1) % 2 = 0 by omega) g n q).trans ?_
  refine congrArg₂ (fun s Q => middle _ _ _ _ _ s Q n) (Fin.ext (show (t.val - 1) / 8 = t.val / 8 by omega)) (Fin.ext ?_)
  show 1024 * ((t.val - 1) / 2 % 4) + (512 * g.val + q.val) = 1024 * (t.val / 2 % 4) + (512 * g.val + q.val)
  omega

/-- The two result arrays. -/
def outArr (c : Dev nD) : Vec Ideal S8192x4096 .f32 := fun y =>
  output (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (y 0) (y 1)

def endArr (c : Dev nD) : Vec Ideal S32x4096x128 .f32 := fun y =>
  ending (m ((c : Thread nD τ).loc main_arg0)) (m ((c : Thread nD τ).loc main_arg1)) (m ((c : Thread nD τ).loc main_arg3))
    (m ((c : Thread nD τ).loc main_arg4)) (m ((c : Thread nD τ).loc main_arg5)) (y 0) (y 1) (y 2)

/-- The output read from a state at a point, with the array's indices. -/
theorem read_at (c : Dev nD) (t : Fin cfg0.N) (S : FVec Ideal S2x128x512 .f32) (r : Fin 128) (g : Fin 2) (q : Fin 512)
    (hS : ∀ n, S (ix3 g n q) = if t.val % 2 = 0 then (m ((c : Thread nD τ).loc main_arg5) : FVec Ideal S1x2x4096x128 .f32) (ix4 0 1 (chan t g q) n)
      else middle (m ((c : Thread nD τ).loc main_arg0)) (m ((c : Thread nD τ).loc main_arg1)) (m ((c : Thread nD τ).loc main_arg3)) (m ((c : Thread nD τ).loc main_arg4))
          (m ((c : Thread nD τ).loc main_arg5)) ⟨t.val / 8, by have := (idx t).1; omega⟩ (chan t g q) n) :
    yS (iblk m c 2 t) (iblk m c 3 t) S r g q
      = output (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5))
          ⟨128 * (2 * (t.val / 8) + 1 - t.val % 2) + r.val, by have := (idx t).1; omega⟩ (chan t g q) := by
  have hN := (idx t).1
  have hP : (⟨(chan t g q).val / 1024, by omega⟩ : Fin 4) = ⟨t.val / 2 % 4, by omega⟩ :=
    Fin.ext (show (1024 * (t.val / 2 % 4) + (512 * g.val + q.val)) / 1024 = t.val / 2 % 4 by omega)
  unfold yS output
  rw [lane_chan, hP]
  refine congrArg₂ (· * ·) (Finset.sum_congr rfl fun n _ => congrArg₂ (· * ·) ((blk2 m c t r _).trans
    (congrArg (fun z => (m ((c : Thread nD τ).loc main_arg1) : FVec Ideal S16384x2048 .f32) (ix2 _ z)) (Fin.ext ?_))) ((hS n).trans ?_)) (blk3 m c t r _)
  · show 1024 + 256 * (t.val / 2 % 4) + (128 * g.val + n.val) = 1024 + 128 * ((1024 * (t.val / 2 % 4) + (512 * g.val + q.val)) / 512) + n.val
    omega
  · by_cases h : t.val % 2 = 0
    · rw [if_pos h, if_pos (show (128 * (2 * (t.val / 8) + 1 - t.val % 2) + r.val) / 128 % 2 = 1 by omega)]
    · rw [if_neg h, if_neg (show ¬ (128 * (2 * (t.val / 8) + 1 - t.val % 2) + r.val) / 128 % 2 = 1 by omega)]
      exact congrArg (fun s => middle _ _ _ _ _ s _ _) (Fin.ext (show t.val / 8 = (128 * (2 * (t.val / 8) + 1 - t.val % 2) + r.val) / 256 by omega))

theorem final_out (c : Dev nD) : (dats m 0 c).arrAt 7 cfg0.N = outArr m c := by
  refine (dats m 0 c).arrAt_eq_of_covers 7 _ (by decide +kernel) fun t hf y => ?_
  blk_simp
  rw [after0_7]
  obtain ⟨hN, e0, e1, e2, e3, e4, e5, e6, e7, e8⟩ := idx t
  have y0 : (y 0 : ℕ) < 128 := (y 0).isLt
  have y1 : (y 1 : ℕ) < 1024 := (y 1).isLt
  unfold outArr
  by_cases h0 : t.val % 2 = 0
  · refine (out_first m c t h0 (by omega) y).trans ((read_at m c t _ _ _ _ fun n => ?_).trans ?_)
    · rw [if_pos h0]; exact init_at m c t _ n _
    · refine congrArg₂ (output _ _ _ _ _ _) (Fin.ext ?_) (Fin.ext ?_)
      · blk_simp [e7]
        exact congrArg (· + (y 0).val) (Nat.mul_comm _ _)
      · unfold chan
        blk_simp [e7]
        show 1024 * (t.val / 2 % 4) + (512 * ((y 1).val / 512) + (y 1).val % 512) = t.val / 2 % 4 * 1024 + (y 1).val
        omega
  · refine (out_next m c t h0 (by omega) y).trans ((read_at m c t _ _ _ _ fun n => ?_).trans ?_)
    · rw [if_neg h0]; exact entering m c t (by omega) _ n _
    · refine congrArg₂ (output _ _ _ _ _ _) (Fin.ext ?_) (Fin.ext ?_)
      · blk_simp [e7]
        exact congrArg (· + (y 0).val) (Nat.mul_comm _ _)
      · unfold chan
        blk_simp [e7]
        show 1024 * (t.val / 2 % 4) + (512 * ((y 1).val / 512) + (y 1).val % 512) = t.val / 2 % 4 * 1024 + (y 1).val
        omega

theorem flush_end : ∀ t : Fin cfg0.N, (cfg0.win 8).flush t = true → t.val % 2 = 1 :=
  (by decide +kernel : ∀ t : Fin grid0.N, win0_8.flush t = true → _)

theorem final_end (c : Dev nD) : (dats m 0 c).arrAt 8 cfg0.N = endArr m c := by
  refine (dats m 0 c).arrAt_eq_of_covers 8 _ (by decide +kernel) fun t hf y => ?_
  blk_simp
  rw [after0_8]
  obtain ⟨hN, e0, e1, e2, e3, e4, e5, e6, e7, e8⟩ := idx t
  have y0 : (y 0 : ℕ) < 1 := (y 0).isLt
  have y1 : (y 1 : ℕ) < 1024 := (y 1).isLt
  have y2 : (y 2 : ℕ) < 128 := (y 2).isLt
  have h1 : t.val % 2 = 1 := flush_end t hf
  unfold endArr ending
  refine (last_next m c t (by omega) h1 y).trans ((step_at m c t _ _ _ _).trans ?_)
  have hE := entering m c t h1 ⟨(y 1).val / 512, by omega⟩ (y 2) ⟨(y 1).val % 512, by omega⟩
  have a0 : (win0_8.blk t).view.emb y 0 = (⟨t.val / 8, by omega⟩ : Fin 32) := Fin.ext (by
    blk_simp [e8])
  have a1 : (win0_8.blk t).view.emb y 1 = chan t ⟨(y 1).val / 512, by omega⟩ ⟨(y 1).val % 512, by omega⟩ := Fin.ext (by
    unfold chan
    blk_simp [e8]
    show t.val / 2 % 4 * 1024 + (y 1).val = 1024 * (t.val / 2 % 4) + (512 * ((y 1).val / 512) + (y 1).val % 512)
    omega)
  have a2 : (win0_8.blk t).view.emb y 2 = y 2 := Fin.ext (by blk_simp [e8])
  rw [a0, a1, a2]
  exact congrArg₂ (fun b h => step _ _ _ _ b h _ _) (Fin.ext (show 2 * (t.val / 8) + 1 - t.val % 2 = 2 * (t.val / 8) by omega)) hE

/-- The call runs, leaves the two arrays and keeps its arguments. -/
theorem run_blocks (ρ : Dev nD → PrngReg) : θ_run (defs (F := Ideal)) (onTc (τ := τ) (main (F := Ideal))) ⟨m, fun _ => 0, ρ⟩ fun r => ∀ c : Dev nD,
      r.2.mem ((c : Thread nD τ).loc main_v2_0) = outArr m c
      ∧ r.2.mem ((c : Thread nD τ).loc main_v2_1) = endArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h.1 c).1, (h.1 c).2, h.2 c⟩)
    (θ_run_and ((θ_run defs _ _).mono (fun _ h c => (⟨((h c).1 7).trans (final_out m c), ((h c).1 8).trans (final_end m c)⟩ : _ ∧ _)) (run_main m ρ)) (unchanged m ρ))

end Cert.Kernel8Ideal.Scan
-- ==== Proof.ScanRef.lean ====
/-
  What the reference of the backward scan leaves in its two result arrays, index by index.
-/
module

public import proofs.«01_k».proof.Proof.Scan
public import proofs.«01_k».proof.Proof.Gen.Reference8Ideal
public import proofs.«01_k».proof.Proof.Gen.Reference8Ideal.Run
public import Idealize.ShloMosaic.Lib.Pointwise

@[expose] public section

set_option maxRecDepth 16384

noncomputable section

namespace Cert.Reference8Ideal.Scan

open Cert.Reference8Ideal Cert.Reference8Ideal.Gen Idealize.ShloMosaic Idealize.SL.Sem
open Cert.Kernel8Ideal.Scan (lane8 step middle ending output)

/-- A channel from its group, its head and its place in the head. -/
def col (G h : Fin 8) (p : Fin 64) : Fin 4096 := ⟨G.val * 512 + h.val * 64 + p.val, by omega⟩

/-- A row from its sequence, its chunk and its place in the chunk. -/
def row (s : Fin 32) (c : Fin 2) (k : Fin 128) : Fin 8192 := ⟨s.val * 256 + c.val * 128 + k.val, by omega⟩

/-- A head's lane. -/
def laneOf (G h : Fin 8) : Fin 128 := ⟨G.val % 2 * 16 + 8 + h.val, by omega⟩

/-- The scales of every head, spread over the head's channels. -/
def heads (a : FVec Ideal S4x16384x128 .f32) : FVec Ideal S32x2x128x8x8x64 .f32 :=
  broadcastInDim S32x2x128x8x8x64 ![0, 1, 2, 3, 4, 5] bcast_S32x2x128x8x8x1_S32x2x128x8x8x64_0_1_2_3_4_5 (broadcastInDim S32x2x128x8x8x1 ![0, 1, 2, 3, 4] bcast_S32x2x128x8x8_S32x2x128x8x8x1_0_1_2_3_4 (shapeCast _ (transpose S32x2x128x4x2x8 [1, 2, 3, 0, 4, 5] (shapeCast _ (extractStridedSlice S4x32x2x128x2x1x8 ![0, 0, 0, 0, 0, 1, 0] (shapeCast _ (extractStridedSlice S4x8192x32 ![0, 0, 0] a slices_S4x16384x128_S4x8192x32_0_0_0) shapeCasts_S4x8192x32_S4x32x2x128x2x2x8) slices_S4x32x2x128x2x2x8_S4x32x2x128x2x1x8_0_0_0_0_0_1_0) shapeCasts_S4x32x2x128x2x1x8_S4x32x2x128x2x8) transposes_S4x32x2x128x2x8_S32x2x128x4x2x8_1_2_3_0_4_5) shapeCasts_S32x2x128x4x2x8_S32x2x128x8x8))

theorem heads_at (a : FVec Ideal S4x16384x128 .f32) (s : Fin 32) (c : Fin 2) (k : Fin 128) (G h : Fin 8) (p : Fin 64) :
    heads a (ix6 s c k G h p) = a (ix3 ⟨G.val / 2, by omega⟩ ⟨s.val * 256 + c.val * 128 + k.val, by omega⟩ (laneOf G h)) := by
  unfold heads laneOf
  pointwise

/-- The chunks' decays. -/
def decays (a4 : FVec Ideal S4x1024x128 .f32) : FVec Ideal S32x2x8x8x1x1 .f32 :=
  broadcastInDim S32x2x8x8x1x1 ![0, 1, 2, 3] bcast_S32x2x8x8_S32x2x8x8x1x1_0_1_2_3 (shapeCast _ (extractStridedSlice S32x2x1x8x8 ![0, 0, 0, 0, 0] (shapeCast _ (transpose S32x2x8x4x2x8 [1, 2, 3, 0, 4, 5] (shapeCast _ (extractStridedSlice S4x32x2x8x2x1x8 ![0, 0, 0, 0, 0, 1, 0] (shapeCast _ (extractStridedSlice S4x512x32 ![0, 0, 0] a4 slices_S4x1024x128_S4x512x32_0_0_0) shapeCasts_S4x512x32_S4x32x2x8x2x2x8) slices_S4x32x2x8x2x2x8_S4x32x2x8x2x1x8_0_0_0_0_0_1_0) shapeCasts_S4x32x2x8x2x1x8_S4x32x2x8x2x8) transposes_S4x32x2x8x2x8_S32x2x8x4x2x8_1_2_3_0_4_5) shapeCasts_S32x2x8x4x2x8_S32x2x8x8x8) slices_S32x2x8x8x8_S32x2x1x8x8_0_0_0_0_0) shapeCasts_S32x2x1x8x8_S32x2x8x8)

theorem decays_at (a : FVec Ideal S4x1024x128 .f32) (s : Fin 32) (c : Fin 2) (G h : Fin 8) :
    decays a (ix6 s c G h 0 0) = a (ix3 ⟨G.val / 2, by omega⟩ ⟨s.val * 16 + c.val * 8, by omega⟩ (laneOf G h)) := by
  unfold decays laneOf
  pointwise

/-- The chunks' own parts. -/
def part (a0 : FVec Ideal S16384x4096 .f32) (a1 : FVec Ideal S16384x2048 .f32) (a3 : FVec Ideal S4x16384x128 .f32) : FVec Ideal S32x2x8x8x64x128 .f32 :=
  Host.dotGeneral dot_S32x2x128x8x8x64_S32x2x128x8x128_S32x2x8x8x64x128_2_2_45_4_013_013 none (mulf (shapeCast _ (extractStridedSlice S8192x4096 ![0, 0] a0 slices_S16384x4096_S8192x4096_0_0) shapeCasts_S8192x4096_S32x2x128x8x8x64) (heads a3)) (shapeCast _ (extractStridedSlice S8192x1024 ![0, 0] a1 slices_S16384x2048_S8192x1024_0_0) shapeCasts_S8192x1024_S32x2x128x8x128)

theorem part_at (a0 : FVec Ideal S16384x4096 .f32) (a1 : FVec Ideal S16384x2048 .f32) (a3 : FVec Ideal S4x16384x128 .f32) (s : Fin 32) (c : Fin 2) (G h : Fin 8) (p : Fin 64) (n : Fin 128) :
    part a0 a1 a3 (ix6 s c G h p n) = ∑ k : Fin 128, (a0 (ix2 ⟨s.val * 256 + c.val * 128 + k.val, by omega⟩ (col G h p)) * heads a3 (ix6 s c k G h p))
      * a1 (ix2 ⟨s.val * 256 + c.val * 128 + k.val, by omega⟩ ⟨G.val * 128 + n.val, by omega⟩) := by
  unfold part col
  pointwise

/-- The state every sequence is entered with. -/
def entry (a5 : FVec Ideal S1x2x4096x128 .f32) : FVec Ideal S32x8x8x64x128 .f32 :=
  broadcastInDim S32x8x8x64x128 ![0, 1, 2, 3, 4] bcast_S1x8x8x64x128_S32x8x8x64x128_0_1_2_3_4 (shapeCast _ (shapeCast _ (extractStridedSlice S1x1x4096x128 ![0, 1, 0, 0] a5 slices_S1x2x4096x128_S1x1x4096x128_0_1_0_0) shapeCasts_S1x1x4096x128_S1x4096x128) shapeCasts_S1x4096x128_S1x8x8x64x128)

theorem entry_at (a5 : FVec Ideal S1x2x4096x128 .f32) (s : Fin 32) (G h : Fin 8) (p : Fin 64) (n : Fin 128) :
    entry a5 (ix5 s G h p n) = a5 (ix4 0 1 (col G h p) n) := by
  unfold entry col
  pointwise

/-- The state after the last chunk. -/
def second (a0 : FVec Ideal S16384x4096 .f32) (a1 : FVec Ideal S16384x2048 .f32) (a3 : FVec Ideal S4x16384x128 .f32) (a4 : FVec Ideal S4x1024x128 .f32) (a5 : FVec Ideal S1x2x4096x128 .f32) : FVec Ideal S32x8x8x64x128 .f32 :=
  addf (mulf (entry a5) (broadcastInDim S32x8x8x64x128 ![0, 1, 2, 3, 4] bcast_S32x8x8x1x1_S32x8x8x64x128_0_1_2_3_4 (shapeCast _ (extractStridedSlice S32x1x8x8x1x1 ![0, 1, 0, 0, 0, 0] (decays a4) slices_S32x2x8x8x1x1_S32x1x8x8x1x1_0_1_0_0_0_0) shapeCasts_S32x1x8x8x1x1_S32x8x8x1x1))) (shapeCast _ (extractStridedSlice S32x1x8x8x64x128 ![0, 1, 0, 0, 0, 0] (part a0 a1 a3) slices_S32x2x8x8x64x128_S32x1x8x8x64x128_0_1_0_0_0_0) shapeCasts_S32x1x8x8x64x128_S32x8x8x64x128)

theorem second_at (a0 : FVec Ideal S16384x4096 .f32) (a1 : FVec Ideal S16384x2048 .f32) (a3 : FVec Ideal S4x16384x128 .f32) (a4 : FVec Ideal S4x1024x128 .f32) (a5 : FVec Ideal S1x2x4096x128 .f32) (s : Fin 32) (G h : Fin 8) (p : Fin 64) (n : Fin 128) :
    second a0 a1 a3 a4 a5 (ix5 s G h p n) = entry a5 (ix5 s G h p n) * decays a4 (ix6 s 1 G h 0 0) + part a0 a1 a3 (ix6 s 1 G h p n) := by
  unfold second
  pointwise

/-- The state a sequence ends with. -/
def last (a0 : FVec Ideal S16384x4096 .f32) (a1 : FVec Ideal S16384x2048 .f32) (a3 : FVec Ideal S4x16384x128 .f32) (a4 : FVec Ideal S4x1024x128 .f32) (a5 : FVec Ideal S1x2x4096x128 .f32) : FVec Ideal S32x4096x128 .f32 :=
  shapeCast _ (addf (mulf (second a0 a1 a3 a4 a5) (broadcastInDim S32x8x8x64x128 ![0, 1, 2, 3, 4] bcast_S32x8x8x1x1_S32x8x8x64x128_0_1_2_3_4 (shapeCast _ (extractStridedSlice S32x1x8x8x1x1 ![0, 0, 0, 0, 0, 0] (decays a4) slices_S32x2x8x8x1x1_S32x1x8x8x1x1_0_0_0_0_0_0) shapeCasts_S32x1x8x8x1x1_S32x8x8x1x1))) (shapeCast _ (extractStridedSlice S32x1x8x8x64x128 ![0, 0, 0, 0, 0, 0] (part a0 a1 a3) slices_S32x2x8x8x64x128_S32x1x8x8x64x128_0_0_0_0_0_0) shapeCasts_S32x1x8x8x64x128_S32x8x8x64x128)) shapeCasts_S32x8x8x64x128_S32x4096x128

theorem last_at (a0 : FVec Ideal S16384x4096 .f32) (a1 : FVec Ideal S16384x2048 .f32) (a3 : FVec Ideal S4x16384x128 .f32) (a4 : FVec Ideal S4x1024x128 .f32) (a5 : FVec Ideal S1x2x4096x128 .f32) (s : Fin 32) (G h : Fin 8) (p : Fin 64) (n : Fin 128) :
    last a0 a1 a3 a4 a5 (ix3 s (col G h p) n) = second a0 a1 a3 a4 a5 (ix5 s G h p n) * decays a4 (ix6 s 0 G h 0 0) + part a0 a1 a3 (ix6 s 0 G h p n) := by
  unfold last col
  pointwise

/-- The states the chunks are entered with. -/
def states (a0 : FVec Ideal S16384x4096 .f32) (a1 : FVec Ideal S16384x2048 .f32) (a3 : FVec Ideal S4x16384x128 .f32) (a4 : FVec Ideal S4x1024x128 .f32) (a5 : FVec Ideal S1x2x4096x128 .f32) : FVec Ideal S32x2x8x8x64x128 .f32 :=
  concatenate S32x2x8x8x64x128 1 [⟨S32x1x8x8x64x128, (broadcastInDim S32x1x8x8x64x128 ![0, 2, 3, 4, 5] bcast_S32x8x8x64x128_S32x1x8x8x64x128_0_2_3_4_5 (second a0 a1 a3 a4 a5))⟩, ⟨S32x1x8x8x64x128, (broadcastInDim S32x1x8x8x64x128 ![0, 2, 3, 4, 5] bcast_S32x8x8x64x128_S32x1x8x8x64x128_0_2_3_4_5 (entry a5))⟩] concatenates_S32x1x8x8x64x128_S32x1x8x8x64x128_S32x2x8x8x64x128_d1

theorem states_at (a0 : FVec Ideal S16384x4096 .f32) (a1 : FVec Ideal S16384x2048 .f32) (a3 : FVec Ideal S4x16384x128 .f32) (a4 : FVec Ideal S4x1024x128 .f32) (a5 : FVec Ideal S1x2x4096x128 .f32) (s : Fin 32) (c : Fin 2) (G h : Fin 8) (p : Fin 64) (n : Fin 128) :
    states a0 a1 a3 a4 a5 (ix6 s c G h p n) = if c.val = 1 then entry a5 (ix5 s G h p n) else second a0 a1 a3 a4 a5 (ix5 s G h p n) := by
  unfold states
  pointwise
  by_cases hc : c.val = 1
  · rw [if_pos hc, dif_neg (by omega)]
  · rw [if_neg hc, dif_pos (by omega)]

/-- The states read by the chunks' rows. -/
def reads (a0 : FVec Ideal S16384x4096 .f32) (a1 : FVec Ideal S16384x2048 .f32) (a3 : FVec Ideal S4x16384x128 .f32) (a4 : FVec Ideal S4x1024x128 .f32) (a5 : FVec Ideal S1x2x4096x128 .f32) : FVec Ideal S32x2x8x8x64x128 .f32 :=
  Host.dotGeneral dot_S32x2x8x8x64x128_S32x2x128x8x128_S32x2x8x8x64x128_5_4_34_2_012_013 none (states a0 a1 a3 a4 a5) (shapeCast _ (extractStridedSlice S8192x1024 ![0, 1024] a1 slices_S16384x2048_S8192x1024_0_1024) shapeCasts_S8192x1024_S32x2x128x8x128)

theorem reads_at (a0 : FVec Ideal S16384x4096 .f32) (a1 : FVec Ideal S16384x2048 .f32) (a3 : FVec Ideal S4x16384x128 .f32) (a4 : FVec Ideal S4x1024x128 .f32) (a5 : FVec Ideal S1x2x4096x128 .f32) (s : Fin 32) (c : Fin 2) (G h : Fin 8) (p : Fin 64) (k : Fin 128) :
    reads a0 a1 a3 a4 a5 (ix6 s c G h p k) = ∑ n : Fin 128, states a0 a1 a3 a4 a5 (ix6 s c G h p n)
      * a1 (ix2 ⟨s.val * 256 + c.val * 128 + k.val, by omega⟩ ⟨1024 + (G.val * 128 + n.val), by omega⟩) := by
  unfold reads
  pointwise

/-- The output's rows. -/
def rows (a0 : FVec Ideal S16384x4096 .f32) (a1 : FVec Ideal S16384x2048 .f32) (a2 : FVec Ideal S4x16384x128 .f32) (a3 : FVec Ideal S4x16384x128 .f32) (a4 : FVec Ideal S4x1024x128 .f32) (a5 : FVec Ideal S1x2x4096x128 .f32) : FVec Ideal S8192x4096 .f32 :=
  shapeCast _ (mulf (transpose S32x2x128x8x8x64 [0, 1, 5, 2, 3, 4] (reads a0 a1 a3 a4 a5) transposes_S32x2x8x8x64x128_S32x2x128x8x8x64_0_1_5_2_3_4) (heads a2)) shapeCasts_S32x2x128x8x8x64_S8192x4096

theorem rows_at (a0 : FVec Ideal S16384x4096 .f32) (a1 : FVec Ideal S16384x2048 .f32) (a2 : FVec Ideal S4x16384x128 .f32) (a3 : FVec Ideal S4x16384x128 .f32) (a4 : FVec Ideal S4x1024x128 .f32) (a5 : FVec Ideal S1x2x4096x128 .f32) (s : Fin 32) (c : Fin 2) (k : Fin 128) (G h : Fin 8) (p : Fin 64) :
    rows a0 a1 a2 a3 a4 a5 (ix2 (row s c k) (col G h p)) = reads a0 a1 a3 a4 a5 (ix6 s c G h p k) * heads a2 (ix6 s c k G h p) := by
  unfold rows row col
  pointwise

theorem lane_col (G h : Fin 8) (p : Fin 64) : lane8 (col G h p) = laneOf G h := by
  apply Fin.ext
  show 16 * ((G.val * 512 + h.val * 64 + p.val) / 512 % 2) + 8 + (G.val * 512 + h.val * 64 + p.val) / 64 % 8 = G.val % 2 * 16 + 8 + h.val
  omega

theorem pair_col (G h : Fin 8) (p : Fin 64) : (⟨(col G h p).val / 1024, by omega⟩ : Fin 4) = ⟨G.val / 2, by omega⟩ :=
  Fin.ext (show (G.val * 512 + h.val * 64 + p.val) / 1024 = G.val / 2 by omega)

/-- One chunk's step, in the kernel's words. -/
theorem step_eq (a0 : FVec Ideal S16384x4096 .f32) (a1 : FVec Ideal S16384x2048 .f32) (a3 : FVec Ideal S4x16384x128 .f32) (a4 : FVec Ideal S4x1024x128 .f32) (s : Fin 32) (c : Fin 2) (H : EReal) (G h : Fin 8) (p : Fin 64) (n : Fin 128) :
    H * decays a4 (ix6 s c G h 0 0) + part a0 a1 a3 (ix6 s c G h p n) = step a0 a1 a3 a4 ⟨2 * s.val + c.val, by omega⟩ H (col G h p) n := by
  unfold step
  rw [decays_at, part_at, lane_col, pair_col]
  have hr : ∀ k : Fin 128, (⟨s.val * 256 + c.val * 128 + k.val, by omega⟩ : Fin 16384) = ⟨128 * (2 * s.val + c.val) + k.val, by omega⟩ := fun k =>
    Fin.ext (show s.val * 256 + c.val * 128 + k.val = 128 * (2 * s.val + c.val) + k.val by omega)
  have hd : (⟨s.val * 16 + c.val * 8, by omega⟩ : Fin 1024) = ⟨8 * (2 * s.val + c.val), by omega⟩ :=
    Fin.ext (show s.val * 16 + c.val * 8 = 8 * (2 * s.val + c.val) by omega)
  have hn : (⟨G.val * 128 + n.val, by omega⟩ : Fin 2048) = ⟨128 * ((col G h p).val / 512) + n.val, by omega⟩ :=
    Fin.ext (show G.val * 128 + n.val = 128 * ((G.val * 512 + h.val * 64 + p.val) / 512) + n.val by omega)
  rw [hd]
  refine congrArg _ (Finset.sum_congr rfl fun k _ => ?_)
  rw [heads_at, hr, hn, mul_comm]

theorem second_eq (a0 : FVec Ideal S16384x4096 .f32) (a1 : FVec Ideal S16384x2048 .f32) (a3 : FVec Ideal S4x16384x128 .f32) (a4 : FVec Ideal S4x1024x128 .f32) (a5 : FVec Ideal S1x2x4096x128 .f32) (s : Fin 32) (G h : Fin 8) (p : Fin 64) (n : Fin 128) :
    second a0 a1 a3 a4 a5 (ix5 s G h p n) = middle a0 a1 a3 a4 a5 s (col G h p) n := by
  rw [second_at, entry_at]
  exact step_eq a0 a1 a3 a4 s 1 _ G h p n

theorem last_eq (a0 : FVec Ideal S16384x4096 .f32) (a1 : FVec Ideal S16384x2048 .f32) (a3 : FVec Ideal S4x16384x128 .f32) (a4 : FVec Ideal S4x1024x128 .f32) (a5 : FVec Ideal S1x2x4096x128 .f32) (s : Fin 32) (G h : Fin 8) (p : Fin 64) (n : Fin 128) :
    last a0 a1 a3 a4 a5 (ix3 s (col G h p) n) = ending a0 a1 a3 a4 a5 s (col G h p) n := by
  rw [last_at, second_eq]
  exact step_eq a0 a1 a3 a4 s 0 _ G h p n

theorem rows_eq (a0 : FVec Ideal S16384x4096 .f32) (a1 : FVec Ideal S16384x2048 .f32) (a2 : FVec Ideal S4x16384x128 .f32) (a3 : FVec Ideal S4x16384x128 .f32) (a4 : FVec Ideal S4x1024x128 .f32) (a5 : FVec Ideal S1x2x4096x128 .f32) (s : Fin 32) (c : Fin 2) (k : Fin 128) (G h : Fin 8) (p : Fin 64) :
    rows a0 a1 a2 a3 a4 a5 (ix2 (row s c k) (col G h p)) = output a0 a1 a2 a3 a4 a5 (row s c k) (col G h p) := by
  unfold output
  rw [rows_at, reads_at, heads_at, lane_col, pair_col]
  have hs : (⟨(row s c k).val / 256, by omega⟩ : Fin 32) = s :=
    Fin.ext (show (s.val * 256 + c.val * 128 + k.val) / 256 = s.val by omega)
  rw [hs]
  refine congrArg₂ (· * ·) (Finset.sum_congr rfl fun n _ => (mul_comm _ _).trans (congrArg₂ (· * ·) (congrArg (fun z => a1 (ix2 _ z)) (Fin.ext ?_)) ?_)) rfl
  · show 1024 + (G.val * 128 + n.val) = 1024 + 128 * ((G.val * 512 + h.val * 64 + p.val) / 512) + n.val
    omega
  · rw [states_at, entry_at, second_eq]
    by_cases hc : c.val = 1
    · rw [if_pos hc, if_pos (show (row s c k).val / 128 % 2 = 1 by show (s.val * 256 + c.val * 128 + k.val) / 128 % 2 = 1; omega)]
    · rw [if_neg hc, if_neg (show ¬ (row s c k).val / 128 % 2 = 1 by show ¬ (s.val * 256 + c.val * 128 + k.val) / 128 % 2 = 1; omega)]

/-- Every column is a group's, a head's and a place's. -/
theorem col_of (Q : Fin 4096) : Q = col ⟨Q.val / 512, by omega⟩ ⟨Q.val / 64 % 8, by omega⟩ ⟨Q.val % 64, by omega⟩ :=
  Fin.ext (show Q.val = Q.val / 512 * 512 + Q.val / 64 % 8 * 64 + Q.val % 64 by omega)

theorem row_of (R : Fin 8192) : R = row ⟨R.val / 256, by omega⟩ ⟨R.val / 128 % 2, by omega⟩ ⟨R.val % 128, by omega⟩ :=
  Fin.ext (show R.val = R.val / 256 * 256 + R.val / 128 % 2 * 128 + R.val % 128 by omega)

theorem rows_all (a0 : FVec Ideal S16384x4096 .f32) (a1 : FVec Ideal S16384x2048 .f32) (a2 : FVec Ideal S4x16384x128 .f32) (a3 : FVec Ideal S4x16384x128 .f32) (a4 : FVec Ideal S4x1024x128 .f32) (a5 : FVec Ideal S1x2x4096x128 .f32) (R : Fin 8192) (Q : Fin 4096) : rows a0 a1 a2 a3 a4 a5 (ix2 R Q) = output a0 a1 a2 a3 a4 a5 R Q := by
  rw [row_of R, col_of Q]
  exact rows_eq a0 a1 a2 a3 a4 a5 _ _ _ _ _ _

theorem last_all (a0 : FVec Ideal S16384x4096 .f32) (a1 : FVec Ideal S16384x2048 .f32) (a3 : FVec Ideal S4x16384x128 .f32) (a4 : FVec Ideal S4x1024x128 .f32) (a5 : FVec Ideal S1x2x4096x128 .f32) (s : Fin 32) (Q : Fin 4096) (n : Fin 128) : last a0 a1 a3 a4 a5 (ix3 s Q n) = ending a0 a1 a3 a4 a5 s Q n := by
  rw [col_of Q]
  exact last_eq a0 a1 a3 a4 a5 _ _ _ _ _

open Idealize.ShloMosaic.TcCoe in
theorem res0_eq (m : (ℓ : Loc nD τ sig) → Buf (Elt Ideal) ℓ) (c : Dev nD) : Value.res_main_v57 m c
    = rows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := rfl

open Idealize.ShloMosaic.TcCoe in
theorem res1_eq (m : (ℓ : Loc nD τ sig) → Buf (Elt Ideal) ℓ) (c : Dev nD) : Value.res_main_v58 m c
    = last (m ((c : Thread nD τ).loc main_arg0)) (m ((c : Thread nD τ).loc main_arg1)) (m ((c : Thread nD τ).loc main_arg3)) (m ((c : Thread nD τ).loc main_arg4)) (m ((c : Thread nD τ).loc main_arg5)) := rfl

end Cert.Reference8Ideal.Scan
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.AttRef
public import proofs.«01_k».proof.Proof.AttPre
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Kernel2.Launch
public import proofs.«01_k».proof.Proof.Gen.Kernel2.Skeleton
public import proofs.«01_k».proof.Proof.Gen.Kernel2Ideal.Launch
public import proofs.«01_k».proof.Proof.Gen.Kernel2Ideal.Skeleton
public import proofs.«01_k».proof.Proof.WordMoeRun
public import proofs.«01_k».proof.Proof.MoeRun
public import proofs.«01_k».proof.Proof.MoeRef
public import proofs.«01_k».proof.Proof.Gen.Kernel3
public import proofs.«01_k».proof.Proof.Gen.Kernel3.Launch
public import proofs.«01_k».proof.Proof.Gen.Kernel3.Skeleton
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Launch
public import proofs.«01_k».proof.Proof.Gen.Kernel4.Skeleton
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Launch
public import proofs.«01_k».proof.Proof.Gen.Kernel4Ideal.Skeleton
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Launch
public import proofs.«01_k».proof.Proof.Gen.Kernel5.Skeleton
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Launch
public import proofs.«01_k».proof.Proof.Gen.Kernel5Ideal.Skeleton
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Launch
public import proofs.«01_k».proof.Proof.Gen.Kernel6.Skeleton
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Launch
public import proofs.«01_k».proof.Proof.Gen.Kernel6Ideal.Skeleton
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Inproj
public import proofs.«01_k».proof.Proof.Merge
public import proofs.«01_k».proof.Proof.Cache
public import proofs.«01_k».proof.Proof.Mods
public import proofs.«01_k».proof.Proof.Gen.Kernel7
public import proofs.«01_k».proof.Proof.Gen.Kernel7.Launch
public import proofs.«01_k».proof.Proof.Gen.Kernel7.Skeleton
public import proofs.«01_k».proof.Proof.Gen.Kernel7.Frame
public import proofs.«01_k».proof.Proof.Gen.Kernel7Ideal
public import proofs.«01_k».proof.Proof.Gen.Kernel7Ideal.Launch
public import proofs.«01_k».proof.Proof.Gen.Kernel7Ideal.Skeleton
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Norm
public import proofs.«01_k».proof.Proof.NormRef
public import proofs.«01_k».proof.Proof.Gen.Kernel8
public import proofs.«01_k».proof.Proof.Gen.Kernel8.Launch
public import proofs.«01_k».proof.Proof.Gen.Kernel8.Skeleton
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Launch
public import proofs.«01_k».proof.Proof.Gen.Kernel8Ideal.Skeleton
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Scan
public import proofs.«01_k».proof.Proof.ScanRef
public import Idealize.ShloMosaic.Adequacy
public import Idealize.ShloMosaic.Init

@[expose] public section

noncomputable section

namespace Cert.Proof

open Idealize.ShloMosaic Idealize.SL.Sem Cert.Kernel

/-- The attention call and its reference leave the same array. -/
theorem attention (m : (ℓ : Loc Cert.KernelIdeal.nD Cert.KernelIdeal.τ Cert.KernelIdeal.sig) → Buf (Elt Ideal) ℓ) (c : Dev Cert.KernelIdeal.nD)
    (m' : (ℓ : Loc Cert.ReferenceIdeal.nD Cert.ReferenceIdeal.τ Cert.ReferenceIdeal.sig) → Buf (Elt Ideal) ℓ)
    (hpre : @Cert.Pre_KernelIdeal_finite_queries_and_keys Cert.Pre_finite_queries_and_keys.facts m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v41 m' c = Cert.KernelIdeal.Att.attArr m c := by
  obtain ⟨r0, r1, r3, r5, r2, r4⟩ := @Cert.Pre_finite_queries_and_keys.reals Cert.Pre_finite_queries_and_keys.facts _ _ _ _ _ _ (hpre c)
  refine (Cert.ReferenceIdeal.Att.res_eq m' c _ rfl).trans ?_
  rw [h0, h1, h2, h3, h4, h5]
  funext y
  have e : y = ix2 ⟨(y 0 : ℕ), (y 0).isLt⟩ ⟨(y 1 : ℕ), (y 1).isLt⟩ := by funext a; fin_cases a <;> rfl
  refine Eq.trans ?_ (Cert.ReferenceIdeal.Att.value _ _ _ _ _ _ r0 r1 r3 r5 r2 r4 _ rfl ⟨(y 0 : ℕ), (y 0).isLt⟩ ⟨(y 1 : ℕ), (y 1).isLt⟩)
  exact congrArg _ e

/-- The reference runs, keeps its arguments and, declaring no semaphore, ends with every counter at zero. -/
theorem referenceFrame : @Cert.quiescent_ReferenceIdeal Cert.ReferenceIdeal.Gen.facts := fun m' g' _ =>
  (θ_run _ _ _).mono (fun r h => ⟨fun c => (h c).2, sem_eq_zero_of_no_sems (by decide) r.2⟩) (Cert.ReferenceIdeal.Value.run (F := Ideal) m' g')

/-- The experts' call and its reference leave the same array. -/
theorem experts (m : (ℓ : Loc Cert.Kernel2Ideal.nD Cert.Kernel2Ideal.τ Cert.Kernel2Ideal.sig) → Buf (Elt Ideal) ℓ) (c : Dev Cert.Kernel2Ideal.nD)
    (hpre : Cert.Kernel2Ideal.Moe.InOrder m) :
    Cert.Reference2Ideal.Moe.result (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))
      (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))
      = Cert.Kernel2Ideal.Moe.moeArr m c := by
  obtain ⟨e0, e1, -⟩ := Cert.Kernel2Ideal.Moe.tab_eq m c
  have hT := Cert.Kernel2Ideal.Moe.tables m hpre
  funext y
  have e : y = ix2 ⟨(y 0 : ℕ), (y 0).isLt⟩ ⟨(y 1 : ℕ), (y 1).isLt⟩ := by funext a; fin_cases a <;> rfl
  rw [← e0, ← e1]
  exact (congrArg _ e).trans (Cert.Reference2Ideal.Moe.result_at _ _ _ _ _ _ _ _ hT.expert ⟨(y 0 : ℕ), (y 0).isLt⟩ ⟨(y 1 : ℕ), (y 1).isLt⟩)

/-- The experts' reference runs, keeps its arguments and ends with every counter at zero. -/
theorem expertsReferenceFrame : @Cert.quiescent_Reference2Ideal Cert.Reference2Ideal.Gen.facts := fun m' g' _ =>
  (θ_run _ _ _).mono (fun r h => ⟨fun c => (h c).2, sem_eq_zero_of_no_sems (by decide) r.2⟩) (Cert.Reference2Ideal.Value.run (F := Ideal) m' g')

/-- The experts' call on machine words runs, keeps its arguments and ends with every counter at zero. -/
theorem expertsFrame : @Cert.quiescent_Kernel2 Cert.Kernel2.Gen.facts Cert.Pre_tiles_in_order.facts :=
  fun m ρ h => Cert.Kernel2.Moe.frame_of_inOrder (F := Bits) m ρ h

/-- So does its idealization. -/
theorem expertsIdealFrame : @Cert.quiescent_Kernel2Ideal Cert.Kernel2Ideal.Gen.facts Cert.Pre_tiles_in_order.facts :=
  fun m ρ h => Cert.Kernel2Ideal.Moe.frame_of_inOrder (F := Ideal) m ρ h

/-- The experts' value claim. -/
theorem expertsValue : @Cert.algebraic_Kernel2Ideal_Reference2Ideal Cert.Kernel2Ideal.Gen.facts Cert.Reference2Ideal.Gen.facts Cert.Pre_tiles_in_order.facts :=
  fun m g m' g' hpre hagree =>
    ⟨fun c => Cert.Kernel2Ideal.Moe.moeArr m c,
      (θ_run _ _ _).mono (fun _ h c => ⟨h.1 c, h.2.1 c⟩) (θ_run_and (Cert.Kernel2Ideal.Moe.result m g hpre) (Cert.Kernel2Ideal.Moe.frame_of_inOrder m g hpre)),
      (θ_run _ _ _).mono (fun _ h c => ⟨(h c).1.trans (by
          obtain ⟨h0, h1, -, h3, h4, h5, h6, h7, h8⟩ := hagree c
          rw [h0, h1, h3, h4, h5, h6, h7, h8]
          exact experts m c hpre), (h c).2⟩)
        (Cert.Reference2Ideal.Value.run m' g')⟩

/-- The input projection and its reference leave the same array. -/
theorem projection (m : (ℓ : Loc Cert.Kernel3Ideal.nD Cert.Kernel3Ideal.τ Cert.Kernel3Ideal.sig) → Buf (Elt Ideal) ℓ) (c : Dev Cert.Kernel3Ideal.nD) :
    Cert.Reference3Ideal.Inproj.result (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))
      = Cert.Kernel3Ideal.Inproj.projArr m c := by
  funext y
  have e : y = ix2 ⟨(y 0 : ℕ), (y 0).isLt⟩ ⟨(y 1 : ℕ), (y 1).isLt⟩ := by funext a; fin_cases a <;> rfl
  exact (congrArg _ e).trans (Cert.Reference3Ideal.Inproj.result_at _ _ _ _ ⟨(y 0 : ℕ), (y 0).isLt⟩ ⟨(y 1 : ℕ), (y 1).isLt⟩)

/-- The input projection's reference runs, keeps its arguments and ends with every counter at zero. -/
theorem projectionReferenceFrame : @Cert.quiescent_Reference3Ideal Cert.Reference3Ideal.Gen.facts := fun m' g' _ =>
  (θ_run _ _ _).mono (fun r h => ⟨fun c => (h c).2, sem_eq_zero_of_no_sems (by decide) r.2⟩) (Cert.Reference3Ideal.Value.run (F := Ideal) m' g')

/-- The input projection's value claim. -/
theorem projectionValue : @Cert.algebraic_Kernel3Ideal_Reference3Ideal Cert.Kernel3Ideal.Gen.facts Cert.Reference3Ideal.Gen.facts :=
  fun m g m' g' _ hagree =>
    ⟨fun c => Cert.Kernel3Ideal.Inproj.projArr m c,
      Cert.Kernel3Ideal.Inproj.run_blocks m g,
      (θ_run _ _ _).mono (fun _ h c => ⟨(h c).1.trans (by
          obtain ⟨h0, h1, h2, h3⟩ := hagree c
          refine Eq.trans (show _ = Cert.Reference3Ideal.Inproj.result (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) from rfl) ?_
          rw [h0, h1, h2, h3]
          exact projection m c), (h c).2⟩)
        (Cert.Reference3Ideal.Value.run m' g')⟩

/-- The call that merges the branches and its reference leave the same array. -/
theorem branches (m : (ℓ : Loc Cert.Kernel4Ideal.nD Cert.Kernel4Ideal.τ Cert.Kernel4Ideal.sig) → Buf (Elt Ideal) ℓ) (c : Dev Cert.Kernel4Ideal.nD) :
    Cert.Reference4Ideal.Merge.result (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))
      = Cert.Kernel4Ideal.Merge.mergedArr m c := by
  funext y
  have e : y = ix2 ⟨(y 0 : ℕ), (y 0).isLt⟩ ⟨(y 1 : ℕ), (y 1).isLt⟩ := by funext a; fin_cases a <;> rfl
  exact (congrArg _ e).trans (Cert.Reference4Ideal.Merge.result_at _ _ _ _ _ _ _ ⟨(y 0 : ℕ), (y 0).isLt⟩ ⟨(y 1 : ℕ), (y 1).isLt⟩)

/-- The merging reference runs, keeps its arguments and ends with every counter at zero. -/
theorem branchesReferenceFrame : @Cert.quiescent_Reference4Ideal Cert.Reference4Ideal.Gen.facts := fun m' g' _ =>
  (θ_run _ _ _).mono (fun r h => ⟨fun c => (h c).2, sem_eq_zero_of_no_sems (by decide) r.2⟩) (Cert.Reference4Ideal.Value.run (F := Ideal) m' g')

/-- The merging call's value claim. -/
theorem branchesValue : @Cert.algebraic_Kernel4Ideal_Reference4Ideal Cert.Kernel4Ideal.Gen.facts Cert.Reference4Ideal.Gen.facts :=
  fun m g m' g' _ hagree =>
    ⟨fun c => Cert.Kernel4Ideal.Merge.mergedArr m c,
      (θ_run _ _ _).mono (fun _ h c => ⟨(h c).1.trans (Cert.Kernel4Ideal.Merge.final m c), (h c).2⟩) (Cert.Kernel4Ideal.Value.run_blocks m g),
      (θ_run _ _ _).mono (fun _ h c => ⟨(h c).1.trans (by
          obtain ⟨h0, h1, h2, h3, h4, h5, h6⟩ := hagree c
          refine Eq.trans (show _ = Cert.Reference4Ideal.Merge.result (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) from rfl) ?_
          rw [h0, h1, h2, h3, h4, h5, h6]
          exact branches m c), (h c).2⟩)
        (Cert.Reference4Ideal.Value.run m' g')⟩

/-- The new latent cache. -/
theorem cacheLatent (m : (ℓ : Loc Cert.Kernel5Ideal.nD Cert.Kernel5Ideal.τ Cert.Kernel5Ideal.sig) → Buf (Elt Ideal) ℓ) (c : Dev Cert.Kernel5Ideal.nD) :
    Cert.Reference5Ideal.Cache.lat (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))
      = Cert.Kernel5Ideal.Cache.latentArr m c := by
  funext y
  have e : y = ix2 ⟨(y 0 : ℕ), (y 0).isLt⟩ ⟨(y 1 : ℕ), (y 1).isLt⟩ := by funext a; fin_cases a <;> rfl
  exact (congrArg _ e).trans (Cert.Reference5Ideal.Cache.lat_at _ _ ⟨(y 0 : ℕ), (y 0).isLt⟩ ⟨(y 1 : ℕ), (y 1).isLt⟩)

/-- The new rotary cache. -/
theorem cacheRotary (m : (ℓ : Loc Cert.Kernel5Ideal.nD Cert.Kernel5Ideal.τ Cert.Kernel5Ideal.sig) → Buf (Elt Ideal) ℓ) (c : Dev Cert.Kernel5Ideal.nD) :
    Cert.Reference5Ideal.Cache.rot (m ((c.tc : Thread Cert.Kernel5Ideal.nD Cert.Kernel5Ideal.τ).loc Cert.Kernel5Ideal.main_arg0))
      = Cert.Kernel5Ideal.Cache.rotaryArr m c := by
  funext y
  have e : y = ix2 ⟨(y 0 : ℕ), (y 0).isLt⟩ ⟨(y 1 : ℕ), (y 1).isLt⟩ := by funext a; fin_cases a <;> rfl
  exact (congrArg _ e).trans (Cert.Reference5Ideal.Cache.rot_at _ ⟨(y 0 : ℕ), (y 0).isLt⟩ ⟨(y 1 : ℕ), (y 1).isLt⟩)

/-- The rotary keys as the attention takes them. -/
theorem cacheRotaryNarrow (m : (ℓ : Loc Cert.Kernel5Ideal.nD Cert.Kernel5Ideal.τ Cert.Kernel5Ideal.sig) → Buf (Elt Ideal) ℓ) (c : Dev Cert.Kernel5Ideal.nD) :
    Cert.Reference5Ideal.Cache.rotNarrow (m ((c.tc : Thread Cert.Kernel5Ideal.nD Cert.Kernel5Ideal.τ).loc Cert.Kernel5Ideal.main_arg0))
      = Cert.Kernel5Ideal.Cache.rotaryNarrowArr m c := by
  funext y
  have e : y = ix2 ⟨(y 0 : ℕ), (y 0).isLt⟩ ⟨(y 1 : ℕ), (y 1).isLt⟩ := by funext a; fin_cases a <;> rfl
  exact (congrArg _ e).trans (Cert.Reference5Ideal.Cache.rotNarrow_at _ ⟨(y 0 : ℕ), (y 0).isLt⟩ ⟨(y 1 : ℕ), (y 1).isLt⟩)

/-- The keys and values the latents are raised to. -/
theorem cacheKeysValues (m : (ℓ : Loc Cert.Kernel5Ideal.nD Cert.Kernel5Ideal.τ Cert.Kernel5Ideal.sig) → Buf (Elt Ideal) ℓ) (c : Dev Cert.Kernel5Ideal.nD) :
    Cert.Reference5Ideal.Cache.kv (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))
      = Cert.Kernel5Ideal.Cache.keysValuesArr m c := by
  funext y
  have e : y = ix2 ⟨(y 0 : ℕ), (y 0).isLt⟩ ⟨(y 1 : ℕ), (y 1).isLt⟩ := by funext a; fin_cases a <;> rfl
  exact (congrArg _ e).trans (Cert.Reference5Ideal.Cache.kv_at _ _ _ ⟨(y 0 : ℕ), (y 0).isLt⟩ ⟨(y 1 : ℕ), (y 1).isLt⟩)

/-- The caches' reference runs, keeps its arguments and ends with every counter at zero. -/
theorem cachesReferenceFrame : @Cert.quiescent_Reference5Ideal Cert.Reference5Ideal.Gen.facts := fun m' g' _ =>
  (θ_run _ _ _).mono (fun r h => ⟨fun c => (h c).2.2.2.2, sem_eq_zero_of_no_sems (by decide) r.2⟩) (Cert.Reference5Ideal.Value.run (F := Ideal) m' g')

/-- The caches' value claim. -/
theorem cachesValue : @Cert.algebraic_Kernel5Ideal_Reference5Ideal Cert.Kernel5Ideal.Gen.facts Cert.Reference5Ideal.Gen.facts :=
  fun m g m' g' _ hagree =>
    ⟨fun c => Cert.Kernel5Ideal.Cache.latentArr m c, fun c => Cert.Kernel5Ideal.Cache.rotaryArr m c, fun c => Cert.Kernel5Ideal.Cache.rotaryNarrowArr m c, fun c => Cert.Kernel5Ideal.Cache.keysValuesArr m c,
      (θ_run _ _ _).mono (fun _ h c => ⟨(h c).1.trans (Cert.Kernel5Ideal.Cache.final_latent m c), (h c).2.1.trans (Cert.Kernel5Ideal.Cache.final_rotary m c),
        (h c).2.2.1.trans (Cert.Kernel5Ideal.Cache.final_rotaryNarrow m c), (h c).2.2.2.1.trans (Cert.Kernel5Ideal.Cache.final_keysValues m c), (h c).2.2.2.2⟩) (Cert.Kernel5Ideal.Value.run_blocks m g),
      (θ_run _ _ _).mono (fun _ h c => ⟨(h c).1.trans (by
          obtain ⟨h0, h1, h2⟩ := hagree c
          refine Eq.trans (show _ = Cert.Reference5Ideal.Cache.lat (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) from rfl) ?_
          rw [h0, h1]
          exact cacheLatent m c),
        (h c).2.1.trans (by
          obtain ⟨h0, h1, h2⟩ := hagree c
          refine Eq.trans (show _ = Cert.Reference5Ideal.Cache.rot (m' ((c.tc : Thread Cert.Reference5Ideal.nD Cert.Reference5Ideal.τ).loc Cert.Reference5Ideal.main_arg0)) from rfl) ?_
          rw [h0]
          exact cacheRotary m c),
        (h c).2.2.1.trans (by
          obtain ⟨h0, h1, h2⟩ := hagree c
          refine Eq.trans (show _ = Cert.Reference5Ideal.Cache.rotNarrow (m' ((c.tc : Thread Cert.Reference5Ideal.nD Cert.Reference5Ideal.τ).loc Cert.Reference5Ideal.main_arg0)) from rfl) ?_
          rw [h0]
          exact cacheRotaryNarrow m c),
        (h c).2.2.2.1.trans (by
          obtain ⟨h0, h1, h2⟩ := hagree c
          refine Eq.trans (show _ = Cert.Reference5Ideal.Cache.kv (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) from rfl) ?_
          rw [h0, h1, h2]
          exact cacheKeysValues m c), (h c).2.2.2.2⟩)
        (Cert.Reference5Ideal.Value.run m' g')⟩

/-- The modulation call and its reference leave the same array. -/
theorem modulation (m : (ℓ : Loc Cert.Kernel6Ideal.nD Cert.Kernel6Ideal.τ Cert.Kernel6Ideal.sig) → Buf (Elt Ideal) ℓ) (c : Dev Cert.Kernel6Ideal.nD) :
    Cert.Reference6Ideal.Mods.result (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))
      = Cert.Kernel6Ideal.Mods.modsArr m c := by
  funext y
  have e : y = ix2 ⟨(y 0 : ℕ), (y 0).isLt⟩ ⟨(y 1 : ℕ), (y 1).isLt⟩ := by funext a; fin_cases a <;> rfl
  exact (congrArg _ e).trans (Cert.Reference6Ideal.Mods.result_at _ _ _ _ ⟨(y 0 : ℕ), (y 0).isLt⟩ ⟨(y 1 : ℕ), (y 1).isLt⟩)

/-- The modulation's reference runs, keeps its arguments and ends with every counter at zero. -/
theorem modulationReferenceFrame : @Cert.quiescent_Reference6Ideal Cert.Reference6Ideal.Gen.facts := fun m' g' _ =>
  (θ_run _ _ _).mono (fun r h => ⟨fun c => (h c).2, sem_eq_zero_of_no_sems (by decide) r.2⟩) (Cert.Reference6Ideal.Value.run (F := Ideal) m' g')

/-- The modulation's value claim. -/
theorem modulationValue : @Cert.algebraic_Kernel6Ideal_Reference6Ideal Cert.Kernel6Ideal.Gen.facts Cert.Reference6Ideal.Gen.facts :=
  fun m g m' g' _ hagree =>
    ⟨fun c => Cert.Kernel6Ideal.Mods.modsArr m c,
      (θ_run _ _ _).mono (fun _ h c => ⟨(h c).1.trans (Cert.Kernel6Ideal.Mods.final m c), (h c).2⟩) (Cert.Kernel6Ideal.Value.run_blocks m g),
      (θ_run _ _ _).mono (fun _ h c => ⟨(h c).1.trans (by
          obtain ⟨h0, h1, h2, h3⟩ := hagree c
          refine Eq.trans (show _ = Cert.Reference6Ideal.Mods.result (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) from rfl) ?_
          rw [h0, h1, h2, h3]
          exact modulation m c), (h c).2⟩)
        (Cert.Reference6Ideal.Value.run m' g')⟩

/-- The normalized rows. -/
theorem normalizedRows (m : (ℓ : Loc Cert.Kernel7Ideal.nD Cert.Kernel7Ideal.τ Cert.Kernel7Ideal.sig) → Buf (Elt Ideal) ℓ) (c : Dev Cert.Kernel7Ideal.nD) :
    Cert.Reference7Ideal.Norm.result1 (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))
      = Cert.Kernel7Ideal.Norm.firstArr m c := by
  funext y
  have e : y = ix2 ⟨(y 0 : ℕ), (y 0).isLt⟩ ⟨(y 1 : ℕ), (y 1).isLt⟩ := by funext a; fin_cases a <;> rfl
  exact (congrArg _ e).trans (Cert.Reference7Ideal.Norm.result1_at _ _ _ _ _ _ _ ⟨(y 0 : ℕ), (y 0).isLt⟩ ⟨(y 1 : ℕ), (y 1).isLt⟩)

/-- The rows the experts take. -/
theorem normalizedModulated (m : (ℓ : Loc Cert.Kernel7Ideal.nD Cert.Kernel7Ideal.τ Cert.Kernel7Ideal.sig) → Buf (Elt Ideal) ℓ) (c : Dev Cert.Kernel7Ideal.nD) :
    Cert.Reference7Ideal.Norm.result2 (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))
      = Cert.Kernel7Ideal.Norm.secondArr m c := by
  funext y
  have e : y = ix2 ⟨(y 0 : ℕ), (y 0).isLt⟩ ⟨(y 1 : ℕ), (y 1).isLt⟩ := by funext a; fin_cases a <;> rfl
  exact (congrArg _ e).trans (Cert.Reference7Ideal.Norm.result2_at _ _ _ _ _ _ _ ⟨(y 0 : ℕ), (y 0).isLt⟩ ⟨(y 1 : ℕ), (y 1).isLt⟩)

/-- The router's logits. -/
theorem normalizedLogits (m : (ℓ : Loc Cert.Kernel7Ideal.nD Cert.Kernel7Ideal.τ Cert.Kernel7Ideal.sig) → Buf (Elt Ideal) ℓ) (c : Dev Cert.Kernel7Ideal.nD) :
    Cert.Reference7Ideal.Norm.result3 (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))
      = Cert.Kernel7Ideal.Norm.logitArr m c := by
  funext y
  have e : y = ix2 ⟨(y 0 : ℕ), (y 0).isLt⟩ ⟨(y 1 : ℕ), (y 1).isLt⟩ := by funext a; fin_cases a <;> rfl
  exact (congrArg _ e).trans (Cert.Reference7Ideal.Norm.result3_at _ _ _ _ _ _ _ _ _ ⟨(y 0 : ℕ), (y 0).isLt⟩ ⟨(y 1 : ℕ), (y 1).isLt⟩)

/-- The reference of the output projection and the first normalization runs, keeps its arguments and ends with every counter at zero. -/
theorem normalizedReferenceFrame : @Cert.quiescent_Reference7Ideal Cert.Reference7Ideal.Gen.facts := fun m' g' _ =>
  (θ_run _ _ _).mono (fun r h => ⟨fun c => (h c).2.2.2, sem_eq_zero_of_no_sems (by decide) r.2⟩) (Cert.Reference7Ideal.Value.run (F := Ideal) m' g')

/-- The value claim of the output projection and the first normalization. -/
theorem normalizedValue : @Cert.algebraic_Kernel7Ideal_Reference7Ideal Cert.Kernel7Ideal.Gen.facts Cert.Reference7Ideal.Gen.facts :=
  fun m g m' g' _ hagree =>
    ⟨fun c => Cert.Kernel7Ideal.Norm.firstArr m c, fun c => Cert.Kernel7Ideal.Norm.secondArr m c, fun c => Cert.Kernel7Ideal.Norm.logitArr m c,
      (θ_run _ _ _).mono (fun _ h c => ⟨(h c).1.trans (Cert.Kernel7Ideal.Norm.final_first m c), (h c).2.1.trans (Cert.Kernel7Ideal.Norm.final_second m c),
        (h c).2.2.1.trans (Cert.Kernel7Ideal.Norm.final_logit m c), (h c).2.2.2⟩) (Cert.Kernel7Ideal.Value.run_blocks m g),
      (θ_run _ _ _).mono (fun _ h c => ⟨(h c).1.trans (by
          obtain ⟨h0, h1, h2, h3, h4, h5, h6, h7, h8⟩ := hagree c
          refine (Cert.Reference7Ideal.Norm.res1_eq m' c).trans ?_
          rw [h0, h1, h2, h3, h4, h5, h6]
          exact normalizedRows m c),
        (h c).2.1.trans (by
          obtain ⟨h0, h1, h2, h3, h4, h5, h6, h7, h8⟩ := hagree c
          refine (Cert.Reference7Ideal.Norm.res2_eq m' c).trans ?_
          rw [h0, h1, h2, h3, h4, h5, h6]
          exact normalizedModulated m c),
        (h c).2.2.1.trans (by
          obtain ⟨h0, h1, h2, h3, h4, h5, h6, h7, h8⟩ := hagree c
          refine (Cert.Reference7Ideal.Norm.res3_eq m' c).trans ?_
          rw [h0, h1, h2, h3, h4, h5, h6, h7, h8]
          exact normalizedLogits m c), (h c).2.2.2⟩)
        (Cert.Reference7Ideal.Value.run m' g')⟩

/-- The backward scan's output. -/
theorem scanOutput (m : (ℓ : Loc Cert.Kernel8Ideal.nD Cert.Kernel8Ideal.τ Cert.Kernel8Ideal.sig) → Buf (Elt Ideal) ℓ) (c : Dev Cert.Kernel8Ideal.nD) :
    Cert.Reference8Ideal.Scan.rows (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))
      = Cert.Kernel8Ideal.Scan.outArr m c := by
  funext y
  have e : y = ix2 ⟨(y 0 : ℕ), (y 0).isLt⟩ ⟨(y 1 : ℕ), (y 1).isLt⟩ := by funext a; fin_cases a <;> rfl
  exact (congrArg _ e).trans (Cert.Reference8Ideal.Scan.rows_all _ _ _ _ _ _ ⟨(y 0 : ℕ), (y 0).isLt⟩ ⟨(y 1 : ℕ), (y 1).isLt⟩)

/-- The backward scan's last states. -/
theorem scanStates (m : (ℓ : Loc Cert.Kernel8Ideal.nD Cert.Kernel8Ideal.τ Cert.Kernel8Ideal.sig) → Buf (Elt Ideal) ℓ) (c : Dev Cert.Kernel8Ideal.nD) :
    Cert.Reference8Ideal.Scan.last (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))
      = Cert.Kernel8Ideal.Scan.endArr m c := by
  funext y
  have e : y = ix3 ⟨(y 0 : ℕ), (y 0).isLt⟩ ⟨(y 1 : ℕ), (y 1).isLt⟩ ⟨(y 2 : ℕ), (y 2).isLt⟩ := by funext a; fin_cases a <;> rfl
  exact (congrArg _ e).trans (Cert.Reference8Ideal.Scan.last_all _ _ _ _ _ ⟨(y 0 : ℕ), (y 0).isLt⟩ ⟨(y 1 : ℕ), (y 1).isLt⟩ ⟨(y 2 : ℕ), (y 2).isLt⟩)

/-- The reference of the backward scan runs, keeps its arguments and ends with every counter at zero. -/
theorem scanReferenceFrame : @Cert.quiescent_Reference8Ideal Cert.Reference8Ideal.Gen.facts := fun m' g' _ =>
  (θ_run _ _ _).mono (fun r h => ⟨fun c => (h c).2.2, sem_eq_zero_of_no_sems (by decide) r.2⟩) (Cert.Reference8Ideal.Value.run (F := Ideal) m' g')

/-- The value claim of the backward scan. -/
theorem scanValue : @Cert.algebraic_Kernel8Ideal_Reference8Ideal Cert.Kernel8Ideal.Gen.facts Cert.Reference8Ideal.Gen.facts :=
  fun m g m' g' _ hagree =>
    ⟨fun c => Cert.Kernel8Ideal.Scan.outArr m c, fun c => Cert.Kernel8Ideal.Scan.endArr m c, Cert.Kernel8Ideal.Scan.run_blocks m g,
      (θ_run _ _ _).mono (fun _ h c => ⟨(h c).1.trans (by
          obtain ⟨h0, h1, h2, h3, h4, h5⟩ := hagree c
          refine (Cert.Reference8Ideal.Scan.res0_eq m' c).trans ?_
          rw [h0, h1, h2, h3, h4, h5]
          exact scanOutput m c),
        (h c).2.1.trans (by
          obtain ⟨h0, h1, h2, h3, h4, h5⟩ := hagree c
          refine (Cert.Reference8Ideal.Scan.res1_eq m' c).trans ?_
          rw [h0, h1, h3, h4, h5]
          exact scanStates m c), (h c).2.2⟩)
        (Cert.Reference8Ideal.Value.run m' g')⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Pre_finite_queries_and_keys.facts, Cert.Pre_tiles_in_order.facts,
    fun m ρ _ => Cert.Kernel.Gen.frame m ρ,
    fun m ρ _ => Cert.KernelIdeal.Gen.frame m ρ,
    fun m ρ _ => Cert.KernelIdeal.Gen.frame m ρ,
    referenceFrame,
    fun m ρ _ => referenceFrame m ρ trivial,
    expertsFrame,
    expertsIdealFrame,
    expertsReferenceFrame,
    fun m ρ _ => expertsReferenceFrame m ρ trivial,
    fun m ρ _ => Cert.Kernel3.Gen.frame m ρ,
    fun m ρ _ => Cert.Kernel3Ideal.Gen.frame m ρ,
    projectionReferenceFrame,
    fun m ρ _ => Cert.Kernel4.Gen.frame m ρ,
    fun m ρ _ => Cert.Kernel4Ideal.Gen.frame m ρ,
    branchesReferenceFrame,
    fun m ρ _ => Cert.Kernel5.Gen.frame m ρ,
    fun m ρ _ => Cert.Kernel5Ideal.Gen.frame m ρ,
    cachesReferenceFrame,
    fun m ρ _ => Cert.Kernel6.Gen.frame m ρ,
    fun m ρ _ => Cert.Kernel6Ideal.Gen.frame m ρ,
    modulationReferenceFrame,
    fun m ρ _ => Cert.Kernel7.Gen.frame m ρ,
    fun m ρ _ => Cert.Kernel7Ideal.Gen.frame m ρ,
    normalizedReferenceFrame,
    fun m ρ _ => Cert.Kernel8.Gen.frame m ρ,
    fun m ρ _ => Cert.Kernel8Ideal.Gen.frame m ρ,
    scanReferenceFrame,
    trivial,
    fun m g m' g' hpre hagree =>
      ⟨fun c => Cert.KernelIdeal.Att.attArr m c,
        (θ_run _ _ _).mono (fun _ h c => ⟨(h c).1.trans (Cert.KernelIdeal.Att.final m c), (h c).2⟩) (Cert.KernelIdeal.Value.run_blocks m g),
        (θ_run _ _ _).mono (fun _ h c => ⟨(h c).1.trans (attention m c m' hpre (hagree c).1 (hagree c).2.1 (hagree c).2.2.1 (hagree c).2.2.2.1 (hagree c).2.2.2.2.1 (hagree c).2.2.2.2.2), (h c).2⟩)
          (Cert.ReferenceIdeal.Value.run m' g')⟩,
    trivial,
    expertsValue,
    trivial,
    projectionValue,
    trivial,
    branchesValue,
    trivial,
    cachesValue,
    trivial,
    modulationValue,
    trivial,
    normalizedValue,
    trivial,
    scanValue⟩

end Cert.Proof

end
